-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_ProjKernel (m : (ℓ : Loc Cert.ProjKernel.nD Cert.ProjKernel.τ Cert.ProjKernel.sig) → Buf (Elt Bits) ℓ) : Prop :=
  True

def Pre_ProjKernelIdeal (m : (ℓ : Loc Cert.ProjKernelIdeal.nD Cert.ProjKernelIdeal.τ Cert.ProjKernelIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_UpKernel (m : (ℓ : Loc Cert.UpKernel.nD Cert.UpKernel.τ Cert.UpKernel.sig) → Buf (Elt Bits) ℓ) : Prop :=
  True

def Pre_UpKernelIdeal (m : (ℓ : Loc Cert.UpKernelIdeal.nD Cert.UpKernelIdeal.τ Cert.UpKernelIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_DownKernel (m : (ℓ : Loc Cert.DownKernel.nD Cert.DownKernel.τ Cert.DownKernel.sig) → Buf (Elt Bits) ℓ) : Prop :=
  True

def Pre_DownKernelIdeal (m : (ℓ : Loc Cert.DownKernelIdeal.nD Cert.DownKernelIdeal.τ Cert.DownKernelIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_BranchKernel (m : (ℓ : Loc Cert.BranchKernel.nD Cert.BranchKernel.τ Cert.BranchKernel.sig) → Buf (Elt Bits) ℓ) : Prop :=
  True

def Pre_BranchKernelIdeal (m : (ℓ : Loc Cert.BranchKernelIdeal.nD Cert.BranchKernelIdeal.τ Cert.BranchKernelIdeal.sig) → Buf (Elt Ideal) ℓ) : Prop :=
  True

def Pre_BranchReferenceIdeal (m : (ℓ : Loc Cert.BranchReferenceIdeal.nD Cert.BranchReferenceIdeal.τ Cert.BranchReferenceIdeal.sig) → Buf (Elt Ideal) ℓ) : Prop :=
  True

def Pre_AdaKernel (m : (ℓ : Loc Cert.AdaKernel.nD Cert.AdaKernel.τ Cert.AdaKernel.sig) → Buf (Elt Bits) ℓ) : Prop :=
  True

def Pre_AdaKernelIdeal (m : (ℓ : Loc Cert.AdaKernelIdeal.nD Cert.AdaKernelIdeal.τ Cert.AdaKernelIdeal.sig) → Buf (Elt Ideal) ℓ) : Prop :=
  True

def Pre_AdaReferenceIdeal (m : (ℓ : Loc Cert.AdaReferenceIdeal.nD Cert.AdaReferenceIdeal.τ Cert.AdaReferenceIdeal.sig) → Buf (Elt Ideal) ℓ) : Prop :=
  True

def Pre_NormKernel (m : (ℓ : Loc Cert.NormKernel.nD Cert.NormKernel.τ Cert.NormKernel.sig) → Buf (Elt Bits) ℓ) : Prop :=
  True

def Pre_NormKernelIdeal (m : (ℓ : Loc Cert.NormKernelIdeal.nD Cert.NormKernelIdeal.τ Cert.NormKernelIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_ResidKernel (m : (ℓ : Loc Cert.ResidKernel.nD Cert.ResidKernel.τ Cert.ResidKernel.sig) → Buf (Elt Bits) ℓ) : Prop :=
  True

def Pre_ResidKernelIdeal (m : (ℓ : Loc Cert.ResidKernelIdeal.nD Cert.ResidKernelIdeal.τ Cert.ResidKernelIdeal.sig) → Buf (Elt Ideal) ℓ) : Prop :=
  True

def Pre_ResidReferenceIdeal (m : (ℓ : Loc Cert.ResidReferenceIdeal.nD Cert.ResidReferenceIdeal.τ Cert.ResidReferenceIdeal.sig) → Buf (Elt Ideal) ℓ) : Prop :=
  True

def Pre_CtxKernel (m : (ℓ : Loc Cert.CtxKernel.nD Cert.CtxKernel.τ Cert.CtxKernel.sig) → Buf (Elt Bits) ℓ) : Prop :=
  True

def Pre_CtxKernelIdeal (m : (ℓ : Loc Cert.CtxKernelIdeal.nD Cert.CtxKernelIdeal.τ Cert.CtxKernelIdeal.sig) → Buf (Elt Ideal) ℓ) : Prop :=
  True

def Pre_CtxKernelIdeal_finite_ctx [hPre_finite_ctx : Cert.Pre_finite_ctx.Facts] (m : (ℓ : Loc Cert.CtxKernelIdeal.nD Cert.CtxKernelIdeal.τ Cert.CtxKernelIdeal.sig) → Buf (Elt Ideal) ℓ) : Prop :=
  ∀ c : Dev Cert.CtxKernelIdeal.nD,
    (Cert.Pre_finite_ctx.fn (F := Ideal) (m ((c.tc : Thread Cert.CtxKernelIdeal.nD Cert.CtxKernelIdeal.τ).loc Cert.CtxKernelIdeal.main_arg0))) = (fun _ => 1#1)

def Pre_CtxReferenceIdeal (m : (ℓ : Loc Cert.CtxReferenceIdeal.nD Cert.CtxReferenceIdeal.τ Cert.CtxReferenceIdeal.sig) → Buf (Elt Ideal) ℓ) : Prop :=
  True

def Pre_CtxReferenceIdeal_finite_ctx [hPre_finite_ctx : Cert.Pre_finite_ctx.Facts] (m : (ℓ : Loc Cert.CtxReferenceIdeal.nD Cert.CtxReferenceIdeal.τ Cert.CtxReferenceIdeal.sig) → Buf (Elt Ideal) ℓ) : Prop :=
  ∀ c : Dev Cert.CtxReferenceIdeal.nD,
    (Cert.Pre_finite_ctx.fn (F := Ideal) (m ((c.tc : Thread Cert.CtxReferenceIdeal.nD Cert.CtxReferenceIdeal.τ).loc Cert.CtxReferenceIdeal.main_arg0))) = (fun _ => 1#1)

def Pre_PoolKernel (m : (ℓ : Loc Cert.PoolKernel.nD Cert.PoolKernel.τ Cert.PoolKernel.sig) → Buf (Elt Bits) ℓ) : Prop :=
  True

def Pre_PoolKernelIdeal (m : (ℓ : Loc Cert.PoolKernelIdeal.nD Cert.PoolKernelIdeal.τ Cert.PoolKernelIdeal.sig) → Buf (Elt Ideal) ℓ) : Prop :=
  True

def Pre_PoolKernelIdeal_finite_pool [hPre_finite_pool : Cert.Pre_finite_pool.Facts] (m : (ℓ : Loc Cert.PoolKernelIdeal.nD Cert.PoolKernelIdeal.τ Cert.PoolKernelIdeal.sig) → Buf (Elt Ideal) ℓ) : Prop :=
  ∀ c : Dev Cert.PoolKernelIdeal.nD,
    (Cert.Pre_finite_pool.fn (F := Ideal) (m ((c.tc : Thread Cert.PoolKernelIdeal.nD Cert.PoolKernelIdeal.τ).loc Cert.PoolKernelIdeal.main_arg0)) (m ((c.tc : Thread Cert.PoolKernelIdeal.nD Cert.PoolKernelIdeal.τ).loc Cert.PoolKernelIdeal.main_arg1)) (m ((c.tc : Thread Cert.PoolKernelIdeal.nD Cert.PoolKernelIdeal.τ).loc Cert.PoolKernelIdeal.main_arg2))) = (fun _ => 1#1)

def Pre_PoolReferenceIdeal (m : (ℓ : Loc Cert.PoolReferenceIdeal.nD Cert.PoolReferenceIdeal.τ Cert.PoolReferenceIdeal.sig) → Buf (Elt Ideal) ℓ) : Prop :=
  True

def Pre_PoolReferenceIdeal_finite_pool [hPre_finite_pool : Cert.Pre_finite_pool.Facts] (m : (ℓ : Loc Cert.PoolReferenceIdeal.nD Cert.PoolReferenceIdeal.τ Cert.PoolReferenceIdeal.sig) → Buf (Elt Ideal) ℓ) : Prop :=
  ∀ c : Dev Cert.PoolReferenceIdeal.nD,
    (Cert.Pre_finite_pool.fn (F := Ideal) (m ((c.tc : Thread Cert.PoolReferenceIdeal.nD Cert.PoolReferenceIdeal.τ).loc Cert.PoolReferenceIdeal.main_arg0)) (m ((c.tc : Thread Cert.PoolReferenceIdeal.nD Cert.PoolReferenceIdeal.τ).loc Cert.PoolReferenceIdeal.main_arg1)) (m ((c.tc : Thread Cert.PoolReferenceIdeal.nD Cert.PoolReferenceIdeal.τ).loc Cert.PoolReferenceIdeal.main_arg2))) = (fun _ => 1#1)

def Pre_MidKernel (m : (ℓ : Loc Cert.MidKernel.nD Cert.MidKernel.τ Cert.MidKernel.sig) → Buf (Elt Bits) ℓ) : Prop :=
  True

def Pre_MidKernelIdeal (m : (ℓ : Loc Cert.MidKernelIdeal.nD Cert.MidKernelIdeal.τ Cert.MidKernelIdeal.sig) → Buf (Elt Ideal) ℓ) : Prop :=
  True

def Pre_MidReferenceIdeal (m : (ℓ : Loc Cert.MidReferenceIdeal.nD Cert.MidReferenceIdeal.τ Cert.MidReferenceIdeal.sig) → Buf (Elt Ideal) ℓ) : Prop :=
  True

def Pre_LastKernel (m : (ℓ : Loc Cert.LastKernel.nD Cert.LastKernel.τ Cert.LastKernel.sig) → Buf (Elt Bits) ℓ) : Prop :=
  True

def Pre_LastKernelIdeal (m : (ℓ : Loc Cert.LastKernelIdeal.nD Cert.LastKernelIdeal.τ Cert.LastKernelIdeal.sig) → Buf (Elt Ideal) ℓ) : Prop :=
  True

def Pre_LastReferenceIdeal (m : (ℓ : Loc Cert.LastReferenceIdeal.nD Cert.LastReferenceIdeal.τ Cert.LastReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ProjKernel [hProjKernel : Cert.ProjKernel.Facts] : Prop :=
  ∀ (m : (ℓ : Loc Cert.ProjKernel.nD Cert.ProjKernel.τ Cert.ProjKernel.sig) → Buf (Elt Bits) ℓ) (g : Dev Cert.ProjKernel.nD → PrngReg), Pre_ProjKernel m →
    θ_run (Cert.ProjKernel.defs (F := Bits)) (onTc (τ := Cert.ProjKernel.τ) (Cert.ProjKernel.main (F := Bits))) ⟨m, fun _ => 0, g⟩ (fun r => (∀ c : Dev Cert.ProjKernel.nD,
      r.2.mem ((c.tc : Thread Cert.ProjKernel.nD Cert.ProjKernel.τ).loc Cert.ProjKernel.main_arg0) = m ((c.tc : Thread Cert.ProjKernel.nD Cert.ProjKernel.τ).loc Cert.ProjKernel.main_arg0)
      ∧ r.2.mem ((c.tc : Thread Cert.ProjKernel.nD Cert.ProjKernel.τ).loc Cert.ProjKernel.main_arg1) = m ((c.tc : Thread Cert.ProjKernel.nD Cert.ProjKernel.τ).loc Cert.ProjKernel.main_arg1))
      ∧ r.2.sem = fun _ => 0)

def quiescent_ProjKernelIdeal [hProjKernelIdeal : Cert.ProjKernelIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1))
      ∧ r.2.sem = fun _ => 0)

def quiescent_UpKernel [hUpKernel : Cert.UpKernel.Facts] : Prop :=
  ∀ (m : (ℓ : Loc Cert.UpKernel.nD Cert.UpKernel.τ Cert.UpKernel.sig) → Buf (Elt Bits) ℓ) (g : Dev Cert.UpKernel.nD → PrngReg), Pre_UpKernel m →
    θ_run (Cert.UpKernel.defs (F := Bits)) (onTc (τ := Cert.UpKernel.τ) (Cert.UpKernel.main (F := Bits))) ⟨m, fun _ => 0, g⟩ (fun r => (∀ c : Dev Cert.UpKernel.nD,
      r.2.mem ((c.tc : Thread Cert.UpKernel.nD Cert.UpKernel.τ).loc Cert.UpKernel.main_arg0) = m ((c.tc : Thread Cert.UpKernel.nD Cert.UpKernel.τ).loc Cert.UpKernel.main_arg0)
      ∧ r.2.mem ((c.tc : Thread Cert.UpKernel.nD Cert.UpKernel.τ).loc Cert.UpKernel.main_arg1) = m ((c.tc : Thread Cert.UpKernel.nD Cert.UpKernel.τ).loc Cert.UpKernel.main_arg1))
      ∧ r.2.sem = fun _ => 0)

def quiescent_UpKernelIdeal [hUpKernelIdeal : Cert.UpKernelIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg), Pre_UpKernelIdeal m →
    θ_run (Cert.UpKernelIdeal.defs (F := Ideal)) (onTc (τ := Cert.UpKernelIdeal.τ) (Cert.UpKernelIdeal.main (F := Ideal))) ⟨m, fun _ => 0, g⟩ (fun r => (∀ c : Dev Cert.UpKernelIdeal.nD,
      r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
      ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1))
      ∧ r.2.sem = fun _ => 0)

def quiescent_DownKernel [hDownKernel : Cert.DownKernel.Facts] : Prop :=
  ∀ (m : (ℓ : Loc Cert.DownKernel.nD Cert.DownKernel.τ Cert.DownKernel.sig) → Buf (Elt Bits) ℓ) (g : Dev Cert.DownKernel.nD → PrngReg), Pre_DownKernel m →
    θ_run (Cert.DownKernel.defs (F := Bits)) (onTc (τ := Cert.DownKernel.τ) (Cert.DownKernel.main (F := Bits))) ⟨m, fun _ => 0, g⟩ (fun r => (∀ c : Dev Cert.DownKernel.nD,
      r.2.mem ((c.tc : Thread Cert.DownKernel.nD Cert.DownKernel.τ).loc Cert.DownKernel.main_arg0) = m ((c.tc : Thread Cert.DownKernel.nD Cert.DownKernel.τ).loc Cert.DownKernel.main_arg0)
      ∧ r.2.mem ((c.tc : Thread Cert.DownKernel.nD Cert.DownKernel.τ).loc Cert.DownKernel.main_arg1) = m ((c.tc : Thread Cert.DownKernel.nD Cert.DownKernel.τ).loc Cert.DownKernel.main_arg1))
      ∧ r.2.sem = fun _ => 0)

def quiescent_DownKernelIdeal [hDownKernelIdeal : Cert.DownKernelIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg), Pre_DownKernelIdeal m →
    θ_run (Cert.DownKernelIdeal.defs (F := Ideal)) (onTc (τ := Cert.DownKernelIdeal.τ) (Cert.DownKernelIdeal.main (F := Ideal))) ⟨m, fun _ => 0, g⟩ (fun r => (∀ c : Dev Cert.DownKernelIdeal.nD,
      r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
      ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1))
      ∧ r.2.sem = fun _ => 0)

def quiescent_BranchKernel [hBranchKernel : Cert.BranchKernel.Facts] : Prop :=
  ∀ (m : (ℓ : Loc Cert.BranchKernel.nD Cert.BranchKernel.τ Cert.BranchKernel.sig) → Buf (Elt Bits) ℓ) (g : Dev Cert.BranchKernel.nD → PrngReg), Pre_BranchKernel m →
    θ_run (Cert.BranchKernel.defs (F := Bits)) (onTc (τ := Cert.BranchKernel.τ) (Cert.BranchKernel.main (F := Bits))) ⟨m, fun _ => 0, g⟩ (fun r => (∀ c : Dev Cert.BranchKernel.nD,
      r.2.mem ((c.tc : Thread Cert.BranchKernel.nD Cert.BranchKernel.τ).loc Cert.BranchKernel.main_arg0) = m ((c.tc : Thread Cert.BranchKernel.nD Cert.BranchKernel.τ).loc Cert.BranchKernel.main_arg0)
      ∧ r.2.mem ((c.tc : Thread Cert.BranchKernel.nD Cert.BranchKernel.τ).loc Cert.BranchKernel.main_arg1) = m ((c.tc : Thread Cert.BranchKernel.nD Cert.BranchKernel.τ).loc Cert.BranchKernel.main_arg1)
      ∧ r.2.mem ((c.tc : Thread Cert.BranchKernel.nD Cert.BranchKernel.τ).loc Cert.BranchKernel.main_arg2) = m ((c.tc : Thread Cert.BranchKernel.nD Cert.BranchKernel.τ).loc Cert.BranchKernel.main_arg2)
      ∧ r.2.mem ((c.tc : Thread Cert.BranchKernel.nD Cert.BranchKernel.τ).loc Cert.BranchKernel.main_arg3) = m ((c.tc : Thread Cert.BranchKernel.nD Cert.BranchKernel.τ).loc Cert.BranchKernel.main_arg3)
      ∧ r.2.mem ((c.tc : Thread Cert.BranchKernel.nD Cert.BranchKernel.τ).loc Cert.BranchKernel.main_arg4) = m ((c.tc : Thread Cert.BranchKernel.nD Cert.BranchKernel.τ).loc Cert.BranchKernel.main_arg4)
      ∧ r.2.mem ((c.tc : Thread Cert.BranchKernel.nD Cert.BranchKernel.τ).loc Cert.BranchKernel.main_arg5) = m ((c.tc : Thread Cert.BranchKernel.nD Cert.BranchKernel.τ).loc Cert.BranchKernel.main_arg5))
      ∧ r.2.sem = fun _ => 0)

def quiescent_BranchKernelIdeal [hBranchKernelIdeal : Cert.BranchKernelIdeal.Facts] : Prop :=
  ∀ (m : (ℓ : Loc Cert.BranchKernelIdeal.nD Cert.BranchKernelIdeal.τ Cert.BranchKernelIdeal.sig) → Buf (Elt Ideal) ℓ) (g : Dev Cert.BranchKernelIdeal.nD → PrngReg), Pre_BranchKernelIdeal m →
    θ_run (Cert.BranchKernelIdeal.defs (F := Ideal)) (onTc (τ := Cert.BranchKernelIdeal.τ) (Cert.BranchKernelIdeal.main (F := Ideal))) ⟨m, fun _ => 0, g⟩ (fun r => (∀ c : Dev Cert.BranchKernelIdeal.nD,
      r.2.mem ((c.tc : Thread Cert.BranchKernelIdeal.nD Cert.BranchKernelIdeal.τ).loc Cert.BranchKernelIdeal.main_arg0) = m ((c.tc : Thread Cert.BranchKernelIdeal.nD Cert.BranchKernelIdeal.τ).loc Cert.BranchKernelIdeal.main_arg0)
      ∧ r.2.mem ((c.tc : Thread Cert.BranchKernelIdeal.nD Cert.BranchKernelIdeal.τ).loc Cert.BranchKernelIdeal.main_arg1) = m ((c.tc : Thread Cert.BranchKernelIdeal.nD Cert.BranchKernelIdeal.τ).loc Cert.BranchKernelIdeal.main_arg1)
      ∧ r.2.mem ((c.tc : Thread Cert.BranchKernelIdeal.nD Cert.BranchKernelIdeal.τ).loc Cert.BranchKernelIdeal.main_arg2) = m ((c.tc : Thread Cert.BranchKernelIdeal.nD Cert.BranchKernelIdeal.τ).loc Cert.BranchKernelIdeal.main_arg2)
      ∧ r.2.mem ((c.tc : Thread Cert.BranchKernelIdeal.nD Cert.BranchKernelIdeal.τ).loc Cert.BranchKernelIdeal.main_arg3) = m ((c.tc : Thread Cert.BranchKernelIdeal.nD Cert.BranchKernelIdeal.τ).loc Cert.BranchKernelIdeal.main_arg3)
      ∧ r.2.mem ((c.tc : Thread Cert.BranchKernelIdeal.nD Cert.BranchKernelIdeal.τ).loc Cert.BranchKernelIdeal.main_arg4) = m ((c.tc : Thread Cert.BranchKernelIdeal.nD Cert.BranchKernelIdeal.τ).loc Cert.BranchKernelIdeal.main_arg4)
      ∧ r.2.mem ((c.tc : Thread Cert.BranchKernelIdeal.nD Cert.BranchKernelIdeal.τ).loc Cert.BranchKernelIdeal.main_arg5) = m ((c.tc : Thread Cert.BranchKernelIdeal.nD Cert.BranchKernelIdeal.τ).loc Cert.BranchKernelIdeal.main_arg5))
      ∧ r.2.sem = fun _ => 0)

def quiescent_BranchReferenceIdeal [hBranchReferenceIdeal : Cert.BranchReferenceIdeal.Facts] : Prop :=
  ∀ (m : (ℓ : Loc Cert.BranchReferenceIdeal.nD Cert.BranchReferenceIdeal.τ Cert.BranchReferenceIdeal.sig) → Buf (Elt Ideal) ℓ) (g : Dev Cert.BranchReferenceIdeal.nD → PrngReg), Pre_BranchReferenceIdeal m →
    θ_run (Cert.BranchReferenceIdeal.defs (F := Ideal)) (onTc (τ := Cert.BranchReferenceIdeal.τ) (Cert.BranchReferenceIdeal.main (F := Ideal))) ⟨m, fun _ => 0, g⟩ (fun r => (∀ c : Dev Cert.BranchReferenceIdeal.nD,
      r.2.mem ((c.tc : Thread Cert.BranchReferenceIdeal.nD Cert.BranchReferenceIdeal.τ).loc Cert.BranchReferenceIdeal.main_arg0) = m ((c.tc : Thread Cert.BranchReferenceIdeal.nD Cert.BranchReferenceIdeal.τ).loc Cert.BranchReferenceIdeal.main_arg0)
      ∧ r.2.mem ((c.tc : Thread Cert.BranchReferenceIdeal.nD Cert.BranchReferenceIdeal.τ).loc Cert.BranchReferenceIdeal.main_arg1) = m ((c.tc : Thread Cert.BranchReferenceIdeal.nD Cert.BranchReferenceIdeal.τ).loc Cert.BranchReferenceIdeal.main_arg1)
      ∧ r.2.mem ((c.tc : Thread Cert.BranchReferenceIdeal.nD Cert.BranchReferenceIdeal.τ).loc Cert.BranchReferenceIdeal.main_arg2) = m ((c.tc : Thread Cert.BranchReferenceIdeal.nD Cert.BranchReferenceIdeal.τ).loc Cert.BranchReferenceIdeal.main_arg2)
      ∧ r.2.mem ((c.tc : Thread Cert.BranchReferenceIdeal.nD Cert.BranchReferenceIdeal.τ).loc Cert.BranchReferenceIdeal.main_arg3) = m ((c.tc : Thread Cert.BranchReferenceIdeal.nD Cert.BranchReferenceIdeal.τ).loc Cert.BranchReferenceIdeal.main_arg3)
      ∧ r.2.mem ((c.tc : Thread Cert.BranchReferenceIdeal.nD Cert.BranchReferenceIdeal.τ).loc Cert.BranchReferenceIdeal.main_arg4) = m ((c.tc : Thread Cert.BranchReferenceIdeal.nD Cert.BranchReferenceIdeal.τ).loc Cert.BranchReferenceIdeal.main_arg4)
      ∧ r.2.mem ((c.tc : Thread Cert.BranchReferenceIdeal.nD Cert.BranchReferenceIdeal.τ).loc Cert.BranchReferenceIdeal.main_arg5) = m ((c.tc : Thread Cert.BranchReferenceIdeal.nD Cert.BranchReferenceIdeal.τ).loc Cert.BranchReferenceIdeal.main_arg5))
      ∧ r.2.sem = fun _ => 0)

def quiescent_AdaKernel [hAdaKernel : Cert.AdaKernel.Facts] : Prop :=
  ∀ (m : (ℓ : Loc Cert.AdaKernel.nD Cert.AdaKernel.τ Cert.AdaKernel.sig) → Buf (Elt Bits) ℓ) (g : Dev Cert.AdaKernel.nD → PrngReg), Pre_AdaKernel m →
    θ_run (Cert.AdaKernel.defs (F := Bits)) (onTc (τ := Cert.AdaKernel.τ) (Cert.AdaKernel.main (F := Bits))) ⟨m, fun _ => 0, g⟩ (fun r => (∀ c : Dev Cert.AdaKernel.nD,
      r.2.mem ((c.tc : Thread Cert.AdaKernel.nD Cert.AdaKernel.τ).loc Cert.AdaKernel.main_arg0) = m ((c.tc : Thread Cert.AdaKernel.nD Cert.AdaKernel.τ).loc Cert.AdaKernel.main_arg0)
      ∧ r.2.mem ((c.tc : Thread Cert.AdaKernel.nD Cert.AdaKernel.τ).loc Cert.AdaKernel.main_arg1) = m ((c.tc : Thread Cert.AdaKernel.nD Cert.AdaKernel.τ).loc Cert.AdaKernel.main_arg1)
      ∧ r.2.mem ((c.tc : Thread Cert.AdaKernel.nD Cert.AdaKernel.τ).loc Cert.AdaKernel.main_arg2) = m ((c.tc : Thread Cert.AdaKernel.nD Cert.AdaKernel.τ).loc Cert.AdaKernel.main_arg2))
      ∧ r.2.sem = fun _ => 0)

def quiescent_AdaKernelIdeal [hAdaKernelIdeal : Cert.AdaKernelIdeal.Facts] : Prop :=
  ∀ (m : (ℓ : Loc Cert.AdaKernelIdeal.nD Cert.AdaKernelIdeal.τ Cert.AdaKernelIdeal.sig) → Buf (Elt Ideal) ℓ) (g : Dev Cert.AdaKernelIdeal.nD → PrngReg), Pre_AdaKernelIdeal m →
    θ_run (Cert.AdaKernelIdeal.defs (F := Ideal)) (onTc (τ := Cert.AdaKernelIdeal.τ) (Cert.AdaKernelIdeal.main (F := Ideal))) ⟨m, fun _ => 0, g⟩ (fun r => (∀ c : Dev Cert.AdaKernelIdeal.nD,
      r.2.mem ((c.tc : Thread Cert.AdaKernelIdeal.nD Cert.AdaKernelIdeal.τ).loc Cert.AdaKernelIdeal.main_arg0) = m ((c.tc : Thread Cert.AdaKernelIdeal.nD Cert.AdaKernelIdeal.τ).loc Cert.AdaKernelIdeal.main_arg0)
      ∧ r.2.mem ((c.tc : Thread Cert.AdaKernelIdeal.nD Cert.AdaKernelIdeal.τ).loc Cert.AdaKernelIdeal.main_arg1) = m ((c.tc : Thread Cert.AdaKernelIdeal.nD Cert.AdaKernelIdeal.τ).loc Cert.AdaKernelIdeal.main_arg1)
      ∧ r.2.mem ((c.tc : Thread Cert.AdaKernelIdeal.nD Cert.AdaKernelIdeal.τ).loc Cert.AdaKernelIdeal.main_arg2) = m ((c.tc : Thread Cert.AdaKernelIdeal.nD Cert.AdaKernelIdeal.τ).loc Cert.AdaKernelIdeal.main_arg2))
      ∧ r.2.sem = fun _ => 0)

def quiescent_AdaReferenceIdeal [hAdaReferenceIdeal : Cert.AdaReferenceIdeal.Facts] : Prop :=
  ∀ (m : (ℓ : Loc Cert.AdaReferenceIdeal.nD Cert.AdaReferenceIdeal.τ Cert.AdaReferenceIdeal.sig) → Buf (Elt Ideal) ℓ) (g : Dev Cert.AdaReferenceIdeal.nD → PrngReg), Pre_AdaReferenceIdeal m →
    θ_run (Cert.AdaReferenceIdeal.defs (F := Ideal)) (onTc (τ := Cert.AdaReferenceIdeal.τ) (Cert.AdaReferenceIdeal.main (F := Ideal))) ⟨m, fun _ => 0, g⟩ (fun r => (∀ c : Dev Cert.AdaReferenceIdeal.nD,
      r.2.mem ((c.tc : Thread Cert.AdaReferenceIdeal.nD Cert.AdaReferenceIdeal.τ).loc Cert.AdaReferenceIdeal.main_arg0) = m ((c.tc : Thread Cert.AdaReferenceIdeal.nD Cert.AdaReferenceIdeal.τ).loc Cert.AdaReferenceIdeal.main_arg0)
      ∧ r.2.mem ((c.tc : Thread Cert.AdaReferenceIdeal.nD Cert.AdaReferenceIdeal.τ).loc Cert.AdaReferenceIdeal.main_arg1) = m ((c.tc : Thread Cert.AdaReferenceIdeal.nD Cert.AdaReferenceIdeal.τ).loc Cert.AdaReferenceIdeal.main_arg1)
      ∧ r.2.mem ((c.tc : Thread Cert.AdaReferenceIdeal.nD Cert.AdaReferenceIdeal.τ).loc Cert.AdaReferenceIdeal.main_arg2) = m ((c.tc : Thread Cert.AdaReferenceIdeal.nD Cert.AdaReferenceIdeal.τ).loc Cert.AdaReferenceIdeal.main_arg2))
      ∧ r.2.sem = fun _ => 0)

def quiescent_NormKernel [hNormKernel : Cert.NormKernel.Facts] : Prop :=
  ∀ (m : (ℓ : Loc Cert.NormKernel.nD Cert.NormKernel.τ Cert.NormKernel.sig) → Buf (Elt Bits) ℓ) (g : Dev Cert.NormKernel.nD → PrngReg), Pre_NormKernel m →
    θ_run (Cert.NormKernel.defs (F := Bits)) (onTc (τ := Cert.NormKernel.τ) (Cert.NormKernel.main (F := Bits))) ⟨m, fun _ => 0, g⟩ (fun r => (∀ c : Dev Cert.NormKernel.nD,
      r.2.mem ((c.tc : Thread Cert.NormKernel.nD Cert.NormKernel.τ).loc Cert.NormKernel.main_arg0) = m ((c.tc : Thread Cert.NormKernel.nD Cert.NormKernel.τ).loc Cert.NormKernel.main_arg0)
      ∧ r.2.mem ((c.tc : Thread Cert.NormKernel.nD Cert.NormKernel.τ).loc Cert.NormKernel.main_arg1) = m ((c.tc : Thread Cert.NormKernel.nD Cert.NormKernel.τ).loc Cert.NormKernel.main_arg1)
      ∧ r.2.mem ((c.tc : Thread Cert.NormKernel.nD Cert.NormKernel.τ).loc Cert.NormKernel.main_arg2) = m ((c.tc : Thread Cert.NormKernel.nD Cert.NormKernel.τ).loc Cert.NormKernel.main_arg2))
      ∧ r.2.sem = fun _ => 0)

def quiescent_NormKernelIdeal [hNormKernelIdeal : Cert.NormKernelIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg), Pre_NormKernelIdeal m →
    θ_run (Cert.NormKernelIdeal.defs (F := Ideal)) (onTc (τ := Cert.NormKernelIdeal.τ) (Cert.NormKernelIdeal.main (F := Ideal))) ⟨m, fun _ => 0, g⟩ (fun r => (∀ c : Dev Cert.NormKernelIdeal.nD,
      r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
      ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1)
      ∧ r.2.mem ((c.tc : Thread Cert.NormKernelIdeal.nD Cert.NormKernelIdeal.τ).loc Cert.NormKernelIdeal.main_arg2) = m ((c.tc : Thread Cert.NormKernelIdeal.nD Cert.NormKernelIdeal.τ).loc Cert.NormKernelIdeal.main_arg2))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2))
      ∧ r.2.sem = fun _ => 0)

def quiescent_ResidKernel [hResidKernel : Cert.ResidKernel.Facts] : Prop :=
  ∀ (m : (ℓ : Loc Cert.ResidKernel.nD Cert.ResidKernel.τ Cert.ResidKernel.sig) → Buf (Elt Bits) ℓ) (g : Dev Cert.ResidKernel.nD → PrngReg), Pre_ResidKernel m →
    θ_run (Cert.ResidKernel.defs (F := Bits)) (onTc (τ := Cert.ResidKernel.τ) (Cert.ResidKernel.main (F := Bits))) ⟨m, fun _ => 0, g⟩ (fun r => (∀ c : Dev Cert.ResidKernel.nD,
      r.2.mem ((c.tc : Thread Cert.ResidKernel.nD Cert.ResidKernel.τ).loc Cert.ResidKernel.main_arg0) = m ((c.tc : Thread Cert.ResidKernel.nD Cert.ResidKernel.τ).loc Cert.ResidKernel.main_arg0)
      ∧ r.2.mem ((c.tc : Thread Cert.ResidKernel.nD Cert.ResidKernel.τ).loc Cert.ResidKernel.main_arg1) = m ((c.tc : Thread Cert.ResidKernel.nD Cert.ResidKernel.τ).loc Cert.ResidKernel.main_arg1)
      ∧ r.2.mem ((c.tc : Thread Cert.ResidKernel.nD Cert.ResidKernel.τ).loc Cert.ResidKernel.main_arg2) = m ((c.tc : Thread Cert.ResidKernel.nD Cert.ResidKernel.τ).loc Cert.ResidKernel.main_arg2)
      ∧ r.2.mem ((c.tc : Thread Cert.ResidKernel.nD Cert.ResidKernel.τ).loc Cert.ResidKernel.main_arg3) = m ((c.tc : Thread Cert.ResidKernel.nD Cert.ResidKernel.τ).loc Cert.ResidKernel.main_arg3))
      ∧ r.2.sem = fun _ => 0)

def quiescent_ResidKernelIdeal [hResidKernelIdeal : Cert.ResidKernelIdeal.Facts] : Prop :=
  ∀ (m : (ℓ : Loc Cert.ResidKernelIdeal.nD Cert.ResidKernelIdeal.τ Cert.ResidKernelIdeal.sig) → Buf (Elt Ideal) ℓ) (g : Dev Cert.ResidKernelIdeal.nD → PrngReg), Pre_ResidKernelIdeal m →
    θ_run (Cert.ResidKernelIdeal.defs (F := Ideal)) (onTc (τ := Cert.ResidKernelIdeal.τ) (Cert.ResidKernelIdeal.main (F := Ideal))) ⟨m, fun _ => 0, g⟩ (fun r => (∀ c : Dev Cert.ResidKernelIdeal.nD,
      r.2.mem ((c.tc : Thread Cert.ResidKernelIdeal.nD Cert.ResidKernelIdeal.τ).loc Cert.ResidKernelIdeal.main_arg0) = m ((c.tc : Thread Cert.ResidKernelIdeal.nD Cert.ResidKernelIdeal.τ).loc Cert.ResidKernelIdeal.main_arg0)
      ∧ r.2.mem ((c.tc : Thread Cert.ResidKernelIdeal.nD Cert.ResidKernelIdeal.τ).loc Cert.ResidKernelIdeal.main_arg1) = m ((c.tc : Thread Cert.ResidKernelIdeal.nD Cert.ResidKernelIdeal.τ).loc Cert.ResidKernelIdeal.main_arg1)
      ∧ r.2.mem ((c.tc : Thread Cert.ResidKernelIdeal.nD Cert.ResidKernelIdeal.τ).loc Cert.ResidKernelIdeal.main_arg2) = m ((c.tc : Thread Cert.ResidKernelIdeal.nD Cert.ResidKernelIdeal.τ).loc Cert.ResidKernelIdeal.main_arg2)
      ∧ r.2.mem ((c.tc : Thread Cert.ResidKernelIdeal.nD Cert.ResidKernelIdeal.τ).loc Cert.ResidKernelIdeal.main_arg3) = m ((c.tc : Thread Cert.ResidKernelIdeal.nD Cert.ResidKernelIdeal.τ).loc Cert.ResidKernelIdeal.main_arg3))
      ∧ r.2.sem = fun _ => 0)

def quiescent_ResidReferenceIdeal [hResidReferenceIdeal : Cert.ResidReferenceIdeal.Facts] : Prop :=
  ∀ (m : (ℓ : Loc Cert.ResidReferenceIdeal.nD Cert.ResidReferenceIdeal.τ Cert.ResidReferenceIdeal.sig) → Buf (Elt Ideal) ℓ) (g : Dev Cert.ResidReferenceIdeal.nD → PrngReg), Pre_ResidReferenceIdeal m →
    θ_run (Cert.ResidReferenceIdeal.defs (F := Ideal)) (onTc (τ := Cert.ResidReferenceIdeal.τ) (Cert.ResidReferenceIdeal.main (F := Ideal))) ⟨m, fun _ => 0, g⟩ (fun r => (∀ c : Dev Cert.ResidReferenceIdeal.nD,
      r.2.mem ((c.tc : Thread Cert.ResidReferenceIdeal.nD Cert.ResidReferenceIdeal.τ).loc Cert.ResidReferenceIdeal.main_arg0) = m ((c.tc : Thread Cert.ResidReferenceIdeal.nD Cert.ResidReferenceIdeal.τ).loc Cert.ResidReferenceIdeal.main_arg0)
      ∧ r.2.mem ((c.tc : Thread Cert.ResidReferenceIdeal.nD Cert.ResidReferenceIdeal.τ).loc Cert.ResidReferenceIdeal.main_arg1) = m ((c.tc : Thread Cert.ResidReferenceIdeal.nD Cert.ResidReferenceIdeal.τ).loc Cert.ResidReferenceIdeal.main_arg1)
      ∧ r.2.mem ((c.tc : Thread Cert.ResidReferenceIdeal.nD Cert.ResidReferenceIdeal.τ).loc Cert.ResidReferenceIdeal.main_arg2) = m ((c.tc : Thread Cert.ResidReferenceIdeal.nD Cert.ResidReferenceIdeal.τ).loc Cert.ResidReferenceIdeal.main_arg2)
      ∧ r.2.mem ((c.tc : Thread Cert.ResidReferenceIdeal.nD Cert.ResidReferenceIdeal.τ).loc Cert.ResidReferenceIdeal.main_arg3) = m ((c.tc : Thread Cert.ResidReferenceIdeal.nD Cert.ResidReferenceIdeal.τ).loc Cert.ResidReferenceIdeal.main_arg3))
      ∧ r.2.sem = fun _ => 0)

def quiescent_CtxKernel [hCtxKernel : Cert.CtxKernel.Facts] : Prop :=
  ∀ (m : (ℓ : Loc Cert.CtxKernel.nD Cert.CtxKernel.τ Cert.CtxKernel.sig) → Buf (Elt Bits) ℓ) (g : Dev Cert.CtxKernel.nD → PrngReg), Pre_CtxKernel m →
    θ_run (Cert.CtxKernel.defs (F := Bits)) (onTc (τ := Cert.CtxKernel.τ) (Cert.CtxKernel.main (F := Bits))) ⟨m, fun _ => 0, g⟩ (fun r => (∀ c : Dev Cert.CtxKernel.nD,
      r.2.mem ((c.tc : Thread Cert.CtxKernel.nD Cert.CtxKernel.τ).loc Cert.CtxKernel.main_arg0) = m ((c.tc : Thread Cert.CtxKernel.nD Cert.CtxKernel.τ).loc Cert.CtxKernel.main_arg0))
      ∧ r.2.sem = fun _ => 0)

def quiescent_CtxKernelIdeal [hCtxKernelIdeal : Cert.CtxKernelIdeal.Facts] : Prop :=
  ∀ (m : (ℓ : Loc Cert.CtxKernelIdeal.nD Cert.CtxKernelIdeal.τ Cert.CtxKernelIdeal.sig) → Buf (Elt Ideal) ℓ) (g : Dev Cert.CtxKernelIdeal.nD → PrngReg), Pre_CtxKernelIdeal m →
    θ_run (Cert.CtxKernelIdeal.defs (F := Ideal)) (onTc (τ := Cert.CtxKernelIdeal.τ) (Cert.CtxKernelIdeal.main (F := Ideal))) ⟨m, fun _ => 0, g⟩ (fun r => (∀ c : Dev Cert.CtxKernelIdeal.nD,
      r.2.mem ((c.tc : Thread Cert.CtxKernelIdeal.nD Cert.CtxKernelIdeal.τ).loc Cert.CtxKernelIdeal.main_arg0) = m ((c.tc : Thread Cert.CtxKernelIdeal.nD Cert.CtxKernelIdeal.τ).loc Cert.CtxKernelIdeal.main_arg0))
      ∧ r.2.sem = fun _ => 0)

def quiescent_CtxKernelIdeal_pre_finite_ctx [hCtxKernelIdeal : Cert.CtxKernelIdeal.Facts] [hPre_finite_ctx : Cert.Pre_finite_ctx.Facts] : Prop :=
  ∀ (m : (ℓ : Loc Cert.CtxKernelIdeal.nD Cert.CtxKernelIdeal.τ Cert.CtxKernelIdeal.sig) → Buf (Elt Ideal) ℓ) (g : Dev Cert.CtxKernelIdeal.nD → PrngReg), Pre_CtxKernelIdeal_finite_ctx m →
    θ_run (Cert.CtxKernelIdeal.defs (F := Ideal)) (onTc (τ := Cert.CtxKernelIdeal.τ) (Cert.CtxKernelIdeal.main (F := Ideal))) ⟨m, fun _ => 0, g⟩ (fun r => (∀ c : Dev Cert.CtxKernelIdeal.nD,
      r.2.mem ((c.tc : Thread Cert.CtxKernelIdeal.nD Cert.CtxKernelIdeal.τ).loc Cert.CtxKernelIdeal.main_arg0) = m ((c.tc : Thread Cert.CtxKernelIdeal.nD Cert.CtxKernelIdeal.τ).loc Cert.CtxKernelIdeal.main_arg0))
      ∧ r.2.sem = fun _ => 0)

def quiescent_CtxReferenceIdeal [hCtxReferenceIdeal : Cert.CtxReferenceIdeal.Facts] : Prop :=
  ∀ (m : (ℓ : Loc Cert.CtxReferenceIdeal.nD Cert.CtxReferenceIdeal.τ Cert.CtxReferenceIdeal.sig) → Buf (Elt Ideal) ℓ) (g : Dev Cert.CtxReferenceIdeal.nD → PrngReg), Pre_CtxReferenceIdeal m →
    θ_run (Cert.CtxReferenceIdeal.defs (F := Ideal)) (onTc (τ := Cert.CtxReferenceIdeal.τ) (Cert.CtxReferenceIdeal.main (F := Ideal))) ⟨m, fun _ => 0, g⟩ (fun r => (∀ c : Dev Cert.CtxReferenceIdeal.nD,
      r.2.mem ((c.tc : Thread Cert.CtxReferenceIdeal.nD Cert.CtxReferenceIdeal.τ).loc Cert.CtxReferenceIdeal.main_arg0) = m ((c.tc : Thread Cert.CtxReferenceIdeal.nD Cert.CtxReferenceIdeal.τ).loc Cert.CtxReferenceIdeal.main_arg0))
      ∧ r.2.sem = fun _ => 0)

def quiescent_CtxReferenceIdeal_pre_finite_ctx [hCtxReferenceIdeal : Cert.CtxReferenceIdeal.Facts] [hPre_finite_ctx : Cert.Pre_finite_ctx.Facts] : Prop :=
  ∀ (m : (ℓ : Loc Cert.CtxReferenceIdeal.nD Cert.CtxReferenceIdeal.τ Cert.CtxReferenceIdeal.sig) → Buf (Elt Ideal) ℓ) (g : Dev Cert.CtxReferenceIdeal.nD → PrngReg), Pre_CtxReferenceIdeal_finite_ctx m →
    θ_run (Cert.CtxReferenceIdeal.defs (F := Ideal)) (onTc (τ := Cert.CtxReferenceIdeal.τ) (Cert.CtxReferenceIdeal.main (F := Ideal))) ⟨m, fun _ => 0, g⟩ (fun r => (∀ c : Dev Cert.CtxReferenceIdeal.nD,
      r.2.mem ((c.tc : Thread Cert.CtxReferenceIdeal.nD Cert.CtxReferenceIdeal.τ).loc Cert.CtxReferenceIdeal.main_arg0) = m ((c.tc : Thread Cert.CtxReferenceIdeal.nD Cert.CtxReferenceIdeal.τ).loc Cert.CtxReferenceIdeal.main_arg0))
      ∧ r.2.sem = fun _ => 0)

def quiescent_PoolKernel [hPoolKernel : Cert.PoolKernel.Facts] : Prop :=
  ∀ (m : (ℓ : Loc Cert.PoolKernel.nD Cert.PoolKernel.τ Cert.PoolKernel.sig) → Buf (Elt Bits) ℓ) (g : Dev Cert.PoolKernel.nD → PrngReg), Pre_PoolKernel m →
    θ_run (Cert.PoolKernel.defs (F := Bits)) (onTc (τ := Cert.PoolKernel.τ) (Cert.PoolKernel.main (F := Bits))) ⟨m, fun _ => 0, g⟩ (fun r => (∀ c : Dev Cert.PoolKernel.nD,
      r.2.mem ((c.tc : Thread Cert.PoolKernel.nD Cert.PoolKernel.τ).loc Cert.PoolKernel.main_arg0) = m ((c.tc : Thread Cert.PoolKernel.nD Cert.PoolKernel.τ).loc Cert.PoolKernel.main_arg0)
      ∧ r.2.mem ((c.tc : Thread Cert.PoolKernel.nD Cert.PoolKernel.τ).loc Cert.PoolKernel.main_arg1) = m ((c.tc : Thread Cert.PoolKernel.nD Cert.PoolKernel.τ).loc Cert.PoolKernel.main_arg1)
      ∧ r.2.mem ((c.tc : Thread Cert.PoolKernel.nD Cert.PoolKernel.τ).loc Cert.PoolKernel.main_arg2) = m ((c.tc : Thread Cert.PoolKernel.nD Cert.PoolKernel.τ).loc Cert.PoolKernel.main_arg2))
      ∧ r.2.sem = fun _ => 0)

def quiescent_PoolKernelIdeal [hPoolKernelIdeal : Cert.PoolKernelIdeal.Facts] : Prop :=
  ∀ (m : (ℓ : Loc Cert.PoolKernelIdeal.nD Cert.PoolKernelIdeal.τ Cert.PoolKernelIdeal.sig) → Buf (Elt Ideal) ℓ) (g : Dev Cert.PoolKernelIdeal.nD → PrngReg), Pre_PoolKernelIdeal m →
    θ_run (Cert.PoolKernelIdeal.defs (F := Ideal)) (onTc (τ := Cert.PoolKernelIdeal.τ) (Cert.PoolKernelIdeal.main (F := Ideal))) ⟨m, fun _ => 0, g⟩ (fun r => (∀ c : Dev Cert.PoolKernelIdeal.nD,
      r.2.mem ((c.tc : Thread Cert.PoolKernelIdeal.nD Cert.PoolKernelIdeal.τ).loc Cert.PoolKernelIdeal.main_arg0) = m ((c.tc : Thread Cert.PoolKernelIdeal.nD Cert.PoolKernelIdeal.τ).loc Cert.PoolKernelIdeal.main_arg0)
      ∧ r.2.mem ((c.tc : Thread Cert.PoolKernelIdeal.nD Cert.PoolKernelIdeal.τ).loc Cert.PoolKernelIdeal.main_arg1) = m ((c.tc : Thread Cert.PoolKernelIdeal.nD Cert.PoolKernelIdeal.τ).loc Cert.PoolKernelIdeal.main_arg1)
      ∧ r.2.mem ((c.tc : Thread Cert.PoolKernelIdeal.nD Cert.PoolKernelIdeal.τ).loc Cert.PoolKernelIdeal.main_arg2) = m ((c.tc : Thread Cert.PoolKernelIdeal.nD Cert.PoolKernelIdeal.τ).loc Cert.PoolKernelIdeal.main_arg2))
      ∧ r.2.sem = fun _ => 0)

def quiescent_PoolKernelIdeal_pre_finite_pool [hPoolKernelIdeal : Cert.PoolKernelIdeal.Facts] [hPre_finite_pool : Cert.Pre_finite_pool.Facts] : Prop :=
  ∀ (m : (ℓ : Loc Cert.PoolKernelIdeal.nD Cert.PoolKernelIdeal.τ Cert.PoolKernelIdeal.sig) → Buf (Elt Ideal) ℓ) (g : Dev Cert.PoolKernelIdeal.nD → PrngReg), Pre_PoolKernelIdeal_finite_pool m →
    θ_run (Cert.PoolKernelIdeal.defs (F := Ideal)) (onTc (τ := Cert.PoolKernelIdeal.τ) (Cert.PoolKernelIdeal.main (F := Ideal))) ⟨m, fun _ => 0, g⟩ (fun r => (∀ c : Dev Cert.PoolKernelIdeal.nD,
      r.2.mem ((c.tc : Thread Cert.PoolKernelIdeal.nD Cert.PoolKernelIdeal.τ).loc Cert.PoolKernelIdeal.main_arg0) = m ((c.tc : Thread Cert.PoolKernelIdeal.nD Cert.PoolKernelIdeal.τ).loc Cert.PoolKernelIdeal.main_arg0)
      ∧ r.2.mem ((c.tc : Thread Cert.PoolKernelIdeal.nD Cert.PoolKernelIdeal.τ).loc Cert.PoolKernelIdeal.main_arg1) = m ((c.tc : Thread Cert.PoolKernelIdeal.nD Cert.PoolKernelIdeal.τ).loc Cert.PoolKernelIdeal.main_arg1)
      ∧ r.2.mem ((c.tc : Thread Cert.PoolKernelIdeal.nD Cert.PoolKernelIdeal.τ).loc Cert.PoolKernelIdeal.main_arg2) = m ((c.tc : Thread Cert.PoolKernelIdeal.nD Cert.PoolKernelIdeal.τ).loc Cert.PoolKernelIdeal.main_arg2))
      ∧ r.2.sem = fun _ => 0)

def quiescent_PoolReferenceIdeal [hPoolReferenceIdeal : Cert.PoolReferenceIdeal.Facts] : Prop :=
  ∀ (m : (ℓ : Loc Cert.PoolReferenceIdeal.nD Cert.PoolReferenceIdeal.τ Cert.PoolReferenceIdeal.sig) → Buf (Elt Ideal) ℓ) (g : Dev Cert.PoolReferenceIdeal.nD → PrngReg), Pre_PoolReferenceIdeal m →
    θ_run (Cert.PoolReferenceIdeal.defs (F := Ideal)) (onTc (τ := Cert.PoolReferenceIdeal.τ) (Cert.PoolReferenceIdeal.main (F := Ideal))) ⟨m, fun _ => 0, g⟩ (fun r => (∀ c : Dev Cert.PoolReferenceIdeal.nD,
      r.2.mem ((c.tc : Thread Cert.PoolReferenceIdeal.nD Cert.PoolReferenceIdeal.τ).loc Cert.PoolReferenceIdeal.main_arg0) = m ((c.tc : Thread Cert.PoolReferenceIdeal.nD Cert.PoolReferenceIdeal.τ).loc Cert.PoolReferenceIdeal.main_arg0)
      ∧ r.2.mem ((c.tc : Thread Cert.PoolReferenceIdeal.nD Cert.PoolReferenceIdeal.τ).loc Cert.PoolReferenceIdeal.main_arg1) = m ((c.tc : Thread Cert.PoolReferenceIdeal.nD Cert.PoolReferenceIdeal.τ).loc Cert.PoolReferenceIdeal.main_arg1)
      ∧ r.2.mem ((c.tc : Thread Cert.PoolReferenceIdeal.nD Cert.PoolReferenceIdeal.τ).loc Cert.PoolReferenceIdeal.main_arg2) = m ((c.tc : Thread Cert.PoolReferenceIdeal.nD Cert.PoolReferenceIdeal.τ).loc Cert.PoolReferenceIdeal.main_arg2))
      ∧ r.2.sem = fun _ => 0)

def quiescent_PoolReferenceIdeal_pre_finite_pool [hPoolReferenceIdeal : Cert.PoolReferenceIdeal.Facts] [hPre_finite_pool : Cert.Pre_finite_pool.Facts] : Prop :=
  ∀ (m : (ℓ : Loc Cert.PoolReferenceIdeal.nD Cert.PoolReferenceIdeal.τ Cert.PoolReferenceIdeal.sig) → Buf (Elt Ideal) ℓ) (g : Dev Cert.PoolReferenceIdeal.nD → PrngReg), Pre_PoolReferenceIdeal_finite_pool m →
    θ_run (Cert.PoolReferenceIdeal.defs (F := Ideal)) (onTc (τ := Cert.PoolReferenceIdeal.τ) (Cert.PoolReferenceIdeal.main (F := Ideal))) ⟨m, fun _ => 0, g⟩ (fun r => (∀ c : Dev Cert.PoolReferenceIdeal.nD,
      r.2.mem ((c.tc : Thread Cert.PoolReferenceIdeal.nD Cert.PoolReferenceIdeal.τ).loc Cert.PoolReferenceIdeal.main_arg0) = m ((c.tc : Thread Cert.PoolReferenceIdeal.nD Cert.PoolReferenceIdeal.τ).loc Cert.PoolReferenceIdeal.main_arg0)
      ∧ r.2.mem ((c.tc : Thread Cert.PoolReferenceIdeal.nD Cert.PoolReferenceIdeal.τ).loc Cert.PoolReferenceIdeal.main_arg1) = m ((c.tc : Thread Cert.PoolReferenceIdeal.nD Cert.PoolReferenceIdeal.τ).loc Cert.PoolReferenceIdeal.main_arg1)
      ∧ r.2.mem ((c.tc : Thread Cert.PoolReferenceIdeal.nD Cert.PoolReferenceIdeal.τ).loc Cert.PoolReferenceIdeal.main_arg2) = m ((c.tc : Thread Cert.PoolReferenceIdeal.nD Cert.PoolReferenceIdeal.τ).loc Cert.PoolReferenceIdeal.main_arg2))
      ∧ r.2.sem = fun _ => 0)

def quiescent_MidKernel [hMidKernel : Cert.MidKernel.Facts] : Prop :=
  ∀ (m : (ℓ : Loc Cert.MidKernel.nD Cert.MidKernel.τ Cert.MidKernel.sig) → Buf (Elt Bits) ℓ) (g : Dev Cert.MidKernel.nD → PrngReg), Pre_MidKernel m →
    θ_run (Cert.MidKernel.defs (F := Bits)) (onTc (τ := Cert.MidKernel.τ) (Cert.MidKernel.main (F := Bits))) ⟨m, fun _ => 0, g⟩ (fun r => (∀ c : Dev Cert.MidKernel.nD,
      r.2.mem ((c.tc : Thread Cert.MidKernel.nD Cert.MidKernel.τ).loc Cert.MidKernel.main_arg0) = m ((c.tc : Thread Cert.MidKernel.nD Cert.MidKernel.τ).loc Cert.MidKernel.main_arg0)
      ∧ r.2.mem ((c.tc : Thread Cert.MidKernel.nD Cert.MidKernel.τ).loc Cert.MidKernel.main_arg1) = m ((c.tc : Thread Cert.MidKernel.nD Cert.MidKernel.τ).loc Cert.MidKernel.main_arg1)
      ∧ r.2.mem ((c.tc : Thread Cert.MidKernel.nD Cert.MidKernel.τ).loc Cert.MidKernel.main_arg2) = m ((c.tc : Thread Cert.MidKernel.nD Cert.MidKernel.τ).loc Cert.MidKernel.main_arg2)
      ∧ r.2.mem ((c.tc : Thread Cert.MidKernel.nD Cert.MidKernel.τ).loc Cert.MidKernel.main_arg3) = m ((c.tc : Thread Cert.MidKernel.nD Cert.MidKernel.τ).loc Cert.MidKernel.main_arg3))
      ∧ r.2.sem = fun _ => 0)

def quiescent_MidKernelIdeal [hMidKernelIdeal : Cert.MidKernelIdeal.Facts] : Prop :=
  ∀ (m : (ℓ : Loc Cert.MidKernelIdeal.nD Cert.MidKernelIdeal.τ Cert.MidKernelIdeal.sig) → Buf (Elt Ideal) ℓ) (g : Dev Cert.MidKernelIdeal.nD → PrngReg), Pre_MidKernelIdeal m →
    θ_run (Cert.MidKernelIdeal.defs (F := Ideal)) (onTc (τ := Cert.MidKernelIdeal.τ) (Cert.MidKernelIdeal.main (F := Ideal))) ⟨m, fun _ => 0, g⟩ (fun r => (∀ c : Dev Cert.MidKernelIdeal.nD,
      r.2.mem ((c.tc : Thread Cert.MidKernelIdeal.nD Cert.MidKernelIdeal.τ).loc Cert.MidKernelIdeal.main_arg0) = m ((c.tc : Thread Cert.MidKernelIdeal.nD Cert.MidKernelIdeal.τ).loc Cert.MidKernelIdeal.main_arg0)
      ∧ r.2.mem ((c.tc : Thread Cert.MidKernelIdeal.nD Cert.MidKernelIdeal.τ).loc Cert.MidKernelIdeal.main_arg1) = m ((c.tc : Thread Cert.MidKernelIdeal.nD Cert.MidKernelIdeal.τ).loc Cert.MidKernelIdeal.main_arg1)
      ∧ r.2.mem ((c.tc : Thread Cert.MidKernelIdeal.nD Cert.MidKernelIdeal.τ).loc Cert.MidKernelIdeal.main_arg2) = m ((c.tc : Thread Cert.MidKernelIdeal.nD Cert.MidKernelIdeal.τ).loc Cert.MidKernelIdeal.main_arg2)
      ∧ r.2.mem ((c.tc : Thread Cert.MidKernelIdeal.nD Cert.MidKernelIdeal.τ).loc Cert.MidKernelIdeal.main_arg3) = m ((c.tc : Thread Cert.MidKernelIdeal.nD Cert.MidKernelIdeal.τ).loc Cert.MidKernelIdeal.main_arg3))
      ∧ r.2.sem = fun _ => 0)

def quiescent_MidReferenceIdeal [hMidReferenceIdeal : Cert.MidReferenceIdeal.Facts] : Prop :=
  ∀ (m : (ℓ : Loc Cert.MidReferenceIdeal.nD Cert.MidReferenceIdeal.τ Cert.MidReferenceIdeal.sig) → Buf (Elt Ideal) ℓ) (g : Dev Cert.MidReferenceIdeal.nD → PrngReg), Pre_MidReferenceIdeal m →
    θ_run (Cert.MidReferenceIdeal.defs (F := Ideal)) (onTc (τ := Cert.MidReferenceIdeal.τ) (Cert.MidReferenceIdeal.main (F := Ideal))) ⟨m, fun _ => 0, g⟩ (fun r => (∀ c : Dev Cert.MidReferenceIdeal.nD,
      r.2.mem ((c.tc : Thread Cert.MidReferenceIdeal.nD Cert.MidReferenceIdeal.τ).loc Cert.MidReferenceIdeal.main_arg0) = m ((c.tc : Thread Cert.MidReferenceIdeal.nD Cert.MidReferenceIdeal.τ).loc Cert.MidReferenceIdeal.main_arg0)
      ∧ r.2.mem ((c.tc : Thread Cert.MidReferenceIdeal.nD Cert.MidReferenceIdeal.τ).loc Cert.MidReferenceIdeal.main_arg1) = m ((c.tc : Thread Cert.MidReferenceIdeal.nD Cert.MidReferenceIdeal.τ).loc Cert.MidReferenceIdeal.main_arg1)
      ∧ r.2.mem ((c.tc : Thread Cert.MidReferenceIdeal.nD Cert.MidReferenceIdeal.τ).loc Cert.MidReferenceIdeal.main_arg2) = m ((c.tc : Thread Cert.MidReferenceIdeal.nD Cert.MidReferenceIdeal.τ).loc Cert.MidReferenceIdeal.main_arg2)
      ∧ r.2.mem ((c.tc : Thread Cert.MidReferenceIdeal.nD Cert.MidReferenceIdeal.τ).loc Cert.MidReferenceIdeal.main_arg3) = m ((c.tc : Thread Cert.MidReferenceIdeal.nD Cert.MidReferenceIdeal.τ).loc Cert.MidReferenceIdeal.main_arg3))
      ∧ r.2.sem = fun _ => 0)

def quiescent_LastKernel [hLastKernel : Cert.LastKernel.Facts] : Prop :=
  ∀ (m : (ℓ : Loc Cert.LastKernel.nD Cert.LastKernel.τ Cert.LastKernel.sig) → Buf (Elt Bits) ℓ) (g : Dev Cert.LastKernel.nD → PrngReg), Pre_LastKernel m →
    θ_run (Cert.LastKernel.defs (F := Bits)) (onTc (τ := Cert.LastKernel.τ) (Cert.LastKernel.main (F := Bits))) ⟨m, fun _ => 0, g⟩ (fun r => (∀ c : Dev Cert.LastKernel.nD,
      r.2.mem ((c.tc : Thread Cert.LastKernel.nD Cert.LastKernel.τ).loc Cert.LastKernel.main_arg0) = m ((c.tc : Thread Cert.LastKernel.nD Cert.LastKernel.τ).loc Cert.LastKernel.main_arg0)
      ∧ r.2.mem ((c.tc : Thread Cert.LastKernel.nD Cert.LastKernel.τ).loc Cert.LastKernel.main_arg1) = m ((c.tc : Thread Cert.LastKernel.nD Cert.LastKernel.τ).loc Cert.LastKernel.main_arg1)
      ∧ r.2.mem ((c.tc : Thread Cert.LastKernel.nD Cert.LastKernel.τ).loc Cert.LastKernel.main_arg2) = m ((c.tc : Thread Cert.LastKernel.nD Cert.LastKernel.τ).loc Cert.LastKernel.main_arg2)
      ∧ r.2.mem ((c.tc : Thread Cert.LastKernel.nD Cert.LastKernel.τ).loc Cert.LastKernel.main_arg3) = m ((c.tc : Thread Cert.LastKernel.nD Cert.LastKernel.τ).loc Cert.LastKernel.main_arg3))
      ∧ r.2.sem = fun _ => 0)

def quiescent_LastKernelIdeal [hLastKernelIdeal : Cert.LastKernelIdeal.Facts] : Prop :=
  ∀ (m : (ℓ : Loc Cert.LastKernelIdeal.nD Cert.LastKernelIdeal.τ Cert.LastKernelIdeal.sig) → Buf (Elt Ideal) ℓ) (g : Dev Cert.LastKernelIdeal.nD → PrngReg), Pre_LastKernelIdeal m →
    θ_run (Cert.LastKernelIdeal.defs (F := Ideal)) (onTc (τ := Cert.LastKernelIdeal.τ) (Cert.LastKernelIdeal.main (F := Ideal))) ⟨m, fun _ => 0, g⟩ (fun r => (∀ c : Dev Cert.LastKernelIdeal.nD,
      r.2.mem ((c.tc : Thread Cert.LastKernelIdeal.nD Cert.LastKernelIdeal.τ).loc Cert.LastKernelIdeal.main_arg0) = m ((c.tc : Thread Cert.LastKernelIdeal.nD Cert.LastKernelIdeal.τ).loc Cert.LastKernelIdeal.main_arg0)
      ∧ r.2.mem ((c.tc : Thread Cert.LastKernelIdeal.nD Cert.LastKernelIdeal.τ).loc Cert.LastKernelIdeal.main_arg1) = m ((c.tc : Thread Cert.LastKernelIdeal.nD Cert.LastKernelIdeal.τ).loc Cert.LastKernelIdeal.main_arg1)
      ∧ r.2.mem ((c.tc : Thread Cert.LastKernelIdeal.nD Cert.LastKernelIdeal.τ).loc Cert.LastKernelIdeal.main_arg2) = m ((c.tc : Thread Cert.LastKernelIdeal.nD Cert.LastKernelIdeal.τ).loc Cert.LastKernelIdeal.main_arg2)
      ∧ r.2.mem ((c.tc : Thread Cert.LastKernelIdeal.nD Cert.LastKernelIdeal.τ).loc Cert.LastKernelIdeal.main_arg3) = m ((c.tc : Thread Cert.LastKernelIdeal.nD Cert.LastKernelIdeal.τ).loc Cert.LastKernelIdeal.main_arg3))
      ∧ r.2.sem = fun _ => 0)

def quiescent_LastReferenceIdeal [hLastReferenceIdeal : Cert.LastReferenceIdeal.Facts] : Prop :=
  ∀ (m : (ℓ : Loc Cert.LastReferenceIdeal.nD Cert.LastReferenceIdeal.τ Cert.LastReferenceIdeal.sig) → Buf (Elt Ideal) ℓ) (g : Dev Cert.LastReferenceIdeal.nD → PrngReg), Pre_LastReferenceIdeal m →
    θ_run (Cert.LastReferenceIdeal.defs (F := Ideal)) (onTc (τ := Cert.LastReferenceIdeal.τ) (Cert.LastReferenceIdeal.main (F := Ideal))) ⟨m, fun _ => 0, g⟩ (fun r => (∀ c : Dev Cert.LastReferenceIdeal.nD,
      r.2.mem ((c.tc : Thread Cert.LastReferenceIdeal.nD Cert.LastReferenceIdeal.τ).loc Cert.LastReferenceIdeal.main_arg0) = m ((c.tc : Thread Cert.LastReferenceIdeal.nD Cert.LastReferenceIdeal.τ).loc Cert.LastReferenceIdeal.main_arg0)
      ∧ r.2.mem ((c.tc : Thread Cert.LastReferenceIdeal.nD Cert.LastReferenceIdeal.τ).loc Cert.LastReferenceIdeal.main_arg1) = m ((c.tc : Thread Cert.LastReferenceIdeal.nD Cert.LastReferenceIdeal.τ).loc Cert.LastReferenceIdeal.main_arg1)
      ∧ r.2.mem ((c.tc : Thread Cert.LastReferenceIdeal.nD Cert.LastReferenceIdeal.τ).loc Cert.LastReferenceIdeal.main_arg2) = m ((c.tc : Thread Cert.LastReferenceIdeal.nD Cert.LastReferenceIdeal.τ).loc Cert.LastReferenceIdeal.main_arg2)
      ∧ r.2.mem ((c.tc : Thread Cert.LastReferenceIdeal.nD Cert.LastReferenceIdeal.τ).loc Cert.LastReferenceIdeal.main_arg3) = m ((c.tc : Thread Cert.LastReferenceIdeal.nD Cert.LastReferenceIdeal.τ).loc Cert.LastReferenceIdeal.main_arg3))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v99)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v99) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v224) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_ProjKernel_ProjKernelIdeal : Prop :=
  True

def algebraic_ProjKernelIdeal_ProjReferenceIdeal [hProjKernelIdeal : Cert.ProjKernelIdeal.Facts] [hProjReferenceIdeal : Cert.ProjReferenceIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjKernelIdeal m →
    (∀ c : Dev Cert.ProjKernelIdeal.nD,
      m' ((c.tc : Thread Cert.ProjReferenceIdeal.nD Cert.ProjReferenceIdeal.τ).loc Cert.ProjReferenceIdeal.main_arg0) = m ((c.tc : Thread Cert.ProjKernelIdeal.nD Cert.ProjKernelIdeal.τ).loc Cert.ProjKernelIdeal.main_arg0)
      ∧ m' ((c.tc : Thread Cert.ProjReferenceIdeal.nD Cert.ProjReferenceIdeal.τ).loc Cert.ProjReferenceIdeal.main_arg1) = m ((c.tc : Thread Cert.ProjKernelIdeal.nD Cert.ProjKernelIdeal.τ).loc Cert.ProjKernelIdeal.main_arg1)) →
    ∃ (v0 : (c : Dev Cert.ProjKernelIdeal.nD) → Buf (Elt Ideal) ((c.tc : Thread Cert.ProjKernelIdeal.nD Cert.ProjKernelIdeal.τ).loc Cert.ProjKernelIdeal.main_v0)),
      θ_run (Cert.ProjKernelIdeal.defs (F := Ideal)) (onTc (τ := Cert.ProjKernelIdeal.τ) (Cert.ProjKernelIdeal.main (F := Ideal))) ⟨m, fun _ => 0, g⟩ (fun r => ∀ c : Dev Cert.ProjKernelIdeal.nD,
          r.2.mem ((c.tc : Thread Cert.ProjKernelIdeal.nD Cert.ProjKernelIdeal.τ).loc Cert.ProjKernelIdeal.main_v0) = v0 c
          ∧ r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
          ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v4) = v0 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1))

def preserves_UpKernel_UpKernelIdeal : Prop :=
  True

def algebraic_UpKernelIdeal_UpReferenceIdeal [hUpKernelIdeal : Cert.UpKernelIdeal.Facts] [hUpReferenceIdeal : Cert.UpReferenceIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpKernelIdeal m →
    (∀ c : Dev Cert.UpKernelIdeal.nD,
      m' ((c.tc : Thread Cert.UpReferenceIdeal.nD Cert.UpReferenceIdeal.τ).loc Cert.UpReferenceIdeal.main_arg0) = m ((c.tc : Thread Cert.UpKernelIdeal.nD Cert.UpKernelIdeal.τ).loc Cert.UpKernelIdeal.main_arg0)
      ∧ m' ((c.tc : Thread Cert.UpReferenceIdeal.nD Cert.UpReferenceIdeal.τ).loc Cert.UpReferenceIdeal.main_arg1) = m ((c.tc : Thread Cert.UpKernelIdeal.nD Cert.UpKernelIdeal.τ).loc Cert.UpKernelIdeal.main_arg1)) →
    ∃ (v0 : (c : Dev Cert.UpKernelIdeal.nD) → Buf (Elt Ideal) ((c.tc : Thread Cert.UpKernelIdeal.nD Cert.UpKernelIdeal.τ).loc Cert.UpKernelIdeal.main_v0)),
      θ_run (Cert.UpKernelIdeal.defs (F := Ideal)) (onTc (τ := Cert.UpKernelIdeal.τ) (Cert.UpKernelIdeal.main (F := Ideal))) ⟨m, fun _ => 0, g⟩ (fun r => ∀ c : Dev Cert.UpKernelIdeal.nD,
          r.2.mem ((c.tc : Thread Cert.UpKernelIdeal.nD Cert.UpKernelIdeal.τ).loc Cert.UpKernelIdeal.main_v0) = v0 c
          ∧ r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
          ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v8) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1))

def preserves_DownKernel_DownKernelIdeal : Prop :=
  True

def algebraic_DownKernelIdeal_DownReferenceIdeal [hDownKernelIdeal : Cert.DownKernelIdeal.Facts] [hDownReferenceIdeal : Cert.DownReferenceIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownKernelIdeal m →
    (∀ c : Dev Cert.DownKernelIdeal.nD,
      m' ((c.tc : Thread Cert.DownReferenceIdeal.nD Cert.DownReferenceIdeal.τ).loc Cert.DownReferenceIdeal.main_arg0) = m ((c.tc : Thread Cert.DownKernelIdeal.nD Cert.DownKernelIdeal.τ).loc Cert.DownKernelIdeal.main_arg0)
      ∧ m' ((c.tc : Thread Cert.DownReferenceIdeal.nD Cert.DownReferenceIdeal.τ).loc Cert.DownReferenceIdeal.main_arg1) = m ((c.tc : Thread Cert.DownKernelIdeal.nD Cert.DownKernelIdeal.τ).loc Cert.DownKernelIdeal.main_arg1)) →
    ∃ (v0 : (c : Dev Cert.DownKernelIdeal.nD) → Buf (Elt Ideal) ((c.tc : Thread Cert.DownKernelIdeal.nD Cert.DownKernelIdeal.τ).loc Cert.DownKernelIdeal.main_v0)),
      θ_run (Cert.DownKernelIdeal.defs (F := Ideal)) (onTc (τ := Cert.DownKernelIdeal.τ) (Cert.DownKernelIdeal.main (F := Ideal))) ⟨m, fun _ => 0, g⟩ (fun r => ∀ c : Dev Cert.DownKernelIdeal.nD,
          r.2.mem ((c.tc : Thread Cert.DownKernelIdeal.nD Cert.DownKernelIdeal.τ).loc Cert.DownKernelIdeal.main_v0) = v0 c
          ∧ r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
          ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v3) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1))

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)) →
    ∃ (v0 : (c : Dev Cert.OutKernelIdeal.nD) → Buf (Elt Ideal) ((c.tc : Thread Cert.OutKernelIdeal.nD Cert.OutKernelIdeal.τ).loc Cert.OutKernelIdeal.main_v0)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v0) = v0 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v3) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1))

def preserves_BranchKernel_BranchKernelIdeal : Prop :=
  True

def algebraic_BranchKernelIdeal_BranchReferenceIdeal [hBranchKernelIdeal : Cert.BranchKernelIdeal.Facts] [hBranchReferenceIdeal : Cert.BranchReferenceIdeal.Facts] : Prop :=
  ∀ (m : (ℓ : Loc Cert.BranchKernelIdeal.nD Cert.BranchKernelIdeal.τ Cert.BranchKernelIdeal.sig) → Buf (Elt Ideal) ℓ) (g : Dev Cert.BranchKernelIdeal.nD → PrngReg)
    (m' : (ℓ : Loc Cert.BranchReferenceIdeal.nD Cert.BranchReferenceIdeal.τ Cert.BranchReferenceIdeal.sig) → Buf (Elt Ideal) ℓ) (g' : Dev Cert.BranchReferenceIdeal.nD → PrngReg), Pre_BranchKernelIdeal m →
    (∀ c : Dev Cert.BranchKernelIdeal.nD,
      m' ((c.tc : Thread Cert.BranchReferenceIdeal.nD Cert.BranchReferenceIdeal.τ).loc Cert.BranchReferenceIdeal.main_arg0) = m ((c.tc : Thread Cert.BranchKernelIdeal.nD Cert.BranchKernelIdeal.τ).loc Cert.BranchKernelIdeal.main_arg0)
      ∧ m' ((c.tc : Thread Cert.BranchReferenceIdeal.nD Cert.BranchReferenceIdeal.τ).loc Cert.BranchReferenceIdeal.main_arg1) = m ((c.tc : Thread Cert.BranchKernelIdeal.nD Cert.BranchKernelIdeal.τ).loc Cert.BranchKernelIdeal.main_arg1)
      ∧ m' ((c.tc : Thread Cert.BranchReferenceIdeal.nD Cert.BranchReferenceIdeal.τ).loc Cert.BranchReferenceIdeal.main_arg2) = m ((c.tc : Thread Cert.BranchKernelIdeal.nD Cert.BranchKernelIdeal.τ).loc Cert.BranchKernelIdeal.main_arg2)
      ∧ m' ((c.tc : Thread Cert.BranchReferenceIdeal.nD Cert.BranchReferenceIdeal.τ).loc Cert.BranchReferenceIdeal.main_arg3) = m ((c.tc : Thread Cert.BranchKernelIdeal.nD Cert.BranchKernelIdeal.τ).loc Cert.BranchKernelIdeal.main_arg3)
      ∧ m' ((c.tc : Thread Cert.BranchReferenceIdeal.nD Cert.BranchReferenceIdeal.τ).loc Cert.BranchReferenceIdeal.main_arg4) = m ((c.tc : Thread Cert.BranchKernelIdeal.nD Cert.BranchKernelIdeal.τ).loc Cert.BranchKernelIdeal.main_arg4)
      ∧ m' ((c.tc : Thread Cert.BranchReferenceIdeal.nD Cert.BranchReferenceIdeal.τ).loc Cert.BranchReferenceIdeal.main_arg5) = m ((c.tc : Thread Cert.BranchKernelIdeal.nD Cert.BranchKernelIdeal.τ).loc Cert.BranchKernelIdeal.main_arg5)) →
    ∃ (v0 : (c : Dev Cert.BranchKernelIdeal.nD) → Buf (Elt Ideal) ((c.tc : Thread Cert.BranchKernelIdeal.nD Cert.BranchKernelIdeal.τ).loc Cert.BranchKernelIdeal.main_v0)),
      θ_run (Cert.BranchKernelIdeal.defs (F := Ideal)) (onTc (τ := Cert.BranchKernelIdeal.τ) (Cert.BranchKernelIdeal.main (F := Ideal))) ⟨m, fun _ => 0, g⟩ (fun r => ∀ c : Dev Cert.BranchKernelIdeal.nD,
          r.2.mem ((c.tc : Thread Cert.BranchKernelIdeal.nD Cert.BranchKernelIdeal.τ).loc Cert.BranchKernelIdeal.main_v0) = v0 c
          ∧ r.2.mem ((c.tc : Thread Cert.BranchKernelIdeal.nD Cert.BranchKernelIdeal.τ).loc Cert.BranchKernelIdeal.main_arg0) = m ((c.tc : Thread Cert.BranchKernelIdeal.nD Cert.BranchKernelIdeal.τ).loc Cert.BranchKernelIdeal.main_arg0)
          ∧ r.2.mem ((c.tc : Thread Cert.BranchKernelIdeal.nD Cert.BranchKernelIdeal.τ).loc Cert.BranchKernelIdeal.main_arg1) = m ((c.tc : Thread Cert.BranchKernelIdeal.nD Cert.BranchKernelIdeal.τ).loc Cert.BranchKernelIdeal.main_arg1)
          ∧ r.2.mem ((c.tc : Thread Cert.BranchKernelIdeal.nD Cert.BranchKernelIdeal.τ).loc Cert.BranchKernelIdeal.main_arg2) = m ((c.tc : Thread Cert.BranchKernelIdeal.nD Cert.BranchKernelIdeal.τ).loc Cert.BranchKernelIdeal.main_arg2)
          ∧ r.2.mem ((c.tc : Thread Cert.BranchKernelIdeal.nD Cert.BranchKernelIdeal.τ).loc Cert.BranchKernelIdeal.main_arg3) = m ((c.tc : Thread Cert.BranchKernelIdeal.nD Cert.BranchKernelIdeal.τ).loc Cert.BranchKernelIdeal.main_arg3)
          ∧ r.2.mem ((c.tc : Thread Cert.BranchKernelIdeal.nD Cert.BranchKernelIdeal.τ).loc Cert.BranchKernelIdeal.main_arg4) = m ((c.tc : Thread Cert.BranchKernelIdeal.nD Cert.BranchKernelIdeal.τ).loc Cert.BranchKernelIdeal.main_arg4)
          ∧ r.2.mem ((c.tc : Thread Cert.BranchKernelIdeal.nD Cert.BranchKernelIdeal.τ).loc Cert.BranchKernelIdeal.main_arg5) = m ((c.tc : Thread Cert.BranchKernelIdeal.nD Cert.BranchKernelIdeal.τ).loc Cert.BranchKernelIdeal.main_arg5))
      ∧ θ_run (Cert.BranchReferenceIdeal.defs (F := Ideal)) (onTc (τ := Cert.BranchReferenceIdeal.τ) (Cert.BranchReferenceIdeal.main (F := Ideal))) ⟨m', fun _ => 0, g'⟩ (fun r => ∀ c : Dev Cert.BranchReferenceIdeal.nD,
          r.2.mem ((c.tc : Thread Cert.BranchReferenceIdeal.nD Cert.BranchReferenceIdeal.τ).loc Cert.BranchReferenceIdeal.main_v40) = v0 c
          ∧ r.2.mem ((c.tc : Thread Cert.BranchReferenceIdeal.nD Cert.BranchReferenceIdeal.τ).loc Cert.BranchReferenceIdeal.main_arg0) = m' ((c.tc : Thread Cert.BranchReferenceIdeal.nD Cert.BranchReferenceIdeal.τ).loc Cert.BranchReferenceIdeal.main_arg0)
          ∧ r.2.mem ((c.tc : Thread Cert.BranchReferenceIdeal.nD Cert.BranchReferenceIdeal.τ).loc Cert.BranchReferenceIdeal.main_arg1) = m' ((c.tc : Thread Cert.BranchReferenceIdeal.nD Cert.BranchReferenceIdeal.τ).loc Cert.BranchReferenceIdeal.main_arg1)
          ∧ r.2.mem ((c.tc : Thread Cert.BranchReferenceIdeal.nD Cert.BranchReferenceIdeal.τ).loc Cert.BranchReferenceIdeal.main_arg2) = m' ((c.tc : Thread Cert.BranchReferenceIdeal.nD Cert.BranchReferenceIdeal.τ).loc Cert.BranchReferenceIdeal.main_arg2)
          ∧ r.2.mem ((c.tc : Thread Cert.BranchReferenceIdeal.nD Cert.BranchReferenceIdeal.τ).loc Cert.BranchReferenceIdeal.main_arg3) = m' ((c.tc : Thread Cert.BranchReferenceIdeal.nD Cert.BranchReferenceIdeal.τ).loc Cert.BranchReferenceIdeal.main_arg3)
          ∧ r.2.mem ((c.tc : Thread Cert.BranchReferenceIdeal.nD Cert.BranchReferenceIdeal.τ).loc Cert.BranchReferenceIdeal.main_arg4) = m' ((c.tc : Thread Cert.BranchReferenceIdeal.nD Cert.BranchReferenceIdeal.τ).loc Cert.BranchReferenceIdeal.main_arg4)
          ∧ r.2.mem ((c.tc : Thread Cert.BranchReferenceIdeal.nD Cert.BranchReferenceIdeal.τ).loc Cert.BranchReferenceIdeal.main_arg5) = m' ((c.tc : Thread Cert.BranchReferenceIdeal.nD Cert.BranchReferenceIdeal.τ).loc Cert.BranchReferenceIdeal.main_arg5))

def preserves_AdaKernel_AdaKernelIdeal : Prop :=
  True

def algebraic_AdaKernelIdeal_AdaReferenceIdeal [hAdaKernelIdeal : Cert.AdaKernelIdeal.Facts] [hAdaReferenceIdeal : Cert.AdaReferenceIdeal.Facts] : Prop :=
  ∀ (m : (ℓ : Loc Cert.AdaKernelIdeal.nD Cert.AdaKernelIdeal.τ Cert.AdaKernelIdeal.sig) → Buf (Elt Ideal) ℓ) (g : Dev Cert.AdaKernelIdeal.nD → PrngReg)
    (m' : (ℓ : Loc Cert.AdaReferenceIdeal.nD Cert.AdaReferenceIdeal.τ Cert.AdaReferenceIdeal.sig) → Buf (Elt Ideal) ℓ) (g' : Dev Cert.AdaReferenceIdeal.nD → PrngReg), Pre_AdaKernelIdeal m →
    (∀ c : Dev Cert.AdaKernelIdeal.nD,
      m' ((c.tc : Thread Cert.AdaReferenceIdeal.nD Cert.AdaReferenceIdeal.τ).loc Cert.AdaReferenceIdeal.main_arg0) = m ((c.tc : Thread Cert.AdaKernelIdeal.nD Cert.AdaKernelIdeal.τ).loc Cert.AdaKernelIdeal.main_arg0)
      ∧ m' ((c.tc : Thread Cert.AdaReferenceIdeal.nD Cert.AdaReferenceIdeal.τ).loc Cert.AdaReferenceIdeal.main_arg1) = m ((c.tc : Thread Cert.AdaKernelIdeal.nD Cert.AdaKernelIdeal.τ).loc Cert.AdaKernelIdeal.main_arg1)
      ∧ m' ((c.tc : Thread Cert.AdaReferenceIdeal.nD Cert.AdaReferenceIdeal.τ).loc Cert.AdaReferenceIdeal.main_arg2) = m ((c.tc : Thread Cert.AdaKernelIdeal.nD Cert.AdaKernelIdeal.τ).loc Cert.AdaKernelIdeal.main_arg2)) →
    ∃ (v0 : (c : Dev Cert.AdaKernelIdeal.nD) → Buf (Elt Ideal) ((c.tc : Thread Cert.AdaKernelIdeal.nD Cert.AdaKernelIdeal.τ).loc Cert.AdaKernelIdeal.main_v1)),
      θ_run (Cert.AdaKernelIdeal.defs (F := Ideal)) (onTc (τ := Cert.AdaKernelIdeal.τ) (Cert.AdaKernelIdeal.main (F := Ideal))) ⟨m, fun _ => 0, g⟩ (fun r => ∀ c : Dev Cert.AdaKernelIdeal.nD,
          r.2.mem ((c.tc : Thread Cert.AdaKernelIdeal.nD Cert.AdaKernelIdeal.τ).loc Cert.AdaKernelIdeal.main_v1) = v0 c
          ∧ r.2.mem ((c.tc : Thread Cert.AdaKernelIdeal.nD Cert.AdaKernelIdeal.τ).loc Cert.AdaKernelIdeal.main_arg0) = m ((c.tc : Thread Cert.AdaKernelIdeal.nD Cert.AdaKernelIdeal.τ).loc Cert.AdaKernelIdeal.main_arg0)
          ∧ r.2.mem ((c.tc : Thread Cert.AdaKernelIdeal.nD Cert.AdaKernelIdeal.τ).loc Cert.AdaKernelIdeal.main_arg1) = m ((c.tc : Thread Cert.AdaKernelIdeal.nD Cert.AdaKernelIdeal.τ).loc Cert.AdaKernelIdeal.main_arg1)
          ∧ r.2.mem ((c.tc : Thread Cert.AdaKernelIdeal.nD Cert.AdaKernelIdeal.τ).loc Cert.AdaKernelIdeal.main_arg2) = m ((c.tc : Thread Cert.AdaKernelIdeal.nD Cert.AdaKernelIdeal.τ).loc Cert.AdaKernelIdeal.main_arg2))
      ∧ θ_run (Cert.AdaReferenceIdeal.defs (F := Ideal)) (onTc (τ := Cert.AdaReferenceIdeal.τ) (Cert.AdaReferenceIdeal.main (F := Ideal))) ⟨m', fun _ => 0, g'⟩ (fun r => ∀ c : Dev Cert.AdaReferenceIdeal.nD,
          r.2.mem ((c.tc : Thread Cert.AdaReferenceIdeal.nD Cert.AdaReferenceIdeal.τ).loc Cert.AdaReferenceIdeal.main_v8) = v0 c
          ∧ r.2.mem ((c.tc : Thread Cert.AdaReferenceIdeal.nD Cert.AdaReferenceIdeal.τ).loc Cert.AdaReferenceIdeal.main_arg0) = m' ((c.tc : Thread Cert.AdaReferenceIdeal.nD Cert.AdaReferenceIdeal.τ).loc Cert.AdaReferenceIdeal.main_arg0)
          ∧ r.2.mem ((c.tc : Thread Cert.AdaReferenceIdeal.nD Cert.AdaReferenceIdeal.τ).loc Cert.AdaReferenceIdeal.main_arg1) = m' ((c.tc : Thread Cert.AdaReferenceIdeal.nD Cert.AdaReferenceIdeal.τ).loc Cert.AdaReferenceIdeal.main_arg1)
          ∧ r.2.mem ((c.tc : Thread Cert.AdaReferenceIdeal.nD Cert.AdaReferenceIdeal.τ).loc Cert.AdaReferenceIdeal.main_arg2) = m' ((c.tc : Thread Cert.AdaReferenceIdeal.nD Cert.AdaReferenceIdeal.τ).loc Cert.AdaReferenceIdeal.main_arg2))

def preserves_NormKernel_NormKernelIdeal : Prop :=
  True

def algebraic_NormKernelIdeal_NormReferenceIdeal [hNormKernelIdeal : Cert.NormKernelIdeal.Facts] [hNormReferenceIdeal : Cert.NormReferenceIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormKernelIdeal m →
    (∀ c : Dev Cert.NormKernelIdeal.nD,
      m' ((c.tc : Thread Cert.NormReferenceIdeal.nD Cert.NormReferenceIdeal.τ).loc Cert.NormReferenceIdeal.main_arg0) = m ((c.tc : Thread Cert.NormKernelIdeal.nD Cert.NormKernelIdeal.τ).loc Cert.NormKernelIdeal.main_arg0)
      ∧ m' ((c.tc : Thread Cert.NormReferenceIdeal.nD Cert.NormReferenceIdeal.τ).loc Cert.NormReferenceIdeal.main_arg1) = m ((c.tc : Thread Cert.NormKernelIdeal.nD Cert.NormKernelIdeal.τ).loc Cert.NormKernelIdeal.main_arg1)
      ∧ m' ((c.tc : Thread Cert.NormReferenceIdeal.nD Cert.NormReferenceIdeal.τ).loc Cert.NormReferenceIdeal.main_arg2) = m ((c.tc : Thread Cert.NormKernelIdeal.nD Cert.NormKernelIdeal.τ).loc Cert.NormKernelIdeal.main_arg2)) →
    ∃ (v0 : (c : Dev Cert.NormKernelIdeal.nD) → Buf (Elt Ideal) ((c.tc : Thread Cert.NormKernelIdeal.nD Cert.NormKernelIdeal.τ).loc Cert.NormKernelIdeal.main_v2)),
      θ_run (Cert.NormKernelIdeal.defs (F := Ideal)) (onTc (τ := Cert.NormKernelIdeal.τ) (Cert.NormKernelIdeal.main (F := Ideal))) ⟨m, fun _ => 0, g⟩ (fun r => ∀ c : Dev Cert.NormKernelIdeal.nD,
          r.2.mem ((c.tc : Thread Cert.NormKernelIdeal.nD Cert.NormKernelIdeal.τ).loc Cert.NormKernelIdeal.main_v2) = v0 c
          ∧ r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
          ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1)
          ∧ r.2.mem ((c.tc : Thread Cert.NormKernelIdeal.nD Cert.NormKernelIdeal.τ).loc Cert.NormKernelIdeal.main_arg2) = m ((c.tc : Thread Cert.NormKernelIdeal.nD Cert.NormKernelIdeal.τ).loc Cert.NormKernelIdeal.main_arg2))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v63) = v0 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2))

def preserves_ResidKernel_ResidKernelIdeal : Prop :=
  True

def algebraic_ResidKernelIdeal_ResidReferenceIdeal [hResidKernelIdeal : Cert.ResidKernelIdeal.Facts] [hResidReferenceIdeal : Cert.ResidReferenceIdeal.Facts] : Prop :=
  ∀ (m : (ℓ : Loc Cert.ResidKernelIdeal.nD Cert.ResidKernelIdeal.τ Cert.ResidKernelIdeal.sig) → Buf (Elt Ideal) ℓ) (g : Dev Cert.ResidKernelIdeal.nD → PrngReg)
    (m' : (ℓ : Loc Cert.ResidReferenceIdeal.nD Cert.ResidReferenceIdeal.τ Cert.ResidReferenceIdeal.sig) → Buf (Elt Ideal) ℓ) (g' : Dev Cert.ResidReferenceIdeal.nD → PrngReg), Pre_ResidKernelIdeal m →
    (∀ c : Dev Cert.ResidKernelIdeal.nD,
      m' ((c.tc : Thread Cert.ResidReferenceIdeal.nD Cert.ResidReferenceIdeal.τ).loc Cert.ResidReferenceIdeal.main_arg0) = m ((c.tc : Thread Cert.ResidKernelIdeal.nD Cert.ResidKernelIdeal.τ).loc Cert.ResidKernelIdeal.main_arg0)
      ∧ m' ((c.tc : Thread Cert.ResidReferenceIdeal.nD Cert.ResidReferenceIdeal.τ).loc Cert.ResidReferenceIdeal.main_arg1) = m ((c.tc : Thread Cert.ResidKernelIdeal.nD Cert.ResidKernelIdeal.τ).loc Cert.ResidKernelIdeal.main_arg1)
      ∧ m' ((c.tc : Thread Cert.ResidReferenceIdeal.nD Cert.ResidReferenceIdeal.τ).loc Cert.ResidReferenceIdeal.main_arg2) = m ((c.tc : Thread Cert.ResidKernelIdeal.nD Cert.ResidKernelIdeal.τ).loc Cert.ResidKernelIdeal.main_arg2)
      ∧ m' ((c.tc : Thread Cert.ResidReferenceIdeal.nD Cert.ResidReferenceIdeal.τ).loc Cert.ResidReferenceIdeal.main_arg3) = m ((c.tc : Thread Cert.ResidKernelIdeal.nD Cert.ResidKernelIdeal.τ).loc Cert.ResidKernelIdeal.main_arg3)) →
    ∃ (v0 : (c : Dev Cert.ResidKernelIdeal.nD) → Buf (Elt Ideal) ((c.tc : Thread Cert.ResidKernelIdeal.nD Cert.ResidKernelIdeal.τ).loc Cert.ResidKernelIdeal.main_v2_0)) (v1 : (c : Dev Cert.ResidKernelIdeal.nD) → Buf (Elt Ideal) ((c.tc : Thread Cert.ResidKernelIdeal.nD Cert.ResidKernelIdeal.τ).loc Cert.ResidKernelIdeal.main_v2_1)),
      θ_run (Cert.ResidKernelIdeal.defs (F := Ideal)) (onTc (τ := Cert.ResidKernelIdeal.τ) (Cert.ResidKernelIdeal.main (F := Ideal))) ⟨m, fun _ => 0, g⟩ (fun r => ∀ c : Dev Cert.ResidKernelIdeal.nD,
          r.2.mem ((c.tc : Thread Cert.ResidKernelIdeal.nD Cert.ResidKernelIdeal.τ).loc Cert.ResidKernelIdeal.main_v2_0) = v0 c
          ∧ r.2.mem ((c.tc : Thread Cert.ResidKernelIdeal.nD Cert.ResidKernelIdeal.τ).loc Cert.ResidKernelIdeal.main_v2_1) = v1 c
          ∧ r.2.mem ((c.tc : Thread Cert.ResidKernelIdeal.nD Cert.ResidKernelIdeal.τ).loc Cert.ResidKernelIdeal.main_arg0) = m ((c.tc : Thread Cert.ResidKernelIdeal.nD Cert.ResidKernelIdeal.τ).loc Cert.ResidKernelIdeal.main_arg0)
          ∧ r.2.mem ((c.tc : Thread Cert.ResidKernelIdeal.nD Cert.ResidKernelIdeal.τ).loc Cert.ResidKernelIdeal.main_arg1) = m ((c.tc : Thread Cert.ResidKernelIdeal.nD Cert.ResidKernelIdeal.τ).loc Cert.ResidKernelIdeal.main_arg1)
          ∧ r.2.mem ((c.tc : Thread Cert.ResidKernelIdeal.nD Cert.ResidKernelIdeal.τ).loc Cert.ResidKernelIdeal.main_arg2) = m ((c.tc : Thread Cert.ResidKernelIdeal.nD Cert.ResidKernelIdeal.τ).loc Cert.ResidKernelIdeal.main_arg2)
          ∧ r.2.mem ((c.tc : Thread Cert.ResidKernelIdeal.nD Cert.ResidKernelIdeal.τ).loc Cert.ResidKernelIdeal.main_arg3) = m ((c.tc : Thread Cert.ResidKernelIdeal.nD Cert.ResidKernelIdeal.τ).loc Cert.ResidKernelIdeal.main_arg3))
      ∧ θ_run (Cert.ResidReferenceIdeal.defs (F := Ideal)) (onTc (τ := Cert.ResidReferenceIdeal.τ) (Cert.ResidReferenceIdeal.main (F := Ideal))) ⟨m', fun _ => 0, g'⟩ (fun r => ∀ c : Dev Cert.ResidReferenceIdeal.nD,
          r.2.mem ((c.tc : Thread Cert.ResidReferenceIdeal.nD Cert.ResidReferenceIdeal.τ).loc Cert.ResidReferenceIdeal.main_v113) = v0 c
          ∧ r.2.mem ((c.tc : Thread Cert.ResidReferenceIdeal.nD Cert.ResidReferenceIdeal.τ).loc Cert.ResidReferenceIdeal.main_v114) = v1 c
          ∧ r.2.mem ((c.tc : Thread Cert.ResidReferenceIdeal.nD Cert.ResidReferenceIdeal.τ).loc Cert.ResidReferenceIdeal.main_arg0) = m' ((c.tc : Thread Cert.ResidReferenceIdeal.nD Cert.ResidReferenceIdeal.τ).loc Cert.ResidReferenceIdeal.main_arg0)
          ∧ r.2.mem ((c.tc : Thread Cert.ResidReferenceIdeal.nD Cert.ResidReferenceIdeal.τ).loc Cert.ResidReferenceIdeal.main_arg1) = m' ((c.tc : Thread Cert.ResidReferenceIdeal.nD Cert.ResidReferenceIdeal.τ).loc Cert.ResidReferenceIdeal.main_arg1)
          ∧ r.2.mem ((c.tc : Thread Cert.ResidReferenceIdeal.nD Cert.ResidReferenceIdeal.τ).loc Cert.ResidReferenceIdeal.main_arg2) = m' ((c.tc : Thread Cert.ResidReferenceIdeal.nD Cert.ResidReferenceIdeal.τ).loc Cert.ResidReferenceIdeal.main_arg2)
          ∧ r.2.mem ((c.tc : Thread Cert.ResidReferenceIdeal.nD Cert.ResidReferenceIdeal.τ).loc Cert.ResidReferenceIdeal.main_arg3) = m' ((c.tc : Thread Cert.ResidReferenceIdeal.nD Cert.ResidReferenceIdeal.τ).loc Cert.ResidReferenceIdeal.main_arg3))

def preserves_CtxKernel_CtxKernelIdeal : Prop :=
  True

def algebraic_CtxKernelIdeal_CtxReferenceIdeal_pre_finite_ctx [hCtxKernelIdeal : Cert.CtxKernelIdeal.Facts] [hCtxReferenceIdeal : Cert.CtxReferenceIdeal.Facts] [hPre_finite_ctx : Cert.Pre_finite_ctx.Facts] : Prop :=
  ∀ (m : (ℓ : Loc Cert.CtxKernelIdeal.nD Cert.CtxKernelIdeal.τ Cert.CtxKernelIdeal.sig) → Buf (Elt Ideal) ℓ) (g : Dev Cert.CtxKernelIdeal.nD → PrngReg)
    (m' : (ℓ : Loc Cert.CtxReferenceIdeal.nD Cert.CtxReferenceIdeal.τ Cert.CtxReferenceIdeal.sig) → Buf (Elt Ideal) ℓ) (g' : Dev Cert.CtxReferenceIdeal.nD → PrngReg), Pre_CtxKernelIdeal_finite_ctx m →
    (∀ c : Dev Cert.CtxKernelIdeal.nD,
      m' ((c.tc : Thread Cert.CtxReferenceIdeal.nD Cert.CtxReferenceIdeal.τ).loc Cert.CtxReferenceIdeal.main_arg0) = m ((c.tc : Thread Cert.CtxKernelIdeal.nD Cert.CtxKernelIdeal.τ).loc Cert.CtxKernelIdeal.main_arg0)) →
    ∃ (v0 : (c : Dev Cert.CtxKernelIdeal.nD) → Buf (Elt Ideal) ((c.tc : Thread Cert.CtxKernelIdeal.nD Cert.CtxKernelIdeal.τ).loc Cert.CtxKernelIdeal.main_v0)),
      θ_run (Cert.CtxKernelIdeal.defs (F := Ideal)) (onTc (τ := Cert.CtxKernelIdeal.τ) (Cert.CtxKernelIdeal.main (F := Ideal))) ⟨m, fun _ => 0, g⟩ (fun r => ∀ c : Dev Cert.CtxKernelIdeal.nD,
          r.2.mem ((c.tc : Thread Cert.CtxKernelIdeal.nD Cert.CtxKernelIdeal.τ).loc Cert.CtxKernelIdeal.main_v0) = v0 c
          ∧ r.2.mem ((c.tc : Thread Cert.CtxKernelIdeal.nD Cert.CtxKernelIdeal.τ).loc Cert.CtxKernelIdeal.main_arg0) = m ((c.tc : Thread Cert.CtxKernelIdeal.nD Cert.CtxKernelIdeal.τ).loc Cert.CtxKernelIdeal.main_arg0))
      ∧ θ_run (Cert.CtxReferenceIdeal.defs (F := Ideal)) (onTc (τ := Cert.CtxReferenceIdeal.τ) (Cert.CtxReferenceIdeal.main (F := Ideal))) ⟨m', fun _ => 0, g'⟩ (fun r => ∀ c : Dev Cert.CtxReferenceIdeal.nD,
          r.2.mem ((c.tc : Thread Cert.CtxReferenceIdeal.nD Cert.CtxReferenceIdeal.τ).loc Cert.CtxReferenceIdeal.main_v27) = v0 c
          ∧ r.2.mem ((c.tc : Thread Cert.CtxReferenceIdeal.nD Cert.CtxReferenceIdeal.τ).loc Cert.CtxReferenceIdeal.main_arg0) = m' ((c.tc : Thread Cert.CtxReferenceIdeal.nD Cert.CtxReferenceIdeal.τ).loc Cert.CtxReferenceIdeal.main_arg0))

def preserves_PoolKernel_PoolKernelIdeal : Prop :=
  True

def algebraic_PoolKernelIdeal_PoolReferenceIdeal_pre_finite_pool [hPoolKernelIdeal : Cert.PoolKernelIdeal.Facts] [hPoolReferenceIdeal : Cert.PoolReferenceIdeal.Facts] [hPre_finite_pool : Cert.Pre_finite_pool.Facts] : Prop :=
  ∀ (m : (ℓ : Loc Cert.PoolKernelIdeal.nD Cert.PoolKernelIdeal.τ Cert.PoolKernelIdeal.sig) → Buf (Elt Ideal) ℓ) (g : Dev Cert.PoolKernelIdeal.nD → PrngReg)
    (m' : (ℓ : Loc Cert.PoolReferenceIdeal.nD Cert.PoolReferenceIdeal.τ Cert.PoolReferenceIdeal.sig) → Buf (Elt Ideal) ℓ) (g' : Dev Cert.PoolReferenceIdeal.nD → PrngReg), Pre_PoolKernelIdeal_finite_pool m →
    (∀ c : Dev Cert.PoolKernelIdeal.nD,
      m' ((c.tc : Thread Cert.PoolReferenceIdeal.nD Cert.PoolReferenceIdeal.τ).loc Cert.PoolReferenceIdeal.main_arg0) = m ((c.tc : Thread Cert.PoolKernelIdeal.nD Cert.PoolKernelIdeal.τ).loc Cert.PoolKernelIdeal.main_arg0)
      ∧ m' ((c.tc : Thread Cert.PoolReferenceIdeal.nD Cert.PoolReferenceIdeal.τ).loc Cert.PoolReferenceIdeal.main_arg1) = m ((c.tc : Thread Cert.PoolKernelIdeal.nD Cert.PoolKernelIdeal.τ).loc Cert.PoolKernelIdeal.main_arg1)
      ∧ m' ((c.tc : Thread Cert.PoolReferenceIdeal.nD Cert.PoolReferenceIdeal.τ).loc Cert.PoolReferenceIdeal.main_arg2) = m ((c.tc : Thread Cert.PoolKernelIdeal.nD Cert.PoolKernelIdeal.τ).loc Cert.PoolKernelIdeal.main_arg2)) →
    ∃ (v0 : (c : Dev Cert.PoolKernelIdeal.nD) → Buf (Elt Ideal) ((c.tc : Thread Cert.PoolKernelIdeal.nD Cert.PoolKernelIdeal.τ).loc Cert.PoolKernelIdeal.main_v103)),
      θ_run (Cert.PoolKernelIdeal.defs (F := Ideal)) (onTc (τ := Cert.PoolKernelIdeal.τ) (Cert.PoolKernelIdeal.main (F := Ideal))) ⟨m, fun _ => 0, g⟩ (fun r => ∀ c : Dev Cert.PoolKernelIdeal.nD,
          r.2.mem ((c.tc : Thread Cert.PoolKernelIdeal.nD Cert.PoolKernelIdeal.τ).loc Cert.PoolKernelIdeal.main_v103) = v0 c
          ∧ r.2.mem ((c.tc : Thread Cert.PoolKernelIdeal.nD Cert.PoolKernelIdeal.τ).loc Cert.PoolKernelIdeal.main_arg0) = m ((c.tc : Thread Cert.PoolKernelIdeal.nD Cert.PoolKernelIdeal.τ).loc Cert.PoolKernelIdeal.main_arg0)
          ∧ r.2.mem ((c.tc : Thread Cert.PoolKernelIdeal.nD Cert.PoolKernelIdeal.τ).loc Cert.PoolKernelIdeal.main_arg1) = m ((c.tc : Thread Cert.PoolKernelIdeal.nD Cert.PoolKernelIdeal.τ).loc Cert.PoolKernelIdeal.main_arg1)
          ∧ r.2.mem ((c.tc : Thread Cert.PoolKernelIdeal.nD Cert.PoolKernelIdeal.τ).loc Cert.PoolKernelIdeal.main_arg2) = m ((c.tc : Thread Cert.PoolKernelIdeal.nD Cert.PoolKernelIdeal.τ).loc Cert.PoolKernelIdeal.main_arg2))
      ∧ θ_run (Cert.PoolReferenceIdeal.defs (F := Ideal)) (onTc (τ := Cert.PoolReferenceIdeal.τ) (Cert.PoolReferenceIdeal.main (F := Ideal))) ⟨m', fun _ => 0, g'⟩ (fun r => ∀ c : Dev Cert.PoolReferenceIdeal.nD,
          r.2.mem ((c.tc : Thread Cert.PoolReferenceIdeal.nD Cert.PoolReferenceIdeal.τ).loc Cert.PoolReferenceIdeal.main_v143) = v0 c
          ∧ r.2.mem ((c.tc : Thread Cert.PoolReferenceIdeal.nD Cert.PoolReferenceIdeal.τ).loc Cert.PoolReferenceIdeal.main_arg0) = m' ((c.tc : Thread Cert.PoolReferenceIdeal.nD Cert.PoolReferenceIdeal.τ).loc Cert.PoolReferenceIdeal.main_arg0)
          ∧ r.2.mem ((c.tc : Thread Cert.PoolReferenceIdeal.nD Cert.PoolReferenceIdeal.τ).loc Cert.PoolReferenceIdeal.main_arg1) = m' ((c.tc : Thread Cert.PoolReferenceIdeal.nD Cert.PoolReferenceIdeal.τ).loc Cert.PoolReferenceIdeal.main_arg1)
          ∧ r.2.mem ((c.tc : Thread Cert.PoolReferenceIdeal.nD Cert.PoolReferenceIdeal.τ).loc Cert.PoolReferenceIdeal.main_arg2) = m' ((c.tc : Thread Cert.PoolReferenceIdeal.nD Cert.PoolReferenceIdeal.τ).loc Cert.PoolReferenceIdeal.main_arg2))

def preserves_MidKernel_MidKernelIdeal : Prop :=
  True

def algebraic_MidKernelIdeal_MidReferenceIdeal [hMidKernelIdeal : Cert.MidKernelIdeal.Facts] [hMidReferenceIdeal : Cert.MidReferenceIdeal.Facts] : Prop :=
  ∀ (m : (ℓ : Loc Cert.MidKernelIdeal.nD Cert.MidKernelIdeal.τ Cert.MidKernelIdeal.sig) → Buf (Elt Ideal) ℓ) (g : Dev Cert.MidKernelIdeal.nD → PrngReg)
    (m' : (ℓ : Loc Cert.MidReferenceIdeal.nD Cert.MidReferenceIdeal.τ Cert.MidReferenceIdeal.sig) → Buf (Elt Ideal) ℓ) (g' : Dev Cert.MidReferenceIdeal.nD → PrngReg), Pre_MidKernelIdeal m →
    (∀ c : Dev Cert.MidKernelIdeal.nD,
      m' ((c.tc : Thread Cert.MidReferenceIdeal.nD Cert.MidReferenceIdeal.τ).loc Cert.MidReferenceIdeal.main_arg0) = m ((c.tc : Thread Cert.MidKernelIdeal.nD Cert.MidKernelIdeal.τ).loc Cert.MidKernelIdeal.main_arg0)
      ∧ m' ((c.tc : Thread Cert.MidReferenceIdeal.nD Cert.MidReferenceIdeal.τ).loc Cert.MidReferenceIdeal.main_arg1) = m ((c.tc : Thread Cert.MidKernelIdeal.nD Cert.MidKernelIdeal.τ).loc Cert.MidKernelIdeal.main_arg1)
      ∧ m' ((c.tc : Thread Cert.MidReferenceIdeal.nD Cert.MidReferenceIdeal.τ).loc Cert.MidReferenceIdeal.main_arg2) = m ((c.tc : Thread Cert.MidKernelIdeal.nD Cert.MidKernelIdeal.τ).loc Cert.MidKernelIdeal.main_arg2)
      ∧ m' ((c.tc : Thread Cert.MidReferenceIdeal.nD Cert.MidReferenceIdeal.τ).loc Cert.MidReferenceIdeal.main_arg3) = m ((c.tc : Thread Cert.MidKernelIdeal.nD Cert.MidKernelIdeal.τ).loc Cert.MidKernelIdeal.main_arg3)) →
    ∃ (v0 : (c : Dev Cert.MidKernelIdeal.nD) → Buf (Elt Ideal) ((c.tc : Thread Cert.MidKernelIdeal.nD Cert.MidKernelIdeal.τ).loc Cert.MidKernelIdeal.main_v2_0)) (v1 : (c : Dev Cert.MidKernelIdeal.nD) → Buf (Elt Ideal) ((c.tc : Thread Cert.MidKernelIdeal.nD Cert.MidKernelIdeal.τ).loc Cert.MidKernelIdeal.main_v2_1)),
      θ_run (Cert.MidKernelIdeal.defs (F := Ideal)) (onTc (τ := Cert.MidKernelIdeal.τ) (Cert.MidKernelIdeal.main (F := Ideal))) ⟨m, fun _ => 0, g⟩ (fun r => ∀ c : Dev Cert.MidKernelIdeal.nD,
          r.2.mem ((c.tc : Thread Cert.MidKernelIdeal.nD Cert.MidKernelIdeal.τ).loc Cert.MidKernelIdeal.main_v2_0) = v0 c
          ∧ r.2.mem ((c.tc : Thread Cert.MidKernelIdeal.nD Cert.MidKernelIdeal.τ).loc Cert.MidKernelIdeal.main_v2_1) = v1 c
          ∧ r.2.mem ((c.tc : Thread Cert.MidKernelIdeal.nD Cert.MidKernelIdeal.τ).loc Cert.MidKernelIdeal.main_arg0) = m ((c.tc : Thread Cert.MidKernelIdeal.nD Cert.MidKernelIdeal.τ).loc Cert.MidKernelIdeal.main_arg0)
          ∧ r.2.mem ((c.tc : Thread Cert.MidKernelIdeal.nD Cert.MidKernelIdeal.τ).loc Cert.MidKernelIdeal.main_arg1) = m ((c.tc : Thread Cert.MidKernelIdeal.nD Cert.MidKernelIdeal.τ).loc Cert.MidKernelIdeal.main_arg1)
          ∧ r.2.mem ((c.tc : Thread Cert.MidKernelIdeal.nD Cert.MidKernelIdeal.τ).loc Cert.MidKernelIdeal.main_arg2) = m ((c.tc : Thread Cert.MidKernelIdeal.nD Cert.MidKernelIdeal.τ).loc Cert.MidKernelIdeal.main_arg2)
          ∧ r.2.mem ((c.tc : Thread Cert.MidKernelIdeal.nD Cert.MidKernelIdeal.τ).loc Cert.MidKernelIdeal.main_arg3) = m ((c.tc : Thread Cert.MidKernelIdeal.nD Cert.MidKernelIdeal.τ).loc Cert.MidKernelIdeal.main_arg3))
      ∧ θ_run (Cert.MidReferenceIdeal.defs (F := Ideal)) (onTc (τ := Cert.MidReferenceIdeal.τ) (Cert.MidReferenceIdeal.main (F := Ideal))) ⟨m', fun _ => 0, g'⟩ (fun r => ∀ c : Dev Cert.MidReferenceIdeal.nD,
          r.2.mem ((c.tc : Thread Cert.MidReferenceIdeal.nD Cert.MidReferenceIdeal.τ).loc Cert.MidReferenceIdeal.main_v109) = v0 c
          ∧ r.2.mem ((c.tc : Thread Cert.MidReferenceIdeal.nD Cert.MidReferenceIdeal.τ).loc Cert.MidReferenceIdeal.main_v110) = v1 c
          ∧ r.2.mem ((c.tc : Thread Cert.MidReferenceIdeal.nD Cert.MidReferenceIdeal.τ).loc Cert.MidReferenceIdeal.main_arg0) = m' ((c.tc : Thread Cert.MidReferenceIdeal.nD Cert.MidReferenceIdeal.τ).loc Cert.MidReferenceIdeal.main_arg0)
          ∧ r.2.mem ((c.tc : Thread Cert.MidReferenceIdeal.nD Cert.MidReferenceIdeal.τ).loc Cert.MidReferenceIdeal.main_arg1) = m' ((c.tc : Thread Cert.MidReferenceIdeal.nD Cert.MidReferenceIdeal.τ).loc Cert.MidReferenceIdeal.main_arg1)
          ∧ r.2.mem ((c.tc : Thread Cert.MidReferenceIdeal.nD Cert.MidReferenceIdeal.τ).loc Cert.MidReferenceIdeal.main_arg2) = m' ((c.tc : Thread Cert.MidReferenceIdeal.nD Cert.MidReferenceIdeal.τ).loc Cert.MidReferenceIdeal.main_arg2)
          ∧ r.2.mem ((c.tc : Thread Cert.MidReferenceIdeal.nD Cert.MidReferenceIdeal.τ).loc Cert.MidReferenceIdeal.main_arg3) = m' ((c.tc : Thread Cert.MidReferenceIdeal.nD Cert.MidReferenceIdeal.τ).loc Cert.MidReferenceIdeal.main_arg3))

def preserves_LastKernel_LastKernelIdeal : Prop :=
  True

def algebraic_LastKernelIdeal_LastReferenceIdeal [hLastKernelIdeal : Cert.LastKernelIdeal.Facts] [hLastReferenceIdeal : Cert.LastReferenceIdeal.Facts] : Prop :=
  ∀ (m : (ℓ : Loc Cert.LastKernelIdeal.nD Cert.LastKernelIdeal.τ Cert.LastKernelIdeal.sig) → Buf (Elt Ideal) ℓ) (g : Dev Cert.LastKernelIdeal.nD → PrngReg)
    (m' : (ℓ : Loc Cert.LastReferenceIdeal.nD Cert.LastReferenceIdeal.τ Cert.LastReferenceIdeal.sig) → Buf (Elt Ideal) ℓ) (g' : Dev Cert.LastReferenceIdeal.nD → PrngReg), Pre_LastKernelIdeal m →
    (∀ c : Dev Cert.LastKernelIdeal.nD,
      m' ((c.tc : Thread Cert.LastReferenceIdeal.nD Cert.LastReferenceIdeal.τ).loc Cert.LastReferenceIdeal.main_arg0) = m ((c.tc : Thread Cert.LastKernelIdeal.nD Cert.LastKernelIdeal.τ).loc Cert.LastKernelIdeal.main_arg0)
      ∧ m' ((c.tc : Thread Cert.LastReferenceIdeal.nD Cert.LastReferenceIdeal.τ).loc Cert.LastReferenceIdeal.main_arg1) = m ((c.tc : Thread Cert.LastKernelIdeal.nD Cert.LastKernelIdeal.τ).loc Cert.LastKernelIdeal.main_arg1)
      ∧ m' ((c.tc : Thread Cert.LastReferenceIdeal.nD Cert.LastReferenceIdeal.τ).loc Cert.LastReferenceIdeal.main_arg2) = m ((c.tc : Thread Cert.LastKernelIdeal.nD Cert.LastKernelIdeal.τ).loc Cert.LastKernelIdeal.main_arg2)
      ∧ m' ((c.tc : Thread Cert.LastReferenceIdeal.nD Cert.LastReferenceIdeal.τ).loc Cert.LastReferenceIdeal.main_arg3) = m ((c.tc : Thread Cert.LastKernelIdeal.nD Cert.LastKernelIdeal.τ).loc Cert.LastKernelIdeal.main_arg3)) →
    ∃ (v0 : (c : Dev Cert.LastKernelIdeal.nD) → Buf (Elt Ideal) ((c.tc : Thread Cert.LastKernelIdeal.nD Cert.LastKernelIdeal.τ).loc Cert.LastKernelIdeal.main_v2)),
      θ_run (Cert.LastKernelIdeal.defs (F := Ideal)) (onTc (τ := Cert.LastKernelIdeal.τ) (Cert.LastKernelIdeal.main (F := Ideal))) ⟨m, fun _ => 0, g⟩ (fun r => ∀ c : Dev Cert.LastKernelIdeal.nD,
          r.2.mem ((c.tc : Thread Cert.LastKernelIdeal.nD Cert.LastKernelIdeal.τ).loc Cert.LastKernelIdeal.main_v2) = v0 c
          ∧ r.2.mem ((c.tc : Thread Cert.LastKernelIdeal.nD Cert.LastKernelIdeal.τ).loc Cert.LastKernelIdeal.main_arg0) = m ((c.tc : Thread Cert.LastKernelIdeal.nD Cert.LastKernelIdeal.τ).loc Cert.LastKernelIdeal.main_arg0)
          ∧ r.2.mem ((c.tc : Thread Cert.LastKernelIdeal.nD Cert.LastKernelIdeal.τ).loc Cert.LastKernelIdeal.main_arg1) = m ((c.tc : Thread Cert.LastKernelIdeal.nD Cert.LastKernelIdeal.τ).loc Cert.LastKernelIdeal.main_arg1)
          ∧ r.2.mem ((c.tc : Thread Cert.LastKernelIdeal.nD Cert.LastKernelIdeal.τ).loc Cert.LastKernelIdeal.main_arg2) = m ((c.tc : Thread Cert.LastKernelIdeal.nD Cert.LastKernelIdeal.τ).loc Cert.LastKernelIdeal.main_arg2)
          ∧ r.2.mem ((c.tc : Thread Cert.LastKernelIdeal.nD Cert.LastKernelIdeal.τ).loc Cert.LastKernelIdeal.main_arg3) = m ((c.tc : Thread Cert.LastKernelIdeal.nD Cert.LastKernelIdeal.τ).loc Cert.LastKernelIdeal.main_arg3))
      ∧ θ_run (Cert.LastReferenceIdeal.defs (F := Ideal)) (onTc (τ := Cert.LastReferenceIdeal.τ) (Cert.LastReferenceIdeal.main (F := Ideal))) ⟨m', fun _ => 0, g'⟩ (fun r => ∀ c : Dev Cert.LastReferenceIdeal.nD,
          r.2.mem ((c.tc : Thread Cert.LastReferenceIdeal.nD Cert.LastReferenceIdeal.τ).loc Cert.LastReferenceIdeal.main_v28) = v0 c
          ∧ r.2.mem ((c.tc : Thread Cert.LastReferenceIdeal.nD Cert.LastReferenceIdeal.τ).loc Cert.LastReferenceIdeal.main_arg0) = m' ((c.tc : Thread Cert.LastReferenceIdeal.nD Cert.LastReferenceIdeal.τ).loc Cert.LastReferenceIdeal.main_arg0)
          ∧ r.2.mem ((c.tc : Thread Cert.LastReferenceIdeal.nD Cert.LastReferenceIdeal.τ).loc Cert.LastReferenceIdeal.main_arg1) = m' ((c.tc : Thread Cert.LastReferenceIdeal.nD Cert.LastReferenceIdeal.τ).loc Cert.LastReferenceIdeal.main_arg1)
          ∧ r.2.mem ((c.tc : Thread Cert.LastReferenceIdeal.nD Cert.LastReferenceIdeal.τ).loc Cert.LastReferenceIdeal.main_arg2) = m' ((c.tc : Thread Cert.LastReferenceIdeal.nD Cert.LastReferenceIdeal.τ).loc Cert.LastReferenceIdeal.main_arg2)
          ∧ r.2.mem ((c.tc : Thread Cert.LastReferenceIdeal.nD Cert.LastReferenceIdeal.τ).loc Cert.LastReferenceIdeal.main_arg3) = m' ((c.tc : Thread Cert.LastReferenceIdeal.nD Cert.LastReferenceIdeal.τ).loc Cert.LastReferenceIdeal.main_arg3))

def Claim : Prop :=
  ∃ (hKernel : Cert.Kernel.Facts) (hKernelIdeal : Cert.KernelIdeal.Facts) (hReferenceIdeal : Cert.ReferenceIdeal.Facts) (hProjKernel : Cert.ProjKernel.Facts) (hProjKernelIdeal : Cert.ProjKernelIdeal.Facts) (hProjReferenceIdeal : Cert.ProjReferenceIdeal.Facts) (hUpKernel : Cert.UpKernel.Facts) (hUpKernelIdeal : Cert.UpKernelIdeal.Facts) (hUpReferenceIdeal : Cert.UpReferenceIdeal.Facts) (hDownKernel : Cert.DownKernel.Facts) (hDownKernelIdeal : Cert.DownKernelIdeal.Facts) (hDownReferenceIdeal : Cert.DownReferenceIdeal.Facts) (hOutKernel : Cert.OutKernel.Facts) (hOutKernelIdeal : Cert.OutKernelIdeal.Facts) (hOutReferenceIdeal : Cert.OutReferenceIdeal.Facts) (hBranchKernel : Cert.BranchKernel.Facts) (hBranchKernelIdeal : Cert.BranchKernelIdeal.Facts) (hBranchReferenceIdeal : Cert.BranchReferenceIdeal.Facts) (hAdaKernel : Cert.AdaKernel.Facts) (hAdaKernelIdeal : Cert.AdaKernelIdeal.Facts) (hAdaReferenceIdeal : Cert.AdaReferenceIdeal.Facts) (hNormKernel : Cert.NormKernel.Facts) (hNormKernelIdeal : Cert.NormKernelIdeal.Facts) (hNormReferenceIdeal : Cert.NormReferenceIdeal.Facts) (hResidKernel : Cert.ResidKernel.Facts) (hResidKernelIdeal : Cert.ResidKernelIdeal.Facts) (hResidReferenceIdeal : Cert.ResidReferenceIdeal.Facts) (hCtxKernel : Cert.CtxKernel.Facts) (hCtxKernelIdeal : Cert.CtxKernelIdeal.Facts) (hCtxReferenceIdeal : Cert.CtxReferenceIdeal.Facts) (hPoolKernel : Cert.PoolKernel.Facts) (hPoolKernelIdeal : Cert.PoolKernelIdeal.Facts) (hPoolReferenceIdeal : Cert.PoolReferenceIdeal.Facts) (hMidKernel : Cert.MidKernel.Facts) (hMidKernelIdeal : Cert.MidKernelIdeal.Facts) (hMidReferenceIdeal : Cert.MidReferenceIdeal.Facts) (hLastKernel : Cert.LastKernel.Facts) (hLastKernelIdeal : Cert.LastKernelIdeal.Facts) (hLastReferenceIdeal : Cert.LastReferenceIdeal.Facts) (hPre_finite_scores : Cert.Pre_finite_scores.Facts) (hPre_finite_ctx : Cert.Pre_finite_ctx.Facts) (hPre_finite_pool : Cert.Pre_finite_pool.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_ProjKernel (hProjKernel := hProjKernel)
    ∧ quiescent_ProjKernelIdeal (hProjKernelIdeal := hProjKernelIdeal)
    ∧ quiescent_ProjReferenceIdeal (hProjReferenceIdeal := hProjReferenceIdeal)
    ∧ quiescent_UpKernel (hUpKernel := hUpKernel)
    ∧ quiescent_UpKernelIdeal (hUpKernelIdeal := hUpKernelIdeal)
    ∧ quiescent_UpReferenceIdeal (hUpReferenceIdeal := hUpReferenceIdeal)
    ∧ quiescent_DownKernel (hDownKernel := hDownKernel)
    ∧ quiescent_DownKernelIdeal (hDownKernelIdeal := hDownKernelIdeal)
    ∧ quiescent_DownReferenceIdeal (hDownReferenceIdeal := hDownReferenceIdeal)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ quiescent_BranchKernel (hBranchKernel := hBranchKernel)
    ∧ quiescent_BranchKernelIdeal (hBranchKernelIdeal := hBranchKernelIdeal)
    ∧ quiescent_BranchReferenceIdeal (hBranchReferenceIdeal := hBranchReferenceIdeal)
    ∧ quiescent_AdaKernel (hAdaKernel := hAdaKernel)
    ∧ quiescent_AdaKernelIdeal (hAdaKernelIdeal := hAdaKernelIdeal)
    ∧ quiescent_AdaReferenceIdeal (hAdaReferenceIdeal := hAdaReferenceIdeal)
    ∧ quiescent_NormKernel (hNormKernel := hNormKernel)
    ∧ quiescent_NormKernelIdeal (hNormKernelIdeal := hNormKernelIdeal)
    ∧ quiescent_NormReferenceIdeal (hNormReferenceIdeal := hNormReferenceIdeal)
    ∧ quiescent_ResidKernel (hResidKernel := hResidKernel)
    ∧ quiescent_ResidKernelIdeal (hResidKernelIdeal := hResidKernelIdeal)
    ∧ quiescent_ResidReferenceIdeal (hResidReferenceIdeal := hResidReferenceIdeal)
    ∧ quiescent_CtxKernel (hCtxKernel := hCtxKernel)
    ∧ quiescent_CtxKernelIdeal (hCtxKernelIdeal := hCtxKernelIdeal)
    ∧ quiescent_CtxKernelIdeal_pre_finite_ctx (hCtxKernelIdeal := hCtxKernelIdeal) (hPre_finite_ctx := hPre_finite_ctx)
    ∧ quiescent_CtxReferenceIdeal (hCtxReferenceIdeal := hCtxReferenceIdeal)
    ∧ quiescent_CtxReferenceIdeal_pre_finite_ctx (hCtxReferenceIdeal := hCtxReferenceIdeal) (hPre_finite_ctx := hPre_finite_ctx)
    ∧ quiescent_PoolKernel (hPoolKernel := hPoolKernel)
    ∧ quiescent_PoolKernelIdeal (hPoolKernelIdeal := hPoolKernelIdeal)
    ∧ quiescent_PoolKernelIdeal_pre_finite_pool (hPoolKernelIdeal := hPoolKernelIdeal) (hPre_finite_pool := hPre_finite_pool)
    ∧ quiescent_PoolReferenceIdeal (hPoolReferenceIdeal := hPoolReferenceIdeal)
    ∧ quiescent_PoolReferenceIdeal_pre_finite_pool (hPoolReferenceIdeal := hPoolReferenceIdeal) (hPre_finite_pool := hPre_finite_pool)
    ∧ quiescent_MidKernel (hMidKernel := hMidKernel)
    ∧ quiescent_MidKernelIdeal (hMidKernelIdeal := hMidKernelIdeal)
    ∧ quiescent_MidReferenceIdeal (hMidReferenceIdeal := hMidReferenceIdeal)
    ∧ quiescent_LastKernel (hLastKernel := hLastKernel)
    ∧ quiescent_LastKernelIdeal (hLastKernelIdeal := hLastKernelIdeal)
    ∧ quiescent_LastReferenceIdeal (hLastReferenceIdeal := hLastReferenceIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_ProjKernel_ProjKernelIdeal
    ∧ algebraic_ProjKernelIdeal_ProjReferenceIdeal (hProjKernelIdeal := hProjKernelIdeal) (hProjReferenceIdeal := hProjReferenceIdeal)
    ∧ preserves_UpKernel_UpKernelIdeal
    ∧ algebraic_UpKernelIdeal_UpReferenceIdeal (hUpKernelIdeal := hUpKernelIdeal) (hUpReferenceIdeal := hUpReferenceIdeal)
    ∧ preserves_DownKernel_DownKernelIdeal
    ∧ algebraic_DownKernelIdeal_DownReferenceIdeal (hDownKernelIdeal := hDownKernelIdeal) (hDownReferenceIdeal := hDownReferenceIdeal)
    ∧ preserves_OutKernel_OutKernelIdeal
    ∧ algebraic_OutKernelIdeal_OutReferenceIdeal (hOutKernelIdeal := hOutKernelIdeal) (hOutReferenceIdeal := hOutReferenceIdeal)
    ∧ preserves_BranchKernel_BranchKernelIdeal
    ∧ algebraic_BranchKernelIdeal_BranchReferenceIdeal (hBranchKernelIdeal := hBranchKernelIdeal) (hBranchReferenceIdeal := hBranchReferenceIdeal)
    ∧ preserves_AdaKernel_AdaKernelIdeal
    ∧ algebraic_AdaKernelIdeal_AdaReferenceIdeal (hAdaKernelIdeal := hAdaKernelIdeal) (hAdaReferenceIdeal := hAdaReferenceIdeal)
    ∧ preserves_NormKernel_NormKernelIdeal
    ∧ algebraic_NormKernelIdeal_NormReferenceIdeal (hNormKernelIdeal := hNormKernelIdeal) (hNormReferenceIdeal := hNormReferenceIdeal)
    ∧ preserves_ResidKernel_ResidKernelIdeal
    ∧ algebraic_ResidKernelIdeal_ResidReferenceIdeal (hResidKernelIdeal := hResidKernelIdeal) (hResidReferenceIdeal := hResidReferenceIdeal)
    ∧ preserves_CtxKernel_CtxKernelIdeal
    ∧ algebraic_CtxKernelIdeal_CtxReferenceIdeal_pre_finite_ctx (hCtxKernelIdeal := hCtxKernelIdeal) (hCtxReferenceIdeal := hCtxReferenceIdeal) (hPre_finite_ctx := hPre_finite_ctx)
    ∧ preserves_PoolKernel_PoolKernelIdeal
    ∧ algebraic_PoolKernelIdeal_PoolReferenceIdeal_pre_finite_pool (hPoolKernelIdeal := hPoolKernelIdeal) (hPoolReferenceIdeal := hPoolReferenceIdeal) (hPre_finite_pool := hPre_finite_pool)
    ∧ preserves_MidKernel_MidKernelIdeal
    ∧ algebraic_MidKernelIdeal_MidReferenceIdeal (hMidKernelIdeal := hMidKernelIdeal) (hMidReferenceIdeal := hMidReferenceIdeal)
    ∧ preserves_LastKernel_LastKernelIdeal
    ∧ algebraic_LastKernelIdeal_LastReferenceIdeal (hLastKernelIdeal := hLastKernelIdeal) (hLastReferenceIdeal := hLastReferenceIdeal)
-- ==== Pre_finite_ctx.lean ====
abbrev S9216x25600 : Shape := ⟨2, ![9216, 25600]⟩
abbrev S1024x2048 : Shape := ⟨2, ![1024, 2048]⟩
abbrev S_ : Shape := ⟨0, ![]⟩

class Facts : Prop where
  slices_S9216x25600_S1024x2048_8192_3072 : S9216x25600.Slices ![8192, 3072] S1024x2048
  bitsLt_bf16_f32 : FTy.bits .bf16 < FTy.bits .f32
  bcast_S_S1024x2048 : S_.BroadcastsInDim S1024x2048 (![] : Fin 0 → Fin S1024x2048.rank)

variable [Facts]

def fn {F : FTy → Type} [FloatOps F] (main_arg0 : FVec F S9216x25600 .bf16) : IVec S1024x2048 1 :=
  let main_v0 : FVec F S1024x2048 .bf16 := (extractStridedSlice S1024x2048 ![8192, 3072] · slices_S9216x25600_S1024x2048_8192_3072) main_arg0
  let main_v1 : FVec F S1024x2048 .f32 := (extf .f32 · bitsLt_bf16_f32) main_v0
  let main_v2 : FVec F S1024x2048 .f32 := Host.absf main_v1
  let main_cst : FVec F S_ .f32 := constant S_ .f32 0x7F800000#32
  let main_v3 : FVec F S1024x2048 .f32 := broadcastInDim S1024x2048 ![] bcast_S_S1024x2048 main_cst
  let main_v4 : IVec S1024x2048 1 := cmpf .olt main_v2 main_v3
  main_v4
-- ==== Pre_finite_pool.lean ====
abbrev S9216x25600 : Shape := ⟨2, ![9216, 25600]⟩
abbrev S2x4x256x256 : Shape := ⟨4, ![2, 4, 256, 256]⟩
abbrev S2x1024 : Shape := ⟨2, ![2, 1024]⟩
abbrev S8192x1024 : Shape := ⟨2, ![8192, 1024]⟩
abbrev S_ : Shape := ⟨0, ![]⟩

class Facts : Prop where
  slices_S9216x25600_S8192x1024_0_0 : S9216x25600.Slices ![0, 0] S8192x1024
  bitsLt_bf16_f32 : FTy.bits .bf16 < FTy.bits .f32
  bcast_S_S8192x1024 : S_.BroadcastsInDim S8192x1024 (![] : Fin 0 → Fin S8192x1024.rank)

variable [Facts]

def fn {F : FTy → Type} [FloatOps F] (main_arg0 : FVec F S9216x25600 .bf16) (main_arg1 : FVec F S2x4x256x256 .f32) (main_arg2 : FVec F S2x1024 .f32) : IVec S8192x1024 1 :=
  let main_v0 : FVec F S8192x1024 .bf16 := (extractStridedSlice S8192x1024 ![0, 0] · slices_S9216x25600_S8192x1024_0_0) main_arg0
  let main_v1 : FVec F S8192x1024 .f32 := (extf .f32 · bitsLt_bf16_f32) main_v0
  let main_v2 : FVec F S8192x1024 .f32 := Host.absf main_v1
  let main_cst : FVec F S_ .f32 := constant S_ .f32 0x7F800000#32
  let main_v3 : FVec F S8192x1024 .f32 := broadcastInDim S8192x1024 ![] bcast_S_S8192x1024 main_cst
  let main_v4 : IVec S8192x1024 1 := cmpf .olt main_v2 main_v3
  main_v4
-- ==== Pre_finite_scores.lean ====
abbrev S9216x25600 : Shape := ⟨2, ![9216, 25600]⟩
abbrev S8x15x31 : Shape := ⟨3, ![8, 15, 31]⟩
abbrev S9216x2048 : Shape := ⟨2, ![9216, 2048]⟩
abbrev S_ : Shape := ⟨0, ![]⟩

class Facts : Prop where
  slices_S9216x25600_S9216x2048_0_3072 : S9216x25600.Slices ![0, 3072] S9216x2048
  bitsLt_bf16_f32 : FTy.bits .bf16 < FTy.bits .f32
  bcast_S_S9216x2048 : S_.BroadcastsInDim S9216x2048 (![] : Fin 0 → Fin S9216x2048.rank)
  bcast_S_S8x15x31 : S_.BroadcastsInDim S8x15x31 (![] : Fin 0 → Fin S8x15x31.rank)

variable [Facts]

def fn {F : FTy → Type} [FloatOps F] (main_arg0 : FVec F S9216x25600 .bf16) (main_arg1 : FVec F S8x15x31 .f32) : IVec S9216x2048 1 × IVec S8x15x31 1 :=
  let main_v0 : FVec F S9216x2048 .bf16 := (extractStridedSlice S9216x2048 ![0, 3072] · slices_S9216x25600_S9216x2048_0_3072) main_arg0
  let main_v1 : FVec F S9216x2048 .f32 := (extf .f32 · bitsLt_bf16_f32) main_v0
  let main_v2 : FVec F S9216x2048 .f32 := Host.absf main_v1
  let main_cst : FVec F S_ .f32 := constant S_ .f32 0x7F800000#32
  let main_v3 : FVec F S9216x2048 .f32 := broadcastInDim S9216x2048 ![] bcast_S_S9216x2048 main_cst
  let main_v4 : IVec S9216x2048 1 := cmpf .olt main_v2 main_v3
  let main_v5 : FVec F S8x15x31 .f32 := Host.absf main_arg1
  let main_cst_0 : FVec F S_ .f32 := constant S_ .f32 0x7F800000#32
  let main_v6 : FVec F S8x15x31 .f32 := broadcastInDim S8x15x31 ![] bcast_S_S8x15x31 main_cst_0
  let main_v7 : IVec S8x15x31 1 := cmpf .olt main_v5 main_v6
  (main_v4, main_v7)
-- ==== Kernel.lean ====
abbrev S9216x25600 : Shape := ⟨2, ![9216, 25600]⟩
abbrev S8x15x31 : Shape := ⟨3, ![8, 15, 31]⟩
abbrev S128 : Shape := ⟨1, ![128]⟩
abbrev S1x128 : Shape := ⟨2, ![1, 128]⟩
abbrev S4x1x12x1 : Shape := ⟨4, ![4, 1, 12, 1]⟩
abbrev S1x64x1x64 : Shape := ⟨4, ![1, 64, 1, 64]⟩
abbrev S4x12 : Shape := ⟨2, ![4, 12]⟩
abbrev S64x64 : Shape := ⟨2, ![64, 64]⟩
abbrev S32 : Shape := ⟨1, ![32]⟩
abbrev S_ : Shape := ⟨0, ![]⟩
abbrev S2048 : Shape := ⟨1, ![2048]⟩
abbrev S2048x1 : Shape := ⟨2, ![2048, 1]⟩
abbrev S2048x2 : Shape := ⟨2, ![2048, 2]⟩
abbrev S128x1 : Shape := ⟨2, ![128, 1]⟩
abbrev S2048x128 : Shape := ⟨2, ![2048, 128]⟩
abbrev S4x64x12x64 : Shape := ⟨4, ![4, 64, 12, 64]⟩
abbrev S4x64x12x64x1 : Shape := ⟨5, ![4, 64, 12, 64, 1]⟩
abbrev S4x64x12x64x2 : Shape := ⟨5, ![4, 64, 12, 64, 2]⟩
abbrev S8x4x64x12x64 : Shape := ⟨5, ![8, 4, 64, 12, 64]⟩
abbrev S1x4x64x12x64 : Shape := ⟨5, ![1, 4, 64, 12, 64]⟩
abbrev S8x256x768 : Shape := ⟨3, ![8, 256, 768]⟩
abbrev S8x1x256x768 : Shape := ⟨4, ![8, 1, 256, 768]⟩
abbrev S8x3x256x768 : Shape := ⟨4, ![8, 3, 256, 768]⟩
abbrev S8192x1024 : Shape := ⟨2, ![8192, 1024]⟩
abbrev S256x128 : Shape := ⟨2, ![256, 128]⟩
abbrev S1x3x256x768 : Shape := ⟨4, ![1, 3, 256, 768]⟩
abbrev S768x128 : Shape := ⟨2, ![768, 128]⟩
abbrev S256x768 : Shape := ⟨2, ![256, 768]⟩
abbrev S1x1x256x768 : Shape := ⟨4, ![1, 1, 256, 768]⟩
abbrev S256x256 : Shape := ⟨2, ![256, 256]⟩
abbrev S256 : Shape := ⟨1, ![256]⟩
abbrev S256x1 : Shape := ⟨2, ![256, 1]⟩

abbrev nBuf : Space → Nat
  | .hbm => 185
  | .vmem => 20
  | .smem => 0
  | _ => 0

abbrev hbmTy0_0 (i : Nat) : BufTy := match i % 128 with
  | 0 => ⟨S9216x25600, .bf16⟩
  | 1 => ⟨S8x15x31, .f32⟩
  | 2 => ⟨S128, .i32⟩
  | 3 => ⟨S128, .i1⟩
  | 4 => ⟨S128, .i32⟩
  | 5 => ⟨S128, .i1⟩
  | 6 => ⟨S128, .f32⟩
  | 7 => ⟨S1x128, .f32⟩
  | 8 => ⟨S4x1x12x1, .i32⟩
  | 9 => ⟨S4x1x12x1, .i1⟩
  | 10 => ⟨S1x64x1x64, .i32⟩
  | 11 => ⟨S1x64x1x64, .i1⟩
  | 12 => ⟨S4x12, .i1⟩
  | 13 => ⟨S64x64, .i1⟩
  | 14 => ⟨S4x1x12x1, .i32⟩
  | 15 => ⟨S4x1x12x1, .i1⟩
  | 16 => ⟨S1x64x1x64, .i32⟩
  | 17 => ⟨S1x64x1x64, .i1⟩
  | 18 => ⟨S4x12, .i1⟩
  | 19 => ⟨S4x1x12x1, .i32⟩
  | 20 => ⟨S4x1x12x1, .i1⟩
  | 21 => ⟨S1x64x1x64, .i32⟩
  | 22 => ⟨S1x64x1x64, .i1⟩
  | 23 => ⟨S4x12, .i1⟩
  | 24 => ⟨S32, .f32⟩
  | 25 => ⟨S_, .f32⟩
  | 26 => ⟨S32, .f32⟩
  | 27 => ⟨S32, .f32⟩
  | 28 => ⟨S_, .f32⟩
  | 29 => ⟨S32, .f32⟩
  | 30 => ⟨S32, .f32⟩
  | 31 => ⟨S32, .f32⟩
  | 32 => ⟨S_, .f32⟩
  | 33 => ⟨S32, .f32⟩
  | 34 => ⟨S32, .f32⟩
  | 35 => ⟨S_, .f32⟩
  | 36 => ⟨S32, .f32⟩
  | 37 => ⟨S32, .f32⟩
  | 38 => ⟨S2048, .i32⟩
  | 39 => ⟨S_, .i32⟩
  | 40 => ⟨S_, .i32⟩
  | 41 => ⟨S2048, .i32⟩
  | 42 => ⟨S2048, .i32⟩
  | 43 => ⟨S2048, .i32⟩
  | 44 => ⟨S_, .i32⟩
  | 45 => ⟨S2048, .i32⟩
  | 46 => ⟨S2048, .i1⟩
  | 47 => ⟨S2048, .i32⟩
  | 48 => ⟨S2048, .i32⟩
  | 49 => ⟨S_, .i32⟩
  | 50 => ⟨S2048, .i32⟩
  | 51 => ⟨S2048, .i1⟩
  | 52 => ⟨S2048, .i1⟩
  | 53 => ⟨S_, .i32⟩
  | 54 => ⟨S2048, .i32⟩
  | 55 => ⟨S2048, .i32⟩
  | 56 => ⟨S2048, .i32⟩
  | 57 => ⟨S_, .i32⟩
  | 58 => ⟨S_, .i32⟩
  | 59 => ⟨S_, .i32⟩
  | 60 => ⟨S_, .i1⟩
  | 61 => ⟨S_, .i32⟩
  | 62 => ⟨S_, .i32⟩
  | 63 => ⟨S2048, .i32⟩
  | 64 => ⟨S2048, .i32⟩
  | 65 => ⟨S_, .i32⟩
  | 66 => ⟨S2048, .i32⟩
  | 67 => ⟨S2048, .i1⟩
  | 68 => ⟨S_, .i32⟩
  | 69 => ⟨S2048, .i32⟩
  | 70 => ⟨S2048, .i1⟩
  | 71 => ⟨S_, .i32⟩
  | 72 => ⟨S_, .i1⟩
  | 73 => ⟨S2048, .i1⟩
  | 74 => ⟨S2048, .i1⟩
  | 75 => ⟨S2048, .i1⟩
  | 76 => ⟨S2048, .i32⟩
  | 77 => ⟨S2048, .i32⟩
  | 78 => ⟨S2048, .i32⟩
  | 79 => ⟨S2048x1, .i32⟩
  | 80 => ⟨S2048x1, .i32⟩
  | 81 => ⟨S2048x2, .i32⟩
  | 82 => ⟨S2048x2, .f32⟩
  | 83 => ⟨S_, .i32⟩
  | 84 => ⟨S128, .i32⟩
  | 85 => ⟨S128, .i32⟩
  | 86 => ⟨S128, .i32⟩
  | 87 => ⟨S128x1, .i32⟩
  | 88 => ⟨S2048x128, .f32⟩
  | 89 => ⟨S_, .i32⟩
  | 90 => ⟨S128, .i32⟩
  | 91 => ⟨S128, .i32⟩
  | 92 => ⟨S128, .i32⟩
  | 93 => ⟨S128x1, .i32⟩
  | 94 => ⟨S128, .f32⟩
  | 95 => ⟨S1x128, .f32⟩
  | 96 => ⟨S2048x128, .f32⟩
  | 97 => ⟨S2048x128, .f32⟩
  | 98 => ⟨S2048x128, .f32⟩
  | 99 => ⟨S2048x128, .f32⟩
  | 100 => ⟨S2048x128, .f32⟩
  | 101 => ⟨S2048x128, .f32⟩
  | 102 => ⟨S_, .i32⟩
  | 103 => ⟨S4x1x12x1, .i32⟩
  | 104 => ⟨S4x1x12x1, .i32⟩
  | 105 => ⟨S4x1x12x1, .i32⟩
  | 106 => ⟨S_, .i32⟩
  | 107 => ⟨S1x64x1x64, .i32⟩
  | 108 => ⟨S1x64x1x64, .i32⟩
  | 109 => ⟨S1x64x1x64, .i32⟩
  | 110 => ⟨S4x64x12x64, .i32⟩
  | 111 => ⟨S4x64x12x64, .i32⟩
  | 112 => ⟨S4x64x12x64x1, .i32⟩
  | 113 => ⟨S4x64x12x64x1, .i32⟩
  | 114 => ⟨S4x64x12x64x2, .i32⟩
  | 115 => ⟨S8x4x64x12x64, .f32⟩
  | 116 => ⟨S4x1x12x1, .i1⟩
  | 117 => ⟨S1x64x1x64, .i1⟩
  | 118 => ⟨S4x64x12x64, .i1⟩
  | 119 => ⟨S4x64x12x64, .i1⟩
  | 120 => ⟨S4x64x12x64, .i1⟩
  | 121 => ⟨S1x4x64x12x64, .i1⟩
  | 122 => ⟨S_, .f32⟩
  | 123 => ⟨S_, .f32⟩
  | 124 => ⟨S8x4x64x12x64, .i1⟩
  | 125 => ⟨S8x4x64x12x64, .f32⟩
  | 126 => ⟨S8x4x64x12x64, .f32⟩
  | 127 => ⟨S8x256x768, .f32⟩
  | _ => ⟨S9216x25600, .bf16⟩

abbrev hbmTy0_1 (i : Nat) : BufTy := match i % 128 with
  | 0 => ⟨S_, .i32⟩
  | 1 => ⟨S4x1x12x1, .i32⟩
  | 2 => ⟨S4x1x12x1, .i32⟩
  | 3 => ⟨S4x1x12x1, .i32⟩
  | 4 => ⟨S_, .i32⟩
  | 5 => ⟨S1x64x1x64, .i32⟩
  | 6 => ⟨S1x64x1x64, .i32⟩
  | 7 => ⟨S1x64x1x64, .i32⟩
  | 8 => ⟨S4x64x12x64, .i32⟩
  | 9 => ⟨S4x64x12x64, .i32⟩
  | 10 => ⟨S4x64x12x64x1, .i32⟩
  | 11 => ⟨S4x64x12x64x1, .i32⟩
  | 12 => ⟨S4x64x12x64x2, .i32⟩
  | 13 => ⟨S8x4x64x12x64, .f32⟩
  | 14 => ⟨S4x1x12x1, .i1⟩
  | 15 => ⟨S1x64x1x64, .i1⟩
  | 16 => ⟨S4x64x12x64, .i1⟩
  | 17 => ⟨S4x64x12x64, .i1⟩
  | 18 => ⟨S4x64x12x64, .i1⟩
  | 19 => ⟨S1x4x64x12x64, .i1⟩
  | 20 => ⟨S_, .f32⟩
  | 21 => ⟨S_, .f32⟩
  | 22 => ⟨S8x4x64x12x64, .i1⟩
  | 23 => ⟨S8x4x64x12x64, .f32⟩
  | 24 => ⟨S8x4x64x12x64, .f32⟩
  | 25 => ⟨S8x256x768, .f32⟩
  | 26 => ⟨S_, .i32⟩
  | 27 => ⟨S4x1x12x1, .i32⟩
  | 28 => ⟨S4x1x12x1, .i32⟩
  | 29 => ⟨S4x1x12x1, .i32⟩
  | 30 => ⟨S_, .i32⟩
  | 31 => ⟨S1x64x1x64, .i32⟩
  | 32 => ⟨S1x64x1x64, .i32⟩
  | 33 => ⟨S1x64x1x64, .i32⟩
  | 34 => ⟨S4x64x12x64, .i32⟩
  | 35 => ⟨S4x64x12x64, .i32⟩
  | 36 => ⟨S4x64x12x64x1, .i32⟩
  | 37 => ⟨S4x64x12x64x1, .i32⟩
  | 38 => ⟨S4x64x12x64x2, .i32⟩
  | 39 => ⟨S8x4x64x12x64, .f32⟩
  | 40 => ⟨S4x1x12x1, .i1⟩
  | 41 => ⟨S1x64x1x64, .i1⟩
  | 42 => ⟨S4x64x12x64, .i1⟩
  | 43 => ⟨S4x64x12x64, .i1⟩
  | 44 => ⟨S4x64x12x64, .i1⟩
  | 45 => ⟨S1x4x64x12x64, .i1⟩
  | 46 => ⟨S_, .f32⟩
  | 47 => ⟨S_, .f32⟩
  | 48 => ⟨S8x4x64x12x64, .i1⟩
  | 49 => ⟨S8x4x64x12x64, .f32⟩
  | 50 => ⟨S8x4x64x12x64, .f32⟩
  | 51 => ⟨S8x256x768, .f32⟩
  | 52 => ⟨S8x1x256x768, .f32⟩
  | 53 => ⟨S8x1x256x768, .f32⟩
  | 54 => ⟨S8x1x256x768, .f32⟩
  | 55 => ⟨S8x3x256x768, .f32⟩
  | 56 => ⟨S8192x1024, .bf16⟩
  | _ => ⟨S9216x25600, .bf16⟩

abbrev hbmTy (i : Nat) : BufTy := match i / 128 with
  | 0 => hbmTy0_0 i
  | 1 => hbmTy0_1 i
  | _ => ⟨S9216x25600, .bf16⟩

abbrev bufTy : (tb : Table) → Fin (tcTables nBuf tb) → BufTy
  | .hbm, ⟨i, _⟩ => hbmTy i
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S256x128, .bf16⟩
  | .local _ .vmem, ⟨7, _⟩ => ⟨S256x128, .bf16⟩
  | .local _ .vmem, ⟨8, _⟩ => ⟨S256x128, .bf16⟩
  | .local _ .vmem, ⟨9, _⟩ => ⟨S256x128, .bf16⟩
  | .local _ .vmem, ⟨10, _⟩ => ⟨S2048x128, .f32⟩
  | .local _ .vmem, ⟨11, _⟩ => ⟨S2048x128, .f32⟩
  | .local _ .vmem, ⟨12, _⟩ => ⟨S1x3x256x768, .f32⟩
  | .local _ .vmem, ⟨13, _⟩ => ⟨S1x3x256x768, .f32⟩
  | .local _ .vmem, ⟨14, _⟩ => ⟨S2048x128, .bf16⟩
  | .local _ .vmem, ⟨15, _⟩ => ⟨S2048x128, .bf16⟩
  | .local _ .vmem, ⟨16, _⟩ => ⟨S2048x128, .bf16⟩
  | .local _ .vmem, ⟨17, _⟩ => ⟨S2048x128, .bf16⟩
  | .local _ .vmem, ⟨18, _⟩ => ⟨S2048x128, .bf16⟩
  | .local _ .vmem, ⟨19, _⟩ => ⟨S2048x128, .bf16⟩
  | _, _ => ⟨S9216x25600, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_cst : Ref sig .tc := ⟨.hbm, 6, rfl⟩
abbrev main_v0 : Ref sig .tc := ⟨.hbm, 7, rfl⟩
abbrev main_c_3 : Ref sig .tc := ⟨.hbm, 8, rfl⟩
abbrev main_c_4 : Ref sig .tc := ⟨.hbm, 9, rfl⟩
abbrev main_c_5 : Ref sig .tc := ⟨.hbm, 10, rfl⟩
abbrev main_c_6 : Ref sig .tc := ⟨.hbm, 11, rfl⟩
abbrev main_c_7 : Ref sig .tc := ⟨.hbm, 12, rfl⟩
abbrev main_c_8 : Ref sig .tc := ⟨.hbm, 13, rfl⟩
abbrev main_c_9 : Ref sig .tc := ⟨.hbm, 14, rfl⟩
abbrev main_c_10 : Ref sig .tc := ⟨.hbm, 15, rfl⟩
abbrev main_c_11 : Ref sig .tc := ⟨.hbm, 16, rfl⟩
abbrev main_c_12 : Ref sig .tc := ⟨.hbm, 17, rfl⟩
abbrev main_c_13 : Ref sig .tc := ⟨.hbm, 18, rfl⟩
abbrev main_c_14 : Ref sig .tc := ⟨.hbm, 19, rfl⟩
abbrev main_c_15 : Ref sig .tc := ⟨.hbm, 20, rfl⟩
abbrev main_c_16 : Ref sig .tc := ⟨.hbm, 21, rfl⟩
abbrev main_c_17 : Ref sig .tc := ⟨.hbm, 22, rfl⟩
abbrev main_c_18 : Ref sig .tc := ⟨.hbm, 23, rfl⟩
abbrev main_v1 : Ref sig .tc := ⟨.hbm, 24, rfl⟩
abbrev main_cst_19 : Ref sig .tc := ⟨.hbm, 25, rfl⟩
abbrev main_v2 : Ref sig .tc := ⟨.hbm, 26, rfl⟩
abbrev main_v3 : Ref sig .tc := ⟨.hbm, 27, rfl⟩
abbrev main_cst_20 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_cst_21 : Ref sig .tc := ⟨.hbm, 32, rfl⟩
abbrev main_v7 : Ref sig .tc := ⟨.hbm, 33, rfl⟩
abbrev main_v8 : Ref sig .tc := ⟨.hbm, 34, rfl⟩
abbrev main_cst_22 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_c_23 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_call0_v5 : Ref sig .tc := ⟨.hbm, 45, rfl⟩
abbrev main_call0_v6 : Ref sig .tc := ⟨.hbm, 46, rfl⟩
abbrev main_call0_v7 : Ref sig .tc := ⟨.hbm, 47, rfl⟩
abbrev main_call0_v8 : Ref sig .tc := ⟨.hbm, 48, rfl⟩
abbrev main_call0_c : Ref sig .tc := ⟨.hbm, 49, rfl⟩
abbrev main_call0_v9 : Ref sig .tc := ⟨.hbm, 50, rfl⟩
abbrev main_call0_v10 : Ref sig .tc := ⟨.hbm, 51, rfl⟩
abbrev main_call0_v11 : Ref sig .tc := ⟨.hbm, 52, rfl⟩
abbrev main_call0_c_0 : Ref sig .tc := ⟨.hbm, 53, rfl⟩
abbrev main_call0_v12 : Ref sig .tc := ⟨.hbm, 54, rfl⟩
abbrev main_call0_v13 : Ref sig .tc := ⟨.hbm, 55, rfl⟩
abbrev main_v12 : Ref sig .tc := ⟨.hbm, 56, rfl⟩
abbrev main_c_24 : Ref sig .tc := ⟨.hbm, 57, rfl⟩
abbrev main_call1_v0 : Ref sig .tc := ⟨.hbm, 58, rfl⟩
abbrev main_call1_c : Ref sig .tc := ⟨.hbm, 59, rfl⟩
abbrev main_call1_v1 : Ref sig .tc := ⟨.hbm, 60, rfl⟩
abbrev main_call1_c_0 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_call1_c_1 : Ref sig .tc := ⟨.hbm, 65, rfl⟩
abbrev main_call1_v5 : Ref sig .tc := ⟨.hbm, 66, rfl⟩
abbrev main_call1_v6 : Ref sig .tc := ⟨.hbm, 67, rfl⟩
abbrev main_call1_c_2 : Ref sig .tc := ⟨.hbm, 68, rfl⟩
abbrev main_call1_v7 : Ref sig .tc := ⟨.hbm, 69, rfl⟩
abbrev main_call1_v8 : Ref sig .tc := ⟨.hbm, 70, rfl⟩
abbrev main_call1_c_3 : Ref sig .tc := ⟨.hbm, 71, rfl⟩
abbrev main_call1_v9 : Ref sig .tc := ⟨.hbm, 72, rfl⟩
abbrev main_call1_v10 : Ref sig .tc := ⟨.hbm, 73, rfl⟩
abbrev main_call1_v11 : Ref sig .tc := ⟨.hbm, 74, rfl⟩
abbrev main_call1_v12 : Ref sig .tc := ⟨.hbm, 75, rfl⟩
abbrev main_call1_v13 : Ref sig .tc := ⟨.hbm, 76, rfl⟩
abbrev main_call1_v14 : Ref sig .tc := ⟨.hbm, 77, rfl⟩
abbrev main_v13 : Ref sig .tc := ⟨.hbm, 78, rfl⟩
abbrev main_v14 : Ref sig .tc := ⟨.hbm, 79, rfl⟩
abbrev main_v15 : Ref sig .tc := ⟨.hbm, 80, rfl⟩
abbrev main_v16 : Ref sig .tc := ⟨.hbm, 81, rfl⟩
abbrev main_v17 : Ref sig .tc := ⟨.hbm, 82, rfl⟩
abbrev main_c_25 : Ref sig .tc := ⟨.hbm, 83, rfl⟩
abbrev main_v18 : Ref sig .tc := ⟨.hbm, 84, rfl⟩
abbrev main_v19 : Ref sig .tc := ⟨.hbm, 85, rfl⟩
abbrev main_v20 : Ref sig .tc := ⟨.hbm, 86, rfl⟩
abbrev main_v21 : Ref sig .tc := ⟨.hbm, 87, rfl⟩
abbrev main_v22 : Ref sig .tc := ⟨.hbm, 88, rfl⟩
abbrev main_c_26 : Ref sig .tc := ⟨.hbm, 89, rfl⟩
abbrev main_v23 : Ref sig .tc := ⟨.hbm, 90, rfl⟩
abbrev main_v24 : Ref sig .tc := ⟨.hbm, 91, rfl⟩
abbrev main_v25 : Ref sig .tc := ⟨.hbm, 92, rfl⟩
abbrev main_v26 : Ref sig .tc := ⟨.hbm, 93, rfl⟩
abbrev main_v27 : Ref sig .tc := ⟨.hbm, 94, rfl⟩
abbrev main_v28 : Ref sig .tc := ⟨.hbm, 95, rfl⟩
abbrev main_v29 : Ref sig .tc := ⟨.hbm, 96, rfl⟩
abbrev main_v30 : Ref sig .tc := ⟨.hbm, 97, rfl⟩
abbrev main_v31 : Ref sig .tc := ⟨.hbm, 98, rfl⟩
abbrev main_v32 : Ref sig .tc := ⟨.hbm, 99, rfl⟩
abbrev main_v33 : Ref sig .tc := ⟨.hbm, 100, rfl⟩
abbrev main_v34 : Ref sig .tc := ⟨.hbm, 101, rfl⟩
abbrev main_c_27 : Ref sig .tc := ⟨.hbm, 102, rfl⟩
abbrev main_v35 : Ref sig .tc := ⟨.hbm, 103, rfl⟩
abbrev main_v36 : Ref sig .tc := ⟨.hbm, 104, rfl⟩
abbrev main_v37 : Ref sig .tc := ⟨.hbm, 105, rfl⟩
abbrev main_c_28 : Ref sig .tc := ⟨.hbm, 106, rfl⟩
abbrev main_v38 : Ref sig .tc := ⟨.hbm, 107, rfl⟩
abbrev main_v39 : Ref sig .tc := ⟨.hbm, 108, rfl⟩
abbrev main_v40 : Ref sig .tc := ⟨.hbm, 109, rfl⟩
abbrev main_v41 : Ref sig .tc := ⟨.hbm, 110, rfl⟩
abbrev main_v42 : Ref sig .tc := ⟨.hbm, 111, rfl⟩
abbrev main_v43 : Ref sig .tc := ⟨.hbm, 112, rfl⟩
abbrev main_v44 : Ref sig .tc := ⟨.hbm, 113, rfl⟩
abbrev main_v45 : Ref sig .tc := ⟨.hbm, 114, rfl⟩
abbrev main_v46 : Ref sig .tc := ⟨.hbm, 115, rfl⟩
abbrev main_v47 : Ref sig .tc := ⟨.hbm, 116, rfl⟩
abbrev main_v48 : Ref sig .tc := ⟨.hbm, 117, rfl⟩
abbrev main_v49 : Ref sig .tc := ⟨.hbm, 118, rfl⟩
abbrev main_v50 : Ref sig .tc := ⟨.hbm, 119, rfl⟩
abbrev main_v51 : Ref sig .tc := ⟨.hbm, 120, rfl⟩
abbrev main_v52 : Ref sig .tc := ⟨.hbm, 121, rfl⟩
abbrev main_cst_29 : Ref sig .tc := ⟨.hbm, 122, rfl⟩
abbrev main_call2_v0 : Ref sig .tc := ⟨.hbm, 123, rfl⟩
abbrev main_call2_v1 : Ref sig .tc := ⟨.hbm, 124, rfl⟩
abbrev main_call2_v2 : Ref sig .tc := ⟨.hbm, 125, rfl⟩
abbrev main_v53 : Ref sig .tc := ⟨.hbm, 126, rfl⟩
abbrev main_v54 : Ref sig .tc := ⟨.hbm, 127, rfl⟩
abbrev main_c_30 : Ref sig .tc := ⟨.hbm, 128, rfl⟩
abbrev main_v55 : Ref sig .tc := ⟨.hbm, 129, rfl⟩
abbrev main_v56 : Ref sig .tc := ⟨.hbm, 130, rfl⟩
abbrev main_v57 : Ref sig .tc := ⟨.hbm, 131, rfl⟩
abbrev main_c_31 : Ref sig .tc := ⟨.hbm, 132, rfl⟩
abbrev main_v58 : Ref sig .tc := ⟨.hbm, 133, rfl⟩
abbrev main_v59 : Ref sig .tc := ⟨.hbm, 134, rfl⟩
abbrev main_v60 : Ref sig .tc := ⟨.hbm, 135, rfl⟩
abbrev main_v61 : Ref sig .tc := ⟨.hbm, 136, rfl⟩
abbrev main_v62 : Ref sig .tc := ⟨.hbm, 137, rfl⟩
abbrev main_v63 : Ref sig .tc := ⟨.hbm, 138, rfl⟩
abbrev main_v64 : Ref sig .tc := ⟨.hbm, 139, rfl⟩
abbrev main_v65 : Ref sig .tc := ⟨.hbm, 140, rfl⟩
abbrev main_v66 : Ref sig .tc := ⟨.hbm, 141, rfl⟩
abbrev main_v67 : Ref sig .tc := ⟨.hbm, 142, rfl⟩
abbrev main_v68 : Ref sig .tc := ⟨.hbm, 143, rfl⟩
abbrev main_v69 : Ref sig .tc := ⟨.hbm, 144, rfl⟩
abbrev main_v70 : Ref sig .tc := ⟨.hbm, 145, rfl⟩
abbrev main_v71 : Ref sig .tc := ⟨.hbm, 146, rfl⟩
abbrev main_v72 : Ref sig .tc := ⟨.hbm, 147, rfl⟩
abbrev main_cst_32 : Ref sig .tc := ⟨.hbm, 148, rfl⟩
abbrev main_call3_v0 : Ref sig .tc := ⟨.hbm, 149, rfl⟩
abbrev main_call3_v1 : Ref sig .tc := ⟨.hbm, 150, rfl⟩
abbrev main_call3_v2 : Ref sig .tc := ⟨.hbm, 151, rfl⟩
abbrev main_v73 : Ref sig .tc := ⟨.hbm, 152, rfl⟩
abbrev main_v74 : Ref sig .tc := ⟨.hbm, 153, rfl⟩
abbrev main_c_33 : Ref sig .tc := ⟨.hbm, 154, rfl⟩
abbrev main_v75 : Ref sig .tc := ⟨.hbm, 155, rfl⟩
abbrev main_v76 : Ref sig .tc := ⟨.hbm, 156, rfl⟩
abbrev main_v77 : Ref sig .tc := ⟨.hbm, 157, rfl⟩
abbrev main_c_34 : Ref sig .tc := ⟨.hbm, 158, rfl⟩
abbrev main_v78 : Ref sig .tc := ⟨.hbm, 159, rfl⟩
abbrev main_v79 : Ref sig .tc := ⟨.hbm, 160, rfl⟩
abbrev main_v80 : Ref sig .tc := ⟨.hbm, 161, rfl⟩
abbrev main_v81 : Ref sig .tc := ⟨.hbm, 162, rfl⟩
abbrev main_v82 : Ref sig .tc := ⟨.hbm, 163, rfl⟩
abbrev main_v83 : Ref sig .tc := ⟨.hbm, 164, rfl⟩
abbrev main_v84 : Ref sig .tc := ⟨.hbm, 165, rfl⟩
abbrev main_v85 : Ref sig .tc := ⟨.hbm, 166, rfl⟩
abbrev main_v86 : Ref sig .tc := ⟨.hbm, 167, rfl⟩
abbrev main_v87 : Ref sig .tc := ⟨.hbm, 168, rfl⟩
abbrev main_v88 : Ref sig .tc := ⟨.hbm, 169, rfl⟩
abbrev main_v89 : Ref sig .tc := ⟨.hbm, 170, rfl⟩
abbrev main_v90 : Ref sig .tc := ⟨.hbm, 171, rfl⟩
abbrev main_v91 : Ref sig .tc := ⟨.hbm, 172, rfl⟩
abbrev main_v92 : Ref sig .tc := ⟨.hbm, 173, rfl⟩
abbrev main_cst_35 : Ref sig .tc := ⟨.hbm, 174, rfl⟩
abbrev main_call4_v0 : Ref sig .tc := ⟨.hbm, 175, rfl⟩
abbrev main_call4_v1 : Ref sig .tc := ⟨.hbm, 176, rfl⟩
abbrev main_call4_v2 : Ref sig .tc := ⟨.hbm, 177, rfl⟩
abbrev main_v93 : Ref sig .tc := ⟨.hbm, 178, rfl⟩
abbrev main_v94 : Ref sig .tc := ⟨.hbm, 179, rfl⟩
abbrev main_v95 : Ref sig .tc := ⟨.hbm, 180, rfl⟩
abbrev main_v96 : Ref sig .tc := ⟨.hbm, 181, rfl⟩
abbrev main_v97 : Ref sig .tc := ⟨.hbm, 182, rfl⟩
abbrev main_v98 : Ref sig .tc := ⟨.hbm, 183, rfl⟩
abbrev main_v99 : Ref sig .tc := ⟨.hbm, 184, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![8, 4], ![false, false]⟩

@[reducible] def k0_t1_loop : Scf.Loop 32 :=
  let c0_i32_26 : BitVec 32 := 0#32
  let c8_i32 : BitVec 32 := 8#32
  let v50 : BitVec 32 := Scalar.addi c0_i32_26 c8_i32
  let c1_i32 : BitVec 32 := 1#32
  ⟨c0_i32_26, v50, c1_i32⟩
def k0_mult1 (k0_t1 : Fin k0_t1_loop.trips) : BitVec 32 :=
  let c0_i32_26 : BitVec 32 := 0#32
  let c1_i32 : BitVec 32 := 1#32
  let arg15 : BitVec 32 := Scf.iv c0_i32_26 c1_i32 k0_t1
  let c256_i32 : BitVec 32 := 256#32
  let v51 : BitVec 32 := Scalar.muli arg15 c256_i32
  v51
def k0_mult2 (k0_t1 : Fin k0_t1_loop.trips) : BitVec 32 :=
  let c20_i32 : BitVec 32 := 20#32
  let c0_i32_29 : BitVec 32 := 0#32
  let c4_i32 : BitVec 32 := 4#32
  let c0_i32_26 : BitVec 32 := 0#32
  let c1_i32 : BitVec 32 := 1#32
  let arg15 : BitVec 32 := Scf.iv c0_i32_26 c1_i32 k0_t1
  let v53 : BitVec 32 := Scalar.muli c4_i32 arg15
  let c4_i32_28 : BitVec 32 := 4#32
  let v54 : BitVec 32 := Scalar.subi v53 c4_i32_28
  let v55 : BitVec 32 := Scalar.maxsi c0_i32_29 v54
  let v56 : BitVec 32 := Scalar.minsi c20_i32 v55
  let c64_i32 : BitVec 32 := 64#32
  let v57 : BitVec 32 := Scalar.muli v56 c64_i32
  v57
def k0_off1 (k0_t1 : Fin k0_t1_loop.trips) : Fin 2 → Nat :=
  let c0_i32_26 : BitVec 32 := 0#32
  let c1_i32 : BitVec 32 := 1#32
  let arg15 : BitVec 32 := Scf.iv c0_i32_26 c1_i32 k0_t1
  let c256_i32 : BitVec 32 := 256#32
  let v51 : BitVec 32 := Scalar.muli arg15 c256_i32
  let v52 : BitVec 32 := v51
  let v63 : Index := Scalar.indexCast v52
  let c0_33 : Index := 0#32
  ![v63.toNat, 0]
def k0_off2 (k0_t1 : Fin k0_t1_loop.trips) : Fin 2 → Nat :=
  let c20_i32 : BitVec 32 := 20#32
  let c0_i32_29 : BitVec 32 := 0#32
  let c4_i32 : BitVec 32 := 4#32
  let c0_i32_26 : BitVec 32 := 0#32
  let c1_i32 : BitVec 32 := 1#32
  let arg15 : BitVec 32 := Scf.iv c0_i32_26 c1_i32 k0_t1
  let v53 : BitVec 32 := Scalar.muli c4_i32 arg15
  let c4_i32_28 : BitVec 32 := 4#32
  let v54 : BitVec 32 := Scalar.subi v53 c4_i32_28
  let v55 : BitVec 32 := Scalar.maxsi c0_i32_29 v54
  let v56 : BitVec 32 := Scalar.minsi c20_i32 v55
  let c64_i32 : BitVec 32 := 64#32
  let v57 : BitVec 32 := Scalar.muli v56 c64_i32
  let v58 : BitVec 32 := v57
  let v65 : Index := Scalar.indexCast v58
  let c0_34 : Index := 0#32
  ![v65.toNat, 0]
def k0_off3 (k0_t1 : Fin k0_t1_loop.trips) : Fin 4 → Nat :=
  let c0_36 : Index := 0#32
  let c0_i32_26 : BitVec 32 := 0#32
  let c1_i32 : BitVec 32 := 1#32
  let arg15 : BitVec 32 := Scf.iv c0_i32_26 c1_i32 k0_t1
  let c0_i32_30 : BitVec 32 := 0#32
  let v59 : BitVec 1 := Scalar.cmpi .eq arg15 c0_i32_30
  let c0_i32_32 : BitVec 32 := 0#32
  let c7_i32 : BitVec 32 := 7#32
  let v60 : BitVec 1 := Scalar.cmpi .eq arg15 c7_i32
  let c2_i32 : BitVec 32 := 2#32
  let c1_i32_31 : BitVec 32 := 1#32
  let v61 : BitVec 32 := Scalar.select v60 c2_i32 c1_i32_31
  let v62 : BitVec 32 := Scalar.select v59 c0_i32_32 v61
  let v68 : Index := Scalar.indexCast v62
  let c0_37 : Index := 0#32
  let c0_38 : Index := 0#32
  ![0, v68.toNat, 0, 0]
def cc0_transform_0 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c32_i32_0 : BitVec 32 := 32#32
  let v1 : BitVec 32 := Scalar.addi c32_i32_0 arg0
  let c0_i32 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c40_i32 : BitVec 32 := 40#32
  let v1 : BitVec 32 := Scalar.addi c40_i32 arg0
  let c0_i32 : BitVec 32 := 0#32
  ![v0.toNat, v1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x3x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S9216x25600 : Shape := ⟨2, ![9216, 25600]⟩
abbrev S8x15x31 : Shape := ⟨3, ![8, 15, 31]⟩
abbrev S8192x3072 : Shape := ⟨2, ![8192, 3072]⟩
abbrev S4x2048x3072 : Shape := ⟨3, ![4, 2048, 3072]⟩
abbrev S4x2048x1024 : Shape := ⟨3, ![4, 2048, 1024]⟩
abbrev S1024x3072 : Shape := ⟨2, ![1024, 3072]⟩
abbrev S4x256x3072 : Shape := ⟨3, ![4, 256, 3072]⟩
abbrev S4x256x1024 : Shape := ⟨3, ![4, 256, 1024]⟩
abbrev S4x2048x8x128 : Shape := ⟨4, ![4, 2048, 8, 128]⟩
abbrev S4x256x8x128 : Shape := ⟨4, ![4, 256, 8, 128]⟩
abbrev S32 : Shape := ⟨1, ![32]⟩
abbrev S_ : Shape := ⟨0, ![]⟩
abbrev S32x1 : Shape := ⟨2, ![32, 1]⟩
abbrev S8 : Shape := ⟨1, ![8]⟩
abbrev S1x8 : Shape := ⟨2, ![1, 8]⟩
abbrev S32x8 : Shape := ⟨2, ![32, 8]⟩
abbrev S64 : Shape := ⟨1, ![64]⟩
abbrev S1x64 : Shape := ⟨2, ![1, 64]⟩
abbrev S64x1 : Shape := ⟨2, ![64, 1]⟩
abbrev S64x64 : Shape := ⟨2, ![64, 64]⟩
abbrev S2048 : Shape := ⟨1, ![2048]⟩
abbrev S2048x1 : Shape := ⟨2, ![2048, 1]⟩
abbrev S2048x2 : Shape := ⟨2, ![2048, 2]⟩
abbrev S2048x2x1 : Shape := ⟨3, ![2048, 2, 1]⟩
abbrev S1x1x32 : Shape := ⟨3, ![1, 1, 32]⟩
abbrev S2048x2x32 : Shape := ⟨3, ![2048, 2, 32]⟩
abbrev S2048x1x2x32 : Shape := ⟨4, ![2048, 1, 2, 32]⟩
abbrev S4x2048x8x2x2x32 : Shape := ⟨6, ![4, 2048, 8, 2, 2, 32]⟩
abbrev S4x2048x8x2x1x32 : Shape := ⟨6, ![4, 2048, 8, 2, 1, 32]⟩
abbrev S4x2048x8x2x32 : Shape := ⟨5, ![4, 2048, 8, 2, 32]⟩
abbrev S1x2048x1x2x32 : Shape := ⟨5, ![1, 2048, 1, 2, 32]⟩
abbrev S4x32x64x8x128 : Shape := ⟨5, ![4, 32, 64, 8, 128]⟩
abbrev S32x8x1 : Shape := ⟨3, ![32, 8, 1]⟩
abbrev S4x32x8x64x8x128 : Shape := ⟨6, ![4, 32, 8, 64, 8, 128]⟩
abbrev S4x8x32x64x8x64 : Shape := ⟨6, ![4, 8, 32, 64, 8, 64]⟩
abbrev S32x1x8x1 : Shape := ⟨4, ![32, 1, 8, 1]⟩
abbrev S1x64x1x64 : Shape := ⟨4, ![1, 64, 1, 64]⟩
abbrev S32x64x8x64 : Shape := ⟨4, ![32, 64, 8, 64]⟩
abbrev S32x64x8x64x1 : Shape := ⟨5, ![32, 64, 8, 64, 1]⟩
abbrev S32x64x8x64x2 : Shape := ⟨5, ![32, 64, 8, 64, 2]⟩
abbrev S8x32x64x8x64 : Shape := ⟨5, ![8, 32, 64, 8, 64]⟩
abbrev S64x1x64 : Shape := ⟨3, ![64, 1, 64]⟩
abbrev S1x8x32x64x8x64 : Shape := ⟨6, ![1, 8, 32, 64, 8, 64]⟩
abbrev S4x8x32x64x256 : Shape := ⟨5, ![4, 8, 32, 64, 256]⟩
abbrev S4x8x32x64x512 : Shape := ⟨5, ![4, 8, 32, 64, 512]⟩
abbrev S4x8x32x64x768 : Shape := ⟨5, ![4, 8, 32, 64, 768]⟩
abbrev S4x8x32x64 : Shape := ⟨4, ![4, 8, 32, 64]⟩
abbrev S4x8x32x64x1 : Shape := ⟨5, ![4, 8, 32, 64, 1]⟩
abbrev S4x32x8x128x64 : Shape := ⟨5, ![4, 32, 8, 128, 64]⟩
abbrev S4x8x128x32x64 : Shape := ⟨5, ![4, 8, 128, 32, 64]⟩
abbrev S8192x1024 : Shape := ⟨2, ![8192, 1024]⟩

abbrev nBuf : Space → Nat
  | .hbm => 354
  | .vmem => 0
  | .smem => 0
  | _ => 0

abbrev hbmTy0_0 (i : Nat) : BufTy := match i % 128 with
  | 0 => ⟨S9216x25600, .bf16⟩
  | 1 => ⟨S8x15x31, .f32⟩
  | 2 => ⟨S9216x25600, .f32⟩
  | 3 => ⟨S8192x3072, .f32⟩
  | 4 => ⟨S4x2048x3072, .f32⟩
  | 5 => ⟨S4x2048x1024, .f32⟩
  | 6 => ⟨S4x2048x1024, .f32⟩
  | 7 => ⟨S4x2048x1024, .f32⟩
  | 8 => ⟨S1024x3072, .f32⟩
  | 9 => ⟨S4x256x3072, .f32⟩
  | 10 => ⟨S4x256x1024, .f32⟩
  | 11 => ⟨S4x256x1024, .f32⟩
  | 12 => ⟨S4x256x1024, .f32⟩
  | 13 => ⟨S4x2048x8x128, .f32⟩
  | 14 => ⟨S4x2048x8x128, .f32⟩
  | 15 => ⟨S4x2048x8x128, .f32⟩
  | 16 => ⟨S4x256x8x128, .f32⟩
  | 17 => ⟨S4x256x8x128, .f32⟩
  | 18 => ⟨S32, .i32⟩
  | 19 => ⟨S_, .i32⟩
  | 20 => ⟨S32, .i32⟩
  | 21 => ⟨S32, .i32⟩
  | 22 => ⟨S_, .i32⟩
  | 23 => ⟨S_, .i32⟩
  | 24 => ⟨S_, .i32⟩
  | 25 => ⟨S32, .i32⟩
  | 26 => ⟨S32, .i32⟩
  | 27 => ⟨S_, .i32⟩
  | 28 => ⟨S32, .i32⟩
  | 29 => ⟨S32, .i32⟩
  | 30 => ⟨S32x1, .i32⟩
  | 31 => ⟨S8, .i32⟩
  | 32 => ⟨S1x8, .i32⟩
  | 33 => ⟨S32x8, .i32⟩
  | 34 => ⟨S32x8, .i32⟩
  | 35 => ⟨S32x8, .i32⟩
  | 36 => ⟨S64, .i32⟩
  | 37 => ⟨S_, .i32⟩
  | 38 => ⟨S64, .i32⟩
  | 39 => ⟨S64, .i32⟩
  | 40 => ⟨S_, .i32⟩
  | 41 => ⟨S_, .i32⟩
  | 42 => ⟨S_, .i32⟩
  | 43 => ⟨S64, .i32⟩
  | 44 => ⟨S64, .i32⟩
  | 45 => ⟨S_, .i32⟩
  | 46 => ⟨S64, .i32⟩
  | 47 => ⟨S64, .i32⟩
  | 48 => ⟨S1x64, .i32⟩
  | 49 => ⟨S64x1, .i32⟩
  | 50 => ⟨S64x64, .i32⟩
  | 51 => ⟨S64x64, .i32⟩
  | 52 => ⟨S64x64, .i1⟩
  | 53 => ⟨S1x64, .i32⟩
  | 54 => ⟨S64x1, .i32⟩
  | 55 => ⟨S_, .i32⟩
  | 56 => ⟨S64x1, .i32⟩
  | 57 => ⟨S64x1, .i32⟩
  | 58 => ⟨S64x64, .i32⟩
  | 59 => ⟨S64x64, .i32⟩
  | 60 => ⟨S64x64, .i1⟩
  | 61 => ⟨S64x64, .i1⟩
  | 62 => ⟨S32, .f32⟩
  | 63 => ⟨S_, .f32⟩
  | 64 => ⟨S32, .f32⟩
  | 65 => ⟨S32, .f32⟩
  | 66 => ⟨S_, .f32⟩
  | 67 => ⟨S32, .f32⟩
  | 68 => ⟨S32, .f32⟩
  | 69 => ⟨S32, .f32⟩
  | 70 => ⟨S_, .f32⟩
  | 71 => ⟨S32, .f32⟩
  | 72 => ⟨S32, .f32⟩
  | 73 => ⟨S_, .f32⟩
  | 74 => ⟨S32, .f32⟩
  | 75 => ⟨S32, .f32⟩
  | 76 => ⟨S2048, .i32⟩
  | 77 => ⟨S_, .i32⟩
  | 78 => ⟨S_, .i32⟩
  | 79 => ⟨S2048, .i32⟩
  | 80 => ⟨S2048, .i32⟩
  | 81 => ⟨S2048, .i32⟩
  | 82 => ⟨S_, .i32⟩
  | 83 => ⟨S2048, .i32⟩
  | 84 => ⟨S2048, .i1⟩
  | 85 => ⟨S2048, .i32⟩
  | 86 => ⟨S2048, .i32⟩
  | 87 => ⟨S_, .i32⟩
  | 88 => ⟨S2048, .i32⟩
  | 89 => ⟨S2048, .i1⟩
  | 90 => ⟨S2048, .i1⟩
  | 91 => ⟨S_, .i32⟩
  | 92 => ⟨S2048, .i32⟩
  | 93 => ⟨S2048, .i32⟩
  | 94 => ⟨S2048, .i32⟩
  | 95 => ⟨S_, .i32⟩
  | 96 => ⟨S_, .i32⟩
  | 97 => ⟨S_, .i32⟩
  | 98 => ⟨S_, .i1⟩
  | 99 => ⟨S_, .i32⟩
  | 100 => ⟨S_, .i32⟩
  | 101 => ⟨S2048, .i32⟩
  | 102 => ⟨S2048, .i32⟩
  | 103 => ⟨S_, .i32⟩
  | 104 => ⟨S2048, .i32⟩
  | 105 => ⟨S2048, .i1⟩
  | 106 => ⟨S_, .i32⟩
  | 107 => ⟨S2048, .i32⟩
  | 108 => ⟨S2048, .i1⟩
  | 109 => ⟨S_, .i32⟩
  | 110 => ⟨S_, .i1⟩
  | 111 => ⟨S2048, .i1⟩
  | 112 => ⟨S2048, .i1⟩
  | 113 => ⟨S2048, .i1⟩
  | 114 => ⟨S2048, .i32⟩
  | 115 => ⟨S2048, .i32⟩
  | 116 => ⟨S2048, .i32⟩
  | 117 => ⟨S2048x1, .i32⟩
  | 118 => ⟨S2048x1, .i32⟩
  | 119 => ⟨S2048x2, .i32⟩
  | 120 => ⟨S2048x2, .f32⟩
  | 121 => ⟨S2048x2x1, .f32⟩
  | 122 => ⟨S1x1x32, .f32⟩
  | 123 => ⟨S2048x2x32, .f32⟩
  | 124 => ⟨S2048x2x32, .f32⟩
  | 125 => ⟨S2048x2x32, .f32⟩
  | 126 => ⟨S2048x2x32, .f32⟩
  | 127 => ⟨S2048x1x2x32, .f32⟩
  | _ => ⟨S9216x25600, .bf16⟩

abbrev hbmTy0_1 (i : Nat) : BufTy := match i % 128 with
  | 0 => ⟨S2048x2x32, .f32⟩
  | 1 => ⟨S2048x1x2x32, .f32⟩
  | 2 => ⟨S4x2048x8x2x2x32, .f32⟩
  | 3 => ⟨S4x2048x8x2x1x32, .f32⟩
  | 4 => ⟨S4x2048x8x2x32, .f32⟩
  | 5 => ⟨S4x2048x8x2x1x32, .f32⟩
  | 6 => ⟨S4x2048x8x2x32, .f32⟩
  | 7 => ⟨S1x2048x1x2x32, .f32⟩
  | 8 => ⟨S4x2048x8x2x32, .f32⟩
  | 9 => ⟨S4x2048x8x2x32, .f32⟩
  | 10 => ⟨S1x2048x1x2x32, .f32⟩
  | 11 => ⟨S4x2048x8x2x32, .f32⟩
  | 12 => ⟨S4x2048x8x2x32, .f32⟩
  | 13 => ⟨S4x2048x8x2x32, .f32⟩
  | 14 => ⟨S1x2048x1x2x32, .f32⟩
  | 15 => ⟨S4x2048x8x2x32, .f32⟩
  | 16 => ⟨S4x2048x8x2x32, .f32⟩
  | 17 => ⟨S1x2048x1x2x32, .f32⟩
  | 18 => ⟨S4x2048x8x2x32, .f32⟩
  | 19 => ⟨S4x2048x8x2x32, .f32⟩
  | 20 => ⟨S4x2048x8x2x32, .f32⟩
  | 21 => ⟨S4x2048x8x2x1x32, .f32⟩
  | 22 => ⟨S4x2048x8x2x1x32, .f32⟩
  | 23 => ⟨S4x2048x8x2x2x32, .f32⟩
  | 24 => ⟨S4x2048x8x128, .f32⟩
  | 25 => ⟨S4x32x64x8x128, .f32⟩
  | 26 => ⟨S32, .f32⟩
  | 27 => ⟨S_, .f32⟩
  | 28 => ⟨S32, .f32⟩
  | 29 => ⟨S32, .f32⟩
  | 30 => ⟨S_, .f32⟩
  | 31 => ⟨S32, .f32⟩
  | 32 => ⟨S32, .f32⟩
  | 33 => ⟨S32, .f32⟩
  | 34 => ⟨S_, .f32⟩
  | 35 => ⟨S32, .f32⟩
  | 36 => ⟨S32, .f32⟩
  | 37 => ⟨S_, .f32⟩
  | 38 => ⟨S32, .f32⟩
  | 39 => ⟨S32, .f32⟩
  | 40 => ⟨S2048, .i32⟩
  | 41 => ⟨S_, .i32⟩
  | 42 => ⟨S_, .i32⟩
  | 43 => ⟨S2048, .i32⟩
  | 44 => ⟨S2048, .i32⟩
  | 45 => ⟨S2048, .i32⟩
  | 46 => ⟨S_, .i32⟩
  | 47 => ⟨S2048, .i32⟩
  | 48 => ⟨S2048, .i1⟩
  | 49 => ⟨S2048, .i32⟩
  | 50 => ⟨S2048, .i32⟩
  | 51 => ⟨S_, .i32⟩
  | 52 => ⟨S2048, .i32⟩
  | 53 => ⟨S2048, .i1⟩
  | 54 => ⟨S2048, .i1⟩
  | 55 => ⟨S_, .i32⟩
  | 56 => ⟨S2048, .i32⟩
  | 57 => ⟨S2048, .i32⟩
  | 58 => ⟨S2048, .i32⟩
  | 59 => ⟨S_, .i32⟩
  | 60 => ⟨S_, .i32⟩
  | 61 => ⟨S_, .i32⟩
  | 62 => ⟨S_, .i1⟩
  | 63 => ⟨S_, .i32⟩
  | 64 => ⟨S_, .i32⟩
  | 65 => ⟨S2048, .i32⟩
  | 66 => ⟨S2048, .i32⟩
  | 67 => ⟨S_, .i32⟩
  | 68 => ⟨S2048, .i32⟩
  | 69 => ⟨S2048, .i1⟩
  | 70 => ⟨S_, .i32⟩
  | 71 => ⟨S2048, .i32⟩
  | 72 => ⟨S2048, .i1⟩
  | 73 => ⟨S_, .i32⟩
  | 74 => ⟨S_, .i1⟩
  | 75 => ⟨S2048, .i1⟩
  | 76 => ⟨S2048, .i1⟩
  | 77 => ⟨S2048, .i1⟩
  | 78 => ⟨S2048, .i32⟩
  | 79 => ⟨S2048, .i32⟩
  | 80 => ⟨S2048, .i32⟩
  | 81 => ⟨S2048x1, .i32⟩
  | 82 => ⟨S2048x1, .i32⟩
  | 83 => ⟨S2048x2, .i32⟩
  | 84 => ⟨S2048x2, .f32⟩
  | 85 => ⟨S2048x2x1, .f32⟩
  | 86 => ⟨S1x1x32, .f32⟩
  | 87 => ⟨S2048x2x32, .f32⟩
  | 88 => ⟨S2048x2x32, .f32⟩
  | 89 => ⟨S2048x2x32, .f32⟩
  | 90 => ⟨S2048x2x32, .f32⟩
  | 91 => ⟨S2048x1x2x32, .f32⟩
  | 92 => ⟨S2048x2x32, .f32⟩
  | 93 => ⟨S2048x1x2x32, .f32⟩
  | 94 => ⟨S4x2048x8x2x2x32, .f32⟩
  | 95 => ⟨S4x2048x8x2x1x32, .f32⟩
  | 96 => ⟨S4x2048x8x2x32, .f32⟩
  | 97 => ⟨S4x2048x8x2x1x32, .f32⟩
  | 98 => ⟨S4x2048x8x2x32, .f32⟩
  | 99 => ⟨S1x2048x1x2x32, .f32⟩
  | 100 => ⟨S4x2048x8x2x32, .f32⟩
  | 101 => ⟨S4x2048x8x2x32, .f32⟩
  | 102 => ⟨S1x2048x1x2x32, .f32⟩
  | 103 => ⟨S4x2048x8x2x32, .f32⟩
  | 104 => ⟨S4x2048x8x2x32, .f32⟩
  | 105 => ⟨S4x2048x8x2x32, .f32⟩
  | 106 => ⟨S1x2048x1x2x32, .f32⟩
  | 107 => ⟨S4x2048x8x2x32, .f32⟩
  | 108 => ⟨S4x2048x8x2x32, .f32⟩
  | 109 => ⟨S1x2048x1x2x32, .f32⟩
  | 110 => ⟨S4x2048x8x2x32, .f32⟩
  | 111 => ⟨S4x2048x8x2x32, .f32⟩
  | 112 => ⟨S4x2048x8x2x32, .f32⟩
  | 113 => ⟨S4x2048x8x2x1x32, .f32⟩
  | 114 => ⟨S4x2048x8x2x1x32, .f32⟩
  | 115 => ⟨S4x2048x8x2x2x32, .f32⟩
  | 116 => ⟨S4x2048x8x128, .f32⟩
  | 117 => ⟨S4x32x64x8x128, .f32⟩
  | 118 => ⟨S_, .i32⟩
  | 119 => ⟨S32x8, .i32⟩
  | 120 => ⟨S32x8, .i1⟩
  | 121 => ⟨S_, .i32⟩
  | 122 => ⟨S32x8, .i32⟩
  | 123 => ⟨S32x8, .i32⟩
  | 124 => ⟨S32x8, .i32⟩
  | 125 => ⟨S32x8x1, .i32⟩
  | 126 => ⟨S4x32x8x64x8x128, .f32⟩
  | 127 => ⟨S4x32x64x8x128, .f32⟩
  | _ => ⟨S9216x25600, .bf16⟩

abbrev hbmTy0_2 (i : Nat) : BufTy := match i % 128 with
  | 0 => ⟨S_, .i32⟩
  | 1 => ⟨S32x8, .i32⟩
  | 2 => ⟨S32x8, .i1⟩
  | 3 => ⟨S_, .i32⟩
  | 4 => ⟨S32x8, .i32⟩
  | 5 => ⟨S32x8, .i32⟩
  | 6 => ⟨S32x8, .i32⟩
  | 7 => ⟨S32x8x1, .i32⟩
  | 8 => ⟨S4x32x8x64x8x128, .f32⟩
  | 9 => ⟨S4x8x32x64x8x64, .f32⟩
  | 10 => ⟨S_, .f32⟩
  | 11 => ⟨S4x8x32x64x8x64, .f32⟩
  | 12 => ⟨S4x8x32x64x8x64, .f32⟩
  | 13 => ⟨S32x1, .i32⟩
  | 14 => ⟨S32x8, .i32⟩
  | 15 => ⟨S32x8, .i32⟩
  | 16 => ⟨S_, .i32⟩
  | 17 => ⟨S32x8, .i32⟩
  | 18 => ⟨S32x8, .i32⟩
  | 19 => ⟨S1x64, .i32⟩
  | 20 => ⟨S64x1, .i32⟩
  | 21 => ⟨S64x64, .i32⟩
  | 22 => ⟨S64x64, .i32⟩
  | 23 => ⟨S64x64, .i32⟩
  | 24 => ⟨S_, .i32⟩
  | 25 => ⟨S64x64, .i32⟩
  | 26 => ⟨S64x64, .i32⟩
  | 27 => ⟨S_, .i32⟩
  | 28 => ⟨S_, .i32⟩
  | 29 => ⟨S_, .i32⟩
  | 30 => ⟨S64x64, .i32⟩
  | 31 => ⟨S64x64, .i32⟩
  | 32 => ⟨S_, .i32⟩
  | 33 => ⟨S64x64, .i32⟩
  | 34 => ⟨S64x64, .i32⟩
  | 35 => ⟨S32x1x8x1, .i32⟩
  | 36 => ⟨S1x64x1x64, .i32⟩
  | 37 => ⟨S_, .i32⟩
  | 38 => ⟨S32x1x8x1, .i32⟩
  | 39 => ⟨S32x1x8x1, .i1⟩
  | 40 => ⟨S_, .i32⟩
  | 41 => ⟨S32x1x8x1, .i32⟩
  | 42 => ⟨S32x1x8x1, .i32⟩
  | 43 => ⟨S32x1x8x1, .i32⟩
  | 44 => ⟨S_, .i32⟩
  | 45 => ⟨S1x64x1x64, .i32⟩
  | 46 => ⟨S1x64x1x64, .i1⟩
  | 47 => ⟨S_, .i32⟩
  | 48 => ⟨S1x64x1x64, .i32⟩
  | 49 => ⟨S1x64x1x64, .i32⟩
  | 50 => ⟨S1x64x1x64, .i32⟩
  | 51 => ⟨S32x64x8x64, .i32⟩
  | 52 => ⟨S32x64x8x64, .i32⟩
  | 53 => ⟨S32x64x8x64x1, .i32⟩
  | 54 => ⟨S32x64x8x64x1, .i32⟩
  | 55 => ⟨S32x64x8x64x2, .i32⟩
  | 56 => ⟨S8x32x64x8x64, .f32⟩
  | 57 => ⟨S64x1x64, .i1⟩
  | 58 => ⟨S1x8x32x64x8x64, .f32⟩
  | 59 => ⟨S4x8x32x64x8x64, .f32⟩
  | 60 => ⟨S4x8x32x64x8x64, .f32⟩
  | 61 => ⟨S_, .f32⟩
  | 62 => ⟨S_, .f32⟩
  | 63 => ⟨S4x8x32x64x8x64, .i1⟩
  | 64 => ⟨S4x8x32x64x8x64, .f32⟩
  | 65 => ⟨S4x8x32x64x8x64, .f32⟩
  | 66 => ⟨S4x32x64x8x128, .f32⟩
  | 67 => ⟨S4x8x32x64x256, .f32⟩
  | 68 => ⟨S_, .f32⟩
  | 69 => ⟨S4x8x32x64x256, .f32⟩
  | 70 => ⟨S4x8x32x64x256, .f32⟩
  | 71 => ⟨S4x8x32x64x512, .f32⟩
  | 72 => ⟨S4x8x32x64x768, .f32⟩
  | 73 => ⟨S_, .f32⟩
  | 74 => ⟨S4x8x32x64, .f32⟩
  | 75 => ⟨S_, .f32⟩
  | 76 => ⟨S4x8x32x64, .f32⟩
  | 77 => ⟨S4x8x32x64, .f32⟩
  | 78 => ⟨S4x8x32x64x1, .f32⟩
  | 79 => ⟨S4x8x32x64x768, .f32⟩
  | 80 => ⟨S4x8x32x64x768, .f32⟩
  | 81 => ⟨S4x8x32x64x768, .f32⟩
  | 82 => ⟨S_, .f32⟩
  | 83 => ⟨S4x8x32x64, .f32⟩
  | 84 => ⟨S4x8x32x64x1, .f32⟩
  | 85 => ⟨S4x8x32x64x768, .f32⟩
  | 86 => ⟨S4x8x32x64x768, .f32⟩
  | 87 => ⟨S4x8x32x64x512, .f32⟩
  | 88 => ⟨S4x8x32x64x8x64, .f32⟩
  | 89 => ⟨S4x8x32x64x256, .f32⟩
  | 90 => ⟨S4x32x8x128x64, .f32⟩
  | 91 => ⟨S4x32x64x8x128, .f32⟩
  | 92 => ⟨S4x8x128x32x64, .f32⟩
  | 93 => ⟨S4x32x64x8x128, .f32⟩
  | 94 => ⟨S4x32x64x8x128, .f32⟩
  | 95 => ⟨S4x2048x1024, .f32⟩
  | 96 => ⟨S8192x1024, .f32⟩
  | 97 => ⟨S8192x1024, .bf16⟩
  | _ => ⟨S9216x25600, .bf16⟩

abbrev hbmTy (i : Nat) : BufTy := match i / 128 with
  | 0 => hbmTy0_0 i
  | 1 => hbmTy0_1 i
  | 2 => hbmTy0_2 i
  | _ => ⟨S9216x25600, .bf16⟩

abbrev bufTy : (tb : Table) → Fin (tcTables nBuf tb) → BufTy
  | .hbm, ⟨i, _⟩ => hbmTy i
  | _, _ => ⟨S9216x25600, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_c : Ref sig .tc := ⟨.hbm, 19, rfl⟩
abbrev main_v17 : Ref sig .tc := ⟨.hbm, 20, rfl⟩
abbrev main_v18 : Ref sig .tc := ⟨.hbm, 21, rfl⟩
abbrev main_c_0 : Ref sig .tc := ⟨.hbm, 22, rfl⟩
abbrev main_c_1 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_2 : Ref sig .tc := ⟨.hbm, 37, rfl⟩
abbrev main_v27 : Ref sig .tc := ⟨.hbm, 38, rfl⟩
abbrev main_v28 : Ref sig .tc := ⟨.hbm, 39, rfl⟩
abbrev main_c_3 : Ref sig .tc := ⟨.hbm, 40, rfl⟩
abbrev main_c_4 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_c_5 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst : Ref sig .tc := ⟨.hbm, 63, rfl⟩
abbrev main_v44 : Ref sig .tc := ⟨.hbm, 64, rfl⟩
abbrev main_v45 : Ref sig .tc := ⟨.hbm, 65, rfl⟩
abbrev main_cst_6 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_7 : Ref sig .tc := ⟨.hbm, 70, rfl⟩
abbrev main_v49 : Ref sig .tc := ⟨.hbm, 71, rfl⟩
abbrev main_v50 : Ref sig .tc := ⟨.hbm, 72, rfl⟩
abbrev main_cst_8 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_c_9 : Ref sig .tc := ⟨.hbm, 77, rfl⟩
abbrev main_call2_v0 : Ref sig .tc := ⟨.hbm, 78, rfl⟩
abbrev main_call2_v1 : Ref sig .tc := ⟨.hbm, 79, rfl⟩
abbrev main_call2_v2 : Ref sig .tc := ⟨.hbm, 80, rfl⟩
abbrev main_call2_v3 : Ref sig .tc := ⟨.hbm, 81, rfl⟩
abbrev main_call2_v4 : Ref sig .tc := ⟨.hbm, 82, rfl⟩
abbrev main_call2_v5 : Ref sig .tc := ⟨.hbm, 83, rfl⟩
abbrev main_call2_v6 : Ref sig .tc := ⟨.hbm, 84, rfl⟩
abbrev main_call2_v7 : Ref sig .tc := ⟨.hbm, 85, rfl⟩
abbrev main_call2_v8 : Ref sig .tc := ⟨.hbm, 86, rfl⟩
abbrev main_call2_c : Ref sig .tc := ⟨.hbm, 87, rfl⟩
abbrev main_call2_v9 : Ref sig .tc := ⟨.hbm, 88, rfl⟩
abbrev main_call2_v10 : Ref sig .tc := ⟨.hbm, 89, rfl⟩
abbrev main_call2_v11 : Ref sig .tc := ⟨.hbm, 90, rfl⟩
abbrev main_call2_c_0 : Ref sig .tc := ⟨.hbm, 91, rfl⟩
abbrev main_call2_v12 : Ref sig .tc := ⟨.hbm, 92, rfl⟩
abbrev main_call2_v13 : Ref sig .tc := ⟨.hbm, 93, rfl⟩
abbrev main_v54 : Ref sig .tc := ⟨.hbm, 94, rfl⟩
abbrev main_c_10 : Ref sig .tc := ⟨.hbm, 95, rfl⟩
abbrev main_call3_v0 : Ref sig .tc := ⟨.hbm, 96, rfl⟩
abbrev main_call3_c : Ref sig .tc := ⟨.hbm, 97, rfl⟩
abbrev main_call3_v1 : Ref sig .tc := ⟨.hbm, 98, rfl⟩
abbrev main_call3_c_0 : Ref sig .tc := ⟨.hbm, 99, rfl⟩
abbrev main_call3_v2 : Ref sig .tc := ⟨.hbm, 100, rfl⟩
abbrev main_call3_v3 : Ref sig .tc := ⟨.hbm, 101, rfl⟩
abbrev main_call3_v4 : Ref sig .tc := ⟨.hbm, 102, rfl⟩
abbrev main_call3_c_1 : Ref sig .tc := ⟨.hbm, 103, rfl⟩
abbrev main_call3_v5 : Ref sig .tc := ⟨.hbm, 104, rfl⟩
abbrev main_call3_v6 : Ref sig .tc := ⟨.hbm, 105, rfl⟩
abbrev main_call3_c_2 : Ref sig .tc := ⟨.hbm, 106, rfl⟩
abbrev main_call3_v7 : Ref sig .tc := ⟨.hbm, 107, rfl⟩
abbrev main_call3_v8 : Ref sig .tc := ⟨.hbm, 108, rfl⟩
abbrev main_call3_c_3 : Ref sig .tc := ⟨.hbm, 109, rfl⟩
abbrev main_call3_v9 : Ref sig .tc := ⟨.hbm, 110, rfl⟩
abbrev main_call3_v10 : Ref sig .tc := ⟨.hbm, 111, rfl⟩
abbrev main_call3_v11 : Ref sig .tc := ⟨.hbm, 112, rfl⟩
abbrev main_call3_v12 : Ref sig .tc := ⟨.hbm, 113, rfl⟩
abbrev main_call3_v13 : Ref sig .tc := ⟨.hbm, 114, rfl⟩
abbrev main_call3_v14 : Ref sig .tc := ⟨.hbm, 115, rfl⟩
abbrev main_v55 : Ref sig .tc := ⟨.hbm, 116, rfl⟩
abbrev main_v56 : Ref sig .tc := ⟨.hbm, 117, rfl⟩
abbrev main_v57 : Ref sig .tc := ⟨.hbm, 118, rfl⟩
abbrev main_v58 : Ref sig .tc := ⟨.hbm, 119, rfl⟩
abbrev main_v59 : Ref sig .tc := ⟨.hbm, 120, rfl⟩
abbrev main_v60 : Ref sig .tc := ⟨.hbm, 121, rfl⟩
abbrev main_v61 : Ref sig .tc := ⟨.hbm, 122, rfl⟩
abbrev main_v62 : Ref sig .tc := ⟨.hbm, 123, rfl⟩
abbrev main_v63 : Ref sig .tc := ⟨.hbm, 124, rfl⟩
abbrev main_v64 : Ref sig .tc := ⟨.hbm, 125, rfl⟩
abbrev main_v65 : Ref sig .tc := ⟨.hbm, 126, rfl⟩
abbrev main_v66 : Ref sig .tc := ⟨.hbm, 127, rfl⟩
abbrev main_v67 : Ref sig .tc := ⟨.hbm, 128, rfl⟩
abbrev main_v68 : Ref sig .tc := ⟨.hbm, 129, rfl⟩
abbrev main_v69 : Ref sig .tc := ⟨.hbm, 130, rfl⟩
abbrev main_v70 : Ref sig .tc := ⟨.hbm, 131, rfl⟩
abbrev main_v71 : Ref sig .tc := ⟨.hbm, 132, rfl⟩
abbrev main_v72 : Ref sig .tc := ⟨.hbm, 133, rfl⟩
abbrev main_v73 : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩
abbrev main_v77 : Ref sig .tc := ⟨.hbm, 138, rfl⟩
abbrev main_v78 : Ref sig .tc := ⟨.hbm, 139, rfl⟩
abbrev main_v79 : Ref sig .tc := ⟨.hbm, 140, rfl⟩
abbrev main_v80 : Ref sig .tc := ⟨.hbm, 141, rfl⟩
abbrev main_v81 : Ref sig .tc := ⟨.hbm, 142, rfl⟩
abbrev main_v82 : Ref sig .tc := ⟨.hbm, 143, rfl⟩
abbrev main_v83 : Ref sig .tc := ⟨.hbm, 144, rfl⟩
abbrev main_v84 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩
abbrev main_v88 : Ref sig .tc := ⟨.hbm, 149, rfl⟩
abbrev main_v89 : Ref sig .tc := ⟨.hbm, 150, rfl⟩
abbrev main_v90 : Ref sig .tc := ⟨.hbm, 151, rfl⟩
abbrev main_v91 : Ref sig .tc := ⟨.hbm, 152, rfl⟩
abbrev main_v92 : Ref sig .tc := ⟨.hbm, 153, rfl⟩
abbrev main_v93 : Ref sig .tc := ⟨.hbm, 154, rfl⟩
abbrev main_cst_11 : Ref sig .tc := ⟨.hbm, 155, rfl⟩
abbrev main_v94 : Ref sig .tc := ⟨.hbm, 156, rfl⟩
abbrev main_v95 : Ref sig .tc := ⟨.hbm, 157, rfl⟩
abbrev main_cst_12 : Ref sig .tc := ⟨.hbm, 158, rfl⟩
abbrev main_v96 : Ref sig .tc := ⟨.hbm, 159, rfl⟩
abbrev main_v97 : Ref sig .tc := ⟨.hbm, 160, rfl⟩
abbrev main_v98 : Ref sig .tc := ⟨.hbm, 161, rfl⟩
abbrev main_cst_13 : Ref sig .tc := ⟨.hbm, 162, rfl⟩
abbrev main_v99 : Ref sig .tc := ⟨.hbm, 163, rfl⟩
abbrev main_v100 : Ref sig .tc := ⟨.hbm, 164, rfl⟩
abbrev main_cst_14 : Ref sig .tc := ⟨.hbm, 165, rfl⟩
abbrev main_v101 : Ref sig .tc := ⟨.hbm, 166, rfl⟩
abbrev main_v102 : Ref sig .tc := ⟨.hbm, 167, rfl⟩
abbrev main_v103 : Ref sig .tc := ⟨.hbm, 168, rfl⟩
abbrev main_c_15 : Ref sig .tc := ⟨.hbm, 169, rfl⟩
abbrev main_call4_v0 : Ref sig .tc := ⟨.hbm, 170, rfl⟩
abbrev main_call4_v1 : Ref sig .tc := ⟨.hbm, 171, rfl⟩
abbrev main_call4_v2 : Ref sig .tc := ⟨.hbm, 172, rfl⟩
abbrev main_call4_v3 : Ref sig .tc := ⟨.hbm, 173, rfl⟩
abbrev main_call4_v4 : Ref sig .tc := ⟨.hbm, 174, rfl⟩
abbrev main_call4_v5 : Ref sig .tc := ⟨.hbm, 175, rfl⟩
abbrev main_call4_v6 : Ref sig .tc := ⟨.hbm, 176, rfl⟩
abbrev main_call4_v7 : Ref sig .tc := ⟨.hbm, 177, rfl⟩
abbrev main_call4_v8 : Ref sig .tc := ⟨.hbm, 178, rfl⟩
abbrev main_call4_c : Ref sig .tc := ⟨.hbm, 179, rfl⟩
abbrev main_call4_v9 : Ref sig .tc := ⟨.hbm, 180, rfl⟩
abbrev main_call4_v10 : Ref sig .tc := ⟨.hbm, 181, rfl⟩
abbrev main_call4_v11 : Ref sig .tc := ⟨.hbm, 182, rfl⟩
abbrev main_call4_c_0 : Ref sig .tc := ⟨.hbm, 183, rfl⟩
abbrev main_call4_v12 : Ref sig .tc := ⟨.hbm, 184, rfl⟩
abbrev main_call4_v13 : Ref sig .tc := ⟨.hbm, 185, rfl⟩
abbrev main_v104 : Ref sig .tc := ⟨.hbm, 186, rfl⟩
abbrev main_c_16 : Ref sig .tc := ⟨.hbm, 187, rfl⟩
abbrev main_call5_v0 : Ref sig .tc := ⟨.hbm, 188, rfl⟩
abbrev main_call5_c : Ref sig .tc := ⟨.hbm, 189, rfl⟩
abbrev main_call5_v1 : Ref sig .tc := ⟨.hbm, 190, rfl⟩
abbrev main_call5_c_0 : Ref sig .tc := ⟨.hbm, 191, rfl⟩
abbrev main_call5_v2 : Ref sig .tc := ⟨.hbm, 192, rfl⟩
abbrev main_call5_v3 : Ref sig .tc := ⟨.hbm, 193, rfl⟩
abbrev main_call5_v4 : Ref sig .tc := ⟨.hbm, 194, rfl⟩
abbrev main_call5_c_1 : Ref sig .tc := ⟨.hbm, 195, rfl⟩
abbrev main_call5_v5 : Ref sig .tc := ⟨.hbm, 196, rfl⟩
abbrev main_call5_v6 : Ref sig .tc := ⟨.hbm, 197, rfl⟩
abbrev main_call5_c_2 : Ref sig .tc := ⟨.hbm, 198, rfl⟩
abbrev main_call5_v7 : Ref sig .tc := ⟨.hbm, 199, rfl⟩
abbrev main_call5_v8 : Ref sig .tc := ⟨.hbm, 200, rfl⟩
abbrev main_call5_c_3 : Ref sig .tc := ⟨.hbm, 201, rfl⟩
abbrev main_call5_v9 : Ref sig .tc := ⟨.hbm, 202, rfl⟩
abbrev main_call5_v10 : Ref sig .tc := ⟨.hbm, 203, rfl⟩
abbrev main_call5_v11 : Ref sig .tc := ⟨.hbm, 204, rfl⟩
abbrev main_call5_v12 : Ref sig .tc := ⟨.hbm, 205, rfl⟩
abbrev main_call5_v13 : Ref sig .tc := ⟨.hbm, 206, rfl⟩
abbrev main_call5_v14 : Ref sig .tc := ⟨.hbm, 207, rfl⟩
abbrev main_v105 : Ref sig .tc := ⟨.hbm, 208, rfl⟩
abbrev main_v106 : Ref sig .tc := ⟨.hbm, 209, rfl⟩
abbrev main_v107 : Ref sig .tc := ⟨.hbm, 210, rfl⟩
abbrev main_v108 : Ref sig .tc := ⟨.hbm, 211, rfl⟩
abbrev main_v109 : Ref sig .tc := ⟨.hbm, 212, rfl⟩
abbrev main_v110 : Ref sig .tc := ⟨.hbm, 213, rfl⟩
abbrev main_v111 : Ref sig .tc := ⟨.hbm, 214, rfl⟩
abbrev main_v112 : Ref sig .tc := ⟨.hbm, 215, rfl⟩
abbrev main_v113 : Ref sig .tc := ⟨.hbm, 216, rfl⟩
abbrev main_v114 : Ref sig .tc := ⟨.hbm, 217, rfl⟩
abbrev main_v115 : Ref sig .tc := ⟨.hbm, 218, rfl⟩
abbrev main_v116 : Ref sig .tc := ⟨.hbm, 219, rfl⟩
abbrev main_v117 : Ref sig .tc := ⟨.hbm, 220, rfl⟩
abbrev main_v118 : Ref sig .tc := ⟨.hbm, 221, rfl⟩
abbrev main_v119 : Ref sig .tc := ⟨.hbm, 222, rfl⟩
abbrev main_v120 : Ref sig .tc := ⟨.hbm, 223, rfl⟩
abbrev main_v121 : Ref sig .tc := ⟨.hbm, 224, rfl⟩
abbrev main_v122 : Ref sig .tc := ⟨.hbm, 225, rfl⟩
abbrev main_v123 : Ref sig .tc := ⟨.hbm, 226, rfl⟩
abbrev main_v124 : Ref sig .tc := ⟨.hbm, 227, rfl⟩
abbrev main_v125 : Ref sig .tc := ⟨.hbm, 228, rfl⟩
abbrev main_v126 : Ref sig .tc := ⟨.hbm, 229, rfl⟩
abbrev main_v127 : Ref sig .tc := ⟨.hbm, 230, rfl⟩
abbrev main_v128 : Ref sig .tc := ⟨.hbm, 231, rfl⟩
abbrev main_v129 : Ref sig .tc := ⟨.hbm, 232, rfl⟩
abbrev main_v130 : Ref sig .tc := ⟨.hbm, 233, rfl⟩
abbrev main_v131 : Ref sig .tc := ⟨.hbm, 234, rfl⟩
abbrev main_v132 : Ref sig .tc := ⟨.hbm, 235, rfl⟩
abbrev main_v133 : Ref sig .tc := ⟨.hbm, 236, rfl⟩
abbrev main_v134 : Ref sig .tc := ⟨.hbm, 237, rfl⟩
abbrev main_v135 : Ref sig .tc := ⟨.hbm, 238, rfl⟩
abbrev main_v136 : Ref sig .tc := ⟨.hbm, 239, rfl⟩
abbrev main_v137 : Ref sig .tc := ⟨.hbm, 240, rfl⟩
abbrev main_v138 : Ref sig .tc := ⟨.hbm, 241, rfl⟩
abbrev main_v139 : Ref sig .tc := ⟨.hbm, 242, rfl⟩
abbrev main_v140 : Ref sig .tc := ⟨.hbm, 243, rfl⟩
abbrev main_v141 : Ref sig .tc := ⟨.hbm, 244, rfl⟩
abbrev main_v142 : Ref sig .tc := ⟨.hbm, 245, rfl⟩
abbrev main_c_17 : Ref sig .tc := ⟨.hbm, 246, rfl⟩
abbrev main_v143 : Ref sig .tc := ⟨.hbm, 247, rfl⟩
abbrev main_v144 : Ref sig .tc := ⟨.hbm, 248, rfl⟩
abbrev main_c_18 : Ref sig .tc := ⟨.hbm, 249, rfl⟩
abbrev main_v145 : Ref sig .tc := ⟨.hbm, 250, rfl⟩
abbrev main_v146 : Ref sig .tc := ⟨.hbm, 251, rfl⟩
abbrev main_v147 : Ref sig .tc := ⟨.hbm, 252, rfl⟩
abbrev main_v148 : Ref sig .tc := ⟨.hbm, 253, rfl⟩
abbrev main_v149 : Ref sig .tc := ⟨.hbm, 254, rfl⟩
abbrev main_v150 : Ref sig .tc := ⟨.hbm, 255, rfl⟩
abbrev main_c_19 : Ref sig .tc := ⟨.hbm, 256, rfl⟩
abbrev main_v151 : Ref sig .tc := ⟨.hbm, 257, rfl⟩
abbrev main_v152 : Ref sig .tc := ⟨.hbm, 258, rfl⟩
abbrev main_c_20 : Ref sig .tc := ⟨.hbm, 259, rfl⟩
abbrev main_v153 : Ref sig .tc := ⟨.hbm, 260, rfl⟩
abbrev main_v154 : Ref sig .tc := ⟨.hbm, 261, rfl⟩
abbrev main_v155 : Ref sig .tc := ⟨.hbm, 262, rfl⟩
abbrev main_v156 : Ref sig .tc := ⟨.hbm, 263, rfl⟩
abbrev main_v157 : Ref sig .tc := ⟨.hbm, 264, rfl⟩
abbrev main_v158 : Ref sig .tc := ⟨.hbm, 265, rfl⟩
abbrev main_cst_21 : Ref sig .tc := ⟨.hbm, 266, rfl⟩
abbrev main_v159 : Ref sig .tc := ⟨.hbm, 267, rfl⟩
abbrev main_v160 : Ref sig .tc := ⟨.hbm, 268, rfl⟩
abbrev main_v161 : Ref sig .tc := ⟨.hbm, 269, rfl⟩
abbrev main_v162 : Ref sig .tc := ⟨.hbm, 270, rfl⟩
abbrev main_v163 : Ref sig .tc := ⟨.hbm, 271, rfl⟩
abbrev main_c_22 : Ref sig .tc := ⟨.hbm, 272, rfl⟩
abbrev main_v164 : Ref sig .tc := ⟨.hbm, 273, rfl⟩
abbrev main_v165 : Ref sig .tc := ⟨.hbm, 274, rfl⟩
abbrev main_v166 : Ref sig .tc := ⟨.hbm, 275, rfl⟩
abbrev main_v167 : Ref sig .tc := ⟨.hbm, 276, rfl⟩
abbrev main_v168 : Ref sig .tc := ⟨.hbm, 277, rfl⟩
abbrev main_v169 : Ref sig .tc := ⟨.hbm, 278, rfl⟩
abbrev main_v170 : Ref sig .tc := ⟨.hbm, 279, rfl⟩
abbrev main_c_23 : Ref sig .tc := ⟨.hbm, 280, rfl⟩
abbrev main_v171 : Ref sig .tc := ⟨.hbm, 281, rfl⟩
abbrev main_v172 : Ref sig .tc := ⟨.hbm, 282, rfl⟩
abbrev main_c_24 : Ref sig .tc := ⟨.hbm, 283, rfl⟩
abbrev main_c_25 : Ref sig .tc := ⟨.hbm, 284, rfl⟩
abbrev main_call6_v0 : Ref sig .tc := ⟨.hbm, 285, rfl⟩
abbrev main_call6_v1 : Ref sig .tc := ⟨.hbm, 286, rfl⟩
abbrev main_call6_v2 : Ref sig .tc := ⟨.hbm, 287, rfl⟩
abbrev main_call6_v3 : Ref sig .tc := ⟨.hbm, 288, rfl⟩
abbrev main_call6_v4 : Ref sig .tc := ⟨.hbm, 289, rfl⟩
abbrev main_v173 : Ref sig .tc := ⟨.hbm, 290, rfl⟩
abbrev main_v174 : Ref sig .tc := ⟨.hbm, 291, rfl⟩
abbrev main_v175 : Ref sig .tc := ⟨.hbm, 292, rfl⟩
abbrev main_c_26 : Ref sig .tc := ⟨.hbm, 293, rfl⟩
abbrev main_v176 : Ref sig .tc := ⟨.hbm, 294, rfl⟩
abbrev main_v177 : Ref sig .tc := ⟨.hbm, 295, rfl⟩
abbrev main_c_27 : Ref sig .tc := ⟨.hbm, 296, rfl⟩
abbrev main_v178 : Ref sig .tc := ⟨.hbm, 297, rfl⟩
abbrev main_v179 : Ref sig .tc := ⟨.hbm, 298, rfl⟩
abbrev main_v180 : Ref sig .tc := ⟨.hbm, 299, rfl⟩
abbrev main_c_28 : Ref sig .tc := ⟨.hbm, 300, rfl⟩
abbrev main_v181 : Ref sig .tc := ⟨.hbm, 301, rfl⟩
abbrev main_v182 : Ref sig .tc := ⟨.hbm, 302, rfl⟩
abbrev main_c_29 : Ref sig .tc := ⟨.hbm, 303, rfl⟩
abbrev main_v183 : Ref sig .tc := ⟨.hbm, 304, rfl⟩
abbrev main_v184 : Ref sig .tc := ⟨.hbm, 305, rfl⟩
abbrev main_v185 : Ref sig .tc := ⟨.hbm, 306, rfl⟩
abbrev main_v186 : Ref sig .tc := ⟨.hbm, 307, rfl⟩
abbrev main_v187 : Ref sig .tc := ⟨.hbm, 308, rfl⟩
abbrev main_v188 : Ref sig .tc := ⟨.hbm, 309, rfl⟩
abbrev main_v189 : Ref sig .tc := ⟨.hbm, 310, rfl⟩
abbrev main_v190 : Ref sig .tc := ⟨.hbm, 311, rfl⟩
abbrev main_v191 : Ref sig .tc := ⟨.hbm, 312, rfl⟩
abbrev main_v192 : Ref sig .tc := ⟨.hbm, 313, rfl⟩
abbrev main_v193 : Ref sig .tc := ⟨.hbm, 314, rfl⟩
abbrev main_v194 : Ref sig .tc := ⟨.hbm, 315, rfl⟩
abbrev main_v195 : Ref sig .tc := ⟨.hbm, 316, rfl⟩
abbrev main_cst_30 : Ref sig .tc := ⟨.hbm, 317, rfl⟩
abbrev main_call7_v0 : Ref sig .tc := ⟨.hbm, 318, rfl⟩
abbrev main_call7_v1 : Ref sig .tc := ⟨.hbm, 319, rfl⟩
abbrev main_call7_v2 : Ref sig .tc := ⟨.hbm, 320, rfl⟩
abbrev main_v196 : Ref sig .tc := ⟨.hbm, 321, rfl⟩
abbrev main_v197 : Ref sig .tc := ⟨.hbm, 322, rfl⟩
abbrev main_v198 : Ref sig .tc := ⟨.hbm, 323, rfl⟩
abbrev main_cst_31 : Ref sig .tc := ⟨.hbm, 324, rfl⟩
abbrev main_v199 : Ref sig .tc := ⟨.hbm, 325, rfl⟩
abbrev main_v200 : Ref sig .tc := ⟨.hbm, 326, rfl⟩
abbrev main_v201 : Ref sig .tc := ⟨.hbm, 327, rfl⟩
abbrev main_v202 : Ref sig .tc := ⟨.hbm, 328, rfl⟩
abbrev main_cst_32 : Ref sig .tc := ⟨.hbm, 329, rfl⟩
abbrev main_v203 : Ref sig .tc := ⟨.hbm, 330, rfl⟩
abbrev main_cst_33 : Ref sig .tc := ⟨.hbm, 331, rfl⟩
abbrev main_v204 : Ref sig .tc := ⟨.hbm, 332, rfl⟩
abbrev main_v205 : Ref sig .tc := ⟨.hbm, 333, rfl⟩
abbrev main_v206 : Ref sig .tc := ⟨.hbm, 334, rfl⟩
abbrev main_v207 : Ref sig .tc := ⟨.hbm, 335, rfl⟩
abbrev main_v208 : Ref sig .tc := ⟨.hbm, 336, rfl⟩
abbrev main_v209 : Ref sig .tc := ⟨.hbm, 337, rfl⟩
abbrev main_cst_34 : Ref sig .tc := ⟨.hbm, 338, rfl⟩
abbrev main_v210 : Ref sig .tc := ⟨.hbm, 339, rfl⟩
abbrev main_v211 : Ref sig .tc := ⟨.hbm, 340, rfl⟩
abbrev main_v212 : Ref sig .tc := ⟨.hbm, 341, rfl⟩
abbrev main_v213 : Ref sig .tc := ⟨.hbm, 342, rfl⟩
abbrev main_v214 : Ref sig .tc := ⟨.hbm, 343, rfl⟩
abbrev main_v215 : Ref sig .tc := ⟨.hbm, 344, rfl⟩
abbrev main_v216 : Ref sig .tc := ⟨.hbm, 345, rfl⟩
abbrev main_v217 : Ref sig .tc := ⟨.hbm, 346, rfl⟩
abbrev main_v218 : Ref sig .tc := ⟨.hbm, 347, rfl⟩
abbrev main_v219 : Ref sig .tc := ⟨.hbm, 348, rfl⟩
abbrev main_v220 : Ref sig .tc := ⟨.hbm, 349, rfl⟩
abbrev main_v221 : Ref sig .tc := ⟨.hbm, 350, rfl⟩
abbrev main_v222 : Ref sig .tc := ⟨.hbm, 351, rfl⟩
abbrev main_v223 : Ref sig .tc := ⟨.hbm, 352, rfl⟩
abbrev main_v224 : Ref sig .tc := ⟨.hbm, 353, rfl⟩

abbrev nD : Nat := 1
abbrev τ : Topo := Topo.v7x

variable {F : FTy → Type} [FloatOps F]
-- ==== ProjKernel.lean ====
abbrev S9216x4096 : Shape := ⟨2, ![9216, 4096]⟩
abbrev S2x4096x25600 : Shape := ⟨3, ![2, 4096, 25600]⟩
abbrev S9216x25600 : Shape := ⟨2, ![9216, 25600]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 3
  | .vmem => 7
  | .smem => 0
  | _ => 0

abbrev bufTy : (tb : Table) → Fin (tcTables nBuf tb) → BufTy
  | .hbm, ⟨0, _⟩ => ⟨S9216x4096, .bf16⟩
  | .hbm, ⟨1, _⟩ => ⟨S2x4096x25600, .f32⟩
  | .hbm, ⟨2, _⟩ => ⟨S9216x25600, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1024x512, .bf16⟩
  | .local _ .vmem, ⟨5, _⟩ => ⟨S1024x512, .bf16⟩
  | .local _ .vmem, ⟨6, _⟩ => ⟨S4096x512, .bf16⟩
  | _, _ => ⟨S9216x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![50, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjReferenceIdeal.lean ====
abbrev S9216x4096 : Shape := ⟨2, ![9216, 4096]⟩
abbrev S2x4096x25600 : Shape := ⟨3, ![2, 4096, 25600]⟩
abbrev S1x4096x25600 : Shape := ⟨3, ![1, 4096, 25600]⟩
abbrev S4096x25600 : Shape := ⟨2, ![4096, 25600]⟩
abbrev S9216x25600 : Shape := ⟨2, ![9216, 25600]⟩

abbrev nBuf : Space → Nat
  | .hbm => 7
  | .vmem => 0
  | .smem => 0
  | _ => 0

abbrev bufTy : (tb : Table) → Fin (tcTables nBuf tb) → BufTy
  | .hbm, ⟨0, _⟩ => ⟨S9216x4096, .bf16⟩
  | .hbm, ⟨1, _⟩ => ⟨S2x4096x25600, .f32⟩
  | .hbm, ⟨2, _⟩ => ⟨S9216x4096, .f32⟩
  | .hbm, ⟨3, _⟩ => ⟨S1x4096x25600, .f32⟩
  | .hbm, ⟨4, _⟩ => ⟨S4096x25600, .f32⟩
  | .hbm, ⟨5, _⟩ => ⟨S9216x25600, .f32⟩
  | .hbm, ⟨6, _⟩ => ⟨S9216x25600, .bf16⟩
  | _, _ => ⟨S9216x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== UpKernel.lean ====
abbrev S9216x4096 : Shape := ⟨2, ![9216, 4096]⟩
abbrev S2x4096x12288 : Shape := ⟨3, ![2, 4096, 12288]⟩
abbrev S9216x6144 : Shape := ⟨2, ![9216, 6144]⟩
abbrev S1024x4096 : Shape := ⟨2, ![1024, 4096]⟩
abbrev S1x4096x256 : Shape := ⟨3, ![1, 4096, 256]⟩
abbrev S1024x256 : Shape := ⟨2, ![1024, 256]⟩
abbrev S4096x256 : Shape := ⟨2, ![4096, 256]⟩

abbrev nBuf : Space → Nat
  | .hbm => 3
  | .vmem => 10
  | .smem => 0
  | _ => 0

abbrev bufTy : (tb : Table) → Fin (tcTables nBuf tb) → BufTy
  | .hbm, ⟨0, _⟩ => ⟨S9216x4096, .bf16⟩
  | .hbm, ⟨1, _⟩ => ⟨S2x4096x12288, .f32⟩
  | .hbm, ⟨2, _⟩ => ⟨S9216x6144, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S1x4096x256, .f32⟩
  | .local _ .vmem, ⟨6, _⟩ => ⟨S1024x256, .bf16⟩
  | .local _ .vmem, ⟨7, _⟩ => ⟨S1024x256, .bf16⟩
  | .local _ .vmem, ⟨8, _⟩ => ⟨S4096x256, .bf16⟩
  | .local _ .vmem, ⟨9, _⟩ => ⟨S4096x256, .bf16⟩
  | _, _ => ⟨S9216x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![24, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.addi arg0 c24_i32
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== UpReferenceIdeal.lean ====
abbrev S9216x4096 : Shape := ⟨2, ![9216, 4096]⟩
abbrev S2x4096x12288 : Shape := ⟨3, ![2, 4096, 12288]⟩
abbrev S1x4096x12288 : Shape := ⟨3, ![1, 4096, 12288]⟩
abbrev S4096x12288 : Shape := ⟨2, ![4096, 12288]⟩
abbrev S9216x12288 : Shape := ⟨2, ![9216, 12288]⟩
abbrev S9216x6144 : Shape := ⟨2, ![9216, 6144]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S9216x4096, .bf16⟩
  | .hbm, ⟨1, _⟩ => ⟨S2x4096x12288, .f32⟩
  | .hbm, ⟨2, _⟩ => ⟨S9216x4096, .f32⟩
  | .hbm, ⟨3, _⟩ => ⟨S1x4096x12288, .f32⟩
  | .hbm, ⟨4, _⟩ => ⟨S4096x12288, .f32⟩
  | .hbm, ⟨5, _⟩ => ⟨S9216x12288, .f32⟩
  | .hbm, ⟨6, _⟩ => ⟨S9216x6144, .f32⟩
  | .hbm, ⟨7, _⟩ => ⟨S9216x6144, .f32⟩
  | .hbm, ⟨8, _⟩ => ⟨S9216x6144, .f32⟩
  | .hbm, ⟨9, _⟩ => ⟨S9216x6144, .f32⟩
  | .hbm, ⟨10, _⟩ => ⟨S_, .f32⟩
  | .hbm, ⟨11, _⟩ => ⟨S9216x6144, .f32⟩
  | .hbm, ⟨12, _⟩ => ⟨S9216x6144, .f32⟩
  | .hbm, ⟨13, _⟩ => ⟨S_, .f32⟩
  | .hbm, ⟨14, _⟩ => ⟨S9216x6144, .f32⟩
  | .hbm, ⟨15, _⟩ => ⟨S9216x6144, .f32⟩
  | .hbm, ⟨16, _⟩ => ⟨S9216x6144, .f32⟩
  | .hbm, ⟨17, _⟩ => ⟨S9216x6144, .f32⟩
  | .hbm, ⟨18, _⟩ => ⟨S9216x6144, .bf16⟩
  | _, _ => ⟨S9216x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩

abbrev nD : Nat := 1
abbrev τ : Topo := Topo.v7x

variable {F : FTy → Type} [FloatOps F]
-- ==== DownKernel.lean ====
abbrev S9216x6144 : Shape := ⟨2, ![9216, 6144]⟩
abbrev S2x6144x4096 : Shape := ⟨3, ![2, 6144, 4096]⟩
abbrev S9216x4096 : Shape := ⟨2, ![9216, 4096]⟩
abbrev S512x6144 : Shape := ⟨2, ![512, 6144]⟩
abbrev S1x6144x512 : Shape := ⟨3, ![1, 6144, 512]⟩
abbrev S512x512 : Shape := ⟨2, ![512, 512]⟩
abbrev S6144x512 : Shape := ⟨2, ![6144, 512]⟩

abbrev nBuf : Space → Nat
  | .hbm => 3
  | .vmem => 7
  | .smem => 0
  | _ => 0

abbrev bufTy : (tb : Table) → Fin (tcTables nBuf tb) → BufTy
  | .hbm, ⟨0, _⟩ => ⟨S9216x6144, .bf16⟩
  | .hbm, ⟨1, _⟩ => ⟨S2x6144x4096, .f32⟩
  | .hbm, ⟨2, _⟩ => ⟨S9216x4096, .f32⟩
  | .local _ .vmem, ⟨0, _⟩ => ⟨S512x6144, .bf16⟩
  | .local _ .vmem, ⟨1, _⟩ => ⟨S512x6144, .bf16⟩
  | .local _ .vmem, ⟨2, _⟩ => ⟨S1x6144x512, .f32⟩
  | .local _ .vmem, ⟨3, _⟩ => ⟨S1x6144x512, .f32⟩
  | .local _ .vmem, ⟨4, _⟩ => ⟨S512x512, .f32⟩
  | .local _ .vmem, ⟨5, _⟩ => ⟨S512x512, .f32⟩
  | .local _ .vmem, ⟨6, _⟩ => ⟨S6144x512, .bf16⟩
  | _, _ => ⟨S9216x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 18], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x6144x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DownReferenceIdeal.lean ====
abbrev S9216x6144 : Shape := ⟨2, ![9216, 6144]⟩
abbrev S2x6144x4096 : Shape := ⟨3, ![2, 6144, 4096]⟩
abbrev S1x6144x4096 : Shape := ⟨3, ![1, 6144, 4096]⟩
abbrev S6144x4096 : Shape := ⟨2, ![6144, 4096]⟩
abbrev S9216x4096 : Shape := ⟨2, ![9216, 4096]⟩

abbrev nBuf : Space → Nat
  | .hbm => 6
  | .vmem => 0
  | .smem => 0
  | _ => 0

abbrev bufTy : (tb : Table) → Fin (tcTables nBuf tb) → BufTy
  | .hbm, ⟨0, _⟩ => ⟨S9216x6144, .bf16⟩
  | .hbm, ⟨1, _⟩ => ⟨S2x6144x4096, .f32⟩
  | .hbm, ⟨2, _⟩ => ⟨S9216x6144, .f32⟩
  | .hbm, ⟨3, _⟩ => ⟨S1x6144x4096, .f32⟩
  | .hbm, ⟨4, _⟩ => ⟨S6144x4096, .f32⟩
  | .hbm, ⟨5, _⟩ => ⟨S9216x4096, .f32⟩
  | _, _ => ⟨S9216x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OutKernel.lean ====
abbrev S9216x4096 : Shape := ⟨2, ![9216, 4096]⟩
abbrev S2x4096x4096 : Shape := ⟨3, ![2, 4096, 4096]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 3
  | .vmem => 7
  | .smem => 0
  | _ => 0

abbrev bufTy : (tb : Table) → Fin (tcTables nBuf tb) → BufTy
  | .hbm, ⟨0, _⟩ => ⟨S9216x4096, .bf16⟩
  | .hbm, ⟨1, _⟩ => ⟨S2x4096x4096, .f32⟩
  | .hbm, ⟨2, _⟩ => ⟨S9216x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1024x512, .f32⟩
  | .local _ .vmem, ⟨5, _⟩ => ⟨S1024x512, .f32⟩
  | .local _ .vmem, ⟨6, _⟩ => ⟨S4096x512, .bf16⟩
  | _, _ => ⟨S9216x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutReferenceIdeal.lean ====
abbrev S9216x4096 : Shape := ⟨2, ![9216, 4096]⟩
abbrev S2x4096x4096 : Shape := ⟨3, ![2, 4096, 4096]⟩
abbrev S1x4096x4096 : Shape := ⟨3, ![1, 4096, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S9216x4096, .bf16⟩
  | .hbm, ⟨1, _⟩ => ⟨S2x4096x4096, .f32⟩
  | .hbm, ⟨2, _⟩ => ⟨S9216x4096, .f32⟩
  | .hbm, ⟨3, _⟩ => ⟨S1x4096x4096, .f32⟩
  | .hbm, ⟨4, _⟩ => ⟨S4096x4096, .f32⟩
  | .hbm, ⟨5, _⟩ => ⟨S9216x4096, .f32⟩
  | _, _ => ⟨S9216x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== BranchKernel.lean ====
abbrev S9216x1024 : Shape := ⟨2, ![9216, 1024]⟩
abbrev S9216x25600 : Shape := ⟨2, ![9216, 25600]⟩
abbrev S2x4x1024x4096 : Shape := ⟨4, ![2, 4, 1024, 4096]⟩
abbrev S9216x4096 : Shape := ⟨2, ![9216, 4096]⟩
abbrev S512x1024 : Shape := ⟨2, ![512, 1024]⟩
abbrev S512x512 : Shape := ⟨2, ![512, 512]⟩
abbrev S1x4x1024x512 : Shape := ⟨4, ![1, 4, 1024, 512]⟩
abbrev S4x1024x512 : Shape := ⟨3, ![4, 1024, 512]⟩
abbrev S1x1024x512 : Shape := ⟨3, ![1, 1024, 512]⟩
abbrev S1024x512 : Shape := ⟨2, ![1024, 512]⟩

abbrev nBuf : Space → Nat
  | .hbm => 7
  | .vmem => 21
  | .smem => 0
  | _ => 0

abbrev bufTy : (tb : Table) → Fin (tcTables nBuf tb) → BufTy
  | .hbm, ⟨0, _⟩ => ⟨S9216x1024, .bf16⟩
  | .hbm, ⟨1, _⟩ => ⟨S9216x1024, .bf16⟩
  | .hbm, ⟨2, _⟩ => ⟨S9216x1024, .bf16⟩
  | .hbm, ⟨3, _⟩ => ⟨S9216x1024, .bf16⟩
  | .hbm, ⟨4, _⟩ => ⟨S9216x25600, .bf16⟩
  | .hbm, ⟨5, _⟩ => ⟨S2x4x1024x4096, .f32⟩
  | .hbm, ⟨6, _⟩ => ⟨S9216x4096, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S1x4x1024x512, .f32⟩
  | .local _ .vmem, ⟨17, _⟩ => ⟨S1x4x1024x512, .f32⟩
  | .local _ .vmem, ⟨18, _⟩ => ⟨S512x512, .bf16⟩
  | .local _ .vmem, ⟨19, _⟩ => ⟨S512x512, .bf16⟩
  | .local _ .vmem, ⟨20, _⟩ => ⟨S4x1024x512, .bf16⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 18], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.addi c18_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c26_i32 : BitVec 32 := 26#32
  let v0 : BitVec 32 := Scalar.addi c26_i32 arg0
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c34_i32 : BitVec 32 := 34#32
  let v0 : BitVec 32 := Scalar.addi c34_i32 arg0
  let c0_i32 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c42_i32 : BitVec 32 := 42#32
  let v0 : BitVec 32 := Scalar.addi c42_i32 arg0
  let c0_i32 : BitVec 32 := 0#32
  ![arg1.toNat, v0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== BranchReferenceIdeal.lean ====
abbrev S9216x1024 : Shape := ⟨2, ![9216, 1024]⟩
abbrev S9216x25600 : Shape := ⟨2, ![9216, 25600]⟩
abbrev S2x4x1024x4096 : Shape := ⟨4, ![2, 4, 1024, 4096]⟩
abbrev S9216x16384 : Shape := ⟨2, ![9216, 16384]⟩
abbrev S9216x4x4096 : Shape := ⟨3, ![9216, 4, 4096]⟩
abbrev S_ : Shape := ⟨0, ![]⟩
abbrev S9216x1x4096 : Shape := ⟨3, ![9216, 1, 4096]⟩
abbrev S9216x4096 : Shape := ⟨2, ![9216, 4096]⟩
abbrev S1x1x1024x4096 : Shape := ⟨4, ![1, 1, 1024, 4096]⟩
abbrev S1024x4096 : Shape := ⟨2, ![1024, 4096]⟩

abbrev nBuf : Space → Nat
  | .hbm => 49
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S9216x1024, .bf16⟩
  | .hbm, ⟨2, _⟩ => ⟨S9216x1024, .bf16⟩
  | .hbm, ⟨3, _⟩ => ⟨S9216x1024, .bf16⟩
  | .hbm, ⟨4, _⟩ => ⟨S9216x25600, .bf16⟩
  | .hbm, ⟨5, _⟩ => ⟨S2x4x1024x4096, .f32⟩
  | .hbm, ⟨6, _⟩ => ⟨S9216x1024, .f32⟩
  | .hbm, ⟨7, _⟩ => ⟨S9216x1024, .f32⟩
  | .hbm, ⟨8, _⟩ => ⟨S9216x1024, .f32⟩
  | .hbm, ⟨9, _⟩ => ⟨S9216x1024, .f32⟩
  | .hbm, ⟨10, _⟩ => ⟨S9216x16384, .bf16⟩
  | .hbm, ⟨11, _⟩ => ⟨S9216x16384, .f32⟩
  | .hbm, ⟨12, _⟩ => ⟨S9216x4x4096, .f32⟩
  | .hbm, ⟨13, _⟩ => ⟨S9216x4x4096, .f32⟩
  | .hbm, ⟨14, _⟩ => ⟨S9216x4x4096, .f32⟩
  | .hbm, ⟨15, _⟩ => ⟨S_, .f32⟩
  | .hbm, ⟨16, _⟩ => ⟨S9216x4x4096, .f32⟩
  | .hbm, ⟨17, _⟩ => ⟨S9216x4x4096, .f32⟩
  | .hbm, ⟨18, _⟩ => ⟨S_, .f32⟩
  | .hbm, ⟨19, _⟩ => ⟨S9216x4x4096, .f32⟩
  | .hbm, ⟨20, _⟩ => ⟨S9216x4x4096, .f32⟩
  | .hbm, ⟨21, _⟩ => ⟨S9216x1x4096, .f32⟩
  | .hbm, ⟨22, _⟩ => ⟨S9216x4096, .f32⟩
  | .hbm, ⟨23, _⟩ => ⟨S1x1x1024x4096, .f32⟩
  | .hbm, ⟨24, _⟩ => ⟨S1024x4096, .f32⟩
  | .hbm, ⟨25, _⟩ => ⟨S9216x4096, .f32⟩
  | .hbm, ⟨26, _⟩ => ⟨S9216x4096, .f32⟩
  | .hbm, ⟨27, _⟩ => ⟨S9216x1x4096, .f32⟩
  | .hbm, ⟨28, _⟩ => ⟨S9216x4096, .f32⟩
  | .hbm, ⟨29, _⟩ => ⟨S1x1x1024x4096, .f32⟩
  | .hbm, ⟨30, _⟩ => ⟨S1024x4096, .f32⟩
  | .hbm, ⟨31, _⟩ => ⟨S9216x4096, .f32⟩
  | .hbm, ⟨32, _⟩ => ⟨S9216x4096, .f32⟩
  | .hbm, ⟨33, _⟩ => ⟨S9216x4096, .f32⟩
  | .hbm, ⟨34, _⟩ => ⟨S9216x1x4096, .f32⟩
  | .hbm, ⟨35, _⟩ => ⟨S9216x4096, .f32⟩
  | .hbm, ⟨36, _⟩ => ⟨S1x1x1024x4096, .f32⟩
  | .hbm, ⟨37, _⟩ => ⟨S1024x4096, .f32⟩
  | .hbm, ⟨38, _⟩ => ⟨S9216x4096, .f32⟩
  | .hbm, ⟨39, _⟩ => ⟨S9216x4096, .f32⟩
  | .hbm, ⟨40, _⟩ => ⟨S9216x4096, .f32⟩
  | .hbm, ⟨41, _⟩ => ⟨S9216x1x4096, .f32⟩
  | .hbm, ⟨42, _⟩ => ⟨S9216x4096, .f32⟩
  | .hbm, ⟨43, _⟩ => ⟨S1x1x1024x4096, .f32⟩
  | .hbm, ⟨44, _⟩ => ⟨S1024x4096, .f32⟩
  | .hbm, ⟨45, _⟩ => ⟨S9216x4096, .f32⟩
  | .hbm, ⟨46, _⟩ => ⟨S9216x4096, .f32⟩
  | .hbm, ⟨47, _⟩ => ⟨S9216x4096, .f32⟩
  | .hbm, ⟨48, _⟩ => ⟨S9216x4096, .bf16⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩

abbrev nD : Nat := 1
abbrev τ : Topo := Topo.v7x

variable {F : FTy → Type} [FloatOps F]
-- ==== AdaKernel.lean ====
abbrev S8x4096 : Shape := ⟨2, ![8, 4096]⟩
abbrev S2x4096x36864 : Shape := ⟨3, ![2, 4096, 36864]⟩
abbrev S2x36864 : Shape := ⟨2, ![2, 36864]⟩
abbrev S2x1x36864 : Shape := ⟨3, ![2, 1, 36864]⟩
abbrev S8x36864 : Shape := ⟨2, ![8, 36864]⟩
abbrev S1x4096x512 : Shape := ⟨3, ![1, 4096, 512]⟩
abbrev S1x1x512 : Shape := ⟨3, ![1, 1, 512]⟩
abbrev S8x512 : Shape := ⟨2, ![8, 512]⟩
abbrev S4096x512 : Shape := ⟨2, ![4096, 512]⟩
abbrev S1x512 : Shape := ⟨2, ![1, 512]⟩

abbrev nBuf : Space → Nat
  | .hbm => 5
  | .vmem => 7
  | .smem => 0
  | _ => 0

abbrev bufTy : (tb : Table) → Fin (tcTables nBuf tb) → BufTy
  | .hbm, ⟨0, _⟩ => ⟨S8x4096, .f32⟩
  | .hbm, ⟨1, _⟩ => ⟨S2x4096x36864, .f32⟩
  | .hbm, ⟨2, _⟩ => ⟨S2x36864, .f32⟩
  | .hbm, ⟨3, _⟩ => ⟨S2x1x36864, .f32⟩
  | .hbm, ⟨4, _⟩ => ⟨S8x36864, .f32⟩
  | .local _ .vmem, ⟨0, _⟩ => ⟨S8x4096, .f32⟩
  | .local _ .vmem, ⟨1, _⟩ => ⟨S1x4096x512, .f32⟩
  | .local _ .vmem, ⟨2, _⟩ => ⟨S1x4096x512, .f32⟩
  | .local _ .vmem, ⟨3, _⟩ => ⟨S1x1x512, .f32⟩
  | .local _ .vmem, ⟨4, _⟩ => ⟨S1x1x512, .f32⟩
  | .local _ .vmem, ⟨5, _⟩ => ⟨S8x512, .f32⟩
  | .local _ .vmem, ⟨6, _⟩ => ⟨S8x512, .f32⟩
  | _, _ => ⟨S8x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![72], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaReferenceIdeal.lean ====
abbrev S8x4096 : Shape := ⟨2, ![8, 4096]⟩
abbrev S2x4096x36864 : Shape := ⟨3, ![2, 4096, 36864]⟩
abbrev S2x36864 : Shape := ⟨2, ![2, 36864]⟩
abbrev S_ : Shape := ⟨0, ![]⟩
abbrev S1x4096x36864 : Shape := ⟨3, ![1, 4096, 36864]⟩
abbrev S4096x36864 : Shape := ⟨2, ![4096, 36864]⟩
abbrev S8x36864 : Shape := ⟨2, ![8, 36864]⟩
abbrev S1x36864 : Shape := ⟨2, ![1, 36864]⟩
abbrev S36864 : Shape := ⟨1, ![36864]⟩

abbrev nBuf : Space → Nat
  | .hbm => 20
  | .vmem => 0
  | .smem => 0
  | _ => 0

abbrev bufTy : (tb : Table) → Fin (tcTables nBuf tb) → BufTy
  | .hbm, ⟨0, _⟩ => ⟨S8x4096, .f32⟩
  | .hbm, ⟨1, _⟩ => ⟨S2x4096x36864, .f32⟩
  | .hbm, ⟨2, _⟩ => ⟨S2x36864, .f32⟩
  | .hbm, ⟨3, _⟩ => ⟨S8x4096, .f32⟩
  | .hbm, ⟨4, _⟩ => ⟨S8x4096, .f32⟩
  | .hbm, ⟨5, _⟩ => ⟨S_, .f32⟩
  | .hbm, ⟨6, _⟩ => ⟨S8x4096, .f32⟩
  | .hbm, ⟨7, _⟩ => ⟨S8x4096, .f32⟩
  | .hbm, ⟨8, _⟩ => ⟨S_, .f32⟩
  | .hbm, ⟨9, _⟩ => ⟨S8x4096, .f32⟩
  | .hbm, ⟨10, _⟩ => ⟨S8x4096, .f32⟩
  | .hbm, ⟨11, _⟩ => ⟨S8x4096, .f32⟩
  | .hbm, ⟨12, _⟩ => ⟨S1x4096x36864, .f32⟩
  | .hbm, ⟨13, _⟩ => ⟨S4096x36864, .f32⟩
  | .hbm, ⟨14, _⟩ => ⟨S8x36864, .f32⟩
  | .hbm, ⟨15, _⟩ => ⟨S1x36864, .f32⟩
  | .hbm, ⟨16, _⟩ => ⟨S36864, .f32⟩
  | .hbm, ⟨17, _⟩ => ⟨S1x36864, .f32⟩
  | .hbm, ⟨18, _⟩ => ⟨S8x36864, .f32⟩
  | .hbm, ⟨19, _⟩ => ⟨S8x36864, .f32⟩
  | _, _ => ⟨S8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩

abbrev nD : Nat := 1
abbrev τ : Topo := Topo.v7x

variable {F : FTy → Type} [FloatOps F]
-- ==== NormKernel.lean ====
abbrev S9216x4096 : Shape := ⟨2, ![9216, 4096]⟩
abbrev S2x6x4096 : Shape := ⟨3, ![2, 6, 4096]⟩
abbrev S8x36864 : Shape := ⟨2, ![8, 36864]⟩
abbrev S12x1x4096 : Shape := ⟨3, ![12, 1, 4096]⟩
abbrev S8x1x36864 : Shape := ⟨3, ![8, 1, 36864]⟩
abbrev S256x4096 : Shape := ⟨2, ![256, 4096]⟩
abbrev S1x1x4096 : Shape := ⟨3, ![1, 1, 4096]⟩
abbrev S1x4096 : Shape := ⟨2, ![1, 4096]⟩
abbrev S256 : Shape := ⟨1, ![256]⟩
abbrev S256x1 : Shape := ⟨2, ![256, 1]⟩

abbrev nBuf : Space → Nat
  | .hbm => 6
  | .vmem => 9
  | .smem => 0
  | _ => 0

abbrev bufTy : (tb : Table) → Fin (tcTables nBuf tb) → BufTy
  | .hbm, ⟨0, _⟩ => ⟨S9216x4096, .f32⟩
  | .hbm, ⟨1, _⟩ => ⟨S2x6x4096, .f32⟩
  | .hbm, ⟨2, _⟩ => ⟨S8x36864, .f32⟩
  | .hbm, ⟨3, _⟩ => ⟨S12x1x4096, .f32⟩
  | .hbm, ⟨4, _⟩ => ⟨S8x1x36864, .f32⟩
  | .hbm, ⟨5, _⟩ => ⟨S9216x4096, .bf16⟩
  | .local _ .vmem, ⟨0, _⟩ => ⟨S256x4096, .f32⟩
  | .local _ .vmem, ⟨1, _⟩ => ⟨S256x4096, .f32⟩
  | .local _ .vmem, ⟨2, _⟩ => ⟨S1x1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S256x4096, .bf16⟩
  | .local _ .vmem, ⟨8, _⟩ => ⟨S256x4096, .bf16⟩
  | _, _ => ⟨S9216x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c256_i32 : BitVec 32 := 256#32
  let v0 : BitVec 32 := Scalar.muli arg0 c256_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.minsi v17 c4_i32
  let c0_i32_4 : BitVec 32 := 0#32
  let c0_i32_5 : BitVec 32 := 0#32
  let c0_i32_6 : BitVec 32 := 0#32
  ![v18.toNat, c0_i32_4.toNat, c0_i32_5.toNat]

def cc0_transform_3 (i : grid0.Coords) : Fin 3 → Nat :=
  let arg0 : BitVec 32 := BitVec.ofNat 32 (i 0).val
  let c256_i32 : BitVec 32 := 256#32
  let v0 : BitVec 32 := Scalar.muli arg0 c256_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.minsi v17 c4_i32
  let c0_i32_4 : BitVec 32 := 0#32
  let c1_i32_5 : BitVec 32 := 1#32
  let c0_i32_6 : BitVec 32 := 0#32
  ![v18.toNat, c0_i32_4.toNat, c1_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormReferenceIdeal.lean ====
abbrev S9216x4096 : Shape := ⟨2, ![9216, 4096]⟩
abbrev S2x6x4096 : Shape := ⟨3, ![2, 6, 4096]⟩
abbrev S8x36864 : Shape := ⟨2, ![8, 36864]⟩
abbrev S8192x4096 : Shape := ⟨2, ![8192, 4096]⟩
abbrev S4x2048x4096 : Shape := ⟨3, ![4, 2048, 4096]⟩
abbrev S1024x4096 : Shape := ⟨2, ![1024, 4096]⟩
abbrev S4x256x4096 : Shape := ⟨3, ![4, 256, 4096]⟩
abbrev S4x36864 : Shape := ⟨2, ![4, 36864]⟩
abbrev S4x9x1x4096 : Shape := ⟨4, ![4, 9, 1, 4096]⟩
abbrev S1x36864 : Shape := ⟨2, ![1, 36864]⟩
abbrev S1x9x1x4096 : Shape := ⟨4, ![1, 9, 1, 4096]⟩
abbrev S1x6x4096 : Shape := ⟨3, ![1, 6, 4096]⟩
abbrev S6x4096 : Shape := ⟨2, ![6, 4096]⟩
abbrev S1x4096 : Shape := ⟨2, ![1, 4096]⟩
abbrev S4096 : Shape := ⟨1, ![4096]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩
abbrev S4x1x1x4096 : Shape := ⟨4, ![4, 1, 1, 4096]⟩
abbrev S4x1x4096 : Shape := ⟨3, ![4, 1, 4096]⟩
abbrev S4x256 : Shape := ⟨2, ![4, 256]⟩
abbrev S4x256x1 : Shape := ⟨3, ![4, 256, 1]⟩
abbrev S1x1x1x4096 : Shape := ⟨4, ![1, 1, 1, 4096]⟩

abbrev nBuf : Space → Nat
  | .hbm => 75
  | .vmem => 0
  | .smem => 0
  | _ => 0

abbrev bufTy : (tb : Table) → Fin (tcTables nBuf tb) → BufTy
  | .hbm, ⟨0, _⟩ => ⟨S9216x4096, .f32⟩
  | .hbm, ⟨1, _⟩ => ⟨S2x6x4096, .f32⟩
  | .hbm, ⟨2, _⟩ => ⟨S8x36864, .f32⟩
  | .hbm, ⟨3, _⟩ => ⟨S8192x4096, .f32⟩
  | .hbm, ⟨4, _⟩ => ⟨S4x2048x4096, .f32⟩
  | .hbm, ⟨5, _⟩ => ⟨S1024x4096, .f32⟩
  | .hbm, ⟨6, _⟩ => ⟨S4x256x4096, .f32⟩
  | .hbm, ⟨7, _⟩ => ⟨S4x36864, .f32⟩
  | .hbm, ⟨8, _⟩ => ⟨S4x9x1x4096, .f32⟩
  | .hbm, ⟨9, _⟩ => ⟨S1x36864, .f32⟩
  | .hbm, ⟨10, _⟩ => ⟨S1x9x1x4096, .f32⟩
  | .hbm, ⟨11, _⟩ => ⟨S1x6x4096, .f32⟩
  | .hbm, ⟨12, _⟩ => ⟨S6x4096, .f32⟩
  | .hbm, ⟨13, _⟩ => ⟨S1x4096, .f32⟩
  | .hbm, ⟨14, _⟩ => ⟨S4096, .f32⟩
  | .hbm, ⟨15, _⟩ => ⟨S4x2048x4096, .f32⟩
  | .hbm, ⟨16, _⟩ => ⟨S_, .f32⟩
  | .hbm, ⟨17, _⟩ => ⟨S4x2048, .f32⟩
  | .hbm, ⟨18, _⟩ => ⟨S4x2048x1, .f32⟩
  | .hbm, ⟨19, _⟩ => ⟨S_, .f32⟩
  | .hbm, ⟨20, _⟩ => ⟨S4x2048x1, .f32⟩
  | .hbm, ⟨21, _⟩ => ⟨S4x2048x1, .f32⟩
  | .hbm, ⟨22, _⟩ => ⟨S_, .f32⟩
  | .hbm, ⟨23, _⟩ => ⟨S4x2048x1, .f32⟩
  | .hbm, ⟨24, _⟩ => ⟨S4x2048x1, .f32⟩
  | .hbm, ⟨25, _⟩ => ⟨S4x2048x1, .f32⟩
  | .hbm, ⟨26, _⟩ => ⟨S4x2048x4096, .f32⟩
  | .hbm, ⟨27, _⟩ => ⟨S4x2048x4096, .f32⟩
  | .hbm, ⟨28, _⟩ => ⟨S1x1x4096, .f32⟩
  | .hbm, ⟨29, _⟩ => ⟨S4x2048x4096, .f32⟩
  | .hbm, ⟨30, _⟩ => ⟨S4x2048x4096, .f32⟩
  | .hbm, ⟨31, _⟩ => ⟨S4x1x1x4096, .f32⟩
  | .hbm, ⟨32, _⟩ => ⟨S4x1x4096, .f32⟩
  | .hbm, ⟨33, _⟩ => ⟨S4x1x1x4096, .f32⟩
  | .hbm, ⟨34, _⟩ => ⟨S4x1x4096, .f32⟩
  | .hbm, ⟨35, _⟩ => ⟨S_, .f32⟩
  | .hbm, ⟨36, _⟩ => ⟨S4x1x4096, .f32⟩
  | .hbm, ⟨37, _⟩ => ⟨S4x1x4096, .f32⟩
  | .hbm, ⟨38, _⟩ => ⟨S4x2048x4096, .f32⟩
  | .hbm, ⟨39, _⟩ => ⟨S4x2048x4096, .f32⟩
  | .hbm, ⟨40, _⟩ => ⟨S4x2048x4096, .f32⟩
  | .hbm, ⟨41, _⟩ => ⟨S4x2048x4096, .f32⟩
  | .hbm, ⟨42, _⟩ => ⟨S1x4096, .f32⟩
  | .hbm, ⟨43, _⟩ => ⟨S4096, .f32⟩
  | .hbm, ⟨44, _⟩ => ⟨S4x256x4096, .f32⟩
  | .hbm, ⟨45, _⟩ => ⟨S_, .f32⟩
  | .hbm, ⟨46, _⟩ => ⟨S4x256, .f32⟩
  | .hbm, ⟨47, _⟩ => ⟨S4x256x1, .f32⟩
  | .hbm, ⟨48, _⟩ => ⟨S_, .f32⟩
  | .hbm, ⟨49, _⟩ => ⟨S4x256x1, .f32⟩
  | .hbm, ⟨50, _⟩ => ⟨S4x256x1, .f32⟩
  | .hbm, ⟨51, _⟩ => ⟨S_, .f32⟩
  | .hbm, ⟨52, _⟩ => ⟨S4x256x1, .f32⟩
  | .hbm, ⟨53, _⟩ => ⟨S4x256x1, .f32⟩
  | .hbm, ⟨54, _⟩ => ⟨S4x256x1, .f32⟩
  | .hbm, ⟨55, _⟩ => ⟨S4x256x4096, .f32⟩
  | .hbm, ⟨56, _⟩ => ⟨S4x256x4096, .f32⟩
  | .hbm, ⟨57, _⟩ => ⟨S1x1x4096, .f32⟩
  | .hbm, ⟨58, _⟩ => ⟨S4x256x4096, .f32⟩
  | .hbm, ⟨59, _⟩ => ⟨S4x256x4096, .f32⟩
  | .hbm, ⟨60, _⟩ => ⟨S1x1x1x4096, .f32⟩
  | .hbm, ⟨61, _⟩ => ⟨S1x1x4096, .f32⟩
  | .hbm, ⟨62, _⟩ => ⟨S1x1x1x4096, .f32⟩
  | .hbm, ⟨63, _⟩ => ⟨S1x1x4096, .f32⟩
  | .hbm, ⟨64, _⟩ => ⟨S_, .f32⟩
  | .hbm, ⟨65, _⟩ => ⟨S1x1x4096, .f32⟩
  | .hbm, ⟨66, _⟩ => ⟨S1x1x4096, .f32⟩
  | .hbm, ⟨67, _⟩ => ⟨S4x256x4096, .f32⟩
  | .hbm, ⟨68, _⟩ => ⟨S4x256x4096, .f32⟩
  | .hbm, ⟨69, _⟩ => ⟨S4x256x4096, .f32⟩
  | .hbm, ⟨70, _⟩ => ⟨S4x256x4096, .f32⟩
  | .hbm, ⟨71, _⟩ => ⟨S8192x4096, .f32⟩
  | .hbm, ⟨72, _⟩ => ⟨S1024x4096, .f32⟩
  | .hbm, ⟨73, _⟩ => ⟨S9216x4096, .f32⟩
  | .hbm, ⟨74, _⟩ => ⟨S9216x4096, .bf16⟩
  | _, _ => ⟨S9216x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst_2 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_cst_3 : Ref sig .tc := ⟨.hbm, 45, rfl⟩
abbrev main_v38 : Ref sig .tc := ⟨.hbm, 46, rfl⟩
abbrev main_v39 : Ref sig .tc := ⟨.hbm, 47, rfl⟩
abbrev main_cst_4 : Ref sig .tc := ⟨.hbm, 48, rfl⟩
abbrev main_v40 : Ref sig .tc := ⟨.hbm, 49, rfl⟩
abbrev main_v41 : Ref sig .tc := ⟨.hbm, 50, rfl⟩
abbrev main_cst_5 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_cst_6 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩

abbrev nD : Nat := 1
abbrev τ : Topo := Topo.v7x

variable {F : FTy → Type} [FloatOps F]
-- ==== ResidKernel.lean ====
abbrev S9216x4096 : Shape := ⟨2, ![9216, 4096]⟩
abbrev S2x6x4096 : Shape := ⟨3, ![2, 6, 4096]⟩
abbrev S8x36864 : Shape := ⟨2, ![8, 36864]⟩
abbrev S12x1x4096 : Shape := ⟨3, ![12, 1, 4096]⟩
abbrev S8x1x36864 : Shape := ⟨3, ![8, 1, 36864]⟩
abbrev S256x4096 : Shape := ⟨2, ![256, 4096]⟩
abbrev S1x1x4096 : Shape := ⟨3, ![1, 1, 4096]⟩
abbrev S1x4096 : Shape := ⟨2, ![1, 4096]⟩
abbrev S256 : Shape := ⟨1, ![256]⟩
abbrev S256x1 : Shape := ⟨2, ![256, 1]⟩

abbrev nBuf : Space → Nat
  | .hbm => 8
  | .vmem => 16
  | .smem => 0
  | _ => 0

abbrev bufTy : (tb : Table) → Fin (tcTables nBuf tb) → BufTy
  | .hbm, ⟨0, _⟩ => ⟨S9216x4096, .f32⟩
  | .hbm, ⟨1, _⟩ => ⟨S9216x4096, .f32⟩
  | .hbm, ⟨2, _⟩ => ⟨S2x6x4096, .f32⟩
  | .hbm, ⟨3, _⟩ => ⟨S8x36864, .f32⟩
  | .hbm, ⟨4, _⟩ => ⟨S12x1x4096, .f32⟩
  | .hbm, ⟨5, _⟩ => ⟨S8x1x36864, .f32⟩
  | .hbm, ⟨6, _⟩ => ⟨S9216x4096, .f32⟩
  | .hbm, ⟨7, _⟩ => ⟨S9216x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S1x1x4096, .f32⟩
  | .local _ .vmem, ⟨8, _⟩ => ⟨S1x1x4096, .f32⟩
  | .local _ .vmem, ⟨9, _⟩ => ⟨S1x1x4096, .f32⟩
  | .local _ .vmem, ⟨10, _⟩ => ⟨S1x1x4096, .f32⟩
  | .local _ .vmem, ⟨11, _⟩ => ⟨S1x1x4096, .f32⟩
  | .local _ .vmem, ⟨12, _⟩ => ⟨S256x4096, .f32⟩
  | .local _ .vmem, ⟨13, _⟩ => ⟨S256x4096, .f32⟩
  | .local _ .vmem, ⟨14, _⟩ => ⟨S256x4096, .bf16⟩
  | .local _ .vmem, ⟨15, _⟩ => ⟨S256x4096, .bf16⟩
  | _, _ => ⟨S9216x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c256_i32 : BitVec 32 := 256#32
  let v0 : BitVec 32 := Scalar.muli arg0 c256_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.minsi v17 c4_i32
  let c0_i32_4 : BitVec 32 := 0#32
  let c2_i32 : BitVec 32 := 2#32
  let c0_i32_5 : BitVec 32 := 0#32
  ![v18.toNat, c0_i32_4.toNat, c2_i32.toNat]

def cc0_transform_4 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_5 (i : grid0.Coords) : Fin 3 → Nat :=
  let arg0 : BitVec 32 := BitVec.ofNat 32 (i 0).val
  let c256_i32 : BitVec 32 := 256#32
  let v0 : BitVec 32 := Scalar.muli arg0 c256_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.minsi v17 c4_i32
  let c0_i32_4 : BitVec 32 := 0#32
  let c3_i32 : BitVec 32 := 3#32
  let c0_i32_5 : BitVec 32 := 0#32
  ![v18.toNat, c0_i32_4.toNat, c3_i32.toNat]

def cc0_transform_6 (i : grid0.Coords) : Fin 3 → Nat :=
  let arg0 : BitVec 32 := BitVec.ofNat 32 (i 0).val
  let c256_i32 : BitVec 32 := 256#32
  let v0 : BitVec 32 := Scalar.muli arg0 c256_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.minsi v17 c4_i32
  let c0_i32_4 : BitVec 32 := 0#32
  let c4_i32_5 : BitVec 32 := 4#32
  let c0_i32_6 : BitVec 32 := 0#32
  ![v18.toNat, c0_i32_4.toNat, c4_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ResidReferenceIdeal.lean ====
abbrev S9216x4096 : Shape := ⟨2, ![9216, 4096]⟩
abbrev S2x6x4096 : Shape := ⟨3, ![2, 6, 4096]⟩
abbrev S8x36864 : Shape := ⟨2, ![8, 36864]⟩
abbrev S8192x4096 : Shape := ⟨2, ![8192, 4096]⟩
abbrev S4x2048x4096 : Shape := ⟨3, ![4, 2048, 4096]⟩
abbrev S1024x4096 : Shape := ⟨2, ![1024, 4096]⟩
abbrev S4x256x4096 : Shape := ⟨3, ![4, 256, 4096]⟩
abbrev S4x36864 : Shape := ⟨2, ![4, 36864]⟩
abbrev S4x9x1x4096 : Shape := ⟨4, ![4, 9, 1, 4096]⟩
abbrev S1x36864 : Shape := ⟨2, ![1, 36864]⟩
abbrev S1x9x1x4096 : Shape := ⟨4, ![1, 9, 1, 4096]⟩
abbrev S1x6x4096 : Shape := ⟨3, ![1, 6, 4096]⟩
abbrev S6x4096 : Shape := ⟨2, ![6, 4096]⟩
abbrev S4x1x1x4096 : Shape := ⟨4, ![4, 1, 1, 4096]⟩
abbrev S4x1x4096 : Shape := ⟨3, ![4, 1, 4096]⟩
abbrev S_ : Shape := ⟨0, ![]⟩
abbrev S1x4096 : Shape := ⟨2, ![1, 4096]⟩
abbrev S4096 : Shape := ⟨1, ![4096]⟩
abbrev S4x2048 : Shape := ⟨2, ![4, 2048]⟩
abbrev S4x2048x1 : Shape := ⟨3, ![4, 2048, 1]⟩
abbrev S1x1x4096 : Shape := ⟨3, ![1, 1, 4096]⟩
abbrev S1x1x1x4096 : Shape := ⟨4, ![1, 1, 1, 4096]⟩
abbrev S4x256 : Shape := ⟨2, ![4, 256]⟩
abbrev S4x256x1 : Shape := ⟨3, ![4, 256, 1]⟩

abbrev nBuf : Space → Nat
  | .hbm => 135
  | .vmem => 0
  | .smem => 0
  | _ => 0

abbrev hbmTy0_0 (i : Nat) : BufTy := match i % 128 with
  | 0 => ⟨S9216x4096, .f32⟩
  | 1 => ⟨S9216x4096, .f32⟩
  | 2 => ⟨S2x6x4096, .f32⟩
  | 3 => ⟨S8x36864, .f32⟩
  | 4 => ⟨S8192x4096, .f32⟩
  | 5 => ⟨S4x2048x4096, .f32⟩
  | 6 => ⟨S1024x4096, .f32⟩
  | 7 => ⟨S4x256x4096, .f32⟩
  | 8 => ⟨S8192x4096, .f32⟩
  | 9 => ⟨S4x2048x4096, .f32⟩
  | 10 => ⟨S1024x4096, .f32⟩
  | 11 => ⟨S4x256x4096, .f32⟩
  | 12 => ⟨S4x36864, .f32⟩
  | 13 => ⟨S4x9x1x4096, .f32⟩
  | 14 => ⟨S1x36864, .f32⟩
  | 15 => ⟨S1x9x1x4096, .f32⟩
  | 16 => ⟨S1x6x4096, .f32⟩
  | 17 => ⟨S6x4096, .f32⟩
  | 18 => ⟨S4x1x1x4096, .f32⟩
  | 19 => ⟨S4x1x4096, .f32⟩
  | 20 => ⟨S_, .f32⟩
  | 21 => ⟨S4x1x4096, .f32⟩
  | 22 => ⟨S4x1x4096, .f32⟩
  | 23 => ⟨S1x4096, .f32⟩
  | 24 => ⟨S4096, .f32⟩
  | 25 => ⟨S4x2048x4096, .f32⟩
  | 26 => ⟨S_, .f32⟩
  | 27 => ⟨S4x2048, .f32⟩
  | 28 => ⟨S4x2048x1, .f32⟩
  | 29 => ⟨S_, .f32⟩
  | 30 => ⟨S4x2048x1, .f32⟩
  | 31 => ⟨S4x2048x1, .f32⟩
  | 32 => ⟨S_, .f32⟩
  | 33 => ⟨S4x2048x1, .f32⟩
  | 34 => ⟨S4x2048x1, .f32⟩
  | 35 => ⟨S4x2048x1, .f32⟩
  | 36 => ⟨S4x2048x4096, .f32⟩
  | 37 => ⟨S4x2048x4096, .f32⟩
  | 38 => ⟨S1x1x4096, .f32⟩
  | 39 => ⟨S4x2048x4096, .f32⟩
  | 40 => ⟨S4x2048x4096, .f32⟩
  | 41 => ⟨S4x2048x4096, .f32⟩
  | 42 => ⟨S4x2048x4096, .f32⟩
  | 43 => ⟨S4x2048x4096, .f32⟩
  | 44 => ⟨S1x1x1x4096, .f32⟩
  | 45 => ⟨S1x1x4096, .f32⟩
  | 46 => ⟨S_, .f32⟩
  | 47 => ⟨S1x1x4096, .f32⟩
  | 48 => ⟨S1x1x4096, .f32⟩
  | 49 => ⟨S1x4096, .f32⟩
  | 50 => ⟨S4096, .f32⟩
  | 51 => ⟨S4x256x4096, .f32⟩
  | 52 => ⟨S_, .f32⟩
  | 53 => ⟨S4x256, .f32⟩
  | 54 => ⟨S4x256x1, .f32⟩
  | 55 => ⟨S_, .f32⟩
  | 56 => ⟨S4x256x1, .f32⟩
  | 57 => ⟨S4x256x1, .f32⟩
  | 58 => ⟨S_, .f32⟩
  | 59 => ⟨S4x256x1, .f32⟩
  | 60 => ⟨S4x256x1, .f32⟩
  | 61 => ⟨S4x256x1, .f32⟩
  | 62 => ⟨S4x256x4096, .f32⟩
  | 63 => ⟨S4x256x4096, .f32⟩
  | 64 => ⟨S1x1x4096, .f32⟩
  | 65 => ⟨S4x256x4096, .f32⟩
  | 66 => ⟨S4x256x4096, .f32⟩
  | 67 => ⟨S4x256x4096, .f32⟩
  | 68 => ⟨S4x256x4096, .f32⟩
  | 69 => ⟨S4x256x4096, .f32⟩
  | 70 => ⟨S1x4096, .f32⟩
  | 71 => ⟨S4096, .f32⟩
  | 72 => ⟨S4x2048x4096, .f32⟩
  | 73 => ⟨S_, .f32⟩
  | 74 => ⟨S4x2048, .f32⟩
  | 75 => ⟨S4x2048x1, .f32⟩
  | 76 => ⟨S_, .f32⟩
  | 77 => ⟨S4x2048x1, .f32⟩
  | 78 => ⟨S4x2048x1, .f32⟩
  | 79 => ⟨S_, .f32⟩
  | 80 => ⟨S4x2048x1, .f32⟩
  | 81 => ⟨S4x2048x1, .f32⟩
  | 82 => ⟨S4x2048x1, .f32⟩
  | 83 => ⟨S4x2048x4096, .f32⟩
  | 84 => ⟨S4x2048x4096, .f32⟩
  | 85 => ⟨S1x1x4096, .f32⟩
  | 86 => ⟨S4x2048x4096, .f32⟩
  | 87 => ⟨S4x2048x4096, .f32⟩
  | 88 => ⟨S4x1x1x4096, .f32⟩
  | 89 => ⟨S4x1x4096, .f32⟩
  | 90 => ⟨S4x1x1x4096, .f32⟩
  | 91 => ⟨S4x1x4096, .f32⟩
  | 92 => ⟨S_, .f32⟩
  | 93 => ⟨S4x1x4096, .f32⟩
  | 94 => ⟨S4x1x4096, .f32⟩
  | 95 => ⟨S4x2048x4096, .f32⟩
  | 96 => ⟨S4x2048x4096, .f32⟩
  | 97 => ⟨S4x2048x4096, .f32⟩
  | 98 => ⟨S4x2048x4096, .f32⟩
  | 99 => ⟨S1x4096, .f32⟩
  | 100 => ⟨S4096, .f32⟩
  | 101 => ⟨S4x256x4096, .f32⟩
  | 102 => ⟨S_, .f32⟩
  | 103 => ⟨S4x256, .f32⟩
  | 104 => ⟨S4x256x1, .f32⟩
  | 105 => ⟨S_, .f32⟩
  | 106 => ⟨S4x256x1, .f32⟩
  | 107 => ⟨S4x256x1, .f32⟩
  | 108 => ⟨S_, .f32⟩
  | 109 => ⟨S4x256x1, .f32⟩
  | 110 => ⟨S4x256x1, .f32⟩
  | 111 => ⟨S4x256x1, .f32⟩
  | 112 => ⟨S4x256x4096, .f32⟩
  | 113 => ⟨S4x256x4096, .f32⟩
  | 114 => ⟨S1x1x4096, .f32⟩
  | 115 => ⟨S4x256x4096, .f32⟩
  | 116 => ⟨S4x256x4096, .f32⟩
  | 117 => ⟨S1x1x1x4096, .f32⟩
  | 118 => ⟨S1x1x4096, .f32⟩
  | 119 => ⟨S1x1x1x4096, .f32⟩
  | 120 => ⟨S1x1x4096, .f32⟩
  | 121 => ⟨S_, .f32⟩
  | 122 => ⟨S1x1x4096, .f32⟩
  | 123 => ⟨S1x1x4096, .f32⟩
  | 124 => ⟨S4x256x4096, .f32⟩
  | 125 => ⟨S4x256x4096, .f32⟩
  | 126 => ⟨S4x256x4096, .f32⟩
  | 127 => ⟨S4x256x4096, .f32⟩
  | _ => ⟨S9216x4096, .f32⟩

abbrev hbmTy0_1 (i : Nat) : BufTy := match i % 128 with
  | 0 => ⟨S8192x4096, .f32⟩
  | 1 => ⟨S1024x4096, .f32⟩
  | 2 => ⟨S9216x4096, .f32⟩
  | 3 => ⟨S8192x4096, .f32⟩
  | 4 => ⟨S1024x4096, .f32⟩
  | 5 => ⟨S9216x4096, .f32⟩
  | 6 => ⟨S9216x4096, .bf16⟩
  | _ => ⟨S9216x4096, .f32⟩

abbrev hbmTy (i : Nat) : BufTy := match i / 128 with
  | 0 => hbmTy0_0 i
  | 1 => hbmTy0_1 i
  | _ => ⟨S9216x4096, .f32⟩

abbrev bufTy : (tb : Table) → Fin (tcTables nBuf tb) → BufTy
  | .hbm, ⟨i, _⟩ => hbmTy i
  | _, _ => ⟨S9216x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_0 : Ref sig .tc := ⟨.hbm, 26, rfl⟩
abbrev main_v21 : Ref sig .tc := ⟨.hbm, 27, rfl⟩
abbrev main_v22 : Ref sig .tc := ⟨.hbm, 28, rfl⟩
abbrev main_cst_1 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_cst_3 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_cst_4 : Ref sig .tc := ⟨.hbm, 52, rfl⟩
abbrev main_v43 : Ref sig .tc := ⟨.hbm, 53, rfl⟩
abbrev main_v44 : Ref sig .tc := ⟨.hbm, 54, rfl⟩
abbrev main_cst_5 : Ref sig .tc := ⟨.hbm, 55, rfl⟩
abbrev main_v45 : Ref sig .tc := ⟨.hbm, 56, rfl⟩
abbrev main_v46 : Ref sig .tc := ⟨.hbm, 57, rfl⟩
abbrev main_cst_6 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_cst_7 : Ref sig .tc := ⟨.hbm, 73, rfl⟩
abbrev main_v61 : Ref sig .tc := ⟨.hbm, 74, rfl⟩
abbrev main_v62 : Ref sig .tc := ⟨.hbm, 75, rfl⟩
abbrev main_cst_8 : Ref sig .tc := ⟨.hbm, 76, rfl⟩
abbrev main_v63 : Ref sig .tc := ⟨.hbm, 77, rfl⟩
abbrev main_v64 : Ref sig .tc := ⟨.hbm, 78, rfl⟩
abbrev main_cst_9 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_cst_10 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_cst_11 : Ref sig .tc := ⟨.hbm, 102, rfl⟩
abbrev main_v86 : Ref sig .tc := ⟨.hbm, 103, rfl⟩
abbrev main_v87 : Ref sig .tc := ⟨.hbm, 104, rfl⟩
abbrev main_cst_12 : Ref sig .tc := ⟨.hbm, 105, rfl⟩
abbrev main_v88 : Ref sig .tc := ⟨.hbm, 106, rfl⟩
abbrev main_v89 : Ref sig .tc := ⟨.hbm, 107, rfl⟩
abbrev main_cst_13 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_cst_14 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩

abbrev nD : Nat := 1
abbrev τ : Topo := Topo.v7x

variable {F : FTy → Type} [FloatOps F]
-- ==== CtxKernel.lean ====
abbrev S9216x25600 : Shape := ⟨2, ![9216, 25600]⟩
abbrev S1024x1024 : Shape := ⟨2, ![1024, 1024]⟩
abbrev S256x128 : Shape := ⟨2, ![256, 128]⟩
abbrev S256x256 : Shape := ⟨2, ![256, 256]⟩
abbrev S256 : Shape := ⟨1, ![256]⟩
abbrev S256x1 : Shape := ⟨2, ![256, 1]⟩

abbrev nBuf : Space → Nat
  | .hbm => 2
  | .vmem => 8
  | .smem => 0
  | _ => 0

abbrev bufTy : (tb : Table) → Fin (tcTables nBuf tb) → BufTy
  | .hbm, ⟨0, _⟩ => ⟨S9216x25600, .bf16⟩
  | .hbm, ⟨1, _⟩ => ⟨S1024x1024, .bf16⟩
  | .local _ .vmem, ⟨0, _⟩ => ⟨S256x128, .bf16⟩
  | .local _ .vmem, ⟨1, _⟩ => ⟨S256x128, .bf16⟩
  | .local _ .vmem, ⟨2, _⟩ => ⟨S256x128, .bf16⟩
  | .local _ .vmem, ⟨3, _⟩ => ⟨S256x128, .bf16⟩
  | .local _ .vmem, ⟨4, _⟩ => ⟨S256x128, .bf16⟩
  | .local _ .vmem, ⟨5, _⟩ => ⟨S256x128, .bf16⟩
  | .local _ .vmem, ⟨6, _⟩ => ⟨S256x128, .bf16⟩
  | .local _ .vmem, ⟨7, _⟩ => ⟨S256x128, .bf16⟩
  | _, _ => ⟨S9216x25600, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c24_i32 : BitVec 32 := 24#32
  let v1 : BitVec 32 := Scalar.addi c24_i32 arg1
  let c0_i32 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c32_i32_0 : BitVec 32 := 32#32
  let v1 : BitVec 32 := Scalar.addi c32_i32_0 arg1
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c40_i32 : BitVec 32 := 40#32
  let v1 : BitVec 32 := Scalar.addi c40_i32 arg1
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== CtxReferenceIdeal.lean ====
abbrev S9216x25600 : Shape := ⟨2, ![9216, 25600]⟩
abbrev S1024x3072 : Shape := ⟨2, ![1024, 3072]⟩
abbrev S4x256x3072 : Shape := ⟨3, ![4, 256, 3072]⟩
abbrev S4x256x1024 : Shape := ⟨3, ![4, 256, 1024]⟩
abbrev S4x256x8x128 : Shape := ⟨4, ![4, 256, 8, 128]⟩
abbrev S4x8x256x256 : Shape := ⟨4, ![4, 8, 256, 256]⟩
abbrev S_ : Shape := ⟨0, ![]⟩
abbrev S4x8x256 : Shape := ⟨3, ![4, 8, 256]⟩
abbrev S4x8x256x1 : Shape := ⟨4, ![4, 8, 256, 1]⟩
abbrev S4x8x128x256 : Shape := ⟨4, ![4, 8, 128, 256]⟩
abbrev S1024x1024 : Shape := ⟨2, ![1024, 1024]⟩

abbrev nBuf : Space → Nat
  | .hbm => 33
  | .vmem => 0
  | .smem => 0
  | _ => 0

abbrev bufTy : (tb : Table) → Fin (tcTables nBuf tb) → BufTy
  | .hbm, ⟨0, _⟩ => ⟨S9216x25600, .bf16⟩
  | .hbm, ⟨1, _⟩ => ⟨S1024x3072, .bf16⟩
  | .hbm, ⟨2, _⟩ => ⟨S1024x3072, .f32⟩
  | .hbm, ⟨3, _⟩ => ⟨S4x256x3072, .f32⟩
  | .hbm, ⟨4, _⟩ => ⟨S4x256x1024, .f32⟩
  | .hbm, ⟨5, _⟩ => ⟨S4x256x1024, .f32⟩
  | .hbm, ⟨6, _⟩ => ⟨S4x256x1024, .f32⟩
  | .hbm, ⟨7, _⟩ => ⟨S4x256x8x128, .f32⟩
  | .hbm, ⟨8, _⟩ => ⟨S4x256x8x128, .f32⟩
  | .hbm, ⟨9, _⟩ => ⟨S4x256x8x128, .f32⟩
  | .hbm, ⟨10, _⟩ => ⟨S4x8x256x256, .f32⟩
  | .hbm, ⟨11, _⟩ => ⟨S_, .f32⟩
  | .hbm, ⟨12, _⟩ => ⟨S4x8x256x256, .f32⟩
  | .hbm, ⟨13, _⟩ => ⟨S4x8x256x256, .f32⟩
  | .hbm, ⟨14, _⟩ => ⟨S_, .f32⟩
  | .hbm, ⟨15, _⟩ => ⟨S4x8x256, .f32⟩
  | .hbm, ⟨16, _⟩ => ⟨S_, .f32⟩
  | .hbm, ⟨17, _⟩ => ⟨S4x8x256, .f32⟩
  | .hbm, ⟨18, _⟩ => ⟨S4x8x256, .f32⟩
  | .hbm, ⟨19, _⟩ => ⟨S4x8x256x1, .f32⟩
  | .hbm, ⟨20, _⟩ => ⟨S4x8x256x256, .f32⟩
  | .hbm, ⟨21, _⟩ => ⟨S4x8x256x256, .f32⟩
  | .hbm, ⟨22, _⟩ => ⟨S4x8x256x256, .f32⟩
  | .hbm, ⟨23, _⟩ => ⟨S_, .f32⟩
  | .hbm, ⟨24, _⟩ => ⟨S4x8x256, .f32⟩
  | .hbm, ⟨25, _⟩ => ⟨S4x8x256x1, .f32⟩
  | .hbm, ⟨26, _⟩ => ⟨S4x8x256x256, .f32⟩
  | .hbm, ⟨27, _⟩ => ⟨S4x8x256x256, .f32⟩
  | .hbm, ⟨28, _⟩ => ⟨S4x8x128x256, .f32⟩
  | .hbm, ⟨29, _⟩ => ⟨S4x256x8x128, .f32⟩
  | .hbm, ⟨30, _⟩ => ⟨S4x256x1024, .f32⟩
  | .hbm, ⟨31, _⟩ => ⟨S1024x1024, .f32⟩
  | .hbm, ⟨32, _⟩ => ⟨S1024x1024, .bf16⟩
  | _, _ => ⟨S9216x25600, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_cst : Ref sig .tc := ⟨.hbm, 11, rfl⟩
abbrev main_v10 : Ref sig .tc := ⟨.hbm, 12, rfl⟩
abbrev main_v11 : Ref sig .tc := ⟨.hbm, 13, rfl⟩
abbrev main_cst_0 : Ref sig .tc := ⟨.hbm, 14, rfl⟩
abbrev main_v12 : Ref sig .tc := ⟨.hbm, 15, rfl⟩
abbrev main_cst_1 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_2 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩

abbrev nD : Nat := 1
abbrev τ : Topo := Topo.v7x

variable {F : FTy → Type} [FloatOps F]
-- ==== PoolKernel.lean ====
abbrev S9216x25600 : Shape := ⟨2, ![9216, 25600]⟩
abbrev S2x4x256x256 : Shape := ⟨4, ![2, 4, 256, 256]⟩
abbrev S2x1024 : Shape := ⟨2, ![2, 1024]⟩
abbrev S2048 : Shape := ⟨1, ![2048]⟩
abbrev S2048x1 : Shape := ⟨2, ![2048, 1]⟩
abbrev S1x2048 : Shape := ⟨2, ![1, 2048]⟩
abbrev S_ : Shape := ⟨0, ![]⟩
abbrev S2048x2048 : Shape := ⟨2, ![2048, 2048]⟩
abbrev S1x2048x2048 : Shape := ⟨3, ![1, 2048, 2048]⟩
abbrev S4x2048x2048 : Shape := ⟨3, ![4, 2048, 2048]⟩
abbrev S2x1x1024 : Shape := ⟨3, ![2, 1, 1024]⟩
abbrev S8192x1024 : Shape := ⟨2, ![8192, 1024]⟩
abbrev S2048x256 : Shape := ⟨2, ![2048, 256]⟩
abbrev S1x1x256x256 : Shape := ⟨4, ![1, 1, 256, 256]⟩
abbrev S1x1x256 : Shape := ⟨3, ![1, 1, 256]⟩
abbrev S256x256 : Shape := ⟨2, ![256, 256]⟩
abbrev S1x256 : Shape := ⟨2, ![1, 256]⟩

abbrev nBuf : Space → Nat
  | .hbm => 191
  | .vmem => 10
  | .smem => 0
  | _ => 0

abbrev hbmTy0_0 (i : Nat) : BufTy := match i % 128 with
  | 0 => ⟨S9216x25600, .bf16⟩
  | 1 => ⟨S2x4x256x256, .f32⟩
  | 2 => ⟨S2x1024, .f32⟩
  | 3 => ⟨S2048, .i32⟩
  | 4 => ⟨S2048x1, .i32⟩
  | 5 => ⟨S2048, .i32⟩
  | 6 => ⟨S1x2048, .i32⟩
  | 7 => ⟨S_, .i32⟩
  | 8 => ⟨S2048x1, .i32⟩
  | 9 => ⟨S2048x1, .i32⟩
  | 10 => ⟨S_, .i32⟩
  | 11 => ⟨S_, .i32⟩
  | 12 => ⟨S_, .i32⟩
  | 13 => ⟨S2048x1, .i32⟩
  | 14 => ⟨S2048x1, .i32⟩
  | 15 => ⟨S_, .i32⟩
  | 16 => ⟨S2048x1, .i32⟩
  | 17 => ⟨S2048x1, .i32⟩
  | 18 => ⟨S_, .i32⟩
  | 19 => ⟨S2048x1, .i32⟩
  | 20 => ⟨S2048x1, .i32⟩
  | 21 => ⟨S_, .i32⟩
  | 22 => ⟨S_, .i32⟩
  | 23 => ⟨S_, .i32⟩
  | 24 => ⟨S2048x1, .i32⟩
  | 25 => ⟨S2048x1, .i32⟩
  | 26 => ⟨S_, .i32⟩
  | 27 => ⟨S2048x1, .i32⟩
  | 28 => ⟨S2048x1, .i32⟩
  | 29 => ⟨S2048x2048, .i32⟩
  | 30 => ⟨S2048x2048, .i32⟩
  | 31 => ⟨S2048x2048, .i1⟩
  | 32 => ⟨S2048x2048, .i32⟩
  | 33 => ⟨S2048x2048, .i32⟩
  | 34 => ⟨S2048x2048, .i1⟩
  | 35 => ⟨S2048x2048, .i1⟩
  | 36 => ⟨S2048x1, .i32⟩
  | 37 => ⟨S2048x1, .f32⟩
  | 38 => ⟨S_, .f32⟩
  | 39 => ⟨S2048x1, .f32⟩
  | 40 => ⟨S2048x1, .f32⟩
  | 41 => ⟨S_, .f32⟩
  | 42 => ⟨S_, .f32⟩
  | 43 => ⟨S2048x2048, .f32⟩
  | 44 => ⟨S2048x2048, .f32⟩
  | 45 => ⟨S2048x2048, .f32⟩
  | 46 => ⟨S2048x2048, .i32⟩
  | 47 => ⟨S2048x2048, .i32⟩
  | 48 => ⟨S2048x2048, .i1⟩
  | 49 => ⟨S2048x2048, .f32⟩
  | 50 => ⟨S2048x2048, .f32⟩
  | 51 => ⟨S_, .i32⟩
  | 52 => ⟨S2048x1, .i32⟩
  | 53 => ⟨S2048x1, .i32⟩
  | 54 => ⟨S_, .i32⟩
  | 55 => ⟨S_, .i32⟩
  | 56 => ⟨S_, .i32⟩
  | 57 => ⟨S2048x1, .i32⟩
  | 58 => ⟨S2048x1, .i32⟩
  | 59 => ⟨S_, .i32⟩
  | 60 => ⟨S2048x1, .i32⟩
  | 61 => ⟨S2048x1, .i32⟩
  | 62 => ⟨S_, .i32⟩
  | 63 => ⟨S2048x1, .i32⟩
  | 64 => ⟨S2048x1, .i32⟩
  | 65 => ⟨S_, .i32⟩
  | 66 => ⟨S_, .i32⟩
  | 67 => ⟨S_, .i32⟩
  | 68 => ⟨S2048x1, .i32⟩
  | 69 => ⟨S2048x1, .i32⟩
  | 70 => ⟨S_, .i32⟩
  | 71 => ⟨S2048x1, .i32⟩
  | 72 => ⟨S2048x1, .i32⟩
  | 73 => ⟨S2048x2048, .i32⟩
  | 74 => ⟨S2048x2048, .i32⟩
  | 75 => ⟨S2048x2048, .i1⟩
  | 76 => ⟨S2048x2048, .i32⟩
  | 77 => ⟨S2048x2048, .i32⟩
  | 78 => ⟨S2048x2048, .i1⟩
  | 79 => ⟨S2048x2048, .i1⟩
  | 80 => ⟨S2048x1, .i32⟩
  | 81 => ⟨S2048x1, .f32⟩
  | 82 => ⟨S_, .f32⟩
  | 83 => ⟨S2048x1, .f32⟩
  | 84 => ⟨S2048x1, .f32⟩
  | 85 => ⟨S_, .f32⟩
  | 86 => ⟨S_, .f32⟩
  | 87 => ⟨S2048x2048, .f32⟩
  | 88 => ⟨S2048x2048, .f32⟩
  | 89 => ⟨S2048x2048, .f32⟩
  | 90 => ⟨S2048x2048, .i32⟩
  | 91 => ⟨S2048x2048, .i32⟩
  | 92 => ⟨S2048x2048, .i1⟩
  | 93 => ⟨S2048x2048, .f32⟩
  | 94 => ⟨S2048x2048, .f32⟩
  | 95 => ⟨S_, .i32⟩
  | 96 => ⟨S2048x1, .i32⟩
  | 97 => ⟨S2048x1, .i32⟩
  | 98 => ⟨S_, .i32⟩
  | 99 => ⟨S_, .i32⟩
  | 100 => ⟨S_, .i32⟩
  | 101 => ⟨S2048x1, .i32⟩
  | 102 => ⟨S2048x1, .i32⟩
  | 103 => ⟨S_, .i32⟩
  | 104 => ⟨S2048x1, .i32⟩
  | 105 => ⟨S2048x1, .i32⟩
  | 106 => ⟨S_, .i32⟩
  | 107 => ⟨S2048x1, .i32⟩
  | 108 => ⟨S2048x1, .i32⟩
  | 109 => ⟨S_, .i32⟩
  | 110 => ⟨S_, .i32⟩
  | 111 => ⟨S_, .i32⟩
  | 112 => ⟨S2048x1, .i32⟩
  | 113 => ⟨S2048x1, .i32⟩
  | 114 => ⟨S_, .i32⟩
  | 115 => ⟨S2048x1, .i32⟩
  | 116 => ⟨S2048x1, .i32⟩
  | 117 => ⟨S2048x2048, .i32⟩
  | 118 => ⟨S2048x2048, .i32⟩
  | 119 => ⟨S2048x2048, .i1⟩
  | 120 => ⟨S2048x2048, .i32⟩
  | 121 => ⟨S2048x2048, .i32⟩
  | 122 => ⟨S2048x2048, .i1⟩
  | 123 => ⟨S2048x2048, .i1⟩
  | 124 => ⟨S2048x1, .i32⟩
  | 125 => ⟨S2048x1, .f32⟩
  | 126 => ⟨S_, .f32⟩
  | 127 => ⟨S2048x1, .f32⟩
  | _ => ⟨S9216x25600, .bf16⟩

abbrev hbmTy0_1 (i : Nat) : BufTy := match i % 128 with
  | 0 => ⟨S2048x1, .f32⟩
  | 1 => ⟨S_, .f32⟩
  | 2 => ⟨S_, .f32⟩
  | 3 => ⟨S2048x2048, .f32⟩
  | 4 => ⟨S2048x2048, .f32⟩
  | 5 => ⟨S2048x2048, .f32⟩
  | 6 => ⟨S2048x2048, .i32⟩
  | 7 => ⟨S2048x2048, .i32⟩
  | 8 => ⟨S2048x2048, .i1⟩
  | 9 => ⟨S2048x2048, .f32⟩
  | 10 => ⟨S2048x2048, .f32⟩
  | 11 => ⟨S_, .i32⟩
  | 12 => ⟨S2048x1, .i32⟩
  | 13 => ⟨S2048x1, .i32⟩
  | 14 => ⟨S_, .i32⟩
  | 15 => ⟨S_, .i32⟩
  | 16 => ⟨S_, .i32⟩
  | 17 => ⟨S2048x1, .i32⟩
  | 18 => ⟨S2048x1, .i32⟩
  | 19 => ⟨S_, .i32⟩
  | 20 => ⟨S2048x1, .i32⟩
  | 21 => ⟨S2048x1, .i32⟩
  | 22 => ⟨S_, .i32⟩
  | 23 => ⟨S2048x1, .i32⟩
  | 24 => ⟨S2048x1, .i32⟩
  | 25 => ⟨S_, .i32⟩
  | 26 => ⟨S_, .i32⟩
  | 27 => ⟨S_, .i32⟩
  | 28 => ⟨S2048x1, .i32⟩
  | 29 => ⟨S2048x1, .i32⟩
  | 30 => ⟨S_, .i32⟩
  | 31 => ⟨S2048x1, .i32⟩
  | 32 => ⟨S2048x1, .i32⟩
  | 33 => ⟨S2048x2048, .i32⟩
  | 34 => ⟨S2048x2048, .i32⟩
  | 35 => ⟨S2048x2048, .i1⟩
  | 36 => ⟨S2048x2048, .i32⟩
  | 37 => ⟨S2048x2048, .i32⟩
  | 38 => ⟨S2048x2048, .i1⟩
  | 39 => ⟨S2048x2048, .i1⟩
  | 40 => ⟨S2048x1, .i32⟩
  | 41 => ⟨S2048x1, .f32⟩
  | 42 => ⟨S_, .f32⟩
  | 43 => ⟨S2048x1, .f32⟩
  | 44 => ⟨S2048x1, .f32⟩
  | 45 => ⟨S_, .f32⟩
  | 46 => ⟨S_, .f32⟩
  | 47 => ⟨S2048x2048, .f32⟩
  | 48 => ⟨S2048x2048, .f32⟩
  | 49 => ⟨S2048x2048, .f32⟩
  | 50 => ⟨S2048x2048, .i32⟩
  | 51 => ⟨S2048x2048, .i32⟩
  | 52 => ⟨S2048x2048, .i1⟩
  | 53 => ⟨S2048x2048, .f32⟩
  | 54 => ⟨S2048x2048, .f32⟩
  | 55 => ⟨S1x2048x2048, .f32⟩
  | 56 => ⟨S1x2048x2048, .f32⟩
  | 57 => ⟨S1x2048x2048, .f32⟩
  | 58 => ⟨S1x2048x2048, .f32⟩
  | 59 => ⟨S4x2048x2048, .f32⟩
  | 60 => ⟨S4x2048x2048, .bf16⟩
  | 61 => ⟨S2x1x1024, .f32⟩
  | 62 => ⟨S8192x1024, .bf16⟩
  | _ => ⟨S9216x25600, .bf16⟩

abbrev hbmTy (i : Nat) : BufTy := match i / 128 with
  | 0 => hbmTy0_0 i
  | 1 => hbmTy0_1 i
  | _ => ⟨S9216x25600, .bf16⟩

abbrev bufTy : (tb : Table) → Fin (tcTables nBuf tb) → BufTy
  | .hbm, ⟨i, _⟩ => hbmTy i
  | .local _ .vmem, ⟨0, _⟩ => ⟨S1x2048x2048, .bf16⟩
  | .local _ .vmem, ⟨1, _⟩ => ⟨S1x2048x2048, .bf16⟩
  | .local _ .vmem, ⟨2, _⟩ => ⟨S2048x256, .bf16⟩
  | .local _ .vmem, ⟨3, _⟩ => ⟨S2048x256, .bf16⟩
  | .local _ .vmem, ⟨4, _⟩ => ⟨S1x1x256x256, .f32⟩
  | .local _ .vmem, ⟨5, _⟩ => ⟨S1x1x256x256, .f32⟩
  | .local _ .vmem, ⟨6, _⟩ => ⟨S1x1x256, .f32⟩
  | .local _ .vmem, ⟨7, _⟩ => ⟨S1x1x256, .f32⟩
  | .local _ .vmem, ⟨8, _⟩ => ⟨S2048x256, .bf16⟩
  | .local _ .vmem, ⟨9, _⟩ => ⟨S2048x256, .bf16⟩
  | _, _ => ⟨S9216x25600, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v6 : Ref sig .tc := ⟨.hbm, 17, rfl⟩
abbrev main_c_2 : Ref sig .tc := ⟨.hbm, 18, rfl⟩
abbrev main_v7 : Ref sig .tc := ⟨.hbm, 19, rfl⟩
abbrev main_v8 : Ref sig .tc := ⟨.hbm, 20, rfl⟩
abbrev main_c_3 : Ref sig .tc := ⟨.hbm, 21, rfl⟩
abbrev main_c_4 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst : Ref sig .tc := ⟨.hbm, 38, rfl⟩
abbrev main_v19 : Ref sig .tc := ⟨.hbm, 39, rfl⟩
abbrev main_v20 : Ref sig .tc := ⟨.hbm, 40, rfl⟩
abbrev main_cst_5 : Ref sig .tc := ⟨.hbm, 41, rfl⟩
abbrev main_call2_v0 : Ref sig .tc := ⟨.hbm, 42, rfl⟩
abbrev main_call2_v1 : Ref sig .tc := ⟨.hbm, 43, rfl⟩
abbrev main_call2_v2 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_c_6 : Ref sig .tc := ⟨.hbm, 51, rfl⟩
abbrev main_v27 : Ref sig .tc := ⟨.hbm, 52, rfl⟩
abbrev main_v28 : Ref sig .tc := ⟨.hbm, 53, rfl⟩
abbrev main_c_7 : Ref sig .tc := ⟨.hbm, 54, rfl⟩
abbrev main_c_8 : Ref sig .tc := ⟨.hbm, 55, rfl⟩
abbrev main_call3_v0 : Ref sig .tc := ⟨.hbm, 56, rfl⟩
abbrev main_call3_v1 : Ref sig .tc := ⟨.hbm, 57, rfl⟩
abbrev main_call3_v2 : Ref sig .tc := ⟨.hbm, 58, rfl⟩
abbrev main_call3_v3 : Ref sig .tc := ⟨.hbm, 59, rfl⟩
abbrev main_call3_v4 : Ref sig .tc := ⟨.hbm, 60, rfl⟩
abbrev main_v29 : Ref sig .tc := ⟨.hbm, 61, rfl⟩
abbrev main_c_9 : Ref sig .tc := ⟨.hbm, 62, rfl⟩
abbrev main_v30 : Ref sig .tc := ⟨.hbm, 63, rfl⟩
abbrev main_v31 : Ref sig .tc := ⟨.hbm, 64, rfl⟩
abbrev main_c_10 : Ref sig .tc := ⟨.hbm, 65, rfl⟩
abbrev main_c_11 : Ref sig .tc := ⟨.hbm, 66, rfl⟩
abbrev main_call4_v0 : Ref sig .tc := ⟨.hbm, 67, rfl⟩
abbrev main_call4_v1 : Ref sig .tc := ⟨.hbm, 68, rfl⟩
abbrev main_call4_v2 : Ref sig .tc := ⟨.hbm, 69, rfl⟩
abbrev main_call4_v3 : Ref sig .tc := ⟨.hbm, 70, rfl⟩
abbrev main_call4_v4 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_cst_12 : Ref sig .tc := ⟨.hbm, 82, rfl⟩
abbrev main_v42 : Ref sig .tc := ⟨.hbm, 83, rfl⟩
abbrev main_v43 : Ref sig .tc := ⟨.hbm, 84, rfl⟩
abbrev main_cst_13 : Ref sig .tc := ⟨.hbm, 85, rfl⟩
abbrev main_call5_v0 : Ref sig .tc := ⟨.hbm, 86, rfl⟩
abbrev main_call5_v1 : Ref sig .tc := ⟨.hbm, 87, rfl⟩
abbrev main_call5_v2 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_c_14 : Ref sig .tc := ⟨.hbm, 95, rfl⟩
abbrev main_v50 : Ref sig .tc := ⟨.hbm, 96, rfl⟩
abbrev main_v51 : Ref sig .tc := ⟨.hbm, 97, rfl⟩
abbrev main_c_15 : Ref sig .tc := ⟨.hbm, 98, rfl⟩
abbrev main_c_16 : Ref sig .tc := ⟨.hbm, 99, rfl⟩
abbrev main_call6_v0 : Ref sig .tc := ⟨.hbm, 100, rfl⟩
abbrev main_call6_v1 : Ref sig .tc := ⟨.hbm, 101, rfl⟩
abbrev main_call6_v2 : Ref sig .tc := ⟨.hbm, 102, rfl⟩
abbrev main_call6_v3 : Ref sig .tc := ⟨.hbm, 103, rfl⟩
abbrev main_call6_v4 : Ref sig .tc := ⟨.hbm, 104, rfl⟩
abbrev main_v52 : Ref sig .tc := ⟨.hbm, 105, rfl⟩
abbrev main_c_17 : Ref sig .tc := ⟨.hbm, 106, rfl⟩
abbrev main_v53 : Ref sig .tc := ⟨.hbm, 107, rfl⟩
abbrev main_v54 : Ref sig .tc := ⟨.hbm, 108, rfl⟩
abbrev main_c_18 : Ref sig .tc := ⟨.hbm, 109, rfl⟩
abbrev main_c_19 : Ref sig .tc := ⟨.hbm, 110, rfl⟩
abbrev main_call7_v0 : Ref sig .tc := ⟨.hbm, 111, rfl⟩
abbrev main_call7_v1 : Ref sig .tc := ⟨.hbm, 112, rfl⟩
abbrev main_call7_v2 : Ref sig .tc := ⟨.hbm, 113, rfl⟩
abbrev main_call7_v3 : Ref sig .tc := ⟨.hbm, 114, rfl⟩
abbrev main_call7_v4 : Ref sig .tc := ⟨.hbm, 115, rfl⟩
abbrev main_v55 : Ref sig .tc := ⟨.hbm, 116, rfl⟩
abbrev main_v56 : Ref sig .tc := ⟨.hbm, 117, rfl⟩
abbrev main_v57 : Ref sig .tc := ⟨.hbm, 118, rfl⟩
abbrev main_v58 : Ref sig .tc := ⟨.hbm, 119, rfl⟩
abbrev main_v59 : Ref sig .tc := ⟨.hbm, 120, rfl⟩
abbrev main_v60 : Ref sig .tc := ⟨.hbm, 121, rfl⟩
abbrev main_v61 : Ref sig .tc := ⟨.hbm, 122, rfl⟩
abbrev main_v62 : Ref sig .tc := ⟨.hbm, 123, rfl⟩
abbrev main_v63 : Ref sig .tc := ⟨.hbm, 124, rfl⟩
abbrev main_v64 : Ref sig .tc := ⟨.hbm, 125, rfl⟩
abbrev main_cst_20 : Ref sig .tc := ⟨.hbm, 126, rfl⟩
abbrev main_v65 : Ref sig .tc := ⟨.hbm, 127, rfl⟩
abbrev main_v66 : Ref sig .tc := ⟨.hbm, 128, rfl⟩
abbrev main_cst_21 : Ref sig .tc := ⟨.hbm, 129, rfl⟩
abbrev main_call8_v0 : Ref sig .tc := ⟨.hbm, 130, rfl⟩
abbrev main_call8_v1 : Ref sig .tc := ⟨.hbm, 131, rfl⟩
abbrev main_call8_v2 : Ref sig .tc := ⟨.hbm, 132, rfl⟩
abbrev main_v67 : Ref sig .tc := ⟨.hbm, 133, rfl⟩
abbrev main_v68 : Ref sig .tc := ⟨.hbm, 134, rfl⟩
abbrev main_v69 : Ref sig .tc := ⟨.hbm, 135, rfl⟩
abbrev main_v70 : Ref sig .tc := ⟨.hbm, 136, rfl⟩
abbrev main_v71 : Ref sig .tc := ⟨.hbm, 137, rfl⟩
abbrev main_v72 : Ref sig .tc := ⟨.hbm, 138, rfl⟩
abbrev main_c_22 : Ref sig .tc := ⟨.hbm, 139, rfl⟩
abbrev main_v73 : Ref sig .tc := ⟨.hbm, 140, rfl⟩
abbrev main_v74 : Ref sig .tc := ⟨.hbm, 141, rfl⟩
abbrev main_c_23 : Ref sig .tc := ⟨.hbm, 142, rfl⟩
abbrev main_c_24 : Ref sig .tc := ⟨.hbm, 143, rfl⟩
abbrev main_call9_v0 : Ref sig .tc := ⟨.hbm, 144, rfl⟩
abbrev main_call9_v1 : Ref sig .tc := ⟨.hbm, 145, rfl⟩
abbrev main_call9_v2 : Ref sig .tc := ⟨.hbm, 146, rfl⟩
abbrev main_call9_v3 : Ref sig .tc := ⟨.hbm, 147, rfl⟩
abbrev main_call9_v4 : Ref sig .tc := ⟨.hbm, 148, rfl⟩
abbrev main_v75 : Ref sig .tc := ⟨.hbm, 149, rfl⟩
abbrev main_c_25 : Ref sig .tc := ⟨.hbm, 150, rfl⟩
abbrev main_v76 : Ref sig .tc := ⟨.hbm, 151, rfl⟩
abbrev main_v77 : Ref sig .tc := ⟨.hbm, 152, rfl⟩
abbrev main_c_26 : Ref sig .tc := ⟨.hbm, 153, rfl⟩
abbrev main_c_27 : Ref sig .tc := ⟨.hbm, 154, rfl⟩
abbrev main_call10_v0 : Ref sig .tc := ⟨.hbm, 155, rfl⟩
abbrev main_call10_v1 : Ref sig .tc := ⟨.hbm, 156, rfl⟩
abbrev main_call10_v2 : Ref sig .tc := ⟨.hbm, 157, rfl⟩
abbrev main_call10_v3 : Ref sig .tc := ⟨.hbm, 158, rfl⟩
abbrev main_call10_v4 : Ref sig .tc := ⟨.hbm, 159, rfl⟩
abbrev main_v78 : Ref sig .tc := ⟨.hbm, 160, rfl⟩
abbrev main_v79 : Ref sig .tc := ⟨.hbm, 161, rfl⟩
abbrev main_v80 : Ref sig .tc := ⟨.hbm, 162, rfl⟩
abbrev main_v81 : Ref sig .tc := ⟨.hbm, 163, rfl⟩
abbrev main_v82 : Ref sig .tc := ⟨.hbm, 164, rfl⟩
abbrev main_v83 : Ref sig .tc := ⟨.hbm, 165, rfl⟩
abbrev main_v84 : Ref sig .tc := ⟨.hbm, 166, rfl⟩
abbrev main_v85 : Ref sig .tc := ⟨.hbm, 167, rfl⟩
abbrev main_v86 : Ref sig .tc := ⟨.hbm, 168, rfl⟩
abbrev main_v87 : Ref sig .tc := ⟨.hbm, 169, rfl⟩
abbrev main_cst_28 : Ref sig .tc := ⟨.hbm, 170, rfl⟩
abbrev main_v88 : Ref sig .tc := ⟨.hbm, 171, rfl⟩
abbrev main_v89 : Ref sig .tc := ⟨.hbm, 172, rfl⟩
abbrev main_cst_29 : Ref sig .tc := ⟨.hbm, 173, rfl⟩
abbrev main_call11_v0 : Ref sig .tc := ⟨.hbm, 174, rfl⟩
abbrev main_call11_v1 : Ref sig .tc := ⟨.hbm, 175, rfl⟩
abbrev main_call11_v2 : Ref sig .tc := ⟨.hbm, 176, rfl⟩
abbrev main_v90 : Ref sig .tc := ⟨.hbm, 177, rfl⟩
abbrev main_v91 : Ref sig .tc := ⟨.hbm, 178, rfl⟩
abbrev main_v92 : Ref sig .tc := ⟨.hbm, 179, rfl⟩
abbrev main_v93 : Ref sig .tc := ⟨.hbm, 180, rfl⟩
abbrev main_v94 : Ref sig .tc := ⟨.hbm, 181, rfl⟩
abbrev main_v95 : Ref sig .tc := ⟨.hbm, 182, rfl⟩
abbrev main_v96 : Ref sig .tc := ⟨.hbm, 183, rfl⟩
abbrev main_v97 : Ref sig .tc := ⟨.hbm, 184, rfl⟩
abbrev main_v98 : Ref sig .tc := ⟨.hbm, 185, rfl⟩
abbrev main_v99 : Ref sig .tc := ⟨.hbm, 186, rfl⟩
abbrev main_v100 : Ref sig .tc := ⟨.hbm, 187, rfl⟩
abbrev main_v101 : Ref sig .tc := ⟨.hbm, 188, rfl⟩
abbrev main_v102 : Ref sig .tc := ⟨.hbm, 189, rfl⟩
abbrev main_v103 : Ref sig .tc := ⟨.hbm, 190, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![v0.toNat, arg0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== PoolReferenceIdeal.lean ====
abbrev S9216x25600 : Shape := ⟨2, ![9216, 25600]⟩
abbrev S2x4x256x256 : Shape := ⟨4, ![2, 4, 256, 256]⟩
abbrev S2x1024 : Shape := ⟨2, ![2, 1024]⟩
abbrev S8192x1024 : Shape := ⟨2, ![8192, 1024]⟩
abbrev S4x2048x1024 : Shape := ⟨3, ![4, 2048, 1024]⟩
abbrev S1x4x256x256 : Shape := ⟨4, ![1, 4, 256, 256]⟩
abbrev S4x256x256 : Shape := ⟨3, ![4, 256, 256]⟩
abbrev S1x1024 : Shape := ⟨2, ![1, 1024]⟩
abbrev S1024 : Shape := ⟨1, ![1024]⟩
abbrev S_ : Shape := ⟨0, ![]⟩
abbrev S4x1x1024 : Shape := ⟨3, ![4, 1, 1024]⟩
abbrev S4x2049x1024 : Shape := ⟨3, ![4, 2049, 1024]⟩
abbrev S2048 : Shape := ⟨1, ![2048]⟩
abbrev S4x2049x256 : Shape := ⟨3, ![4, 2049, 256]⟩
abbrev S2048x1 : Shape := ⟨2, ![2048, 1]⟩
abbrev S4x2048x256 : Shape := ⟨3, ![4, 2048, 256]⟩
abbrev S1x2048x1 : Shape := ⟨3, ![1, 2048, 1]⟩
abbrev S4x2048x1x256 : Shape := ⟨4, ![4, 2048, 1, 256]⟩
abbrev S4x2048x4x256 : Shape := ⟨4, ![4, 2048, 4, 256]⟩
abbrev S4x256x4x2048 : Shape := ⟨4, ![4, 256, 4, 2048]⟩
abbrev S1x1x1024 : Shape := ⟨3, ![1, 1, 1024]⟩

abbrev nBuf : Space → Nat
  | .hbm => 230
  | .vmem => 0
  | .smem => 0
  | _ => 0

abbrev hbmTy0_0 (i : Nat) : BufTy := match i % 128 with
  | 0 => ⟨S9216x25600, .bf16⟩
  | 1 => ⟨S2x4x256x256, .f32⟩
  | 2 => ⟨S2x1024, .f32⟩
  | 3 => ⟨S8192x1024, .bf16⟩
  | 4 => ⟨S8192x1024, .f32⟩
  | 5 => ⟨S4x2048x1024, .f32⟩
  | 6 => ⟨S1x4x256x256, .f32⟩
  | 7 => ⟨S4x256x256, .f32⟩
  | 8 => ⟨S1x1024, .f32⟩
  | 9 => ⟨S1024, .f32⟩
  | 10 => ⟨S_, .f32⟩
  | 11 => ⟨S4x1x1024, .f32⟩
  | 12 => ⟨S_, .f32⟩
  | 13 => ⟨S_, .f32⟩
  | 14 => ⟨S4x2048x1024, .f32⟩
  | 15 => ⟨S4x2049x1024, .f32⟩
  | 16 => ⟨S2048, .i32⟩
  | 17 => ⟨S_, .i32⟩
  | 18 => ⟨S2048, .i32⟩
  | 19 => ⟨S2048, .i32⟩
  | 20 => ⟨S_, .i32⟩
  | 21 => ⟨S_, .i32⟩
  | 22 => ⟨S_, .i32⟩
  | 23 => ⟨S2048, .i32⟩
  | 24 => ⟨S2048, .i32⟩
  | 25 => ⟨S_, .i32⟩
  | 26 => ⟨S2048, .i32⟩
  | 27 => ⟨S2048, .i32⟩
  | 28 => ⟨S_, .i32⟩
  | 29 => ⟨S2048, .i32⟩
  | 30 => ⟨S2048, .i32⟩
  | 31 => ⟨S_, .i32⟩
  | 32 => ⟨S_, .i32⟩
  | 33 => ⟨S_, .i32⟩
  | 34 => ⟨S2048, .i32⟩
  | 35 => ⟨S2048, .i32⟩
  | 36 => ⟨S_, .i32⟩
  | 37 => ⟨S2048, .i32⟩
  | 38 => ⟨S2048, .i32⟩
  | 39 => ⟨S4x2049x256, .f32⟩
  | 40 => ⟨S_, .i32⟩
  | 41 => ⟨S2048, .i32⟩
  | 42 => ⟨S2048, .i1⟩
  | 43 => ⟨S_, .i32⟩
  | 44 => ⟨S2048, .i32⟩
  | 45 => ⟨S2048, .i32⟩
  | 46 => ⟨S2048, .i32⟩
  | 47 => ⟨S2048x1, .i32⟩
  | 48 => ⟨S4x2048x256, .f32⟩
  | 49 => ⟨S_, .i32⟩
  | 50 => ⟨S2048, .i32⟩
  | 51 => ⟨S2048, .i1⟩
  | 52 => ⟨S_, .i32⟩
  | 53 => ⟨S2048, .i32⟩
  | 54 => ⟨S2048, .i32⟩
  | 55 => ⟨S2048, .i32⟩
  | 56 => ⟨S2048x1, .i32⟩
  | 57 => ⟨S4x2048x256, .f32⟩
  | 58 => ⟨S4x2048x256, .f32⟩
  | 59 => ⟨S2048, .i32⟩
  | 60 => ⟨S2048, .f32⟩
  | 61 => ⟨S2048x1, .f32⟩
  | 62 => ⟨S1x2048x1, .f32⟩
  | 63 => ⟨S4x2048x256, .f32⟩
  | 64 => ⟨S4x2048x256, .f32⟩
  | 65 => ⟨S4x2048x256, .f32⟩
  | 66 => ⟨S4x2048x256, .f32⟩
  | 67 => ⟨S_, .i32⟩
  | 68 => ⟨S2048, .i32⟩
  | 69 => ⟨S2048, .i32⟩
  | 70 => ⟨S_, .i32⟩
  | 71 => ⟨S_, .i32⟩
  | 72 => ⟨S_, .i32⟩
  | 73 => ⟨S2048, .i32⟩
  | 74 => ⟨S2048, .i32⟩
  | 75 => ⟨S_, .i32⟩
  | 76 => ⟨S2048, .i32⟩
  | 77 => ⟨S2048, .i32⟩
  | 78 => ⟨S_, .i32⟩
  | 79 => ⟨S2048, .i32⟩
  | 80 => ⟨S2048, .i32⟩
  | 81 => ⟨S_, .i32⟩
  | 82 => ⟨S_, .i32⟩
  | 83 => ⟨S_, .i32⟩
  | 84 => ⟨S2048, .i32⟩
  | 85 => ⟨S2048, .i32⟩
  | 86 => ⟨S_, .i32⟩
  | 87 => ⟨S2048, .i32⟩
  | 88 => ⟨S2048, .i32⟩
  | 89 => ⟨S4x2049x256, .f32⟩
  | 90 => ⟨S_, .i32⟩
  | 91 => ⟨S2048, .i32⟩
  | 92 => ⟨S2048, .i1⟩
  | 93 => ⟨S_, .i32⟩
  | 94 => ⟨S2048, .i32⟩
  | 95 => ⟨S2048, .i32⟩
  | 96 => ⟨S2048, .i32⟩
  | 97 => ⟨S2048x1, .i32⟩
  | 98 => ⟨S4x2048x256, .f32⟩
  | 99 => ⟨S_, .i32⟩
  | 100 => ⟨S2048, .i32⟩
  | 101 => ⟨S2048, .i1⟩
  | 102 => ⟨S_, .i32⟩
  | 103 => ⟨S2048, .i32⟩
  | 104 => ⟨S2048, .i32⟩
  | 105 => ⟨S2048, .i32⟩
  | 106 => ⟨S2048x1, .i32⟩
  | 107 => ⟨S4x2048x256, .f32⟩
  | 108 => ⟨S4x2048x256, .f32⟩
  | 109 => ⟨S2048, .i32⟩
  | 110 => ⟨S2048, .f32⟩
  | 111 => ⟨S2048x1, .f32⟩
  | 112 => ⟨S1x2048x1, .f32⟩
  | 113 => ⟨S4x2048x256, .f32⟩
  | 114 => ⟨S4x2048x256, .f32⟩
  | 115 => ⟨S4x2048x256, .f32⟩
  | 116 => ⟨S4x2048x256, .f32⟩
  | 117 => ⟨S_, .i32⟩
  | 118 => ⟨S2048, .i32⟩
  | 119 => ⟨S2048, .i32⟩
  | 120 => ⟨S_, .i32⟩
  | 121 => ⟨S_, .i32⟩
  | 122 => ⟨S_, .i32⟩
  | 123 => ⟨S2048, .i32⟩
  | 124 => ⟨S2048, .i32⟩
  | 125 => ⟨S_, .i32⟩
  | 126 => ⟨S2048, .i32⟩
  | 127 => ⟨S2048, .i32⟩
  | _ => ⟨S9216x25600, .bf16⟩

abbrev hbmTy0_1 (i : Nat) : BufTy := match i % 128 with
  | 0 => ⟨S_, .i32⟩
  | 1 => ⟨S2048, .i32⟩
  | 2 => ⟨S2048, .i32⟩
  | 3 => ⟨S_, .i32⟩
  | 4 => ⟨S_, .i32⟩
  | 5 => ⟨S_, .i32⟩
  | 6 => ⟨S2048, .i32⟩
  | 7 => ⟨S2048, .i32⟩
  | 8 => ⟨S_, .i32⟩
  | 9 => ⟨S2048, .i32⟩
  | 10 => ⟨S2048, .i32⟩
  | 11 => ⟨S4x2049x256, .f32⟩
  | 12 => ⟨S_, .i32⟩
  | 13 => ⟨S2048, .i32⟩
  | 14 => ⟨S2048, .i1⟩
  | 15 => ⟨S_, .i32⟩
  | 16 => ⟨S2048, .i32⟩
  | 17 => ⟨S2048, .i32⟩
  | 18 => ⟨S2048, .i32⟩
  | 19 => ⟨S2048x1, .i32⟩
  | 20 => ⟨S4x2048x256, .f32⟩
  | 21 => ⟨S_, .i32⟩
  | 22 => ⟨S2048, .i32⟩
  | 23 => ⟨S2048, .i1⟩
  | 24 => ⟨S_, .i32⟩
  | 25 => ⟨S2048, .i32⟩
  | 26 => ⟨S2048, .i32⟩
  | 27 => ⟨S2048, .i32⟩
  | 28 => ⟨S2048x1, .i32⟩
  | 29 => ⟨S4x2048x256, .f32⟩
  | 30 => ⟨S4x2048x256, .f32⟩
  | 31 => ⟨S2048, .i32⟩
  | 32 => ⟨S2048, .f32⟩
  | 33 => ⟨S2048x1, .f32⟩
  | 34 => ⟨S1x2048x1, .f32⟩
  | 35 => ⟨S4x2048x256, .f32⟩
  | 36 => ⟨S4x2048x256, .f32⟩
  | 37 => ⟨S4x2048x256, .f32⟩
  | 38 => ⟨S4x2048x256, .f32⟩
  | 39 => ⟨S_, .i32⟩
  | 40 => ⟨S2048, .i32⟩
  | 41 => ⟨S2048, .i32⟩
  | 42 => ⟨S_, .i32⟩
  | 43 => ⟨S_, .i32⟩
  | 44 => ⟨S_, .i32⟩
  | 45 => ⟨S2048, .i32⟩
  | 46 => ⟨S2048, .i32⟩
  | 47 => ⟨S_, .i32⟩
  | 48 => ⟨S2048, .i32⟩
  | 49 => ⟨S2048, .i32⟩
  | 50 => ⟨S_, .i32⟩
  | 51 => ⟨S2048, .i32⟩
  | 52 => ⟨S2048, .i32⟩
  | 53 => ⟨S_, .i32⟩
  | 54 => ⟨S_, .i32⟩
  | 55 => ⟨S_, .i32⟩
  | 56 => ⟨S2048, .i32⟩
  | 57 => ⟨S2048, .i32⟩
  | 58 => ⟨S_, .i32⟩
  | 59 => ⟨S2048, .i32⟩
  | 60 => ⟨S2048, .i32⟩
  | 61 => ⟨S4x2049x256, .f32⟩
  | 62 => ⟨S_, .i32⟩
  | 63 => ⟨S2048, .i32⟩
  | 64 => ⟨S2048, .i1⟩
  | 65 => ⟨S_, .i32⟩
  | 66 => ⟨S2048, .i32⟩
  | 67 => ⟨S2048, .i32⟩
  | 68 => ⟨S2048, .i32⟩
  | 69 => ⟨S2048x1, .i32⟩
  | 70 => ⟨S4x2048x256, .f32⟩
  | 71 => ⟨S_, .i32⟩
  | 72 => ⟨S2048, .i32⟩
  | 73 => ⟨S2048, .i1⟩
  | 74 => ⟨S_, .i32⟩
  | 75 => ⟨S2048, .i32⟩
  | 76 => ⟨S2048, .i32⟩
  | 77 => ⟨S2048, .i32⟩
  | 78 => ⟨S2048x1, .i32⟩
  | 79 => ⟨S4x2048x256, .f32⟩
  | 80 => ⟨S4x2048x256, .f32⟩
  | 81 => ⟨S2048, .i32⟩
  | 82 => ⟨S2048, .f32⟩
  | 83 => ⟨S2048x1, .f32⟩
  | 84 => ⟨S1x2048x1, .f32⟩
  | 85 => ⟨S4x2048x256, .f32⟩
  | 86 => ⟨S4x2048x256, .f32⟩
  | 87 => ⟨S4x2048x256, .f32⟩
  | 88 => ⟨S4x2048x256, .f32⟩
  | 89 => ⟨S4x2048x1x256, .f32⟩
  | 90 => ⟨S4x2048x1x256, .f32⟩
  | 91 => ⟨S4x2048x1x256, .f32⟩
  | 92 => ⟨S4x2048x1x256, .f32⟩
  | 93 => ⟨S4x2048x4x256, .f32⟩
  | 94 => ⟨S4x256x4x2048, .f32⟩
  | 95 => ⟨S4x2048x4x256, .f32⟩
  | 96 => ⟨S4x2048x1024, .f32⟩
  | 97 => ⟨S1x1x1024, .f32⟩
  | 98 => ⟨S4x2048x1024, .f32⟩
  | 99 => ⟨S4x2048x1024, .f32⟩
  | 100 => ⟨S8192x1024, .f32⟩
  | 101 => ⟨S8192x1024, .bf16⟩
  | _ => ⟨S9216x25600, .bf16⟩

abbrev hbmTy (i : Nat) : BufTy := match i / 128 with
  | 0 => hbmTy0_0 i
  | 1 => hbmTy0_1 i
  | _ => ⟨S9216x25600, .bf16⟩

abbrev bufTy : (tb : Table) → Fin (tcTables nBuf tb) → BufTy
  | .hbm, ⟨i, _⟩ => hbmTy i
  | _, _ => ⟨S9216x25600, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_call0_call0_cst : Ref sig .tc := ⟨.hbm, 12, rfl⟩
abbrev main_call0_call0_v0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_v11 : Ref sig .tc := ⟨.hbm, 18, rfl⟩
abbrev main_v12 : Ref sig .tc := ⟨.hbm, 19, rfl⟩
abbrev main_c_0 : Ref sig .tc := ⟨.hbm, 20, rfl⟩
abbrev main_c_1 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_v13 : Ref sig .tc := ⟨.hbm, 27, rfl⟩
abbrev main_c_2 : Ref sig .tc := ⟨.hbm, 28, rfl⟩
abbrev main_v14 : Ref sig .tc := ⟨.hbm, 29, rfl⟩
abbrev main_v15 : Ref sig .tc := ⟨.hbm, 30, rfl⟩
abbrev main_c_3 : Ref sig .tc := ⟨.hbm, 31, rfl⟩
abbrev main_c_4 : Ref sig .tc := ⟨.hbm, 32, rfl⟩
abbrev main_call2_v0 : Ref sig .tc := ⟨.hbm, 33, rfl⟩
abbrev main_call2_v1 : Ref sig .tc := ⟨.hbm, 34, rfl⟩
abbrev main_call2_v2 : Ref sig .tc := ⟨.hbm, 35, rfl⟩
abbrev main_call2_v3 : Ref sig .tc := ⟨.hbm, 36, rfl⟩
abbrev main_call2_v4 : Ref sig .tc := ⟨.hbm, 37, rfl⟩
abbrev main_v16 : Ref sig .tc := ⟨.hbm, 38, rfl⟩
abbrev main_v17 : Ref sig .tc := ⟨.hbm, 39, rfl⟩
abbrev main_c_5 : Ref sig .tc := ⟨.hbm, 40, rfl⟩
abbrev main_v18 : Ref sig .tc := ⟨.hbm, 41, rfl⟩
abbrev main_v19 : Ref sig .tc := ⟨.hbm, 42, rfl⟩
abbrev main_c_6 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_c_7 : Ref sig .tc := ⟨.hbm, 49, rfl⟩
abbrev main_v25 : Ref sig .tc := ⟨.hbm, 50, rfl⟩
abbrev main_v26 : Ref sig .tc := ⟨.hbm, 51, rfl⟩
abbrev main_c_8 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_c_9 : Ref sig .tc := ⟨.hbm, 67, rfl⟩
abbrev main_v41 : Ref sig .tc := ⟨.hbm, 68, rfl⟩
abbrev main_v42 : Ref sig .tc := ⟨.hbm, 69, rfl⟩
abbrev main_c_10 : Ref sig .tc := ⟨.hbm, 70, rfl⟩
abbrev main_c_11 : Ref sig .tc := ⟨.hbm, 71, rfl⟩
abbrev main_call3_v0 : Ref sig .tc := ⟨.hbm, 72, rfl⟩
abbrev main_call3_v1 : Ref sig .tc := ⟨.hbm, 73, rfl⟩
abbrev main_call3_v2 : Ref sig .tc := ⟨.hbm, 74, rfl⟩
abbrev main_call3_v3 : Ref sig .tc := ⟨.hbm, 75, rfl⟩
abbrev main_call3_v4 : Ref sig .tc := ⟨.hbm, 76, rfl⟩
abbrev main_v43 : Ref sig .tc := ⟨.hbm, 77, rfl⟩
abbrev main_c_12 : Ref sig .tc := ⟨.hbm, 78, rfl⟩
abbrev main_v44 : Ref sig .tc := ⟨.hbm, 79, rfl⟩
abbrev main_v45 : Ref sig .tc := ⟨.hbm, 80, rfl⟩
abbrev main_c_13 : Ref sig .tc := ⟨.hbm, 81, rfl⟩
abbrev main_c_14 : Ref sig .tc := ⟨.hbm, 82, rfl⟩
abbrev main_call4_v0 : Ref sig .tc := ⟨.hbm, 83, rfl⟩
abbrev main_call4_v1 : Ref sig .tc := ⟨.hbm, 84, rfl⟩
abbrev main_call4_v2 : Ref sig .tc := ⟨.hbm, 85, rfl⟩
abbrev main_call4_v3 : Ref sig .tc := ⟨.hbm, 86, rfl⟩
abbrev main_call4_v4 : Ref sig .tc := ⟨.hbm, 87, rfl⟩
abbrev main_v46 : Ref sig .tc := ⟨.hbm, 88, rfl⟩
abbrev main_v47 : Ref sig .tc := ⟨.hbm, 89, rfl⟩
abbrev main_c_15 : Ref sig .tc := ⟨.hbm, 90, rfl⟩
abbrev main_v48 : Ref sig .tc := ⟨.hbm, 91, rfl⟩
abbrev main_v49 : Ref sig .tc := ⟨.hbm, 92, rfl⟩
abbrev main_c_16 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_c_17 : Ref sig .tc := ⟨.hbm, 99, rfl⟩
abbrev main_v55 : Ref sig .tc := ⟨.hbm, 100, rfl⟩
abbrev main_v56 : Ref sig .tc := ⟨.hbm, 101, rfl⟩
abbrev main_c_18 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_c_19 : Ref sig .tc := ⟨.hbm, 117, rfl⟩
abbrev main_v71 : Ref sig .tc := ⟨.hbm, 118, rfl⟩
abbrev main_v72 : Ref sig .tc := ⟨.hbm, 119, rfl⟩
abbrev main_c_20 : Ref sig .tc := ⟨.hbm, 120, rfl⟩
abbrev main_c_21 : Ref sig .tc := ⟨.hbm, 121, rfl⟩
abbrev main_call5_v0 : Ref sig .tc := ⟨.hbm, 122, rfl⟩
abbrev main_call5_v1 : Ref sig .tc := ⟨.hbm, 123, rfl⟩
abbrev main_call5_v2 : Ref sig .tc := ⟨.hbm, 124, rfl⟩
abbrev main_call5_v3 : Ref sig .tc := ⟨.hbm, 125, rfl⟩
abbrev main_call5_v4 : Ref sig .tc := ⟨.hbm, 126, rfl⟩
abbrev main_v73 : Ref sig .tc := ⟨.hbm, 127, rfl⟩
abbrev main_c_22 : Ref sig .tc := ⟨.hbm, 128, rfl⟩
abbrev main_v74 : Ref sig .tc := ⟨.hbm, 129, rfl⟩
abbrev main_v75 : Ref sig .tc := ⟨.hbm, 130, rfl⟩
abbrev main_c_23 : Ref sig .tc := ⟨.hbm, 131, rfl⟩
abbrev main_c_24 : Ref sig .tc := ⟨.hbm, 132, rfl⟩
abbrev main_call6_v0 : Ref sig .tc := ⟨.hbm, 133, rfl⟩
abbrev main_call6_v1 : Ref sig .tc := ⟨.hbm, 134, rfl⟩
abbrev main_call6_v2 : Ref sig .tc := ⟨.hbm, 135, rfl⟩
abbrev main_call6_v3 : Ref sig .tc := ⟨.hbm, 136, rfl⟩
abbrev main_call6_v4 : Ref sig .tc := ⟨.hbm, 137, rfl⟩
abbrev main_v76 : Ref sig .tc := ⟨.hbm, 138, rfl⟩
abbrev main_v77 : Ref sig .tc := ⟨.hbm, 139, rfl⟩
abbrev main_c_25 : Ref sig .tc := ⟨.hbm, 140, rfl⟩
abbrev main_v78 : Ref sig .tc := ⟨.hbm, 141, rfl⟩
abbrev main_v79 : Ref sig .tc := ⟨.hbm, 142, rfl⟩
abbrev main_c_26 : Ref sig .tc := ⟨.hbm, 143, rfl⟩
abbrev main_v80 : Ref sig .tc := ⟨.hbm, 144, rfl⟩
abbrev main_v81 : Ref sig .tc := ⟨.hbm, 145, rfl⟩
abbrev main_v82 : Ref sig .tc := ⟨.hbm, 146, rfl⟩
abbrev main_v83 : Ref sig .tc := ⟨.hbm, 147, rfl⟩
abbrev main_v84 : Ref sig .tc := ⟨.hbm, 148, rfl⟩
abbrev main_c_27 : Ref sig .tc := ⟨.hbm, 149, rfl⟩
abbrev main_v85 : Ref sig .tc := ⟨.hbm, 150, rfl⟩
abbrev main_v86 : Ref sig .tc := ⟨.hbm, 151, rfl⟩
abbrev main_c_28 : Ref sig .tc := ⟨.hbm, 152, rfl⟩
abbrev main_v87 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_v91 : Ref sig .tc := ⟨.hbm, 157, rfl⟩
abbrev main_v92 : Ref sig .tc := ⟨.hbm, 158, rfl⟩
abbrev main_v93 : Ref sig .tc := ⟨.hbm, 159, rfl⟩
abbrev main_v94 : Ref sig .tc := ⟨.hbm, 160, rfl⟩
abbrev main_v95 : Ref sig .tc := ⟨.hbm, 161, rfl⟩
abbrev main_v96 : Ref sig .tc := ⟨.hbm, 162, rfl⟩
abbrev main_v97 : Ref sig .tc := ⟨.hbm, 163, rfl⟩
abbrev main_v98 : Ref sig .tc := ⟨.hbm, 164, rfl⟩
abbrev main_v99 : Ref sig .tc := ⟨.hbm, 165, rfl⟩
abbrev main_v100 : Ref sig .tc := ⟨.hbm, 166, rfl⟩
abbrev main_c_29 : Ref sig .tc := ⟨.hbm, 167, rfl⟩
abbrev main_v101 : Ref sig .tc := ⟨.hbm, 168, rfl⟩
abbrev main_v102 : Ref sig .tc := ⟨.hbm, 169, rfl⟩
abbrev main_c_30 : Ref sig .tc := ⟨.hbm, 170, rfl⟩
abbrev main_c_31 : Ref sig .tc := ⟨.hbm, 171, rfl⟩
abbrev main_call7_v0 : Ref sig .tc := ⟨.hbm, 172, rfl⟩
abbrev main_call7_v1 : Ref sig .tc := ⟨.hbm, 173, rfl⟩
abbrev main_call7_v2 : Ref sig .tc := ⟨.hbm, 174, rfl⟩
abbrev main_call7_v3 : Ref sig .tc := ⟨.hbm, 175, rfl⟩
abbrev main_call7_v4 : Ref sig .tc := ⟨.hbm, 176, rfl⟩
abbrev main_v103 : Ref sig .tc := ⟨.hbm, 177, rfl⟩
abbrev main_c_32 : Ref sig .tc := ⟨.hbm, 178, rfl⟩
abbrev main_v104 : Ref sig .tc := ⟨.hbm, 179, rfl⟩
abbrev main_v105 : Ref sig .tc := ⟨.hbm, 180, rfl⟩
abbrev main_c_33 : Ref sig .tc := ⟨.hbm, 181, rfl⟩
abbrev main_c_34 : Ref sig .tc := ⟨.hbm, 182, rfl⟩
abbrev main_call8_v0 : Ref sig .tc := ⟨.hbm, 183, rfl⟩
abbrev main_call8_v1 : Ref sig .tc := ⟨.hbm, 184, rfl⟩
abbrev main_call8_v2 : Ref sig .tc := ⟨.hbm, 185, rfl⟩
abbrev main_call8_v3 : Ref sig .tc := ⟨.hbm, 186, rfl⟩
abbrev main_call8_v4 : Ref sig .tc := ⟨.hbm, 187, rfl⟩
abbrev main_v106 : Ref sig .tc := ⟨.hbm, 188, rfl⟩
abbrev main_v107 : Ref sig .tc := ⟨.hbm, 189, rfl⟩
abbrev main_c_35 : Ref sig .tc := ⟨.hbm, 190, rfl⟩
abbrev main_v108 : Ref sig .tc := ⟨.hbm, 191, rfl⟩
abbrev main_v109 : Ref sig .tc := ⟨.hbm, 192, rfl⟩
abbrev main_c_36 : Ref sig .tc := ⟨.hbm, 193, rfl⟩
abbrev main_v110 : Ref sig .tc := ⟨.hbm, 194, rfl⟩
abbrev main_v111 : Ref sig .tc := ⟨.hbm, 195, rfl⟩
abbrev main_v112 : Ref sig .tc := ⟨.hbm, 196, rfl⟩
abbrev main_v113 : Ref sig .tc := ⟨.hbm, 197, rfl⟩
abbrev main_v114 : Ref sig .tc := ⟨.hbm, 198, rfl⟩
abbrev main_c_37 : Ref sig .tc := ⟨.hbm, 199, rfl⟩
abbrev main_v115 : Ref sig .tc := ⟨.hbm, 200, rfl⟩
abbrev main_v116 : Ref sig .tc := ⟨.hbm, 201, rfl⟩
abbrev main_c_38 : Ref sig .tc := ⟨.hbm, 202, rfl⟩
abbrev main_v117 : Ref sig .tc := ⟨.hbm, 203, rfl⟩
abbrev main_v118 : Ref sig .tc := ⟨.hbm, 204, rfl⟩
abbrev main_v119 : Ref sig .tc := ⟨.hbm, 205, rfl⟩
abbrev main_v120 : Ref sig .tc := ⟨.hbm, 206, rfl⟩
abbrev main_v121 : Ref sig .tc := ⟨.hbm, 207, rfl⟩
abbrev main_v122 : Ref sig .tc := ⟨.hbm, 208, rfl⟩
abbrev main_v123 : Ref sig .tc := ⟨.hbm, 209, rfl⟩
abbrev main_v124 : Ref sig .tc := ⟨.hbm, 210, rfl⟩
abbrev main_v125 : Ref sig .tc := ⟨.hbm, 211, rfl⟩
abbrev main_v126 : Ref sig .tc := ⟨.hbm, 212, rfl⟩
abbrev main_v127 : Ref sig .tc := ⟨.hbm, 213, rfl⟩
abbrev main_v128 : Ref sig .tc := ⟨.hbm, 214, rfl⟩
abbrev main_v129 : Ref sig .tc := ⟨.hbm, 215, rfl⟩
abbrev main_v130 : Ref sig .tc := ⟨.hbm, 216, rfl⟩
abbrev main_v131 : Ref sig .tc := ⟨.hbm, 217, rfl⟩
abbrev main_v132 : Ref sig .tc := ⟨.hbm, 218, rfl⟩
abbrev main_v133 : Ref sig .tc := ⟨.hbm, 219, rfl⟩
abbrev main_v134 : Ref sig .tc := ⟨.hbm, 220, rfl⟩
abbrev main_v135 : Ref sig .tc := ⟨.hbm, 221, rfl⟩
abbrev main_v136 : Ref sig .tc := ⟨.hbm, 222, rfl⟩
abbrev main_v137 : Ref sig .tc := ⟨.hbm, 223, rfl⟩
abbrev main_v138 : Ref sig .tc := ⟨.hbm, 224, rfl⟩
abbrev main_v139 : Ref sig .tc := ⟨.hbm, 225, rfl⟩
abbrev main_v140 : Ref sig .tc := ⟨.hbm, 226, rfl⟩
abbrev main_v141 : Ref sig .tc := ⟨.hbm, 227, rfl⟩
abbrev main_v142 : Ref sig .tc := ⟨.hbm, 228, rfl⟩
abbrev main_v143 : Ref sig .tc := ⟨.hbm, 229, rfl⟩

abbrev nD : Nat := 1
abbrev τ : Topo := Topo.v7x

variable {F : FTy → Type} [FloatOps F]
-- ==== MidKernel.lean ====
abbrev S9216x4096 : Shape := ⟨2, ![9216, 4096]⟩
abbrev S2x6x4096 : Shape := ⟨3, ![2, 6, 4096]⟩
abbrev S8x36864 : Shape := ⟨2, ![8, 36864]⟩
abbrev S12x1x4096 : Shape := ⟨3, ![12, 1, 4096]⟩
abbrev S8x1x36864 : Shape := ⟨3, ![8, 1, 36864]⟩
abbrev S256x4096 : Shape := ⟨2, ![256, 4096]⟩
abbrev S1x1x4096 : Shape := ⟨3, ![1, 1, 4096]⟩
abbrev S1x4096 : Shape := ⟨2, ![1, 4096]⟩
abbrev S256 : Shape := ⟨1, ![256]⟩
abbrev S256x1 : Shape := ⟨2, ![256, 1]⟩

abbrev nBuf : Space → Nat
  | .hbm => 8
  | .vmem => 16
  | .smem => 0
  | _ => 0

abbrev bufTy : (tb : Table) → Fin (tcTables nBuf tb) → BufTy
  | .hbm, ⟨0, _⟩ => ⟨S9216x4096, .f32⟩
  | .hbm, ⟨1, _⟩ => ⟨S9216x4096, .f32⟩
  | .hbm, ⟨2, _⟩ => ⟨S2x6x4096, .f32⟩
  | .hbm, ⟨3, _⟩ => ⟨S8x36864, .f32⟩
  | .hbm, ⟨4, _⟩ => ⟨S12x1x4096, .f32⟩
  | .hbm, ⟨5, _⟩ => ⟨S8x1x36864, .f32⟩
  | .hbm, ⟨6, _⟩ => ⟨S9216x4096, .f32⟩
  | .hbm, ⟨7, _⟩ => ⟨S9216x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S1x1x4096, .f32⟩
  | .local _ .vmem, ⟨8, _⟩ => ⟨S1x1x4096, .f32⟩
  | .local _ .vmem, ⟨9, _⟩ => ⟨S1x1x4096, .f32⟩
  | .local _ .vmem, ⟨10, _⟩ => ⟨S1x1x4096, .f32⟩
  | .local _ .vmem, ⟨11, _⟩ => ⟨S1x1x4096, .f32⟩
  | .local _ .vmem, ⟨12, _⟩ => ⟨S256x4096, .f32⟩
  | .local _ .vmem, ⟨13, _⟩ => ⟨S256x4096, .f32⟩
  | .local _ .vmem, ⟨14, _⟩ => ⟨S256x4096, .bf16⟩
  | .local _ .vmem, ⟨15, _⟩ => ⟨S256x4096, .bf16⟩
  | _, _ => ⟨S9216x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 3 → Nat :=
  let arg0 : BitVec 32 := BitVec.ofNat 32 (i 0).val
  let c256_i32 : BitVec 32 := 256#32
  let v0 : BitVec 32 := Scalar.muli arg0 c256_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.minsi v17 c4_i32
  let c0_i32_4 : BitVec 32 := 0#32
  let c5_i32 : BitVec 32 := 5#32
  let c0_i32_5 : BitVec 32 := 0#32
  ![v18.toNat, c0_i32_4.toNat, c5_i32.toNat]

def cc0_transform_4 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  let c0_i32_1 : BitVec 32 := 0#32
  ![c4_i32.toNat, c0_i32.toNat, c0_i32_0.toNat]

def cc0_transform_5 (i : grid0.Coords) : Fin 3 → Nat :=
  let arg0 : BitVec 32 := BitVec.ofNat 32 (i 0).val
  let c256_i32 : BitVec 32 := 256#32
  let v0 : BitVec 32 := Scalar.muli arg0 c256_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.minsi v17 c4_i32
  let c0_i32_4 : BitVec 32 := 0#32
  let c6_i32 : BitVec 32 := 6#32
  let c0_i32_5 : BitVec 32 := 0#32
  ![v18.toNat, c0_i32_4.toNat, c6_i32.toNat]

def cc0_transform_6 (i : grid0.Coords) : Fin 3 → Nat :=
  let arg0 : BitVec 32 := BitVec.ofNat 32 (i 0).val
  let c256_i32 : BitVec 32 := 256#32
  let v0 : BitVec 32 := Scalar.muli arg0 c256_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.minsi v17 c4_i32
  let c0_i32_4 : BitVec 32 := 0#32
  let c7_i32 : BitVec 32 := 7#32
  let c0_i32_5 : BitVec 32 := 0#32
  ![v18.toNat, c0_i32_4.toNat, c7_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MidReferenceIdeal.lean ====
abbrev S9216x4096 : Shape := ⟨2, ![9216, 4096]⟩
abbrev S2x6x4096 : Shape := ⟨3, ![2, 6, 4096]⟩
abbrev S8x36864 : Shape := ⟨2, ![8, 36864]⟩
abbrev S8192x4096 : Shape := ⟨2, ![8192, 4096]⟩
abbrev S4x2048x4096 : Shape := ⟨3, ![4, 2048, 4096]⟩
abbrev S1024x4096 : Shape := ⟨2, ![1024, 4096]⟩
abbrev S4x256x4096 : Shape := ⟨3, ![4, 256, 4096]⟩
abbrev S4x36864 : Shape := ⟨2, ![4, 36864]⟩
abbrev S4x9x1x4096 : Shape := ⟨4, ![4, 9, 1, 4096]⟩
abbrev S1x36864 : Shape := ⟨2, ![1, 36864]⟩
abbrev S1x9x1x4096 : Shape := ⟨4, ![1, 9, 1, 4096]⟩
abbrev S1x6x4096 : Shape := ⟨3, ![1, 6, 4096]⟩
abbrev S6x4096 : Shape := ⟨2, ![6, 4096]⟩
abbrev S4x1x1x4096 : Shape := ⟨4, ![4, 1, 1, 4096]⟩
abbrev S4x1x4096 : Shape := ⟨3, ![4, 1, 4096]⟩
abbrev S1x4096 : Shape := ⟨2, ![1, 4096]⟩
abbrev S4096 : Shape := ⟨1, ![4096]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩
abbrev S1x1x1x4096 : Shape := ⟨4, ![1, 1, 1, 4096]⟩
abbrev S4x256 : Shape := ⟨2, ![4, 256]⟩
abbrev S4x256x1 : Shape := ⟨3, ![4, 256, 1]⟩

abbrev nBuf : Space → Nat
  | .hbm => 129
  | .vmem => 0
  | .smem => 0
  | _ => 0

abbrev hbmTy0_0 (i : Nat) : BufTy := match i % 128 with
  | 0 => ⟨S9216x4096, .f32⟩
  | 1 => ⟨S9216x4096, .f32⟩
  | 2 => ⟨S2x6x4096, .f32⟩
  | 3 => ⟨S8x36864, .f32⟩
  | 4 => ⟨S8192x4096, .f32⟩
  | 5 => ⟨S4x2048x4096, .f32⟩
  | 6 => ⟨S1024x4096, .f32⟩
  | 7 => ⟨S4x256x4096, .f32⟩
  | 8 => ⟨S8192x4096, .f32⟩
  | 9 => ⟨S4x2048x4096, .f32⟩
  | 10 => ⟨S1024x4096, .f32⟩
  | 11 => ⟨S4x256x4096, .f32⟩
  | 12 => ⟨S4x36864, .f32⟩
  | 13 => ⟨S4x9x1x4096, .f32⟩
  | 14 => ⟨S1x36864, .f32⟩
  | 15 => ⟨S1x9x1x4096, .f32⟩
  | 16 => ⟨S1x6x4096, .f32⟩
  | 17 => ⟨S6x4096, .f32⟩
  | 18 => ⟨S4x1x1x4096, .f32⟩
  | 19 => ⟨S4x1x4096, .f32⟩
  | 20 => ⟨S1x4096, .f32⟩
  | 21 => ⟨S4096, .f32⟩
  | 22 => ⟨S4x2048x4096, .f32⟩
  | 23 => ⟨S_, .f32⟩
  | 24 => ⟨S4x2048, .f32⟩
  | 25 => ⟨S4x2048x1, .f32⟩
  | 26 => ⟨S_, .f32⟩
  | 27 => ⟨S4x2048x1, .f32⟩
  | 28 => ⟨S4x2048x1, .f32⟩
  | 29 => ⟨S_, .f32⟩
  | 30 => ⟨S4x2048x1, .f32⟩
  | 31 => ⟨S4x2048x1, .f32⟩
  | 32 => ⟨S4x2048x1, .f32⟩
  | 33 => ⟨S4x2048x4096, .f32⟩
  | 34 => ⟨S4x2048x4096, .f32⟩
  | 35 => ⟨S1x1x4096, .f32⟩
  | 36 => ⟨S4x2048x4096, .f32⟩
  | 37 => ⟨S4x2048x4096, .f32⟩
  | 38 => ⟨S4x2048x4096, .f32⟩
  | 39 => ⟨S4x2048x4096, .f32⟩
  | 40 => ⟨S4x2048x4096, .f32⟩
  | 41 => ⟨S1x1x1x4096, .f32⟩
  | 42 => ⟨S1x1x4096, .f32⟩
  | 43 => ⟨S1x4096, .f32⟩
  | 44 => ⟨S4096, .f32⟩
  | 45 => ⟨S4x256x4096, .f32⟩
  | 46 => ⟨S_, .f32⟩
  | 47 => ⟨S4x256, .f32⟩
  | 48 => ⟨S4x256x1, .f32⟩
  | 49 => ⟨S_, .f32⟩
  | 50 => ⟨S4x256x1, .f32⟩
  | 51 => ⟨S4x256x1, .f32⟩
  | 52 => ⟨S_, .f32⟩
  | 53 => ⟨S4x256x1, .f32⟩
  | 54 => ⟨S4x256x1, .f32⟩
  | 55 => ⟨S4x256x1, .f32⟩
  | 56 => ⟨S4x256x4096, .f32⟩
  | 57 => ⟨S4x256x4096, .f32⟩
  | 58 => ⟨S1x1x4096, .f32⟩
  | 59 => ⟨S4x256x4096, .f32⟩
  | 60 => ⟨S4x256x4096, .f32⟩
  | 61 => ⟨S4x256x4096, .f32⟩
  | 62 => ⟨S4x256x4096, .f32⟩
  | 63 => ⟨S4x256x4096, .f32⟩
  | 64 => ⟨S1x4096, .f32⟩
  | 65 => ⟨S4096, .f32⟩
  | 66 => ⟨S4x2048x4096, .f32⟩
  | 67 => ⟨S_, .f32⟩
  | 68 => ⟨S4x2048, .f32⟩
  | 69 => ⟨S4x2048x1, .f32⟩
  | 70 => ⟨S_, .f32⟩
  | 71 => ⟨S4x2048x1, .f32⟩
  | 72 => ⟨S4x2048x1, .f32⟩
  | 73 => ⟨S_, .f32⟩
  | 74 => ⟨S4x2048x1, .f32⟩
  | 75 => ⟨S4x2048x1, .f32⟩
  | 76 => ⟨S4x2048x1, .f32⟩
  | 77 => ⟨S4x2048x4096, .f32⟩
  | 78 => ⟨S4x2048x4096, .f32⟩
  | 79 => ⟨S1x1x4096, .f32⟩
  | 80 => ⟨S4x2048x4096, .f32⟩
  | 81 => ⟨S4x2048x4096, .f32⟩
  | 82 => ⟨S4x1x1x4096, .f32⟩
  | 83 => ⟨S4x1x4096, .f32⟩
  | 84 => ⟨S4x1x1x4096, .f32⟩
  | 85 => ⟨S4x1x4096, .f32⟩
  | 86 => ⟨S_, .f32⟩
  | 87 => ⟨S4x1x4096, .f32⟩
  | 88 => ⟨S4x1x4096, .f32⟩
  | 89 => ⟨S4x2048x4096, .f32⟩
  | 90 => ⟨S4x2048x4096, .f32⟩
  | 91 => ⟨S4x2048x4096, .f32⟩
  | 92 => ⟨S4x2048x4096, .f32⟩
  | 93 => ⟨S1x4096, .f32⟩
  | 94 => ⟨S4096, .f32⟩
  | 95 => ⟨S4x256x4096, .f32⟩
  | 96 => ⟨S_, .f32⟩
  | 97 => ⟨S4x256, .f32⟩
  | 98 => ⟨S4x256x1, .f32⟩
  | 99 => ⟨S_, .f32⟩
  | 100 => ⟨S4x256x1, .f32⟩
  | 101 => ⟨S4x256x1, .f32⟩
  | 102 => ⟨S_, .f32⟩
  | 103 => ⟨S4x256x1, .f32⟩
  | 104 => ⟨S4x256x1, .f32⟩
  | 105 => ⟨S4x256x1, .f32⟩
  | 106 => ⟨S4x256x4096, .f32⟩
  | 107 => ⟨S4x256x4096, .f32⟩
  | 108 => ⟨S1x1x4096, .f32⟩
  | 109 => ⟨S4x256x4096, .f32⟩
  | 110 => ⟨S4x256x4096, .f32⟩
  | 111 => ⟨S1x1x1x4096, .f32⟩
  | 112 => ⟨S1x1x4096, .f32⟩
  | 113 => ⟨S1x1x1x4096, .f32⟩
  | 114 => ⟨S1x1x4096, .f32⟩
  | 115 => ⟨S_, .f32⟩
  | 116 => ⟨S1x1x4096, .f32⟩
  | 117 => ⟨S1x1x4096, .f32⟩
  | 118 => ⟨S4x256x4096, .f32⟩
  | 119 => ⟨S4x256x4096, .f32⟩
  | 120 => ⟨S4x256x4096, .f32⟩
  | 121 => ⟨S4x256x4096, .f32⟩
  | 122 => ⟨S8192x4096, .f32⟩
  | 123 => ⟨S1024x4096, .f32⟩
  | 124 => ⟨S9216x4096, .f32⟩
  | 125 => ⟨S8192x4096, .f32⟩
  | 126 => ⟨S1024x4096, .f32⟩
  | 127 => ⟨S9216x4096, .f32⟩
  | _ => ⟨S9216x4096, .f32⟩

abbrev hbmTy0_1 (i : Nat) : BufTy := match i % 128 with
  | 0 => ⟨S9216x4096, .bf16⟩
  | _ => ⟨S9216x4096, .f32⟩

abbrev hbmTy (i : Nat) : BufTy := match i / 128 with
  | 0 => hbmTy0_0 i
  | 1 => hbmTy0_1 i
  | _ => ⟨S9216x4096, .f32⟩

abbrev bufTy : (tb : Table) → Fin (tcTables nBuf tb) → BufTy
  | .hbm, ⟨i, _⟩ => hbmTy i
  | _, _ => ⟨S9216x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst : Ref sig .tc := ⟨.hbm, 23, rfl⟩
abbrev main_v19 : Ref sig .tc := ⟨.hbm, 24, rfl⟩
abbrev main_v20 : Ref sig .tc := ⟨.hbm, 25, rfl⟩
abbrev main_cst_0 : Ref sig .tc := ⟨.hbm, 26, rfl⟩
abbrev main_v21 : Ref sig .tc := ⟨.hbm, 27, rfl⟩
abbrev main_v22 : Ref sig .tc := ⟨.hbm, 28, rfl⟩
abbrev main_cst_1 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_cst_2 : Ref sig .tc := ⟨.hbm, 46, rfl⟩
abbrev main_v39 : Ref sig .tc := ⟨.hbm, 47, rfl⟩
abbrev main_v40 : Ref sig .tc := ⟨.hbm, 48, rfl⟩
abbrev main_cst_3 : Ref sig .tc := ⟨.hbm, 49, rfl⟩
abbrev main_v41 : Ref sig .tc := ⟨.hbm, 50, rfl⟩
abbrev main_v42 : Ref sig .tc := ⟨.hbm, 51, rfl⟩
abbrev main_cst_4 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_cst_5 : Ref sig .tc := ⟨.hbm, 67, rfl⟩
abbrev main_v57 : Ref sig .tc := ⟨.hbm, 68, rfl⟩
abbrev main_v58 : Ref sig .tc := ⟨.hbm, 69, rfl⟩
abbrev main_cst_6 : Ref sig .tc := ⟨.hbm, 70, rfl⟩
abbrev main_v59 : Ref sig .tc := ⟨.hbm, 71, rfl⟩
abbrev main_v60 : Ref sig .tc := ⟨.hbm, 72, rfl⟩
abbrev main_cst_7 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_cst_8 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_cst_9 : Ref sig .tc := ⟨.hbm, 96, rfl⟩
abbrev main_v82 : Ref sig .tc := ⟨.hbm, 97, rfl⟩
abbrev main_v83 : Ref sig .tc := ⟨.hbm, 98, rfl⟩
abbrev main_cst_10 : Ref sig .tc := ⟨.hbm, 99, rfl⟩
abbrev main_v84 : Ref sig .tc := ⟨.hbm, 100, rfl⟩
abbrev main_v85 : Ref sig .tc := ⟨.hbm, 101, rfl⟩
abbrev main_cst_11 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_cst_12 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩

abbrev nD : Nat := 1
abbrev τ : Topo := Topo.v7x

variable {F : FTy → Type} [FloatOps F]
-- ==== LastKernel.lean ====
abbrev S8192x4096 : Shape := ⟨2, ![8192, 4096]⟩
abbrev S2x6x4096 : Shape := ⟨3, ![2, 6, 4096]⟩
abbrev S8x36864 : Shape := ⟨2, ![8, 36864]⟩
abbrev S12x1x4096 : Shape := ⟨3, ![12, 1, 4096]⟩
abbrev S8x1x36864 : Shape := ⟨3, ![8, 1, 36864]⟩
abbrev S256x4096 : Shape := ⟨2, ![256, 4096]⟩
abbrev S1x1x4096 : Shape := ⟨3, ![1, 1, 4096]⟩
abbrev S1x4096 : Shape := ⟨2, ![1, 4096]⟩
abbrev S256 : Shape := ⟨1, ![256]⟩
abbrev S256x1 : Shape := ⟨2, ![256, 1]⟩

abbrev nBuf : Space → Nat
  | .hbm => 7
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S2x6x4096, .f32⟩
  | .hbm, ⟨3, _⟩ => ⟨S8x36864, .f32⟩
  | .hbm, ⟨4, _⟩ => ⟨S12x1x4096, .f32⟩
  | .hbm, ⟨5, _⟩ => ⟨S8x1x36864, .f32⟩
  | .hbm, ⟨6, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S256x4096, .f32⟩
  | .local _ .vmem, ⟨8, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c11_i32 : BitVec 32 := 11#32
  let c0_i32 : BitVec 32 := 0#32
  let c0_i32_0 : BitVec 32 := 0#32
  let c0_i32_1 : BitVec 32 := 0#32
  ![c11_i32.toNat, c0_i32.toNat, c0_i32_0.toNat]

def cc0_transform_3 (i : grid0.Coords) : Fin 3 → Nat :=
  let arg0 : BitVec 32 := BitVec.ofNat 32 (i 0).val
  let c256_i32 : BitVec 32 := 256#32
  let v0 : BitVec 32 := Scalar.muli arg0 c256_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.minsi v17 c4_i32
  let c0_i32_4 : BitVec 32 := 0#32
  let c8_i32 : BitVec 32 := 8#32
  let c0_i32_5 : BitVec 32 := 0#32
  ![v18.toNat, c0_i32_4.toNat, c8_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== LastReferenceIdeal.lean ====
abbrev S8192x4096 : Shape := ⟨2, ![8192, 4096]⟩
abbrev S2x6x4096 : Shape := ⟨3, ![2, 6, 4096]⟩
abbrev S8x36864 : Shape := ⟨2, ![8, 36864]⟩
abbrev S4x2048x4096 : Shape := ⟨3, ![4, 2048, 4096]⟩
abbrev S4x36864 : Shape := ⟨2, ![4, 36864]⟩
abbrev S4x9x1x4096 : Shape := ⟨4, ![4, 9, 1, 4096]⟩
abbrev S1x6x4096 : Shape := ⟨3, ![1, 6, 4096]⟩
abbrev S6x4096 : Shape := ⟨2, ![6, 4096]⟩
abbrev S4x1x1x4096 : Shape := ⟨4, ![4, 1, 1, 4096]⟩
abbrev S4x1x4096 : Shape := ⟨3, ![4, 1, 4096]⟩
abbrev S_ : Shape := ⟨0, ![]⟩
abbrev S1x4096 : Shape := ⟨2, ![1, 4096]⟩
abbrev S4096 : Shape := ⟨1, ![4096]⟩
abbrev S4x2048 : Shape := ⟨2, ![4, 2048]⟩
abbrev S4x2048x1 : Shape := ⟨3, ![4, 2048, 1]⟩
abbrev S1x1x4096 : Shape := ⟨3, ![1, 1, 4096]⟩

abbrev nBuf : Space → Nat
  | .hbm => 37
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S2x6x4096, .f32⟩
  | .hbm, ⟨3, _⟩ => ⟨S8x36864, .f32⟩
  | .hbm, ⟨4, _⟩ => ⟨S4x2048x4096, .f32⟩
  | .hbm, ⟨5, _⟩ => ⟨S4x2048x4096, .f32⟩
  | .hbm, ⟨6, _⟩ => ⟨S4x36864, .f32⟩
  | .hbm, ⟨7, _⟩ => ⟨S4x9x1x4096, .f32⟩
  | .hbm, ⟨8, _⟩ => ⟨S1x6x4096, .f32⟩
  | .hbm, ⟨9, _⟩ => ⟨S6x4096, .f32⟩
  | .hbm, ⟨10, _⟩ => ⟨S4x1x1x4096, .f32⟩
  | .hbm, ⟨11, _⟩ => ⟨S4x1x4096, .f32⟩
  | .hbm, ⟨12, _⟩ => ⟨S_, .f32⟩
  | .hbm, ⟨13, _⟩ => ⟨S4x1x4096, .f32⟩
  | .hbm, ⟨14, _⟩ => ⟨S4x1x4096, .f32⟩
  | .hbm, ⟨15, _⟩ => ⟨S1x4096, .f32⟩
  | .hbm, ⟨16, _⟩ => ⟨S4096, .f32⟩
  | .hbm, ⟨17, _⟩ => ⟨S4x2048x4096, .f32⟩
  | .hbm, ⟨18, _⟩ => ⟨S_, .f32⟩
  | .hbm, ⟨19, _⟩ => ⟨S4x2048, .f32⟩
  | .hbm, ⟨20, _⟩ => ⟨S4x2048x1, .f32⟩
  | .hbm, ⟨21, _⟩ => ⟨S_, .f32⟩
  | .hbm, ⟨22, _⟩ => ⟨S4x2048x1, .f32⟩
  | .hbm, ⟨23, _⟩ => ⟨S4x2048x1, .f32⟩
  | .hbm, ⟨24, _⟩ => ⟨S_, .f32⟩
  | .hbm, ⟨25, _⟩ => ⟨S4x2048x1, .f32⟩
  | .hbm, ⟨26, _⟩ => ⟨S4x2048x1, .f32⟩
  | .hbm, ⟨27, _⟩ => ⟨S4x2048x1, .f32⟩
  | .hbm, ⟨28, _⟩ => ⟨S4x2048x4096, .f32⟩
  | .hbm, ⟨29, _⟩ => ⟨S4x2048x4096, .f32⟩
  | .hbm, ⟨30, _⟩ => ⟨S1x1x4096, .f32⟩
  | .hbm, ⟨31, _⟩ => ⟨S4x2048x4096, .f32⟩
  | .hbm, ⟨32, _⟩ => ⟨S4x2048x4096, .f32⟩
  | .hbm, ⟨33, _⟩ => ⟨S4x2048x4096, .f32⟩
  | .hbm, ⟨34, _⟩ => ⟨S4x2048x4096, .f32⟩
  | .hbm, ⟨35, _⟩ => ⟨S4x2048x4096, .f32⟩
  | .hbm, ⟨36, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]
-- ==== Proof.Frames.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.ProjKernel.Frame
public import proofs.«01_k».proof.Proof.Gen.ProjKernelIdeal.Frame
public import proofs.«01_k».proof.Proof.Gen.ProjReferenceIdeal.Run
public import proofs.«01_k».proof.Proof.Gen.UpKernel.Frame
public import proofs.«01_k».proof.Proof.Gen.UpKernelIdeal.Frame
public import proofs.«01_k».proof.Proof.Gen.UpReferenceIdeal.Run
public import proofs.«01_k».proof.Proof.Gen.DownKernel.Frame
public import proofs.«01_k».proof.Proof.Gen.DownKernelIdeal.Frame
public import proofs.«01_k».proof.Proof.Gen.DownReferenceIdeal.Run
public import proofs.«01_k».proof.Proof.Gen.OutKernel.Frame
public import proofs.«01_k».proof.Proof.Gen.OutKernelIdeal.Frame
public import proofs.«01_k».proof.Proof.Gen.OutReferenceIdeal.Run
public import proofs.«01_k».proof.Proof.Gen.BranchKernel.Frame
public import proofs.«01_k».proof.Proof.Gen.AdaKernel.Frame
public import proofs.«01_k».proof.Proof.Gen.NormKernel.Frame
public import proofs.«01_k».proof.Proof.Gen.ResidKernel.Frame
public import proofs.«01_k».proof.Proof.Gen.CtxKernel.Frame
public import proofs.«01_k».proof.Proof.Gen.PoolKernel.Frame
public import proofs.«01_k».proof.Proof.Gen.MidKernel.Frame
public import proofs.«01_k».proof.Proof.Gen.LastKernel.Frame
public import proofs.«01_k».proof.Proof.Gen.BranchKernelIdeal.Frame
public import proofs.«01_k».proof.Proof.Gen.AdaKernelIdeal.Frame
public import proofs.«01_k».proof.Proof.Gen.NormKernelIdeal.Frame
public import proofs.«01_k».proof.Proof.Gen.ResidKernelIdeal.Frame
public import proofs.«01_k».proof.Proof.Gen.CtxKernelIdeal.Frame
public import proofs.«01_k».proof.Proof.Gen.PoolKernelIdeal.Frame
public import proofs.«01_k».proof.Proof.Gen.MidKernelIdeal.Frame
public import proofs.«01_k».proof.Proof.Gen.LastKernelIdeal.Frame
public import proofs.«01_k».proof.Proof.Gen.BranchReferenceIdeal.Run
public import proofs.«01_k».proof.Proof.Gen.AdaReferenceIdeal.Run
public import proofs.«01_k».proof.Proof.Gen.NormReferenceIdeal.Run
public import proofs.«01_k».proof.Proof.Gen.ResidReferenceIdeal.Run
public import proofs.«01_k».proof.Proof.Gen.CtxReferenceIdeal.Run
public import proofs.«01_k».proof.Proof.Gen.PoolReferenceIdeal.Run
public import proofs.«01_k».proof.Proof.Gen.MidReferenceIdeal.Run
public import proofs.«01_k».proof.Proof.Gen.LastReferenceIdeal.Run
public import Idealize.ShloMosaic.Lib.Claim
public import Idealize.ShloMosaic.Adequacy
public import Idealize.ShloMosaic.Init

@[expose] public section

set_option maxRecDepth 16384

noncomputable section

namespace Cert.Proof.Frames

open Idealize.ShloMosaic Idealize.ShloMosaic.TcCoe
open Idealize.SL Idealize.SL.Sem

/-- The kernel program of the attention ends, faults nowhere, and leaves its arguments and every counter as they were. -/
theorem attn_p : Cert.quiescent_Kernel (hKernel := Cert.Kernel.Gen.facts) := fun m g _ => Cert.Kernel.Gen.frame m g

/-- The same of the kernel program of the attention over the extended reals. -/
theorem attn_pi : Cert.quiescent_KernelIdeal (hKernelIdeal := Cert.KernelIdeal.Gen.facts) := fun m g _ => Cert.KernelIdeal.Gen.frame m g

/-- The same of the reference program of the attention over the extended reals. -/
theorem attn_ri : Cert.quiescent_ReferenceIdeal (hReferenceIdeal := Cert.ReferenceIdeal.Gen.facts) := by
  letI := Cert.ReferenceIdeal.Gen.facts
  intro m g _
  exact (θ_run _ _ _).mono (fun r h => ⟨fun c => (h c).2, sem_eq_zero_of_no_sems (by decide) r.2⟩) (Cert.ReferenceIdeal.Value.run m g)

/-- The kernel program of the projection ends, faults nowhere, and leaves its arguments and every counter as they were. -/
theorem proj_p : Cert.quiescent_ProjKernel (hProjKernel := Cert.ProjKernel.Gen.facts) := fun m g _ => Cert.ProjKernel.Gen.frame m g

/-- The same of the kernel program of the projection over the extended reals. -/
theorem proj_pi : Cert.quiescent_ProjKernelIdeal (hProjKernelIdeal := Cert.ProjKernelIdeal.Gen.facts) := fun m g _ => Cert.ProjKernelIdeal.Gen.frame m g

/-- The same of the reference program of the projection over the extended reals. -/
theorem proj_ri : Cert.quiescent_ProjReferenceIdeal (hProjReferenceIdeal := Cert.ProjReferenceIdeal.Gen.facts) := by
  letI := Cert.ProjReferenceIdeal.Gen.facts
  intro m g _
  exact (θ_run _ _ _).mono (fun r h => ⟨fun c => (h c).2, sem_eq_zero_of_no_sems (by decide) r.2⟩) (Cert.ProjReferenceIdeal.Value.run m g)

/-- The kernel program of the feed-forward's first half ends, faults nowhere, and leaves its arguments and every counter as they were. -/
theorem up_p : Cert.quiescent_UpKernel (hUpKernel := Cert.UpKernel.Gen.facts) := fun m g _ => Cert.UpKernel.Gen.frame m g

/-- The same of the kernel program of the feed-forward's first half over the extended reals. -/
theorem up_pi : Cert.quiescent_UpKernelIdeal (hUpKernelIdeal := Cert.UpKernelIdeal.Gen.facts) := fun m g _ => Cert.UpKernelIdeal.Gen.frame m g

/-- The same of the reference program of the feed-forward's first half over the extended reals. -/
theorem up_ri : Cert.quiescent_UpReferenceIdeal (hUpReferenceIdeal := Cert.UpReferenceIdeal.Gen.facts) := by
  letI := Cert.UpReferenceIdeal.Gen.facts
  intro m g _
  exact (θ_run _ _ _).mono (fun r h => ⟨fun c => (h c).2, sem_eq_zero_of_no_sems (by decide) r.2⟩) (Cert.UpReferenceIdeal.Value.run m g)

/-- The kernel program of the feed-forward's second half ends, faults nowhere, and leaves its arguments and every counter as they were. -/
theorem down_p : Cert.quiescent_DownKernel (hDownKernel := Cert.DownKernel.Gen.facts) := fun m g _ => Cert.DownKernel.Gen.frame m g

/-- The same of the kernel program of the feed-forward's second half over the extended reals. -/
theorem down_pi : Cert.quiescent_DownKernelIdeal (hDownKernelIdeal := Cert.DownKernelIdeal.Gen.facts) := fun m g _ => Cert.DownKernelIdeal.Gen.frame m g

/-- The same of the reference program of the feed-forward's second half over the extended reals. -/
theorem down_ri : Cert.quiescent_DownReferenceIdeal (hDownReferenceIdeal := Cert.DownReferenceIdeal.Gen.facts) := by
  letI := Cert.DownReferenceIdeal.Gen.facts
  intro m g _
  exact (θ_run _ _ _).mono (fun r h => ⟨fun c => (h c).2, sem_eq_zero_of_no_sems (by decide) r.2⟩) (Cert.DownReferenceIdeal.Value.run m g)

/-- The kernel program of the output projection ends, faults nowhere, and leaves its arguments and every counter as they were. -/
theorem out_p : Cert.quiescent_OutKernel (hOutKernel := Cert.OutKernel.Gen.facts) := fun m g _ => Cert.OutKernel.Gen.frame m g

/-- The same of the kernel program of the output projection over the extended reals. -/
theorem out_pi : Cert.quiescent_OutKernelIdeal (hOutKernelIdeal := Cert.OutKernelIdeal.Gen.facts) := fun m g _ => Cert.OutKernelIdeal.Gen.frame m g

/-- The same of the reference program of the output projection over the extended reals. -/
theorem out_ri : Cert.quiescent_OutReferenceIdeal (hOutReferenceIdeal := Cert.OutReferenceIdeal.Gen.facts) := by
  letI := Cert.OutReferenceIdeal.Gen.facts
  intro m g _
  exact (θ_run _ _ _).mono (fun r h => ⟨fun c => (h c).2, sem_eq_zero_of_no_sems (by decide) r.2⟩) (Cert.OutReferenceIdeal.Value.run m g)

/-- The kernel program of the gated branch sum ends, faults nowhere, and leaves its arguments and every counter as they were. -/
theorem branch_p : Cert.quiescent_BranchKernel (hBranchKernel := Cert.BranchKernel.Gen.facts) := fun m g _ => Cert.BranchKernel.Gen.frame m g

/-- The same of the kernel program of the gated branch sum over the extended reals. -/
theorem branch_pi : Cert.quiescent_BranchKernelIdeal (hBranchKernelIdeal := Cert.BranchKernelIdeal.Gen.facts) := fun m g _ => Cert.BranchKernelIdeal.Gen.frame m g

/-- The same of the reference program of the gated branch sum over the extended reals. -/
theorem branch_ri : Cert.quiescent_BranchReferenceIdeal (hBranchReferenceIdeal := Cert.BranchReferenceIdeal.Gen.facts) := by
  letI := Cert.BranchReferenceIdeal.Gen.facts
  intro m g _
  exact (θ_run _ _ _).mono (fun r h => ⟨fun c => (h c).2, sem_eq_zero_of_no_sems (by decide) r.2⟩) (Cert.BranchReferenceIdeal.Value.run m g)

/-- The kernel program of the modulation product ends, faults nowhere, and leaves its arguments and every counter as they were. -/
theorem ada_p : Cert.quiescent_AdaKernel (hAdaKernel := Cert.AdaKernel.Gen.facts) := fun m g _ => Cert.AdaKernel.Gen.frame m g

/-- The same of the kernel program of the modulation product over the extended reals. -/
theorem ada_pi : Cert.quiescent_AdaKernelIdeal (hAdaKernelIdeal := Cert.AdaKernelIdeal.Gen.facts) := fun m g _ => Cert.AdaKernelIdeal.Gen.frame m g

/-- The same of the reference program of the modulation product over the extended reals. -/
theorem ada_ri : Cert.quiescent_AdaReferenceIdeal (hAdaReferenceIdeal := Cert.AdaReferenceIdeal.Gen.facts) := by
  letI := Cert.AdaReferenceIdeal.Gen.facts
  intro m g _
  exact (θ_run _ _ _).mono (fun r h => ⟨fun c => (h c).2, sem_eq_zero_of_no_sems (by decide) r.2⟩) (Cert.AdaReferenceIdeal.Value.run m g)

/-- The kernel program of the normalisation ends, faults nowhere, and leaves its arguments and every counter as they were. -/
theorem norm_p : Cert.quiescent_NormKernel (hNormKernel := Cert.NormKernel.Gen.facts) := fun m g _ => Cert.NormKernel.Gen.frame m g

/-- The same of the kernel program of the normalisation over the extended reals. -/
theorem norm_pi : Cert.quiescent_NormKernelIdeal (hNormKernelIdeal := Cert.NormKernelIdeal.Gen.facts) := fun m g _ => Cert.NormKernelIdeal.Gen.frame m g

/-- The same of the reference program of the normalisation over the extended reals. -/
theorem norm_ri : Cert.quiescent_NormReferenceIdeal (hNormReferenceIdeal := Cert.NormReferenceIdeal.Gen.facts) := by
  letI := Cert.NormReferenceIdeal.Gen.facts
  intro m g _
  exact (θ_run _ _ _).mono (fun r h => ⟨fun c => (h c).2, sem_eq_zero_of_no_sems (by decide) r.2⟩) (Cert.NormReferenceIdeal.Value.run m g)

/-- The kernel program of the residual addition ends, faults nowhere, and leaves its arguments and every counter as they were. -/
theorem resid_p : Cert.quiescent_ResidKernel (hResidKernel := Cert.ResidKernel.Gen.facts) := fun m g _ => Cert.ResidKernel.Gen.frame m g

/-- The same of the kernel program of the residual addition over the extended reals. -/
theorem resid_pi : Cert.quiescent_ResidKernelIdeal (hResidKernelIdeal := Cert.ResidKernelIdeal.Gen.facts) := fun m g _ => Cert.ResidKernelIdeal.Gen.frame m g

/-- The same of the reference program of the residual addition over the extended reals. -/
theorem resid_ri : Cert.quiescent_ResidReferenceIdeal (hResidReferenceIdeal := Cert.ResidReferenceIdeal.Gen.facts) := by
  letI := Cert.ResidReferenceIdeal.Gen.facts
  intro m g _
  exact (θ_run _ _ _).mono (fun r h => ⟨fun c => (h c).2.2, sem_eq_zero_of_no_sems (by decide) r.2⟩) (Cert.ResidReferenceIdeal.Value.run m g)

/-- The kernel program of the context's attention ends, faults nowhere, and leaves its arguments and every counter as they were. -/
theorem ctx_p : Cert.quiescent_CtxKernel (hCtxKernel := Cert.CtxKernel.Gen.facts) := fun m g _ => Cert.CtxKernel.Gen.frame m g

/-- The same of the kernel program of the context's attention over the extended reals. -/
theorem ctx_pi : Cert.quiescent_CtxKernelIdeal (hCtxKernelIdeal := Cert.CtxKernelIdeal.Gen.facts) := fun m g _ => Cert.CtxKernelIdeal.Gen.frame m g

/-- The same of the reference program of the context's attention over the extended reals. -/
theorem ctx_ri : Cert.quiescent_CtxReferenceIdeal (hCtxReferenceIdeal := Cert.CtxReferenceIdeal.Gen.facts) := by
  letI := Cert.CtxReferenceIdeal.Gen.facts
  intro m g _
  exact (θ_run _ _ _).mono (fun r h => ⟨fun c => (h c).2, sem_eq_zero_of_no_sems (by decide) r.2⟩) (Cert.CtxReferenceIdeal.Value.run m g)

/-- The kernel program of the pooling mixer ends, faults nowhere, and leaves its arguments and every counter as they were. -/
theorem pool_p : Cert.quiescent_PoolKernel (hPoolKernel := Cert.PoolKernel.Gen.facts) := fun m g _ => Cert.PoolKernel.Gen.frame m g

/-- The same of the kernel program of the pooling mixer over the extended reals. -/
theorem pool_pi : Cert.quiescent_PoolKernelIdeal (hPoolKernelIdeal := Cert.PoolKernelIdeal.Gen.facts) := fun m g _ => Cert.PoolKernelIdeal.Gen.frame m g

/-- The same of the reference program of the pooling mixer over the extended reals. -/
theorem pool_ri : Cert.quiescent_PoolReferenceIdeal (hPoolReferenceIdeal := Cert.PoolReferenceIdeal.Gen.facts) := by
  letI := Cert.PoolReferenceIdeal.Gen.facts
  intro m g _
  exact (θ_run _ _ _).mono (fun r h => ⟨fun c => (h c).2, sem_eq_zero_of_no_sems (by decide) r.2⟩) (Cert.PoolReferenceIdeal.Value.run m g)

/-- The kernel program of the second residual addition ends, faults nowhere, and leaves its arguments and every counter as they were. -/
theorem mid_p : Cert.quiescent_MidKernel (hMidKernel := Cert.MidKernel.Gen.facts) := fun m g _ => Cert.MidKernel.Gen.frame m g

/-- The same of the kernel program of the second residual addition over the extended reals. -/
theorem mid_pi : Cert.quiescent_MidKernelIdeal (hMidKernelIdeal := Cert.MidKernelIdeal.Gen.facts) := fun m g _ => Cert.MidKernelIdeal.Gen.frame m g

/-- The same of the reference program of the second residual addition over the extended reals. -/
theorem mid_ri : Cert.quiescent_MidReferenceIdeal (hMidReferenceIdeal := Cert.MidReferenceIdeal.Gen.facts) := by
  letI := Cert.MidReferenceIdeal.Gen.facts
  intro m g _
  exact (θ_run _ _ _).mono (fun r h => ⟨fun c => (h c).2.2, sem_eq_zero_of_no_sems (by decide) r.2⟩) (Cert.MidReferenceIdeal.Value.run m g)

/-- The kernel program of the last residual addition ends, faults nowhere, and leaves its arguments and every counter as they were. -/
theorem last_p : Cert.quiescent_LastKernel (hLastKernel := Cert.LastKernel.Gen.facts) := fun m g _ => Cert.LastKernel.Gen.frame m g

/-- The same of the kernel program of the last residual addition over the extended reals. -/
theorem last_pi : Cert.quiescent_LastKernelIdeal (hLastKernelIdeal := Cert.LastKernelIdeal.Gen.facts) := fun m g _ => Cert.LastKernelIdeal.Gen.frame m g

/-- The same of the reference program of the last residual addition over the extended reals. -/
theorem last_ri : Cert.quiescent_LastReferenceIdeal (hLastReferenceIdeal := Cert.LastReferenceIdeal.Gen.facts) := by
  letI := Cert.LastReferenceIdeal.Gen.facts
  intro m g _
  exact (θ_run _ _ _).mono (fun r h => ⟨fun c => (h c).2, sem_eq_zero_of_no_sems (by decide) r.2⟩) (Cert.LastReferenceIdeal.Value.run m g)

end Cert.Proof.Frames
-- ==== Proof.Proj.lean ====
module

public import proofs.«01_k».proof.Defs
public import proofs.«01_k».proof.Proof.Gen.ProjKernelIdeal.Value
public import proofs.«01_k».proof.Proof.Gen.ProjReferenceIdeal.Run
public import proofs.«01_k».proof.Proof.Gen.ProjReferenceIdeal.Read
public import Idealize.ShloMosaic.Lib.Pipeline.ValueKit
public import Idealize.ShloMosaic.Lib.Pipeline.ValueKit.Held
public import Idealize.ShloMosaic.Lib.Pipeline.ReadBack
public import Idealize.ShloMosaic.Lib.Pointwise
public import Idealize.ShloMosaic.Lib.Claim

@[expose] public section

set_option maxRecDepth 16384

noncomputable section

namespace Cert.ProjKernelIdeal.Prod

open Idealize.ShloMosaic Idealize.ShloMosaic.TcCoe
open Idealize.SL Idealize.SL.Sem
open Cert.ProjKernelIdeal.Gen

variable (m : (ℓ : Loc nD τ sig) → Buf (Elt Ideal) ℓ)

/-- The block indices of the three windows at grid point `t`: nine row blocks under each of fifty column blocks. -/
theorem idx : ∀ t : Fin cfg0.N, win0_0.index t = ![t.val % 9, 0] ∧ win0_1.index t = ![0, 0, t.val / 9]
    ∧ win0_2.index t = ![t.val % 9, t.val / 9] :=
  (by decide +kernel : ∀ t : Fin grid0.N, _)

/-- The converted weight block kept in scratch: at every point, the block of the column the point is in. -/
theorem held (c : Dev nD) (t : Fin cfg0.N) :
    (outsAt0 m c t.val t.isLt).2 = k0_pay1 (iblk m c 1 ⟨9 * (t.val / 9), Pipeline.run_start_lt t⟩) := by
  refine Pipeline.eq_of_write_hold (fun n h => (outsAt0 m c n h).2) 9 (fun t => k0_pay1 (iblk m c 1 t)) ?_ ?_ t
  · intro t h
    rw [outsAt0_A m c t h]
    dsimp only
    frame_out
  · intro t h
    rw [outsAt0_B m c t h]
    rfl

/-- The result at an index: the row of `x` times the column of layer 0's weights. -/
def PROD (x : Vec Ideal S9216x4096 .bf16) (w : Vec Ideal S2x4096x25600 .f32) : Vec Ideal S9216x25600 .bf16 := fun i =>
  ∑ k : Fin 4096, x (ix2 (i 0) k) * w (ix3 0 k (i 1))

/-- What the body stores at grid point `t` is block `t` of the result. -/
theorem point (c : Dev nD) (t t' : Fin cfg0.N) (h : t'.val / 9 = t.val / 9) (y) :
    k0_pay2 (iblk m c 0 t) (k0_pay1 (iblk m c 1 t')) y
      = PROD (m ((c : Thread nD τ).loc main_arg0)) (m ((c : Thread nD τ).loc main_arg1)) (((cfg0.win 2).blk t).view.emb y) := by
  pointwise [k0_pay2, k0_pay1, PROD]
  refine Finset.sum_congr rfl fun k _ => ?_
  blk_point [iblk, V, idx t, idx t']

/-- The result array after the run. -/
theorem final (c : Dev nD) : (dats m 0 c).arrAt 2 cfg0.N = PROD (m ((c : Thread nD τ).loc main_arg0)) (m ((c : Thread nD τ).loc main_arg1)) := by
  refine (dats m 0 c).arrAt_eq_of_covers 2 _ (by decide +kernel) fun t hf y => ?_
  blk_simp
  rw [after0_2]
  by_cases h : t.val % 9 = 0
  · rw [outsAt0_A m c t h]
    dsimp only
    frame_out
    exact point m c t t rfl _
  · rw [outsAt0_B m c t h]
    dsimp only
    have e := held m c ⟨t.val - 1, Nat.lt_of_le_of_lt (Nat.sub_le _ _) t.isLt⟩
    dsimp only at e
    rw [e]
    frame_out
    simp only [read_unread_whole]
    exact point m c t _ (by dsimp only; omega) _

end Cert.ProjKernelIdeal.Prod

namespace Cert.Proof.Proj

open Idealize.ShloMosaic Idealize.ShloMosaic.TcCoe
open Idealize.SL Idealize.SL.Sem

/-- The two runs of the projection end with equal results. -/
theorem algebraic : Cert.algebraic_ProjKernelIdeal_ProjReferenceIdeal
    (hProjKernelIdeal := Cert.ProjKernelIdeal.Gen.facts) (hProjReferenceIdeal := Cert.ProjReferenceIdeal.Gen.facts) := by
  letI := Cert.ProjKernelIdeal.Gen.facts
  letI := Cert.ProjReferenceIdeal.Gen.facts
  pair_intro
  · run_from Cert.ProjKernelIdeal.Value.run_blocks m g
  · run_from Cert.ProjReferenceIdeal.Value.run m' g'
    rw [Cert.ProjKernelIdeal.Prod.final]
    funext i
    pointwise [Cert.ProjKernelIdeal.Prod.PROD]

end Cert.Proof.Proj
-- ==== Proof.Up.lean ====
module

public import proofs.«01_k».proof.Defs
public import proofs.«01_k».proof.Proof.Gen.UpKernelIdeal.Value
public import proofs.«01_k».proof.Proof.Gen.UpReferenceIdeal.Run
public import proofs.«01_k».proof.Proof.Gen.UpReferenceIdeal.Read
public import Idealize.ShloMosaic.Lib.Pipeline.ValueKit
public import Idealize.ShloMosaic.Lib.Pipeline.ValueKit.Held
public import Idealize.ShloMosaic.Lib.Pipeline.ReadBack
public import Idealize.ShloMosaic.Lib.Pointwise
public import Idealize.ShloMosaic.Lib.Claim

@[expose] public section

set_option maxRecDepth 16384

noncomputable section

namespace Cert.UpKernelIdeal.Prod

open Idealize.ShloMosaic Idealize.ShloMosaic.TcCoe
open Idealize.SL Idealize.SL.Sem
open Cert.UpKernelIdeal.Gen

variable (m : (ℓ : Loc nD τ sig) → Buf (Elt Ideal) ℓ)

/-- The block indices of the four windows at grid point `t`: nine row blocks under each of twenty-four column blocks; the
    second factor's weight block lies twenty-four blocks to the right of the first's. -/
theorem idx : ∀ t : Fin cfg0.N, win0_0.index t = ![t.val % 9, 0] ∧ win0_1.index t = ![0, 0, t.val / 9]
    ∧ win0_2.index t = ![0, 0, 24 + t.val / 9] ∧ win0_3.index t = ![t.val % 9, t.val / 9] :=
  (by decide +kernel : ∀ t : Fin grid0.N, _)

/-- The first converted weight block kept in scratch: at every point, the block of the column the point is in. -/
theorem held1 (c : Dev nD) (t : Fin cfg0.N) :
    (outsAt0 m c t.val t.isLt).2.1 = k0_pay1 (iblk m c 1 ⟨9 * (t.val / 9), Pipeline.run_start_lt t⟩) := by
  refine Pipeline.eq_of_write_hold (fun n h => (outsAt0 m c n h).2.1) 9 (fun t => k0_pay1 (iblk m c 1 t)) ?_ ?_ t
  · intro t h
    rw [outsAt0_A m c t h]
    dsimp only
    frame_out
  · intro t h
    rw [outsAt0_B m c t h]
    rfl

/-- The second converted weight block kept in scratch, likewise. -/
theorem held2 (c : Dev nD) (t : Fin cfg0.N) :
    (outsAt0 m c t.val t.isLt).2.2 = k0_pay2 (iblk m c 2 ⟨9 * (t.val / 9), Pipeline.run_start_lt t⟩) := by
  refine Pipeline.eq_of_write_hold (fun n h => (outsAt0 m c n h).2.2) 9 (fun t => k0_pay2 (iblk m c 2 t)) ?_ ?_ t
  · intro t h
    rw [outsAt0_A m c t h]
    dsimp only
    frame_out
  · intro t h
    rw [outsAt0_B m c t h]
    rfl

/-- The product of a row of `x` and a column of layer 0's weights. -/
def DOT (x : Vec Ideal S9216x4096 .bf16) (w : Vec Ideal S2x4096x12288 .f32) (r : Fin 9216) (j : Fin 12288) : EReal :=
  ∑ k : Fin 4096, x (ix2 r k) * w (ix3 0 k j)

/-- The result at an index: `a · sigmoid a · b` of the two products `a` and `b`. -/
def GLU (x : Vec Ideal S9216x4096 .bf16) (w : Vec Ideal S2x4096x12288 .f32) : Vec Ideal S9216x6144 .bf16 := fun i =>
  DOT x w (i 0) ⟨(i 1).val, by have h : (i 1).val < 6144 := (i 1).isLt; omega⟩
    * Ideal.logistic (DOT x w (i 0) ⟨(i 1).val, by have h : (i 1).val < 6144 := (i 1).isLt; omega⟩)
    * DOT x w (i 0) ⟨6144 + (i 1).val, by have h : (i 1).val < 6144 := (i 1).isLt; omega⟩

/-- What the body stores at grid point `t` is block `t` of the result. -/
theorem point (c : Dev nD) (t t' : Fin cfg0.N) (h : t'.val / 9 = t.val / 9) (y) :
    k0_pay3 (iblk m c 0 t) (k0_pay1 (iblk m c 1 t')) (k0_pay2 (iblk m c 2 t')) y
      = GLU (m ((c : Thread nD τ).loc main_arg0)) (m ((c : Thread nD τ).loc main_arg1)) (((cfg0.win 3).blk t).view.emb y) := by
  pointwise [k0_pay3, k0_pay2, k0_pay1, GLU, DOT]
  blk_point [iblk, V, idx t, idx t']

/-- The result array after the run. -/
theorem final (c : Dev nD) : (dats m 0 c).arrAt 3 cfg0.N = GLU (m ((c : Thread nD τ).loc main_arg0)) (m ((c : Thread nD τ).loc main_arg1)) := by
  refine (dats m 0 c).arrAt_eq_of_covers 3 _ (by decide +kernel) fun t hf y => ?_
  blk_simp
  rw [after0_3]
  by_cases h : t.val % 9 = 0
  · rw [outsAt0_A m c t h]
    dsimp only
    frame_out
    exact point m c t t rfl _
  · rw [outsAt0_B m c t h]
    dsimp only
    have e1 := held1 m c ⟨t.val - 1, Nat.lt_of_le_of_lt (Nat.sub_le _ _) t.isLt⟩
    have e2 := held2 m c ⟨t.val - 1, Nat.lt_of_le_of_lt (Nat.sub_le _ _) t.isLt⟩
    dsimp only at e1 e2
    rw [e1, e2]
    frame_out
    simp only [read_unread_whole]
    exact point m c t _ (by dsimp only; omega) _

end Cert.UpKernelIdeal.Prod

namespace Cert.Proof.Up

open Idealize.ShloMosaic Idealize.ShloMosaic.TcCoe
open Idealize.SL Idealize.SL.Sem

/-- The two runs of the feed-forward's first half end with equal results. -/
theorem algebraic : Cert.algebraic_UpKernelIdeal_UpReferenceIdeal
    (hUpKernelIdeal := Cert.UpKernelIdeal.Gen.facts) (hUpReferenceIdeal := Cert.UpReferenceIdeal.Gen.facts) := by
  letI := Cert.UpKernelIdeal.Gen.facts
  letI := Cert.UpReferenceIdeal.Gen.facts
  pair_intro
  · run_from Cert.UpKernelIdeal.Value.run_blocks m g
  · run_from Cert.UpReferenceIdeal.Value.run m' g'
    rw [Cert.UpKernelIdeal.Prod.final]
    funext i
    pointwise [Cert.UpKernelIdeal.Prod.GLU, Cert.UpKernelIdeal.Prod.DOT, Ideal.logistic]

end Cert.Proof.Up
-- ==== Proof.Down.lean ====
module

public import proofs.«01_k».proof.Defs
public import proofs.«01_k».proof.Proof.Gen.DownKernelIdeal.Value
public import proofs.«01_k».proof.Proof.Gen.DownReferenceIdeal.Run
public import proofs.«01_k».proof.Proof.Gen.DownReferenceIdeal.Read
public import Idealize.ShloMosaic.Lib.Pipeline.ValueKit
public import Idealize.ShloMosaic.Lib.Pipeline.ValueKit.Held
public import Idealize.ShloMosaic.Lib.Pipeline.ReadBack
public import Idealize.ShloMosaic.Lib.Pointwise
public import Idealize.ShloMosaic.Lib.Claim

@[expose] public section

set_option maxRecDepth 16384

noncomputable section

namespace Cert.DownKernelIdeal.Prod

open Idealize.ShloMosaic Idealize.ShloMosaic.TcCoe
open Idealize.SL Idealize.SL.Sem
open Cert.DownKernelIdeal.Gen

variable (m : (ℓ : Loc nD τ sig) → Buf (Elt Ideal) ℓ)

/-- The block indices of the three windows at grid point `t`: eighteen row blocks under each of eight column blocks. -/
theorem idx : ∀ t : Fin cfg0.N, win0_0.index t = ![t.val % 18, 0] ∧ win0_1.index t = ![0, 0, t.val / 18]
    ∧ win0_2.index t = ![t.val % 18, t.val / 18] :=
  (by decide +kernel : ∀ t : Fin grid0.N, _)

/-- The converted weight block kept in scratch: at every point, the block of the column the point is in. -/
theorem held (c : Dev nD) (t : Fin cfg0.N) :
    (outsAt0 m c t.val t.isLt).2 = k0_pay1 (iblk m c 1 ⟨18 * (t.val / 18), Pipeline.run_start_lt t⟩) := by
  refine Pipeline.eq_of_write_hold (fun n h => (outsAt0 m c n h).2) 18 (fun t => k0_pay1 (iblk m c 1 t)) ?_ ?_ t
  · intro t h
    rw [outsAt0_A m c t h]
    dsimp only
    frame_out
  · intro t h
    rw [outsAt0_B m c t h]
    rfl

/-- The result at an index: the row of `x` times the column of layer 0's weights. -/
def PROD (x : Vec Ideal S9216x6144 .bf16) (w : Vec Ideal S2x6144x4096 .f32) : Vec Ideal S9216x4096 .f32 := fun i =>
  ∑ k : Fin 6144, x (ix2 (i 0) k) * w (ix3 0 k (i 1))

/-- What the body stores at grid point `t` is block `t` of the result. -/
theorem point (c : Dev nD) (t t' : Fin cfg0.N) (h : t'.val / 18 = t.val / 18) (y) :
    k0_pay2 (iblk m c 0 t) (k0_pay1 (iblk m c 1 t')) y
      = PROD (m ((c : Thread nD τ).loc main_arg0)) (m ((c : Thread nD τ).loc main_arg1)) (((cfg0.win 2).blk t).view.emb y) := by
  pointwise [k0_pay2, k0_pay1, PROD]
  refine Finset.sum_congr rfl fun k _ => ?_
  blk_point [iblk, V, idx t, idx t']

/-- The result array after the run. -/
theorem final (c : Dev nD) : (dats m 0 c).arrAt 2 cfg0.N = PROD (m ((c : Thread nD τ).loc main_arg0)) (m ((c : Thread nD τ).loc main_arg1)) := by
  refine (dats m 0 c).arrAt_eq_of_covers 2 _ (by decide +kernel) fun t hf y => ?_
  blk_simp
  rw [after0_2]
  by_cases h : t.val % 18 = 0
  · rw [outsAt0_A m c t h]
    dsimp only
    frame_out
    exact point m c t t rfl _
  · rw [outsAt0_B m c t h]
    dsimp only
    have e := held m c ⟨t.val - 1, Nat.lt_of_le_of_lt (Nat.sub_le _ _) t.isLt⟩
    dsimp only at e
    rw [e]
    frame_out
    simp only [read_unread_whole]
    exact point m c t _ (by dsimp only; omega) _

end Cert.DownKernelIdeal.Prod

namespace Cert.Proof.Down

open Idealize.ShloMosaic Idealize.ShloMosaic.TcCoe
open Idealize.SL Idealize.SL.Sem

/-- The two runs of the feed-forward's second half end with equal results. -/
theorem algebraic : Cert.algebraic_DownKernelIdeal_DownReferenceIdeal
    (hDownKernelIdeal := Cert.DownKernelIdeal.Gen.facts) (hDownReferenceIdeal := Cert.DownReferenceIdeal.Gen.facts) := by
  letI := Cert.DownKernelIdeal.Gen.facts
  letI := Cert.DownReferenceIdeal.Gen.facts
  pair_intro
  · run_from Cert.DownKernelIdeal.Value.run_blocks m g
  · run_from Cert.DownReferenceIdeal.Value.run m' g'
    rw [Cert.DownKernelIdeal.Prod.final]
    funext i
    pointwise [Cert.DownKernelIdeal.Prod.PROD]

end Cert.Proof.Down
-- ==== Proof.Out.lean ====
module

public import proofs.«01_k».proof.Defs
public import proofs.«01_k».proof.Proof.Gen.OutKernelIdeal.Value
public import proofs.«01_k».proof.Proof.Gen.OutReferenceIdeal.Run
public import proofs.«01_k».proof.Proof.Gen.OutReferenceIdeal.Read
public import Idealize.ShloMosaic.Lib.Pipeline.ValueKit
public import Idealize.ShloMosaic.Lib.Pipeline.ValueKit.Held
public import Idealize.ShloMosaic.Lib.Pipeline.ReadBack
public import Idealize.ShloMosaic.Lib.Pointwise
public import Idealize.ShloMosaic.Lib.Claim

@[expose] public section

set_option maxRecDepth 16384

noncomputable section

namespace Cert.OutKernelIdeal.Prod

open Idealize.ShloMosaic Idealize.ShloMosaic.TcCoe
open Idealize.SL Idealize.SL.Sem
open Cert.OutKernelIdeal.Gen

variable (m : (ℓ : Loc nD τ sig) → Buf (Elt Ideal) ℓ)

/-- The block indices of the three windows at grid point `t`: nine row blocks under each of eight column blocks. -/
theorem idx : ∀ t : Fin cfg0.N, win0_0.index t = ![t.val % 9, 0] ∧ win0_1.index t = ![0, 0, t.val / 9]
    ∧ win0_2.index t = ![t.val % 9, t.val / 9] :=
  (by decide +kernel : ∀ t : Fin grid0.N, _)

/-- The converted weight block kept in scratch: at every point, the block of the column the point is in. -/
theorem held (c : Dev nD) (t : Fin cfg0.N) :
    (outsAt0 m c t.val t.isLt).2 = k0_pay1 (iblk m c 1 ⟨9 * (t.val / 9), Pipeline.run_start_lt t⟩) := by
  refine Pipeline.eq_of_write_hold (fun n h => (outsAt0 m c n h).2) 9 (fun t => k0_pay1 (iblk m c 1 t)) ?_ ?_ t
  · intro t h
    rw [outsAt0_A m c t h]
    dsimp only
    frame_out
  · intro t h
    rw [outsAt0_B m c t h]
    rfl

/-- The result at an index: the row of `x` times the column of layer 0's weights. -/
def PROD (x : Vec Ideal S9216x4096 .bf16) (w : Vec Ideal S2x4096x4096 .f32) : Vec Ideal S9216x4096 .f32 := fun i =>
  ∑ k : Fin 4096, x (ix2 (i 0) k) * w (ix3 0 k (i 1))

/-- What the body stores at grid point `t` is block `t` of the result. -/
theorem point (c : Dev nD) (t t' : Fin cfg0.N) (h : t'.val / 9 = t.val / 9) (y) :
    k0_pay2 (iblk m c 0 t) (k0_pay1 (iblk m c 1 t')) y
      = PROD (m ((c : Thread nD τ).loc main_arg0)) (m ((c : Thread nD τ).loc main_arg1)) (((cfg0.win 2).blk t).view.emb y) := by
  pointwise [k0_pay2, k0_pay1, PROD]
  refine Finset.sum_congr rfl fun k _ => ?_
  blk_point [iblk, V, idx t, idx t']

/-- The result array after the run. -/
theorem final (c : Dev nD) : (dats m 0 c).arrAt 2 cfg0.N = PROD (m ((c : Thread nD τ).loc main_arg0)) (m ((c : Thread nD τ).loc main_arg1)) := by
  refine (dats m 0 c).arrAt_eq_of_covers 2 _ (by decide +kernel) fun t hf y => ?_
  blk_simp
  rw [after0_2]
  by_cases h : t.val % 9 = 0
  · rw [outsAt0_A m c t h]
    dsimp only
    frame_out
    exact point m c t t rfl _
  · rw [outsAt0_B m c t h]
    dsimp only
    have e := held m c ⟨t.val - 1, Nat.lt_of_le_of_lt (Nat.sub_le _ _) t.isLt⟩
    dsimp only at e
    rw [e]
    frame_out
    simp only [read_unread_whole]
    exact point m c t _ (by dsimp only; omega) _

end Cert.OutKernelIdeal.Prod

namespace Cert.Proof.Out

open Idealize.ShloMosaic Idealize.ShloMosaic.TcCoe
open Idealize.SL Idealize.SL.Sem

/-- The two runs of the output projection end with equal results. -/
theorem algebraic : Cert.algebraic_OutKernelIdeal_OutReferenceIdeal
    (hOutKernelIdeal := Cert.OutKernelIdeal.Gen.facts) (hOutReferenceIdeal := Cert.OutReferenceIdeal.Gen.facts) := by
  letI := Cert.OutKernelIdeal.Gen.facts
  letI := Cert.OutReferenceIdeal.Gen.facts
  pair_intro
  · run_from Cert.OutKernelIdeal.Value.run_blocks m g
  · run_from Cert.OutReferenceIdeal.Value.run m' g'
    rw [Cert.OutKernelIdeal.Prod.final]
    funext i
    pointwise [Cert.OutKernelIdeal.Prod.PROD]

end Cert.Proof.Out
-- ==== Proof.Branch.lean ====
module

public import proofs.«01_k».proof.Defs
public import proofs.«01_k».proof.Proof.Gen.BranchKernelIdeal.Value
public import proofs.«01_k».proof.Proof.Gen.BranchReferenceIdeal.Run
public import proofs.«01_k».proof.Proof.Gen.BranchReferenceIdeal.Read
public import Idealize.ShloMosaic.Lib.Pipeline.ValueKit
public import Idealize.ShloMosaic.Lib.Pipeline.ValueKit.Held
public import Idealize.ShloMosaic.Lib.Pipeline.ReadBack
public import Idealize.ShloMosaic.Lib.Pointwise
public import Idealize.ShloMosaic.Lib.Claim

@[expose] public section

set_option maxRecDepth 16384

noncomputable section

namespace Cert.BranchKernelIdeal.Prod

open Idealize.ShloMosaic Idealize.ShloMosaic.TcCoe
open Idealize.SL Idealize.SL.Sem
open Cert.BranchKernelIdeal.Gen

variable (m : (ℓ : Loc nD τ sig) → Buf (Elt Ideal) ℓ)

/-- The block indices of the windows at grid point `t`: eighteen row blocks under each of eight column blocks; the gates of
    branch `i` begin `18 + 8 i` column blocks into the projection. -/
theorem idx : ∀ t : Fin cfg0.N, (win0_0.index t = ![t.val % 18, 0] ∧ win0_1.index t = ![t.val % 18, 0]
    ∧ win0_2.index t = ![t.val % 18, 0] ∧ win0_3.index t = ![t.val % 18, 0])
    ∧ (win0_4.index t = ![t.val % 18, 18 + t.val / 18] ∧ win0_5.index t = ![t.val % 18, 26 + t.val / 18]
    ∧ win0_6.index t = ![t.val % 18, 34 + t.val / 18] ∧ win0_7.index t = ![t.val % 18, 42 + t.val / 18])
    ∧ win0_8.index t = ![0, 0, 0, t.val / 18] ∧ win0_9.index t = ![t.val % 18, t.val / 18] :=
  (by decide +kernel : ∀ t : Fin grid0.N, _)

/-- The converted weight block kept in scratch: at every point, the block of the column the point is in. -/
theorem held (c : Dev nD) (t : Fin cfg0.N) :
    (outsAt0 m c t.val t.isLt).2 = k0_pay2 (iblk m c 8 ⟨18 * (t.val / 18), Pipeline.run_start_lt t⟩) := by
  refine Pipeline.eq_of_write_hold (fun n h => (outsAt0 m c n h).2) 18 (fun t => k0_pay2 (iblk m c 8 t)) ?_ ?_ t
  · intro t h
    rw [outsAt0_A m c t h]
    dsimp only
    frame_out
  · intro t h
    rw [outsAt0_B m c t h]
    rfl

/-- One branch's term: the gate of branch `b` times the product of the branch's row and its column of layer 0's weights. -/
def TERM (y : Vec Ideal S9216x1024 .bf16) (p : Vec Ideal S9216x25600 .bf16) (w : Vec Ideal S2x4x1024x4096 .f32)
    (b : Fin 4) (r : Fin 9216) (j : Fin 4096) : EReal :=
  Ideal.logistic (p (ix2 r ⟨9216 + b.val * 4096 + j.val, by omega⟩)) * ∑ k : Fin 1024, y (ix2 r k) * w (ix4 0 b k j)

/-- The result at an index: the four terms added. -/
def MIX (y0 y1 y2 y3 : Vec Ideal S9216x1024 .bf16) (p : Vec Ideal S9216x25600 .bf16) (w : Vec Ideal S2x4x1024x4096 .f32) :
    Vec Ideal S9216x4096 .bf16 := fun i =>
  TERM y0 p w 0 (i 0) (i 1) + TERM y1 p w 1 (i 0) (i 1) + TERM y2 p w 2 (i 0) (i 1) + TERM y3 p w 3 (i 0) (i 1)

/-- The result array after the run. -/
theorem final (c : Dev nD) : (dats m 0 c).arrAt 9 cfg0.N = MIX (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5)) := by
  refine (dats m 0 c).arrAt_eq_of_covers 9 _ (by decide +kernel) fun t hf y => ?_
  blk_simp
  rw [after0_9]
  by_cases h : t.val % 18 = 0
  · rw [outsAt0_A m c t h]
    dsimp only
    frame_out
    simp (disch := decide) only [View.readCov_fill]
    pointwise [k0_pay1, k0_pay2, k0_pay3, MIX, TERM]
    blk_point [iblk, V, idx t]
  · rw [outsAt0_B m c t h]
    dsimp only
    have e := held m c ⟨t.val - 1, Nat.lt_of_le_of_lt (Nat.sub_le _ _) t.isLt⟩
    dsimp only at e
    rw [e]
    frame_out
    simp only [read_unread_whole]
    pointwise [k0_pay1, k0_pay2, k0_pay3, MIX, TERM]
    have q : (18 * ((t.val - 1) / 18)) / 18 = t.val / 18 := by omega
    blk_point [iblk, V, idx t, idx ⟨18 * ((t.val - 1) / 18), Pipeline.run_start_lt ⟨t.val - 1, Nat.lt_of_le_of_lt (Nat.sub_le _ _) t.isLt⟩⟩]

end Cert.BranchKernelIdeal.Prod

namespace Cert.Proof.Branch

open Idealize.ShloMosaic Idealize.ShloMosaic.TcCoe
open Idealize.SL Idealize.SL.Sem

/-- The two runs of the gated branch sum end with equal results. -/
theorem algebraic : Cert.algebraic_BranchKernelIdeal_BranchReferenceIdeal
    (hBranchKernelIdeal := Cert.BranchKernelIdeal.Gen.facts) (hBranchReferenceIdeal := Cert.BranchReferenceIdeal.Gen.facts) := by
  letI := Cert.BranchKernelIdeal.Gen.facts
  letI := Cert.BranchReferenceIdeal.Gen.facts
  pair_intro
  · run_from Cert.BranchKernelIdeal.Value.run_blocks m g
  · run_from Cert.BranchReferenceIdeal.Value.run m' g'
    rw [Cert.BranchKernelIdeal.Prod.final]
    funext i
    pointwise [Cert.BranchKernelIdeal.Prod.MIX, Cert.BranchKernelIdeal.Prod.TERM, Ideal.logistic]
    blk_point []

end Cert.Proof.Branch
-- ==== Proof.AttnK.lean ====
module

public import proofs.«01_k».proof.Proof.Gen.KernelIdeal
public import proofs.«01_k».proof.Proof.Gen.KernelIdeal.Value
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.KernelIdeal.Attn

open Idealize.ShloMosaic Idealize.ShloMosaic.TcCoe
open Idealize.SL Idealize.SL.Sem
open Cert.KernelIdeal.Gen

variable (m : (ℓ : Loc nD τ sig) → Buf (Elt Ideal) ℓ)

/-- What one trip of the kernel's loop stores: the block of 256 query rows it handles, from the whole
blocks of queries, keys, values, context keys and values, rotary tables and bias. -/
def TRIP (Q K V : Vec Ideal S2048x128 .bf16) (KC VC : Vec Ideal S256x128 .bf16) (C S : Vec Ideal S2048x128 .f32)
    (B : Vec Ideal S1x3x256x768 .f32) (k : Fin k0_t1_loop.trips) : Vec Ideal S256x128 .bf16 :=
  let q := View.ld (k0_pay14 Q C S) (Rect.unit (s := S2048x128) (k0_off1 k) S256x128.size (k0_off1_inb k))
  let kk := View.ld (k0_pay1 (k0_pay11 C) (k0_pay12 S) (k0_pay15 K) k0_pay16 (k0_pay17 K) 32#32)
    (Rect.unit (s := S2048x128) (k0_off2 k) S768x128.size (k0_off2_inb k))
  let b := View.ld B (Rect.unit (s := S1x3x256x768) (k0_off3 k) S1x1x256x768.size (k0_off3_inb k))
  let qp := View.ld (k0_pay13 Q) (Rect.unit (s := S2048x128) (k0_off1 k) S256x128.size (k0_off1_inb k))
  k0_pay3 VC (k0_pay7 KC q kk b qp) (k0_pay8 KC q kk b qp) (k0_pay9 KC q kk b qp)
    (View.ld (k0_pay2 V) (Rect.unit (s := S2048x128) (k0_off2 k) S768x128.size (k0_off2_inb k)))

/-- What the body leaves in the output block is `G`, when every trip's store agrees with `G`. -/
theorem outs (c : Dev nD) (t : Fin cfg0.N) (G : Vec Ideal S2048x128 .bf16) (y : S2048x128.Idx)
    (hG : ∀ k x, TRIP (X0_0 m c t) (X0_1 m c t) (X0_2 m c t) (iblk m c 3 t) (iblk m c 4 t) (iblk m c 5 t) (iblk m c 6 t)
      (iblk m c 7 t) k x = G ((Rect.unit (s := S2048x128) (k0_off1 k) S256x128.size (k0_off1_inb k)).emb x)) : outsAt0 m c t y = G y := by
  unfold outsAt0 out0_A_8
  refine View.read_writes_apply_of_pieces _ _ G _ ?_ y (cover0_A_8 ..)
  unfold kernelRun0_A
  dsimp only
  have h : Scf.trips (0#32) (Scalar.addi 0#32 8#32) 1#32 = 8 := by decide
  rw [h]
  suffices H : ∀ n, n ≤ 8 → ∀ p ∈ pb_k0_t1 Variants.none c none (grid0.coords t) _ _ _ _ _ _ _ _ _ _ _ _ _ _ _ _ _ _ _ _ _ _ _ _ _ _ _ _ _ _ _ _ _ n, ∀ x : p.1.shape.Idx, p.2 x = G (p.1.emb x) from H 8 le_rfl
  intro n hn
  induction n with
  | zero => intro p hp; exact absurd hp List.not_mem_nil
  | succ n ih =>
    have hk : n < k0_t1_loop.trips := by have : k0_t1_loop.trips = 8 := by decide
                                         omega
    rw [pb_k0_t1_succ (k := ⟨n, hk⟩)]
    intro p hp
    rcases List.mem_append.mp hp with hp | hp
    · revert hp
      unfold tripL_k0_t1 trip_k0_t1
      dsimp only
      intro hp
      obtain rfl := List.mem_singleton.mp hp
      intro x
      clear ih hp
      dsimp only
      frame_out
      exact hG ⟨n, hk⟩ x
    · exact ih (by omega) p hp

/-- The pattern of minus infinity. -/
theorem ofBits_bot : Ideal.ofBits FTy.f32 0xFF800000#32 = ⊥ := by
  simp [Ideal.ofBits, Ideal.ieee]

/-- A local score at an index: the product of the rotated query and key rows, and the bias. -/
theorem pay4_apply (a : Vec Ideal S256x128 .bf16) (b : Vec Ideal S768x128 .bf16) (c : Vec Ideal S1x1x256x768 .f32)
    (i : Fin 256) (y : Fin 768) :
    k0_pay4 a b c (ix2 i y) = (∑ d : Fin 128, a (ix2 i d) * b (ix2 y d)) + c (ix4 0 0 i y) := by
  pointwise [k0_pay4]

/-- A context score at an index. -/
theorem pay5_apply (a b : Vec Ideal S256x128 .bf16) (i : Fin 256) (y : Fin 256) :
    k0_pay5 a b (ix2 i y) = ∑ d : Fin 128, b (ix2 i d) * a (ix2 y d) := by
  pointwise [k0_pay5]

/-- The largest score of a row. -/
theorem pay6_apply (v48 v64 : Vec Ideal S256x128 .bf16) (v66 : Vec Ideal S768x128 .bf16) (v69 : Vec Ideal S1x1x256x768 .f32)
    (v73 : Vec Ideal S256x128 .bf16) (i : Fin 256) :
    k0_pay6 v48 v64 v66 v69 v73 (ix2 i 0) = max (Finset.univ.sup fun y : Fin 768 => k0_pay4 v64 v66 v69 (ix2 i y))
      (Finset.univ.sup fun y : Fin 256 => k0_pay5 v48 v73 (ix2 i y)) := by
  pointwise [k0_pay6]
  rw [ofBits_bot]
  rfl

/-- A row of the attention: the weighted sum of the values over the sum of the weights. -/
theorem pay3_apply (v49 : Vec Ideal S256x128 .bf16) (v48 v64 : Vec Ideal S256x128 .bf16) (v66 : Vec Ideal S768x128 .bf16)
    (v69 : Vec Ideal S1x1x256x768 .f32) (v73 : Vec Ideal S256x128 .bf16) (v93 : Vec Ideal S768x128 .bf16)
    (i : Fin 256) (d : Fin 128) :
    k0_pay3 v49 (k0_pay7 v48 v64 v66 v69 v73) (k0_pay8 v48 v64 v66 v69 v73) (k0_pay9 v48 v64 v66 v69 v73) v93 (ix2 i d)
      = Ideal.div
      ((∑ y : Fin 768, Ideal.exp (k0_pay4 v64 v66 v69 (ix2 i y) - k0_pay6 v48 v64 v66 v69 v73 (ix2 i 0)) * v93 (ix2 y d)) +
        ∑ y : Fin 256, Ideal.exp (k0_pay5 v48 v73 (ix2 i y) - k0_pay6 v48 v64 v66 v69 v73 (ix2 i 0)) * v49 (ix2 y d))
      ((∑ y : Fin 768, Ideal.exp (k0_pay4 v64 v66 v69 (ix2 i y) - k0_pay6 v48 v64 v66 v69 v73 (ix2 i 0))) +
        ∑ y : Fin 256, Ideal.exp (k0_pay5 v48 v73 (ix2 i y) - k0_pay6 v48 v64 v66 v69 v73 (ix2 i 0))) := by
  pointwise [k0_pay3, k0_pay7, k0_pay8, k0_pay9]

/-- The lane a rotary rotation pairs with lane `d`: 32 further in the first half of each 64, 32 back in the second. -/
def partner (d : Fin 128) : Fin 128 := ⟨if d.1 % 64 < 32 then d.1 + 32 else d.1 - 32, by split <;> omega⟩

/-- A row turned by the rotary embedding, from its cosines and its signed sines. -/
def rot (x C S : Fin 128 → EReal) (d : Fin 128) : EReal := x d * C d + x (partner d) * S d

/-- One entry of a row of attention over two groups of keys: the weights are the exponentials of the scores less the
row's largest, and the weighted sum of the values is divided by the sum of the weights. -/
def row {K C : Type} [Fintype K] [Fintype C] (s1 : K → EReal) (s2 : C → EReal) (v1 : K → EReal) (v2 : C → EReal) : EReal :=
  Ideal.div
    ((∑ y, Ideal.exp (s1 y - max (Finset.univ.sup s1) (Finset.univ.sup s2)) * v1 y) +
      ∑ y, Ideal.exp (s2 y - max (Finset.univ.sup s1) (Finset.univ.sup s2)) * v2 y)
    ((∑ y, Ideal.exp (s1 y - max (Finset.univ.sup s1) (Finset.univ.sup s2))) +
      ∑ y, Ideal.exp (s2 y - max (Finset.univ.sup s1) (Finset.univ.sup s2)))

/-- The score scale, as both programs write it. -/
def scl : EReal := Ideal.ofBits FTy.f32 0x3DB504F3#32

/-- The scaled query, entry by entry. -/
theorem pay13_apply (Q : Vec Ideal S2048x128 .bf16) (t : Fin 2048) (d : Fin 128) :
    k0_pay13 Q (ix2 t d) = Q (ix2 t d) * scl := by
  pointwise [k0_pay13, k0_pay10, scl]

/-- The lane test of the rotation asks for the first half of a group of 64 lanes. -/
theorem lane_mask (d : Fin 128) : (IntOp.cmpi CmpIPredicate.eq (IntOp.andi (BitVec.ofNat 32 ↑d) 32#32) 0#32) =
    if d.1 % 64 < 32 then 1#1 else 0#1 := by
  revert d
  decide +kernel

/-- Choosing between the two lane rotations by the lane test takes the partner lane. -/
theorem rot_select (x : Fin 128 → EReal) (d : Fin 128) (h1 h2) :
    (Scalar.select (if d.1 % 64 < 32 then 1#1 else 0#1) (x ⟨(d.1 + 128 - 96) % 128, h1⟩) (x ⟨(d.1 + 128 - 32) % 128, h2⟩) : EReal) =
      x (partner d) := by
  unfold partner
  split
  · rw [Scalar.select, if_pos (by decide)]
    congr 1
    apply Fin.ext
    simp only []
    omega
  · rw [Scalar.select, if_neg (by decide)]
    congr 1
    apply Fin.ext
    simp only []
    omega

/-- The rotated, scaled query, entry by entry. -/
theorem pay14_apply (Q : Vec Ideal S2048x128 .bf16) (C S : Vec Ideal S2048x128 .f32) (t : Fin 2048) (d : Fin 128) :
    k0_pay14 Q C S (ix2 t d) = rot (fun d => Q (ix2 t d) * scl) (fun d => C (ix2 t d)) (fun d => S (ix2 t d)) d := by
  pointwise [k0_pay14, k0_pay10, k0_pay11, k0_pay12]
  rw [lane_mask]
  exact congrArg (fun z => Q (ix2 t d) * scl * C (ix2 t d) + z * S (ix2 t d)) (rot_select (fun d => Q (ix2 t d) * scl) d _ _)

/-- The rotated key, entry by entry. -/
theorem pay1_apply (K : Vec Ideal S2048x128 .bf16) (C S : Vec Ideal S2048x128 .f32) (t : Fin 2048) (d : Fin 128) :
    k0_pay1 (k0_pay11 C) (k0_pay12 S) (k0_pay15 K) k0_pay16 (k0_pay17 K) 32#32 (ix2 t d) =
      rot (fun d => K (ix2 t d)) (fun d => C (ix2 t d)) (fun d => S (ix2 t d)) d := by
  pointwise [k0_pay1, k0_pay11, k0_pay12, k0_pay15, k0_pay16, k0_pay17]
  rw [lane_mask]
  exact congrArg (fun z => K (ix2 t d) * C (ix2 t d) + z * S (ix2 t d)) (rot_select (fun d => K (ix2 t d)) d _ _)

/-- The values pass through unchanged. -/
theorem pay2_apply (V : Vec Ideal S2048x128 .bf16) (t : Fin 2048) (d : Fin 128) :
    k0_pay2 V (ix2 t d) = V (ix2 t d) := by
  pointwise [k0_pay2]

/-- The offsets of one trip of the loop: its query rows, its first key row and its bias variant. -/
theorem offs : ∀ k : Fin k0_t1_loop.trips, k0_off1 k = ![256 * k.1, 0] ∧ k0_off2 k = ![64 * (min (4 * k.1 - 4) 20), 0] ∧
    k0_off3 k = ![0, if k.1 = 0 then 0 else if k.1 = 7 then 2 else 1, 0, 0] := by
  decide +kernel

/-- The loop makes eight trips. -/
theorem trips_eq : k0_t1_loop.trips = 8 := by decide

/-- A key position of the window of trip `k`. -/
def kpos (k : ℕ) (y : Fin 768) : Fin 2048 := ⟨64 * (min (4 * k - 4) 20) + y.1, by omega⟩

/-- The token of the `i`-th query of trip `k`. -/
def qpos (k : ℕ) (hk : k < 8) (i : Fin 256) : Fin 2048 := ⟨256 * k + i.1, by omega⟩

/-- The bias variant of trip `k`. -/
def variant (k : ℕ) : Fin 3 := if k = 0 then 0 else if k = 7 then 2 else 1

/-- What one trip of the loop writes, entry by entry. -/
theorem TRIP_apply (Q K V : Vec Ideal S2048x128 .bf16) (KC VC : Vec Ideal S256x128 .bf16) (C S : Vec Ideal S2048x128 .f32)
    (B : Vec Ideal S1x3x256x768 .f32) (k : Fin k0_t1_loop.trips) (hk : k.1 < 8) (i : Fin 256) (d : Fin 128) :
    TRIP Q K V KC VC C S B k (ix2 i d) =
      row
        (fun y : Fin 768 => (∑ d : Fin 128,
          rot (fun d => Q (ix2 (qpos k hk i) d) * scl) (fun d => C (ix2 (qpos k hk i) d)) (fun d => S (ix2 (qpos k hk i) d)) d *
          rot (fun d => K (ix2 (kpos k y) d)) (fun d => C (ix2 (kpos k y) d)) (fun d => S (ix2 (kpos k y) d)) d) +
          B (ix4 0 (variant k) i y))
        (fun y : Fin 256 => ∑ d : Fin 128, (Q (ix2 (qpos k hk i) d) * scl) * KC (ix2 y d))
        (fun y => V (ix2 (kpos k y) d)) (fun y => VC (ix2 y d)) := by
  obtain ⟨h1, h2, h3⟩ := offs k
  have e1 : ∀ (X : Vec Ideal S2048x128 .bf16) (d : Fin 128), View.ld X (Rect.unit (s := S2048x128) (k0_off1 k) S256x128.size (k0_off1_inb k)) (ix2 i d) = X (ix2 (qpos k hk i) d) := by
    intro X d
    refine View.ld_unit_apply_of X _ _ _ _ _ fun a => ?_
    rw [congrFun h1 a]
    match a with
    | ⟨0, _⟩ => rfl
    | ⟨1, _⟩ => exact (Nat.zero_add _).symm
  have e2 : ∀ (X : Vec Ideal S2048x128 .bf16) (y : Fin 768) (d : Fin 128), View.ld X (Rect.unit (s := S2048x128) (k0_off2 k) S768x128.size (k0_off2_inb k)) (ix2 y d) = X (ix2 (kpos k y) d) := by
    intro X y d
    refine View.ld_unit_apply_of X _ _ _ _ _ fun a => ?_
    rw [congrFun h2 a]
    match a with
    | ⟨0, _⟩ => rfl
    | ⟨1, _⟩ => exact (Nat.zero_add _).symm
  have e3 : ∀ (y : Fin 768), View.ld B (Rect.unit (s := S1x3x256x768) (k0_off3 k) S1x1x256x768.size (k0_off3_inb k)) (ix4 0 0 i y) = B (ix4 0 (variant k) i y) := by
    intro y
    refine View.ld_unit_apply_of B _ _ _ _ _ fun a => ?_
    rw [congrFun h3 a]
    match a with
    | ⟨0, _⟩ => rfl
    | ⟨1, _⟩ =>
      show (variant k.1).1 = (if k.1 = 0 then 0 else if k.1 = 7 then 2 else 1) + 0
      unfold variant
      split
      · rfl
      · split <;> rfl
    | ⟨2, _⟩ => exact (Nat.zero_add _).symm
    | ⟨3, _⟩ => exact (Nat.zero_add _).symm
  unfold TRIP row
  rw [pay3_apply]
  simp only [pay6_apply, pay4_apply, pay5_apply, e1 (k0_pay13 Q), e1 (k0_pay14 Q C S), e2 (k0_pay2 V),
    e2 (k0_pay1 (k0_pay11 C) (k0_pay12 S) (k0_pay15 K) k0_pay16 (k0_pay17 K) 32#32), e3, pay13_apply, pay14_apply, pay1_apply, pay2_apply]

/-- The block indices of the windows at grid point `t`: head `t / 4`, batch `t % 4`. -/
theorem idx : ∀ t : Fin cfg0.N, win0_0.index t = ![t.val % 4, 24 + t.val / 4] ∧ win0_1.index t = ![t.val % 4, 32 + t.val / 4]
    ∧ win0_2.index t = ![t.val % 4, 40 + t.val / 4] ∧ win0_3.index t = ![32 + t.val % 4, 32 + t.val / 4]
    ∧ win0_4.index t = ![32 + t.val % 4, 40 + t.val / 4] ∧ win0_5.index t = ![0, 0] ∧ win0_6.index t = ![0, 0]
    ∧ win0_7.index t = ![t.val / 4, 0, 0, 0] ∧ win0_8.index t = ![t.val % 4, t.val / 4] :=
  (by decide +kernel : ∀ t : Fin grid0.N, _)

/-- The query block of a point, read from the projections. -/
theorem X0_0_apply (c : Dev nD) (t : Fin cfg0.N) (r : Fin 2048) (d : Fin 128) (hr : (t.val % 4) * 2048 + r.1 < 9216) (hd : (24 + t.val / 4) * 128 + d.1 < 25600) :
    X0_0 m c t (ix2 r d) = m ((c : Thread nD τ).loc main_arg0) ((ix2 ⟨(t.val % 4) * 2048 + r.1, hr⟩ ⟨(24 + t.val / 4) * 128 + d.1, hd⟩ : S9216x25600.Idx)) := by
  unfold X0_0 Pipeline.Window.fill
  rw [dif_pos (moved0_0 t _)]
  blk_point [iblk, V, idx t]

/-- The key block of a point, read from the projections. -/
theorem X0_1_apply (c : Dev nD) (t : Fin cfg0.N) (r : Fin 2048) (d : Fin 128) (hr : (t.val % 4) * 2048 + r.1 < 9216) (hd : (32 + t.val / 4) * 128 + d.1 < 25600) :
    X0_1 m c t (ix2 r d) = m ((c : Thread nD τ).loc main_arg0) ((ix2 ⟨(t.val % 4) * 2048 + r.1, hr⟩ ⟨(32 + t.val / 4) * 128 + d.1, hd⟩ : S9216x25600.Idx)) := by
  unfold X0_1 Pipeline.Window.fill
  rw [dif_pos (moved0_1 t _)]
  blk_point [iblk, V, idx t]

/-- The value block of a point, read from the projections. -/
theorem X0_2_apply (c : Dev nD) (t : Fin cfg0.N) (r : Fin 2048) (d : Fin 128) (hr : (t.val % 4) * 2048 + r.1 < 9216) (hd : (40 + t.val / 4) * 128 + d.1 < 25600) :
    X0_2 m c t (ix2 r d) = m ((c : Thread nD τ).loc main_arg0) ((ix2 ⟨(t.val % 4) * 2048 + r.1, hr⟩ ⟨(40 + t.val / 4) * 128 + d.1, hd⟩ : S9216x25600.Idx)) := by
  unfold X0_2 Pipeline.Window.fill
  rw [dif_pos (moved0_2 t _)]
  blk_point [iblk, V, idx t]

/-- The block of context keys of a point, read from the projections. -/
theorem iblk3_apply (c : Dev nD) (t : Fin cfg0.N) (r : Fin 256) (d : Fin 128) (hr : (32 + t.val % 4) * 256 + r.1 < 9216) (hd : (32 + t.val / 4) * 128 + d.1 < 25600) :
    iblk m c 3 t (ix2 r d) = m ((c : Thread nD τ).loc main_arg0) ((ix2 ⟨(32 + t.val % 4) * 256 + r.1, hr⟩ ⟨(32 + t.val / 4) * 128 + d.1, hd⟩ : S9216x25600.Idx)) := by
  blk_point [iblk, V, idx t]

/-- The block of context values of a point, read from the projections. -/
theorem iblk4_apply (c : Dev nD) (t : Fin cfg0.N) (r : Fin 256) (d : Fin 128) (hr : (32 + t.val % 4) * 256 + r.1 < 9216) (hd : (40 + t.val / 4) * 128 + d.1 < 25600) :
    iblk m c 4 t (ix2 r d) = m ((c : Thread nD τ).loc main_arg0) ((ix2 ⟨(32 + t.val % 4) * 256 + r.1, hr⟩ ⟨(40 + t.val / 4) * 128 + d.1, hd⟩ : S9216x25600.Idx)) := by
  blk_point [iblk, V, idx t]

end Cert.KernelIdeal.Attn
-- ==== Proof.AttnG.lean ====
module

public import proofs.«01_k».proof.Proof.AttnK
public import proofs.«01_k».proof.Proof.Gen.ReferenceIdeal.Run

@[expose] public section

set_option maxRecDepth 16384

noncomputable section

open Idealize.ShloMosaic Idealize.ShloMosaic.TcCoe

namespace Cert.Proof.Take

/-- The operand coordinate of a gather on a collapsed axis that the start indices name. -/
theorem on_start {s si t : Shape} {w : ℕ} (d : GatherDims s si t) (j : t.Idx) (idx : IVec si w) (a : Fin s.rank)
    (ha : a ∈ d.startIndexMap) (hb : a ∉ d.operandBatchingDims) (hk : a ∉ d.sKept) (i : si.Idx)
    (hi : d.siIdx j ⟨d.startIndexMap.idxOf a, List.idxOf_lt_length_iff.2 ha⟩ = i) :
    (d.operandIdx j idx a).val = min (idx i).toInt.toNat (s.size a - d.sliceSizes a) := by
  show d.start j idx a + d.batchCoord j a + d.offCoord j a = _
  rw [d.batchCoord_eq_zero _ _ hb, d.offCoord_eq_zero _ _ hk, GatherDims.start, dif_pos ha, hi]
  rfl

/-- The operand coordinate of a gather on an axis that the result carries over. -/
theorem on_offset {s si t : Shape} {w : ℕ} (d : GatherDims s si t) (j : t.Idx) (idx : IVec si w) (a : Fin s.rank)
    (ha : a ∉ d.startIndexMap) (hb : a ∉ d.operandBatchingDims) (hk : a ∈ d.sKept) (b : Fin t.rank)
    (hi : d.offsetDims[d.sKept.idxOf a]'(by rw [d.offset_length]; exact List.idxOf_lt_length_iff.2 hk) = b) :
    (d.operandIdx j idx a).val = (j b).val := by
  show d.start j idx a + d.batchCoord j a + d.offCoord j a = _
  rw [d.batchCoord_eq_zero _ _ hb, GatherDims.start, dif_neg ha, GatherDims.offCoord, dif_pos hk, hi]
  omega

end Cert.Proof.Take

namespace Cert.KernelIdeal.Attn

open Cert.KernelIdeal.Gen

/-- The take of a lane's position coordinate. -/
theorem gather_pos {α : Type} (x : S2048x2.Idx → α) (idx : IVec S128x1 32) (t : Fin 2048) (d : Fin 128) :
    Host.gather gather_S2048x2_S128x1_S2048x128_0_1_n_n_1_1_20481 x idx (ix2 t d) =
      x (ix2 t ⟨min (idx (ix2 d 0)).toInt.toNat 1, by omega⟩) := by
  unfold Host.gather
  congr 1
  funext q
  match q with
  | ⟨0, _⟩ =>
    exact Fin.ext ((Cert.Proof.Take.on_offset _ _ _ 0 (by decide) (by decide) (by decide) 0 rfl).trans rfl)
  | ⟨1, _⟩ =>
    exact Fin.ext (Cert.Proof.Take.on_start _ _ _ 1 (by decide) (by decide) (by decide) (ix2 d 0) (by
      funext b
      match b with
      | ⟨0, _⟩ => rfl
      | ⟨1, _⟩ => rfl))

/-- The take of a lane's frequency. -/
theorem gather_inv {α : Type} (x : S32.Idx → α) (idx : IVec S128x1 32) (d : Fin 128) :
    Host.gather gather_S32_S128x1_S128_n_0_n_n_0_1_1 x idx (ix1 d) =
      x (ix1 ⟨min (idx (ix2 d 0)).toInt.toNat 31, by omega⟩) := by
  unfold Host.gather
  congr 1
  funext q
  match q with
  | ⟨0, _⟩ =>
    exact Fin.ext (Cert.Proof.Take.on_start _ _ _ 0 (by decide) (by decide) (by decide) (ix2 d 0) (by
      funext b
      match b with
      | ⟨0, _⟩ => rfl
      | ⟨1, _⟩ => rfl))

/-- The take of a head's bias at a row and a column distance. -/
theorem gather_rpb {α : Type} (x : S8x15x31.Idx → α) (idx : IVec S4x64x12x64x2 32) (h : Fin 8) (a : Fin 4) (c : Fin 64) (b : Fin 12) (e : Fin 64) :
    Host.gather gather_S8x15x31_S4x64x12x64x2_S8x4x64x12x64_0_12_n_n_12_4_811 x idx (ix5 h a c b e) =
      x (ix3 h ⟨min (idx (ix5 a c b e 0)).toInt.toNat 14, by omega⟩ ⟨min (idx (ix5 a c b e 1)).toInt.toNat 30, by omega⟩) := by
  unfold Host.gather
  congr 1
  funext q
  match q with
  | ⟨0, _⟩ =>
    exact Fin.ext ((Cert.Proof.Take.on_offset _ _ _ 0 (by decide) (by decide) (by decide) 0 rfl).trans rfl)
  | ⟨1, _⟩ =>
    exact Fin.ext (Cert.Proof.Take.on_start _ _ _ 1 (by decide) (by decide) (by decide) (ix5 a c b e 0) (by
      funext b
      match b with
      | ⟨0, _⟩ => rfl
      | ⟨1, _⟩ => rfl
      | ⟨2, _⟩ => rfl
      | ⟨3, _⟩ => rfl
      | ⟨4, _⟩ => rfl))
  | ⟨2, _⟩ =>
    exact Fin.ext (Cert.Proof.Take.on_start _ _ _ 2 (by decide) (by decide) (by decide) (ix5 a c b e 1) (by
      funext b
      match b with
      | ⟨0, _⟩ => rfl
      | ⟨1, _⟩ => rfl
      | ⟨2, _⟩ => rfl
      | ⟨3, _⟩ => rfl
      | ⟨4, _⟩ => rfl))

end Cert.KernelIdeal.Attn

namespace Cert.ReferenceIdeal.Attn

open Cert.ReferenceIdeal.Gen

/-- The take of the rows of keys or values. -/
theorem gather_rows {α : Type} (x : S4x32x64x8x128.Idx → α) (idx : IVec S32x8x1 32) (b : Fin 4) (r : Fin 32) (a : Fin 8) (c : Fin 64) (h : Fin 8) (d : Fin 128) :
    Host.gather gather_S4x32x64x8x128_S32x8x1_S4x32x8x64x8x128_0345_1_n_n_1_2_41648128 x idx (ix6 b r a c h d) =
      x (ix5 b ⟨min (idx (ix3 r a 0)).toInt.toNat 31, by omega⟩ c h d) := by
  unfold Host.gather
  congr 1
  funext q
  match q with
  | ⟨0, _⟩ =>
    exact Fin.ext ((Cert.Proof.Take.on_offset _ _ _ 0 (by decide) (by decide) (by decide) 0 rfl).trans rfl)
  | ⟨1, _⟩ =>
    exact Fin.ext (Cert.Proof.Take.on_start _ _ _ 1 (by decide) (by decide) (by decide) (ix3 r a 0) (by
      funext b
      match b with
      | ⟨0, _⟩ => rfl
      | ⟨1, _⟩ => rfl
      | ⟨2, _⟩ => rfl))
  | ⟨2, _⟩ =>
    exact Fin.ext ((Cert.Proof.Take.on_offset _ _ _ 2 (by decide) (by decide) (by decide) 3 rfl).trans rfl)
  | ⟨3, _⟩ =>
    exact Fin.ext ((Cert.Proof.Take.on_offset _ _ _ 3 (by decide) (by decide) (by decide) 4 rfl).trans rfl)
  | ⟨4, _⟩ =>
    exact Fin.ext ((Cert.Proof.Take.on_offset _ _ _ 4 (by decide) (by decide) (by decide) 5 rfl).trans rfl)

/-- The take of a head's bias at a row and a column distance. -/
theorem gather_rpb {α : Type} (x : S8x15x31.Idx → α) (idx : IVec S32x64x8x64x2 32) (h : Fin 8) (a : Fin 32) (c : Fin 64) (b : Fin 8) (e : Fin 64) :
    Host.gather gather_S8x15x31_S32x64x8x64x2_S8x32x64x8x64_0_12_n_n_12_4_811 x idx (ix5 h a c b e) =
      x (ix3 h ⟨min (idx (ix5 a c b e 0)).toInt.toNat 14, by omega⟩ ⟨min (idx (ix5 a c b e 1)).toInt.toNat 30, by omega⟩) := by
  unfold Host.gather
  congr 1
  funext q
  match q with
  | ⟨0, _⟩ =>
    exact Fin.ext ((Cert.Proof.Take.on_offset _ _ _ 0 (by decide) (by decide) (by decide) 0 rfl).trans rfl)
  | ⟨1, _⟩ =>
    exact Fin.ext (Cert.Proof.Take.on_start _ _ _ 1 (by decide) (by decide) (by decide) (ix5 a c b e 0) (by
      funext b
      match b with
      | ⟨0, _⟩ => rfl
      | ⟨1, _⟩ => rfl
      | ⟨2, _⟩ => rfl
      | ⟨3, _⟩ => rfl
      | ⟨4, _⟩ => rfl))
  | ⟨2, _⟩ =>
    exact Fin.ext (Cert.Proof.Take.on_start _ _ _ 2 (by decide) (by decide) (by decide) (ix5 a c b e 1) (by
      funext b
      match b with
      | ⟨0, _⟩ => rfl
      | ⟨1, _⟩ => rfl
      | ⟨2, _⟩ => rfl
      | ⟨3, _⟩ => rfl
      | ⟨4, _⟩ => rfl))

end Cert.ReferenceIdeal.Attn
-- ==== Proof.AttnS.lean ====
module

public import Idealize.ShloMosaic.Lib.Pointwise
public import Idealize.ShloMosaic.Lib.IdealHost

@[expose] public section

noncomputable section

open Idealize.ShloMosaic

namespace Cert.Proof.Spec

/-- The position coordinate a lane of the first (`a = 0`) or second half turns by: the row or the column of token `t`. -/
def pos (t a : ℕ) : EReal := FloatOps.sitofp (F := Ideal) .f32 (BitVec.ofNat 32 (if a = 0 then t / 64 else t % 64))

/-- The rotary frequency numbered `k`. -/
def freq (k : ℕ) : EReal :=
  Ideal.pow (Ideal.ofBits FTy.f32 1176256512#32)
    (Ideal.div (-(Ideal.ofBits FTy.f32 1073741824#32 * FloatOps.sitofp (F := Ideal) .f32 (BitVec.ofNat 32 k)))
      (Ideal.ofBits FTy.f32 1115684864#32))

/-- The angle lane `d` of token `t` turns by. -/
def ang (t d : ℕ) : EReal := pos t (d / 64) * freq (d % 32)

/-- The sign of the partner's share. -/
def sgn (d : ℕ) : EReal := Ideal.ofBits FTy.f32 (if d % 64 < 32 then 0xBF800000#32 else 0x3F800000#32)

/-- The rotary table's cosine. -/
def cosT (t d : ℕ) : EReal := Ideal.cos (ang t d)

/-- The rotary table's sine, without its sign. -/
def sinT (t d : ℕ) : EReal := Ideal.sin (ang t d)

/-- The first key row of the window of query row `r`, and the first key column of that of query column `c`. -/
def rowStart (r : ℕ) : ℕ := min (r - 4) 24

/-- The first column of the window of column `c`. -/
def colStart (c : ℕ) : ℕ := min (c - 8) 48

/-- Whether key row `k` is in the window of query row `r`, and key column `e` in that of query column `c`. -/
def inRow (r k : ℕ) : Prop := rowStart r ≤ k ∧ k < rowStart r + 8

/-- Column `e` lies in the window of column `c`. -/
def inCol (c e : ℕ) : Prop := colStart c ≤ e ∧ e < colStart c + 16

instance (r k : ℕ) : Decidable (inRow r k) := by unfold inRow; infer_instance

instance (c e : ℕ) : Decidable (inCol c e) := by unfold inCol; infer_instance

/-- The relative bias of a head for the query at row `r`, column `c` and the key at row `k`, column `e`. -/
def rel {n a b : ℕ} (x : (⟨3, ![n, a + 1, b + 1]⟩ : Shape).Idx → EReal) (h : Fin n) (r c k e : ℕ) : EReal :=
  x (ix3 h ⟨min (k + 7 - r) a, by omega⟩ ⟨min (e + 15 - c) b, by omega⟩)

end Cert.Proof.Spec
-- ==== Proof.AttnH.lean ====
module

public import proofs.«01_k».proof.Proof.AttnG
public import proofs.«01_k».proof.Proof.AttnS
public import Idealize.ShloMosaic.Lib.StableHlo.ReadAt

@[expose] public section

set_option maxRecDepth 16384

noncomputable section

namespace Cert.KernelIdeal.Attn

open Idealize.ShloMosaic Idealize.ShloMosaic.TcCoe
open Idealize.SL Idealize.SL.Sem
open Cert.KernelIdeal.Gen

variable (m : (ℓ : Loc nD τ sig) → Buf (Elt Ideal) ℓ)

open Cert.Proof.Spec

/-- The row positions of the rotary table. -/
theorem U_v14 (c : Dev nD) (t : Fin 2048) (z : Fin 1) :
    StableHlo.upto ([hostOps0, hostOps0_1, hostOps0_2, hostOps0_3, hostOps0_4, hostOps0_5, hostOps0_6, hostOps0_7, hostOps0_8, hostOps0_9, hostOps0_10].flatten) (fun b => m (c, b)) 79 (Proc.tc.devRef main_v14) (ix2 t z) = BitVec.ofNat 32 (t.1 / 64) := by
  after_reads_at
  revert t
  decide +kernel

/-- The column positions of the rotary table. -/
theorem U_v15 (c : Dev nD) (t : Fin 2048) (z : Fin 1) :
    StableHlo.upto ([hostOps0, hostOps0_1, hostOps0_2, hostOps0_3, hostOps0_4, hostOps0_5, hostOps0_6, hostOps0_7, hostOps0_8, hostOps0_9, hostOps0_10].flatten) (fun b => m (c, b)) 79 (Proc.tc.devRef main_v15) (ix2 t z) = BitVec.ofNat 32 (t.1 % 64) := by
  after_reads_at
  revert t
  decide +kernel

/-- The printed table that says which half of the head a lane lies in. -/
theorem lane_half : ∀ d : Fin 128, min (lit0 (S128.rowMajor (ix1 d))).toInt.toNat 1 = d.1 / 64 := by decide +kernel

/-- The printed table of a lane's frequency. -/
theorem lane_freq : ∀ d : Fin 128, min (lit1 (S128.rowMajor (ix1 d))).toInt.toNat 31 = d.1 % 32 := by decide +kernel

/-- The printed table of a lane's sign. -/
theorem lane_sign : ∀ d : Fin 128, lit2 (S128.rowMajor (ix1 d)) = if d.1 % 64 < 32 then 0xBF800000#32 else 0x3F800000#32 := by
  decide +kernel

/-- The table of cosines. -/
theorem V_cos (c : Dev nD) (t : Fin 2048) (d : Fin 128) :
    V m c main_v31 (ix2 t d) = cosT t.1 d.1 := by
  unfold V
  after_reads_at
  rw [gather_pos, gather_inv]
  pointwise
  simp only [lane_half, lane_freq]
  refine congrArg (fun w => Ideal.cos (FloatOps.sitofp (F := Ideal) .f32 w * freq (d.1 % 32))) ?_
  split
  next h =>
    have h' : d.1 / 64 < 1 := h
    exact (U_v14 m c t _).trans (congrArg (BitVec.ofNat 32) (if_pos (by omega)).symm)
  next h =>
    have h' : ¬ d.1 / 64 < 1 := h
    exact (U_v15 m c t _).trans (congrArg (BitVec.ofNat 32) (if_neg (by omega)).symm)

/-- The table of signed sines. -/
theorem V_sin (c : Dev nD) (t : Fin 2048) (d : Fin 128) :
    V m c main_v34 (ix2 t d) = sinT t.1 d.1 * sgn d.1 := by
  unfold V
  after_reads_at
  rw [gather_pos, gather_inv]
  pointwise
  simp only [lane_half, lane_freq, lane_sign]
  refine congrArg (fun w => Ideal.sin (FloatOps.sitofp (F := Ideal) .f32 w * freq (d.1 % 32)) * sgn d.1) ?_
  split
  next h =>
    have h' : d.1 / 64 < 1 := h
    exact (U_v14 m c t _).trans (congrArg (BitVec.ofNat 32) (if_pos (by omega)).symm)
  next h =>
    have h' : ¬ d.1 / 64 < 1 := h
    exact (U_v15 m c t _).trans (congrArg (BitVec.ofNat 32) (if_neg (by omega)).symm)

end Cert.KernelIdeal.Attn
-- ==== Proof.AttnB.lean ====
module

public import proofs.«01_k».proof.Proof.AttnG
public import proofs.«01_k».proof.Proof.AttnH
public import proofs.«01_k».proof.Proof.AttnK
public import Idealize.ShloMosaic.Lib.StableHlo.ReadAt

@[expose] public section

set_option maxRecDepth 16384

noncomputable section

namespace Cert.KernelIdeal.Attn

open Idealize.ShloMosaic Idealize.ShloMosaic.TcCoe
open Idealize.SL Idealize.SL.Sem
open Cert.KernelIdeal.Gen

variable (m : (ℓ : Loc nD τ sig) → Buf (Elt Ideal) ℓ)

open Cert.Proof.Spec

/-- The row half of the first variant's index pair is the printed table of row distances. -/
theorem U_v43 (c : Dev nD) (a : Fin 4) (e : Fin 64) (b : Fin 12) (f : Fin 64) (z : Fin 1) :
    StableHlo.upto ([hostOps0, hostOps0_1, hostOps0_2, hostOps0_3, hostOps0_4, hostOps0_5, hostOps0_6, hostOps0_7, hostOps0_8, hostOps0_9, hostOps0_10].flatten) (fun b => m (c, b)) 112 (Proc.tc.devRef main_v43) (ix5 a e b f z) = lit3 (S4x1x12x1.rowMajor (ix4 a 0 b 0)) := by
  after_reads_at

/-- The column half of the first variant's index pair is the printed table of column distances. -/
theorem U_v44 (c : Dev nD) (a : Fin 4) (e : Fin 64) (b : Fin 12) (f : Fin 64) (z : Fin 1) :
    StableHlo.upto ([hostOps0, hostOps0_1, hostOps0_2, hostOps0_3, hostOps0_4, hostOps0_5, hostOps0_6, hostOps0_7, hostOps0_8, hostOps0_9, hostOps0_10].flatten) (fun b => m (c, b)) 112 (Proc.tc.devRef main_v44) (ix5 a e b f z) = lit4 (S1x64x1x64.rowMajor (ix4 0 e 0 f)) := by
  after_reads_at

/-- The row half of the second variant's index pair is the printed table of row distances. -/
theorem U_v63 (c : Dev nD) (a : Fin 4) (e : Fin 64) (b : Fin 12) (f : Fin 64) (z : Fin 1) :
    StableHlo.upto ([hostOps0, hostOps0_1, hostOps0_2, hostOps0_3, hostOps0_4, hostOps0_5, hostOps0_6, hostOps0_7, hostOps0_8, hostOps0_9, hostOps0_10].flatten) (fun b => m (c, b)) 138 (Proc.tc.devRef main_v63) (ix5 a e b f z) = lit7 (S4x1x12x1.rowMajor (ix4 a 0 b 0)) := by
  after_reads_at

/-- The column half of the second variant's index pair is the printed table of column distances. -/
theorem U_v64 (c : Dev nD) (a : Fin 4) (e : Fin 64) (b : Fin 12) (f : Fin 64) (z : Fin 1) :
    StableHlo.upto ([hostOps0, hostOps0_1, hostOps0_2, hostOps0_3, hostOps0_4, hostOps0_5, hostOps0_6, hostOps0_7, hostOps0_8, hostOps0_9, hostOps0_10].flatten) (fun b => m (c, b)) 138 (Proc.tc.devRef main_v64) (ix5 a e b f z) = lit8 (S1x64x1x64.rowMajor (ix4 0 e 0 f)) := by
  after_reads_at

/-- The row half of the third variant's index pair is the printed table of row distances. -/
theorem U_v83 (c : Dev nD) (a : Fin 4) (e : Fin 64) (b : Fin 12) (f : Fin 64) (z : Fin 1) :
    StableHlo.upto ([hostOps0, hostOps0_1, hostOps0_2, hostOps0_3, hostOps0_4, hostOps0_5, hostOps0_6, hostOps0_7, hostOps0_8, hostOps0_9, hostOps0_10].flatten) (fun b => m (c, b)) 164 (Proc.tc.devRef main_v83) (ix5 a e b f z) = lit10 (S4x1x12x1.rowMajor (ix4 a 0 b 0)) := by
  after_reads_at

/-- The column half of the third variant's index pair is the printed table of column distances. -/
theorem U_v84 (c : Dev nD) (a : Fin 4) (e : Fin 64) (b : Fin 12) (f : Fin 64) (z : Fin 1) :
    StableHlo.upto ([hostOps0, hostOps0_1, hostOps0_2, hostOps0_3, hostOps0_4, hostOps0_5, hostOps0_6, hostOps0_7, hostOps0_8, hostOps0_9, hostOps0_10].flatten) (fun b => m (c, b)) 164 (Proc.tc.devRef main_v84) (ix5 a e b f z) = lit11 (S1x64x1x64.rowMajor (ix4 0 e 0 f)) := by
  after_reads_at

/-- The take of a bias from a row distance and a column distance. -/
theorem bias_entry (rpb : S8x15x31.Idx → EReal) (A B : S4x64x12x64x1.Idx → BitVec 32) (hc) (h : Fin 8) (a : Fin 4) (e : Fin 64)
    (b : Fin 12) (f : Fin 64) :
    Host.gather gather_S8x15x31_S4x64x12x64x2_S8x4x64x12x64_0_12_n_n_12_4_811 rpb
      (concatenate S4x64x12x64x2 4 [⟨S4x64x12x64x1, A⟩, ⟨S4x64x12x64x1, B⟩] hc) (ix5 h a e b f) =
      rpb (ix3 h ⟨min (A (ix5 a e b f 0)).toInt.toNat 14, by omega⟩ ⟨min (B (ix5 a e b f 0)).toInt.toNat 30, by omega⟩) := by
  rw [gather_rpb]
  refine congrArg rpb ?_
  have h0 : concatenate S4x64x12x64x2 4 [⟨S4x64x12x64x1, A⟩, ⟨S4x64x12x64x1, B⟩] hc (ix5 a e b f 0) = A (ix5 a e b f 0) := by
    pointwise
  have h1 : concatenate S4x64x12x64x2 4 [⟨S4x64x12x64x1, A⟩, ⟨S4x64x12x64x1, B⟩] hc (ix5 a e b f 1) = B (ix5 a e b f 0) := by
    pointwise
  simp only [h0, h1]

/-- One entry of a bias table: where both masks hold it is the relative bias at the two distances, elsewhere the filler. -/
theorem bias_case (rpb : S8x15x31.Idx → EReal) (h : Fin 8) (w1 w2 : BitVec 1) (A B : BitVec 32) (P Q : Prop) [Decidable P] [Decidable Q]
    (r c k e : ℕ) (z : EReal) (h1 : w1 = BitVec.ofBool (decide P)) (h2 : w2 = BitVec.ofBool (decide Q))
    (hA : P → min A.toInt.toNat 14 = min (k + 7 - r) 14) (hB : Q → min B.toInt.toNat 30 = min (e + 15 - c) 30) :
    Scalar.select (IntOp.andi w1 w2) (rpb (ix3 h ⟨min A.toInt.toNat 14, by omega⟩ ⟨min B.toInt.toNat 30, by omega⟩)) z =
      if P ∧ Q then rel (n := 8) (a := 14) (b := 30) rpb h r c k e else z := by
  subst h1 h2
  by_cases hP : P
  · by_cases hQ : Q
    · simp only [hP, hQ, and_self, if_true, decide_true]
      simp only [hA hP, hB hQ]
      rfl
    · simp only [hP, hQ, and_false, if_false, decide_true, decide_false]
      rfl
  · by_cases hQ : Q
    · simp only [hP, hQ, false_and, if_false, decide_true, decide_false]
      rfl
    · simp only [hP, hQ, false_and, if_false, decide_false]
      rfl

/-- The row of the first query, and of the first key, of a trip whose bias block is `v`. -/
def row0 (v : Fin 3) : ℕ := ![0, 4, 28] v

/-- The first key row of each variant of the bias table. -/
def krow0 (v : Fin 3) : ℕ := ![0, 0, 20] v

/-- The printed column mask is the window's formula. -/
theorem cols_ok : ∀ c e : Fin 64, lit6 (S64x64.rowMajor (ix2 c e)) = BitVec.ofBool (decide (inCol c.1 e.1)) := by decide +kernel

/-- The printed row mask of the first variant is the window's formula. -/
theorem rows_ok0 : ∀ (a : Fin 4) (b : Fin 12), lit5 (S4x12.rowMajor (ix2 a b)) = BitVec.ofBool (decide (inRow (row0 0 + a.1) (krow0 0 + b.1))) := by decide +kernel

/-- The printed row mask of the second variant is the window's formula. -/
theorem rows_ok1 : ∀ (a : Fin 4) (b : Fin 12), lit9 (S4x12.rowMajor (ix2 a b)) = BitVec.ofBool (decide (inRow (row0 1 + a.1) (krow0 1 + b.1))) := by decide +kernel

/-- The printed row mask of the third variant is the window's formula. -/
theorem rows_ok2 : ∀ (a : Fin 4) (b : Fin 12), lit12 (S4x12.rowMajor (ix2 a b)) = BitVec.ofBool (decide (inRow (row0 2 + a.1) (krow0 2 + b.1))) := by
  decide +kernel

/-- The printed row distances of the first variant. -/
theorem dr0 : ∀ (a : Fin 4) (b : Fin 12), min (lit3 (S4x1x12x1.rowMajor (ix4 a 0 b 0))).toInt.toNat 14 = min (krow0 0 + b.1 + 7 - (row0 0 + a.1)) 14 := by decide +kernel

/-- The printed row distances of the second variant. -/
theorem dr1 : ∀ (a : Fin 4) (b : Fin 12), min (lit7 (S4x1x12x1.rowMajor (ix4 a 0 b 0))).toInt.toNat 14 = min (krow0 1 + b.1 + 7 - (row0 1 + a.1)) 14 := by
  decide +kernel

/-- The printed row distances of the third variant. -/
theorem dr2 : ∀ (a : Fin 4) (b : Fin 12), min (lit10 (S4x1x12x1.rowMajor (ix4 a 0 b 0))).toInt.toNat 14 = min (krow0 2 + b.1 + 7 - (row0 2 + a.1)) 14 := by
  decide +kernel

/-- The printed column distances of the first variant. -/
theorem dc0 : ∀ c e : Fin 64, min (lit4 (S1x64x1x64.rowMajor (ix4 0 c 0 e))).toInt.toNat 30 = min (e.1 + 15 - c.1) 30 := by decide +kernel

/-- The printed column distances of the second variant. -/
theorem dc1 : ∀ c e : Fin 64, min (lit8 (S1x64x1x64.rowMajor (ix4 0 c 0 e))).toInt.toNat 30 = min (e.1 + 15 - c.1) 30 := by decide +kernel

/-- The printed column distances of the third variant. -/
theorem dc2 : ∀ c e : Fin 64, min (lit11 (S1x64x1x64.rowMajor (ix4 0 c 0 e))).toInt.toNat 30 = min (e.1 + 15 - c.1) 30 := by decide +kernel

/-- The bias table that the host code hands to the kernel, entry by entry. -/
theorem V_bias (c : Dev nD) (h : Fin 8) (v : Fin 3) (i : Fin 256) (y : Fin 768) :
    V m c main_v98 (ix4 h v i y) =
      if inRow (row0 v + i.1 / 64) (krow0 v + y.1 / 64) ∧ inCol (i.1 % 64) (y.1 % 64) then
        rel (n := 8) (a := 14) (b := 30) (m ((c : Thread nD τ).loc main_arg1)) h (row0 v + i.1 / 64) (i.1 % 64) (krow0 v + y.1 / 64) (y.1 % 64)
      else ⊥ := by
  have hbot : id (constant (F := Ideal) S_ FTy.f32 4286578688#32) ix0 = ⊥ := ofBits_bot
  unfold V
  after_reads_at
  after_reads_at
  simp only [bias_entry, hbot]
  match v with
  | 0 =>
    rw [dif_pos (by decide)]
    refine bias_case _ h _ _ _ _ (inRow (row0 0 + i.1 / 64) (krow0 0 + y.1 / 64)) (inCol (i.1 % 64) (y.1 % 64)) _ _ _ _ _ ?_ (cols_ok _ _)
      (fun _ => ?_) fun _ => ?_
    · exact rows_ok0 _ _
    · refine (congrArg (fun w : BitVec 32 => min w.toInt.toNat 14) (U_v43 m c _ _ _ _ _)).trans ?_
      exact dr0 _ _
    · exact (congrArg (fun w : BitVec 32 => min w.toInt.toNat 30) (U_v44 m c _ _ _ _ _)).trans (dc0 _ _)
  | 1 =>
    rw [dif_neg (by decide), dif_pos (by decide)]
    refine bias_case _ h _ _ _ _ (inRow (row0 1 + i.1 / 64) (krow0 1 + y.1 / 64)) (inCol (i.1 % 64) (y.1 % 64)) _ _ _ _ _ ?_ (cols_ok _ _)
      (fun _ => ?_) fun _ => ?_
    · exact rows_ok1 _ _
    · refine (congrArg (fun w : BitVec 32 => min w.toInt.toNat 14) (U_v63 m c _ _ _ _ _)).trans ?_
      exact dr1 _ _
    · exact (congrArg (fun w : BitVec 32 => min w.toInt.toNat 30) (U_v64 m c _ _ _ _ _)).trans (dc1 _ _)
  | 2 =>
    rw [dif_neg (by decide), dif_neg (by decide)]
    refine bias_case _ h _ _ _ _ (inRow (row0 2 + i.1 / 64) (krow0 2 + y.1 / 64)) (inCol (i.1 % 64) (y.1 % 64)) _ _ _ _ _ ?_ (cols_ok _ _)
      (fun _ => ?_) fun _ => ?_
    · exact rows_ok2 _ _
    · refine (congrArg (fun w : BitVec 32 => min w.toInt.toNat 14) (U_v83 m c _ _ _ _ _)).trans ?_
      exact dr2 _ _
    · exact (congrArg (fun w : BitVec 32 => min w.toInt.toNat 30) (U_v84 m c _ _ _ _ _)).trans (dc2 _ _)

end Cert.KernelIdeal.Attn
-- ==== Proof.AttnD.lean ====
module

public import proofs.«01_k».proof.Proof.AttnK
public import proofs.«01_k».proof.Proof.AttnS

@[expose] public section

set_option maxRecDepth 16384

noncomputable section

open Idealize.ShloMosaic

namespace Cert.Proof.Spec

open Cert.KernelIdeal.Attn (rot row scl)

/-- The projections, and the table of relative biases. -/
abbrev Proj : Type := (⟨2, ![9216, 25600]⟩ : Shape).Idx → EReal

/-- The relative biases of eight heads. -/
abbrev Bias : Type := (⟨3, ![8, 14 + 1, 30 + 1]⟩ : Shape).Idx → EReal

/-- An entry of the projections. -/
def rd (P : Proj) (r c : ℕ) : EReal := if h : r < 9216 ∧ c < 25600 then P (ix2 ⟨r, h.1⟩ ⟨c, h.2⟩) else 0

/-- Reading the projections at two naturals in range is reading the array there. -/
theorem rd_eq (P : Proj) (r c : ℕ) (hr : r < 9216) (hc : c < 25600) :
    P (ix2 ⟨r, hr⟩ ⟨c, hc⟩) = rd P r c := by
  unfold rd
  rw [dif_pos ⟨hr, hc⟩]

/-- Lane `d` of token `t` of batch `b` in head `h` of the group of heads that starts at column block `g`. -/
def tok (P : Proj) (g b h t : ℕ) (d : Fin 128) : EReal := rd P (b * 2048 + t) ((g + h) * 128 + d.1)

/-- Lane `d` of context entry `y`. -/
def ctx (P : Proj) (g b h y : ℕ) (d : Fin 128) : EReal := rd P ((32 + b) * 256 + y) ((g + h) * 128 + d.1)

/-- A row turned by the rotary embedding of token `t`. -/
def turn (x : Fin 128 → EReal) (t : ℕ) : Fin 128 → EReal := rot x (fun d => cosT t d.1) fun d => sinT t d.1 * sgn d.1

/-- The bias of query token `t` and key token `u`, ⊥ outside the window. -/
def bias (R : Bias) (h : Fin 8) (t u : ℕ) : EReal :=
  if inRow (t / 64) (u / 64) ∧ inCol (t % 64) (u % 64) then rel R h (t / 64) (t % 64) (u / 64) (u % 64) else ⊥

/-- The first key token of the rows the kernel takes for query token `t`. -/
def first (t : ℕ) : ℕ := 64 * min (4 * (t / 256) - 4) 20

/-- What the kernel computes for lane `d` of token `t` of batch `b` in head `h`. -/
def kout (P : Proj) (R : Bias) (b : ℕ) (h : Fin 8) (t : ℕ) (d : Fin 128) : EReal :=
  row (fun y : Fin 768 => (∑ d, turn (fun d => tok P 24 b h.1 t d * scl) t d * turn (tok P 32 b h.1 (first t + y.1)) (first t + y.1) d) +
      bias R h t (first t + y.1))
    (fun y : Fin 256 => ∑ d, (tok P 24 b h.1 t d * scl) * ctx P 32 b h.1 y.1 d)
    (fun y => tok P 40 b h.1 (first t + y.1) d) (fun y => ctx P 40 b h.1 y.1 d)

/-- The relative bias read with row and column numbers that differ by a common offset. -/
theorem bias_shift (R : Bias) (h : Fin 8) (k : ℕ) (hk : k < 8) (i : Fin 256) (y : Fin 768) (r0 k0 : ℕ)
    (h0 : k = 0 → r0 = 0 ∧ k0 = 0) (h7 : k = 7 → r0 = 28 ∧ k0 = 20) (h1 : k ≠ 0 → k ≠ 7 → r0 = 4 ∧ k0 = 0) :
    (if inRow (r0 + i.1 / 64) (k0 + y.1 / 64) ∧ inCol (i.1 % 64) (y.1 % 64) then
      rel R h (r0 + i.1 / 64) (i.1 % 64) (k0 + y.1 / 64) (y.1 % 64) else ⊥) = bias R h (256 * k + i.1) (first (256 * k + i.1) + y.1) := by
  have hi := i.2
  have hy := y.2
  have e1 : (256 * k + i.1) / 64 = 4 * k + i.1 / 64 := by omega
  have e2 : (256 * k + i.1) % 64 = i.1 % 64 := by omega
  have e3 : first (256 * k + i.1) = 64 * min (4 * k - 4) 20 := by unfold first; omega
  have e4 : (first (256 * k + i.1) + y.1) / 64 = min (4 * k - 4) 20 + y.1 / 64 := by omega
  have e5 : (first (256 * k + i.1) + y.1) % 64 = y.1 % 64 := by omega
  unfold bias
  rw [e1, e2, e4, e5]
  have hr : inRow (r0 + i.1 / 64) (k0 + y.1 / 64) ↔ inRow (4 * k + i.1 / 64) (min (4 * k - 4) 20 + y.1 / 64) := by
    unfold inRow rowStart
    omega
  by_cases hc : inRow (r0 + i.1 / 64) (k0 + y.1 / 64) ∧ inCol (i.1 % 64) (y.1 % 64)
  · rw [if_pos hc, if_pos ⟨hr.1 hc.1, hc.2⟩]
    have hw := hc.1
    unfold rel
    have e : min (k0 + y.1 / 64 + 7 - (r0 + i.1 / 64)) 14 = min (min (4 * k - 4) 20 + y.1 / 64 + 7 - (4 * k + i.1 / 64)) 14 := by
      unfold inRow rowStart at hw
      omega
    simp only [e]
  · rw [if_neg hc, if_neg fun h => hc ⟨hr.2 h.1, h.2⟩]

end Cert.Proof.Spec
-- ==== Proof.AttnF.lean ====
module

public import proofs.«01_k».proof.Proof.AttnB
public import proofs.«01_k».proof.Proof.AttnD

@[expose] public section

set_option maxRecDepth 16384

noncomputable section

namespace Cert.KernelIdeal.Attn

open Idealize.ShloMosaic Idealize.ShloMosaic.TcCoe
open Idealize.SL Idealize.SL.Sem
open Cert.KernelIdeal.Gen
open Cert.Proof.Spec

variable (m : (ℓ : Loc nD τ sig) → Buf (Elt Ideal) ℓ)

/-- The block of cosines is the whole cosine table. -/
theorem V5 (c : Dev nD) (t : Fin cfg0.N) (r : Fin 2048) (d : Fin 128) : iblk m c 5 t (ix2 r d) = cosT r.1 d.1 := by
  refine Eq.trans ?_ (V_cos m c r d)
  blk_point [iblk, idx t]

/-- The block of signed sines is the whole table of signed sines. -/
theorem V6 (c : Dev nD) (t : Fin cfg0.N) (r : Fin 2048) (d : Fin 128) : iblk m c 6 t (ix2 r d) = sinT r.1 d.1 * sgn d.1 := by
  refine Eq.trans ?_ (V_sin m c r d)
  blk_point [iblk, idx t]

/-- The block of biases is the bias table of the point's head. -/
theorem V7 (c : Dev nD) (t : Fin cfg0.N) (v : Fin 3) (i : Fin 256) (y : Fin 768) (ht : t.val / 4 < 8) :
    iblk m c 7 t (ix4 0 v i y) = V m c main_v98 (ix4 ⟨t.val / 4, ht⟩ v i y) := by
  blk_point [iblk, idx t]

/-- The values the kernel leaves in its result, from the projections and the biases. -/
def OUT (P : Proj) (R : Bias) : S8192x1024.Idx → EReal := fun j =>
  kout P R ((j 0).val / 2048) ⟨(j 1).val / 128, by have := (j 1).isLt; change (j 1).val < 1024 at this; omega⟩ ((j 0).val % 2048)
    ⟨(j 1).val % 128, by omega⟩

/-- The block of one grid point. -/
def BLK (P : Proj) (R : Bias) (b : ℕ) (h : Fin 8) : Vec Ideal S2048x128 .bf16 := fun y => kout P R b h (y 0).val (y 1)

/-- The query block of a point holds the queries of its sample and head. -/
theorem xq (c : Dev nD) (t : Fin cfg0.N) (r : Fin 2048) (d : Fin 128) (ht : t.val / 4 < 8) :
    X0_0 m c t (ix2 r d) = tok (m ((c : Thread nD τ).loc main_arg0)) 24 (t.val % 4) (t.val / 4) r.1 d :=
  (X0_0_apply m c t r d (by omega) (by omega)).trans (rd_eq _ _ _ _ _)

/-- The key block of a point holds the keys of its sample and head. -/
theorem xk (c : Dev nD) (t : Fin cfg0.N) (r : Fin 2048) (d : Fin 128) (ht : t.val / 4 < 8) :
    X0_1 m c t (ix2 r d) = tok (m ((c : Thread nD τ).loc main_arg0)) 32 (t.val % 4) (t.val / 4) r.1 d :=
  (X0_1_apply m c t r d (by omega) (by omega)).trans (rd_eq _ _ _ _ _)

/-- The value block of a point holds the values of its sample and head. -/
theorem xv (c : Dev nD) (t : Fin cfg0.N) (r : Fin 2048) (d : Fin 128) (ht : t.val / 4 < 8) :
    X0_2 m c t (ix2 r d) = tok (m ((c : Thread nD τ).loc main_arg0)) 40 (t.val % 4) (t.val / 4) r.1 d :=
  (X0_2_apply m c t r d (by omega) (by omega)).trans (rd_eq _ _ _ _ _)

/-- The block of context keys of a point. -/
theorem xkc (c : Dev nD) (t : Fin cfg0.N) (r : Fin 256) (d : Fin 128) (ht : t.val / 4 < 8) :
    iblk m c 3 t (ix2 r d) = ctx (m ((c : Thread nD τ).loc main_arg0)) 32 (t.val % 4) (t.val / 4) r.1 d :=
  (iblk3_apply m c t r d (by omega) (by omega)).trans (rd_eq _ _ _ _ _)

/-- The block of context values of a point. -/
theorem xvc (c : Dev nD) (t : Fin cfg0.N) (r : Fin 256) (d : Fin 128) (ht : t.val / 4 < 8) :
    iblk m c 4 t (ix2 r d) = ctx (m ((c : Thread nD τ).loc main_arg0)) 40 (t.val % 4) (t.val / 4) r.1 d :=
  (iblk4_apply m c t r d (by omega) (by omega)).trans (rd_eq _ _ _ _ _)

/-- The biases that one trip of the loop reads. -/
theorem xb (c : Dev nD) (t : Fin cfg0.N) (k : ℕ) (hk : k < 8) (i : Fin 256) (y : Fin 768) (ht : t.val / 4 < 8) :
    iblk m c 7 t (ix4 0 (variant k) i y) =
      bias (m ((c : Thread nD τ).loc main_arg1)) ⟨t.val / 4, ht⟩ (256 * k + i.1) (first (256 * k + i.1) + y.1) := by
  rw [V7 m c t _ _ _ ht, V_bias]
  refine bias_shift _ _ k hk i y _ _ ?_ ?_ ?_
  · rintro rfl; exact ⟨rfl, rfl⟩
  · rintro rfl; exact ⟨rfl, rfl⟩
  · intro h0 h7
    have e : variant k = 1 := by unfold variant; rw [if_neg h0, if_neg h7]
    rw [e]; exact ⟨rfl, rfl⟩

/-- One trip of the loop, from the point's own blocks, writes the attention of its 256 queries. -/
theorem trip_eq (c : Dev nD) (t : Fin cfg0.N) (ht : t.val / 4 < 8) (k : Fin k0_t1_loop.trips) (x : S256x128.Idx) :
    TRIP (X0_0 m c t) (X0_1 m c t) (X0_2 m c t) (iblk m c 3 t) (iblk m c 4 t) (iblk m c 5 t) (iblk m c 6 t) (iblk m c 7 t) k x =
      BLK (m ((c : Thread nD τ).loc main_arg0)) (m ((c : Thread nD τ).loc main_arg1)) (t.val % 4) ⟨t.val / 4, ht⟩
        ((Rect.unit (s := S2048x128) (k0_off1 k) S256x128.size (k0_off1_inb k)).emb x) := by
  have hk : k.1 < 8 := lt_of_lt_of_eq k.2 trips_eq
  obtain ⟨i, d, rfl⟩ : ∃ (i : Fin 256) (d : Fin 128), x = ix2 i d := ⟨x 0, x 1, by funext a; match a with | 0 => rfl | 1 => rfl⟩
  rw [TRIP_apply _ _ _ _ _ _ _ _ k hk i d]
  have eq1 : (qpos k.1 hk i).1 = 256 * k.1 + i.1 := rfl
  have ek : ∀ y, (kpos k.1 y).1 = first (256 * k.1 + i.1) + y.1 := fun y => by
    have := i.2
    show 64 * min (4 * k.1 - 4) 20 + y.1 = _
    unfold first
    omega
  simp only [xq m c t _ _ ht, xk m c t _ _ ht, xv m c t _ _ ht, xkc m c t _ _ ht, xvc m c t _ _ ht, V5, V6, xb m c t k.1 hk _ _ ht, eq1, ek]
  have e0 : ((Rect.unit (s := S2048x128) (k0_off1 k) S256x128.size (k0_off1_inb k)).emb (ix2 i d) 0).val = 256 * k.1 + i.1 := by
    rw [ValueKit.rect_emb_unit_val, congrFun (offs k).1 0]
    rfl
  have e1 : (Rect.unit (s := S2048x128) (k0_off1 k) S256x128.size (k0_off1_inb k)).emb (ix2 i d) 1 = d := by
    refine Fin.ext ?_
    rw [ValueKit.rect_emb_unit_val, congrFun (offs k).1 1]
    exact Nat.zero_add _
  unfold BLK
  rw [e0, e1]
  rfl

/-- After the last point the result array holds the attention of every query. -/
theorem final (c : Dev nD) :
    (dats m 0 c).arrAt 8 cfg0.N = OUT (m ((c : Thread nD τ).loc main_arg0)) (m ((c : Thread nD τ).loc main_arg1)) := by
  refine (dats m 0 c).arrAt_eq_of_covers 8 _ (by decide +kernel) fun t hf y => ?_
  blk_simp
  rw [after0_8]
  have ht : t.val / 4 < 8 := by have := t.isLt; change t.val < 32 at this; omega
  rw [outs m c t _ _ (trip_eq m c t ht)]
  unfold BLK OUT
  have hy0 := (y 0).isLt
  have hy1 := (y 1).isLt
  change (y 0).val < 2048 at hy0
  change (y 1).val < 128 at hy1
  have e0 : ((win0_8.blk t).view.emb y 0).val = (t.val % 4) * 2048 + (y 0).val := by
    blk_simp [idx t]
    first | done | rfl
  have e1 : ((win0_8.blk t).view.emb y 1).val = (t.val / 4) * 128 + (y 1).val := by
    blk_simp [idx t]
    first | done | rfl
  have h0 : ((win0_8.blk t).view.emb y 0).val / 2048 = t.val % 4 := by omega
  have h1 : ((win0_8.blk t).view.emb y 0).val % 2048 = (y 0).val := by omega
  have h2 : ((win0_8.blk t).view.emb y 1).val / 128 = t.val / 4 := by omega
  have h3 : ((win0_8.blk t).view.emb y 1).val % 128 = (y 1).val := by omega
  simp only [h0, h1, h2, h3]
  rfl

end Cert.KernelIdeal.Attn
-- ==== Proof.Soft.lean ====
module

public import Idealize.ShloMosaic.Lib.Pointwise

@[expose] public section

/-! Softmax rows over the extended reals: the two ways of weighting values by a softmax — dividing
the weighted sum, or dividing each weight — agree on a row whose scores are below `⊤` and of which
one is a real number. -/

namespace Cert.Proof.Soft

open Idealize.ShloMosaic

/-- Multiplying by a nonnegative extended real other than `⊤` goes inside a finite sum. -/
theorem sum_mul_of_nonneg {ι : Type*} (s : Finset ι) (f : ι → EReal) {c : EReal} (h0 : 0 ≤ c)
    (ht : c ≠ ⊤) : (∑ i ∈ s, f i) * c = ∑ i ∈ s, f i * c := by
  classical
  induction s using Finset.induction_on with
  | empty => simp
  | insert a s ha ih =>
    rw [Finset.sum_insert ha, Finset.sum_insert ha, ← ih,
      EReal.right_distrib_of_nonneg_of_ne_top h0 ht]

/-- A finite sum of real numbers is the same sum among the extended reals. -/
theorem coe_sum {ι : Type*} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- A finite sum of extended reals that are real numbers is one. -/
theorem sum_real {ι : Type*} (s : Finset ι) (f : ι → EReal) (h : ∀ i, ∃ r : ℝ, f i = r) :
    ∃ r : ℝ, ∑ i ∈ s, f i = r := by
  choose g hg using h
  refine ⟨∑ i ∈ s, g i, ?_⟩
  rw [Finset.sum_congr rfl fun i _ => hg i]
  exact (coe_sum ..).symm

/-- The exponential of a score below `⊤` less a real number is a nonnegative real number. -/
theorem exp_sub_real {s : EReal} (h : s ≠ ⊤) (m : ℝ) :
    ∃ r : ℝ, 0 ≤ r ∧ Ideal.exp (s - (m : EReal)) = r := by
  induction s with
  | bot => exact ⟨0, le_rfl, by rw [EReal.bot_sub]; rfl⟩
  | top => exact absurd rfl h
  | coe x =>
    refine ⟨Real.exp (x - m), (Real.exp_pos _).le, ?_⟩
    rw [← EReal.coe_sub]; rfl

/-- The exponential of a real score less a real number is a positive real number. -/
theorem exp_sub_pos {s : EReal} (h : ∃ r : ℝ, s = r) (m : ℝ) :
    ∃ r : ℝ, 0 < r ∧ Ideal.exp (s - (m : EReal)) = r := by
  obtain ⟨x, rfl⟩ := h
  refine ⟨Real.exp (x - m), Real.exp_pos _, ?_⟩
  rw [← EReal.coe_sub]; rfl

/-- The exponential of `⊥` less anything real is zero. -/
theorem exp_bot_sub (m : ℝ) : Ideal.exp (⊥ - (m : EReal)) = 0 := by
  rw [EReal.bot_sub]; rfl

/-- The largest of finitely many scores below `⊤`, one of which is real, is real. -/
theorem sup_real {ι : Type*} [Fintype ι] (s : ι → EReal) (h : ∀ i, s i ≠ ⊤)
    (i0 : ι) (h0 : ∃ r : ℝ, s i0 = r) : ∃ r : ℝ, Finset.univ.sup s = r := by
  obtain ⟨r, hr⟩ := h0
  have hb : Finset.univ.sup s ≠ ⊥ := by
    intro hb
    have := Finset.le_sup (f := s) (Finset.mem_univ i0)
    rw [hb, hr] at this
    exact absurd this (by simp)
  have ht : Finset.univ.sup s ≠ ⊤ := by
    rw [← lt_top_iff_ne_top, Finset.sup_lt_iff (by simp)]
    exact fun i _ => lt_top_iff_ne_top.mpr (h i)
  exact ⟨_, (EReal.coe_toReal ht hb).symm⟩

/-- **The two softmaxes of a row agree.** One row has local scores `s1` over a set of keys that
contains the window `e` and `⊥` outside it, with context scores `s2`; the other has the window's
scores `l` alone. Weighting the values and dividing afterwards gives on the first what dividing the
weights first gives on the second. -/
theorem rows_agree {K W C : Type*} [Fintype K] [Fintype W] [Fintype C]
    (e : W → K) (he : Function.Injective e)
    (s1 : K → EReal) (l : W → EReal) (s2 : C → EReal) (v1 : K → EReal) (v2 : C → EReal)
    (hl : ∀ x, s1 (e x) = l x) (hout : ∀ y, y ∉ Set.range e → s1 y = ⊥)
    (hl' : ∀ x, l x ≠ ⊤) (h2 : ∀ y, ∃ r : ℝ, s2 y = r) (c0 : C)
    (M M' : EReal) (hM : M = max (Finset.univ.sup s1) (Finset.univ.sup s2))
    (hM' : M' = max (Finset.univ.sup l) (Finset.univ.sup s2)) :
    Ideal.div ((∑ y, Ideal.exp (s1 y - M) * v1 y) + ∑ y, Ideal.exp (s2 y - M) * v2 y)
        ((∑ y, Ideal.exp (s1 y - M)) + ∑ y, Ideal.exp (s2 y - M))
      = (∑ x, Ideal.div (Ideal.exp (l x - M')) ((∑ x, Ideal.exp (l x - M'))
            + ∑ y, Ideal.exp (s2 y - M')) * v1 (e x))
        + ∑ y, Ideal.div (Ideal.exp (s2 y - M')) ((∑ x, Ideal.exp (l x - M'))
            + ∑ y, Ideal.exp (s2 y - M')) * v2 y := by
  have hsup : Finset.univ.sup s1 = Finset.univ.sup l := by
    apply le_antisymm
    · refine Finset.sup_le fun y _ => ?_
      by_cases hy : y ∈ Set.range e
      · obtain ⟨x, rfl⟩ := hy
        rw [hl]; exact Finset.le_sup (f := l) (Finset.mem_univ x)
      · rw [hout y hy]; exact bot_le
    · refine Finset.sup_le fun x _ => ?_
      rw [← hl]; exact Finset.le_sup (f := s1) (Finset.mem_univ (e x))
  have hMM : M = M' := by rw [hM, hM', hsup]
  subst hMM
  obtain ⟨m, rfl⟩ : ∃ m : ℝ, M = m := by
    rw [hM']
    obtain ⟨r2, hr2⟩ := sup_real s2 (fun y => by obtain ⟨r, hr⟩ := h2 y; rw [hr]; simp) c0 (h2 c0)
    rw [hr2]
    have ht : max (Finset.univ.sup l) (r2 : EReal) ≠ ⊤ := by
      rw [← lt_top_iff_ne_top, max_lt_iff, Finset.sup_lt_iff (by simp)]
      exact ⟨fun i _ => lt_top_iff_ne_top.mpr (hl' i), by simp⟩
    have hb : max (Finset.univ.sup l) (r2 : EReal) ≠ ⊥ := by
      intro h
      have : (r2 : EReal) ≤ ⊥ := h ▸ le_max_right _ _
      exact absurd this (by simp)
    exact ⟨_, (EReal.coe_toReal ht hb).symm⟩
  have hs : ∑ y, Ideal.exp (s1 y - (m : EReal)) = ∑ x, Ideal.exp (l x - (m : EReal)) :=
    (Fintype.sum_of_injective e he _ _ (fun y hy => by rw [hout y hy, exp_bot_sub])
      (fun x => by rw [hl])).symm
  have hv : ∑ y, Ideal.exp (s1 y - (m : EReal)) * v1 y
      = ∑ x, Ideal.exp (l x - (m : EReal)) * v1 (e x) :=
    (Fintype.sum_of_injective e he _ _ (fun y hy => by rw [hout y hy, exp_bot_sub, zero_mul])
      (fun x => by rw [hl])).symm
  rw [hs, hv]
  obtain ⟨den, hden, hd⟩ : ∃ r : ℝ, 0 < r ∧ (∑ x, Ideal.exp (l x - (m : EReal)))
      + ∑ y, Ideal.exp (s2 y - (m : EReal)) = r := by
    choose g hg0 hg using fun x => exp_sub_real (hl' x) m
    choose g' hg0' hg' using fun y => exp_sub_pos (h2 y) m
    refine ⟨(∑ x, g x) + ∑ y, g' y, ?_, ?_⟩
    · exact add_pos_of_nonneg_of_pos (Finset.sum_nonneg fun x _ => hg0 x)
        (Finset.sum_pos (fun y _ => hg0' y) ⟨c0, Finset.mem_univ c0⟩)
    · rw [Finset.sum_congr rfl fun x _ => hg x, Finset.sum_congr rfl fun y _ => hg' y,
        ← coe_sum, ← coe_sum, EReal.coe_add]
  rw [hd]
  have hc0 : (0 : EReal) ≤ ((1 / den : ℝ) : EReal) := by
    exact_mod_cast (one_div_pos.mpr hden).le
  have hct : ((1 / den : ℝ) : EReal) ≠ ⊤ := EReal.coe_ne_top _
  simp only [Ideal.div_coe hden.ne']
  rw [EReal.right_distrib_of_nonneg_of_ne_top hc0 hct, sum_mul_of_nonneg _ _ hc0 hct,
    sum_mul_of_nonneg _ _ hc0 hct]
  congr 1 <;> exact Finset.sum_congr rfl fun _ _ => by rw [mul_right_comm]

end Cert.Proof.Soft
-- ==== Proof.AttnE.lean ====
module

public import proofs.«01_k».proof.Proof.AttnD
public import proofs.«01_k».proof.Proof.Soft

@[expose] public section

set_option maxRecDepth 16384

noncomputable section

open Idealize.ShloMosaic

namespace Cert.Proof.Spec

open Cert.KernelIdeal.Attn (rot row scl partner ofBits_bot)

/-- The columns of the queries and keys hold reals. -/
def FiniteQK (P : Proj) : Prop := ∀ r c, r < 9216 → 3072 ≤ c → c < 5120 → ∃ x : ℝ, rd P r c = x

/-- Every relative bias is finite. -/
def FiniteR (R : Bias) : Prop := ∀ i, ∃ x : ℝ, R i = x

/-- The score's scale is finite. -/
theorem scl_real : ∃ x : ℝ, scl = x := by
  unfold scl
  simp [Ideal.ofBits, Ideal.ieee, -EReal.coe_mul]

/-- Every rotary frequency is finite. -/
theorem freq_real (k : ℕ) : ∃ x : ℝ, freq k = x := by
  have h1 : Ideal.ofBits FTy.f32 1176256512#32 = ((10000 : ℝ) : EReal) := by
    simp [Ideal.ofBits, Ideal.ieee, -EReal.coe_mul]
    norm_num
  have h2 : Ideal.ofBits FTy.f32 1073741824#32 = ((2 : ℝ) : EReal) := by
    simp [Ideal.ofBits, Ideal.ieee, -EReal.coe_mul]
    try norm_num
  have h3 : Ideal.ofBits FTy.f32 1115684864#32 = ((64 : ℝ) : EReal) := by
    simp [Ideal.ofBits, Ideal.ieee, -EReal.coe_mul]
    norm_num
  obtain ⟨s, hs⟩ : ∃ s : ℝ, FloatOps.sitofp (F := Ideal) FTy.f32 (BitVec.ofNat 32 k) = (s : EReal) := ⟨_, rfl⟩
  unfold freq
  rw [h1, h2, h3, hs, ← EReal.coe_mul, ← EReal.coe_neg, Ideal.div_coe (by norm_num)]
  exact ⟨_, Ideal.pow_coe_coe _ _⟩

/-- Every rotary angle is finite. -/
theorem ang_real (t d : ℕ) : ∃ x : ℝ, ang t d = x := by
  obtain ⟨f, hf⟩ := freq_real (d % 32)
  obtain ⟨s, hs⟩ : ∃ s : ℝ, pos t (d / 64) = (s : EReal) := ⟨_, rfl⟩
  unfold ang
  rw [hf, hs, ← EReal.coe_mul]
  exact ⟨_, rfl⟩

/-- Every cosine of the rotary table is finite. -/
theorem cosT_real (t d : ℕ) : ∃ x : ℝ, cosT t d = x := by
  obtain ⟨a, ha⟩ := ang_real t d
  unfold cosT
  rw [ha]
  exact ⟨_, rfl⟩

/-- Every signed sine of the rotary table is finite. -/
theorem sinT_real (t d : ℕ) : ∃ x : ℝ, sinT t d * sgn d = x := by
  obtain ⟨a, ha⟩ := ang_real t d
  have hs : ∃ x : ℝ, sgn d = x := by
    unfold sgn
    split
    · exact ⟨-1, by simp [Ideal.ofBits, Ideal.ieee, -EReal.coe_mul]; try norm_num⟩
    · exact ⟨1, by simp [Ideal.ofBits, Ideal.ieee, -EReal.coe_mul]; try norm_num⟩
  obtain ⟨s, hs⟩ := hs
  obtain ⟨y, hy⟩ : ∃ y : ℝ, Ideal.sin (a : EReal) = y := ⟨_, rfl⟩
  unfold sinT
  rw [ha, hs, hy, ← EReal.coe_mul]
  exact ⟨_, rfl⟩

/-- Turning a row of reals gives a row of reals, and a scaled row turns to the scaled turned row. -/
theorem turn_real (x : Fin 128 → EReal) (hx : ∀ d, ∃ r : ℝ, x d = r) (s : ℝ) (t : ℕ) :
    ∃ z : Fin 128 → ℝ, (∀ d, turn x t d = z d) ∧ ∀ d, turn (fun d => x d * s) t d = ((z d * s : ℝ) : EReal) := by
  choose x' hx' using hx
  choose C hC using cosT_real t
  choose S hS using sinT_real t
  refine ⟨fun d => x' d * C d.1 + x' (partner d) * S d.1, fun d => ?_, fun d => ?_⟩
  · show x d * cosT t d.1 + x (partner d) * (sinT t d.1 * sgn d.1) = _
    rw [hx', hx', hC, hS]
    push_cast
    rfl
  · show x d * s * cosT t d.1 + x (partner d) * s * (sinT t d.1 * sgn d.1) = _
    rw [hx', hx', hC, hS, ← EReal.coe_mul, ← EReal.coe_mul, ← EReal.coe_mul, ← EReal.coe_mul, ← EReal.coe_add]
    exact congrArg _ (by ring)

/-- The score of a scaled query row against a key row is the scaled score. -/
theorem score_scale (x y : Fin 128 → EReal) (hx : ∀ d, ∃ r : ℝ, x d = r) (hy : ∀ d, ∃ r : ℝ, y d = r) (t u : ℕ) :
    ∃ z : ℝ, (∑ d, turn (fun d => x d * scl) t d * turn y u d) = z ∧ (∑ d, turn x t d * turn y u d) * scl = z := by
  obtain ⟨s, hs⟩ := scl_real
  obtain ⟨a, ha, ha'⟩ := turn_real x hx s t
  obtain ⟨b, hb, -⟩ := turn_real y hy s u
  rw [hs]
  refine ⟨(∑ d, a d * b d) * s, ?_, ?_⟩
  · simp only [ha', hb, ← EReal.coe_mul]
    rw [← Soft.coe_sum, Finset.sum_mul]
    exact congrArg _ (Finset.sum_congr rfl fun d _ => by ring)
  · simp only [ha, hb, ← EReal.coe_mul]
    rw [← Soft.coe_sum, ← EReal.coe_mul]

/-- The same without the rotation. -/
theorem score_scale' (x y : Fin 128 → EReal) (hx : ∀ d, ∃ r : ℝ, x d = r) (hy : ∀ d, ∃ r : ℝ, y d = r) :
    ∃ z : ℝ, (∑ d, (x d * scl) * y d) = z ∧ (∑ d, x d * y d) * scl = z := by
  obtain ⟨s, hs⟩ := scl_real
  choose a ha using hx
  choose b hb using hy
  rw [hs]
  refine ⟨(∑ d, a d * b d) * s, ?_, ?_⟩
  · simp only [ha, hb, ← EReal.coe_mul]
    rw [← Soft.coe_sum, Finset.sum_mul]
    exact congrArg _ (Finset.sum_congr rfl fun d _ => by ring)
  · simp only [ha, hb, ← EReal.coe_mul]
    rw [← Soft.coe_sum, ← EReal.coe_mul]

/-- Query and key entries of the latent tokens are finite. -/
theorem tok_real (P : Proj) (hP : FiniteQK P) (g b h t : ℕ) (hg : g = 24 ∨ g = 32) (hb : b < 4) (hh : h < 8) (ht : t < 2048) (d : Fin 128) :
    ∃ r : ℝ, tok P g b h t d = r := hP _ _ (by omega) (by omega) (by omega)

/-- Key entries of the context tokens are finite. -/
theorem ctx_real (P : Proj) (hP : FiniteQK P) (b h y : ℕ) (hb : b < 4) (hh : h < 8) (hy : y < 256) (d : Fin 128) :
    ∃ r : ℝ, ctx P 32 b h y d = r := hP _ _ (by omega) (by omega) (by omega)

end Cert.Proof.Spec
-- ==== Proof.AttnT.lean ====
module

public import proofs.«01_k».proof.Proof.AttnG
public import proofs.«01_k».proof.Proof.AttnD
public import proofs.«01_k».proof.Proof.Gen.ReferenceIdeal.Read

@[expose] public section

set_option maxRecDepth 16384

noncomputable section

namespace Cert.ReferenceIdeal.Attn

open Idealize.ShloMosaic Idealize.ShloMosaic.TcCoe
open Cert.ReferenceIdeal.Read
open Cert.Proof.Spec

/-- The reference's row index of a window. -/
theorem v25_apply : ∀ (r : Fin 32) (a : Fin 8), val_main_v25 (F := Ideal) (ix2 r a) = BitVec.ofNat 32 (rowStart r.1 + a.1) := by
  decide +kernel

/-- The reference's column mask. -/
theorem v42_apply : ∀ c e : Fin 64, val_main_v42 (F := Ideal) (ix2 c e) = BitVec.ofBool (decide (inCol c.1 e.1)) := by
  decide +kernel

/-- The row index with which the keys are gathered. -/
theorem v148_apply : ∀ (r : Fin 32) (a : Fin 8), min (val_main_v148 (F := Ideal) (ix3 r a 0)).toInt.toNat 31 = rowStart r.1 + a.1 := by
  decide +kernel

/-- The row index with which the values are gathered. -/
theorem v156_apply : ∀ (r : Fin 32) (a : Fin 8), min (val_main_v156 (F := Ideal) (ix3 r a 0)).toInt.toNat 31 = rowStart r.1 + a.1 := by
  decide +kernel

/-- The row distance with which the bias is gathered. -/
theorem v180_apply : ∀ (r : Fin 32) (a : Fin 8), min (val_main_v180 (F := Ideal) (ix4 r 0 a 0)).toInt.toNat 14 = min (rowStart r.1 + a.1 + 7 - r.1) 14 := by
  decide +kernel

/-- The column distance with which the bias is gathered. -/
theorem v185_apply : ∀ c e : Fin 64, min (val_main_v185 (F := Ideal) (ix4 0 c 0 e)).toInt.toNat 30 = min (e.1 + 15 - c.1) 30 := by
  decide +kernel

/-- The row distances, repeated over the columns. -/
theorem v188_apply (r : Fin 32) (c : Fin 64) (a : Fin 8) (e : Fin 64) (z : Fin 1) :
    val_main_v188 (F := Ideal) (ix5 r c a e z) = val_main_v180 (F := Ideal) (ix4 r 0 a 0) := by
  unfold val_main_v188 val_main_v186
  generalize val_main_v180 (F := Ideal) = y
  pointwise

/-- The column distances, repeated over the rows. -/
theorem v189_apply (r : Fin 32) (c : Fin 64) (a : Fin 8) (e : Fin 64) (z : Fin 1) :
    val_main_v189 (F := Ideal) (ix5 r c a e z) = val_main_v185 (F := Ideal) (ix4 0 c 0 e) := by
  unfold val_main_v189 val_main_v187
  generalize val_main_v185 (F := Ideal) = y
  pointwise

/-- The relative bias of every query and every key of its row window. -/
theorem v191_apply (R : Bias) (h : Fin 8) (r : Fin 32) (c : Fin 64) (a : Fin 8) (e : Fin 64) :
    val_main_v191 (F := Ideal) R (ix5 h r c a e) = rel R h r.1 c.1 (rowStart r.1 + a.1) e.1 := by
  have h0 : val_main_v190 (F := Ideal) (ix5 r c a e 0) = val_main_v180 (F := Ideal) (ix4 r 0 a 0) := by
    refine Eq.trans ?_ (v188_apply r c a e 0)
    unfold val_main_v190
    generalize val_main_v188 (F := Ideal) = y
    generalize val_main_v189 (F := Ideal) = z
    pointwise
  have h1 : val_main_v190 (F := Ideal) (ix5 r c a e 1) = val_main_v185 (F := Ideal) (ix4 0 c 0 e) := by
    refine Eq.trans ?_ (v189_apply r c a e 0)
    unfold val_main_v190
    generalize val_main_v188 (F := Ideal) = y
    generalize val_main_v189 (F := Ideal) = z
    pointwise
  unfold val_main_v191
  rw [gather_rpb]
  simp only [h0, h1, v180_apply, v185_apply]
  rfl

/-- The grid row of a token. -/
theorem v54_apply : ∀ t : Fin 2048, val_main_v54 (F := Ideal) (ix1 t) = BitVec.ofNat 32 (t.1 / 64) := by
  decide +kernel

/-- The grid column of a token. -/
theorem v55_apply : ∀ t : Fin 2048, val_main_v55 (F := Ideal) (ix1 t) = BitVec.ofNat 32 (t.1 % 64) := by
  decide +kernel

/-- The reference's rotary frequencies. -/
theorem v52_apply (k : Fin 32) : val_main_v52 (F := Ideal) (ix1 k) = freq k.1 := by
  unfold val_main_v52 val_main_v51 val_main_v50 val_main_v49 val_main_v48 val_main_v47 val_main_v46 val_main_v45 val_main_v44 val_main_v43
    val_main_cst_8 val_main_cst_7 val_main_cst_6 val_main_cst
  pointwise [freq]

/-- A token's position along each axis. -/
theorem v59_apply (t : Fin 2048) (a : Fin 2) : val_main_v59 (F := Ideal) (ix2 t a) = pos t.1 a.1 := by
  unfold val_main_v59 val_main_v58 val_main_v57 val_main_v56
  have h54 := v54_apply t
  have h55 := v55_apply t
  revert h54 h55
  generalize val_main_v54 (F := Ideal) = y
  generalize val_main_v55 (F := Ideal) = z
  intro h54 h55
  match a with
  | 0 => pointwise [h54]; rfl
  | 1 => pointwise [h55]; rfl

/-- The reference's rotary angles. -/
theorem v64_apply (t : Fin 2048) (a : Fin 2) (k : Fin 32) :
    val_main_v64 (F := Ideal) (ix3 t a k) = pos t.1 a.1 * freq k.1 := by
  rw [← v59_apply, ← v52_apply]
  unfold val_main_v64 val_main_v63 val_main_v62 val_main_v61 val_main_v60
  generalize val_main_v59 (F := Ideal) = y
  generalize val_main_v52 (F := Ideal) = z
  pointwise

end Cert.ReferenceIdeal.Attn
-- ==== Proof.AttnR.lean ====
module

public import proofs.«01_k».proof.Proof.AttnT

@[expose] public section

set_option maxRecDepth 16384

noncomputable section

namespace Cert.ReferenceIdeal.Attn

open Idealize.ShloMosaic Idealize.ShloMosaic.TcCoe
open Cert.ReferenceIdeal.Read
open Cert.Proof.Spec
open Cert.KernelIdeal.Attn (rot partner)

/-- The sign of a lane in the first half of a group of 64. -/
theorem sgn_lo (d : ℕ) (h : d % 64 < 32) : sgn d = -1 := by
  unfold sgn
  rw [if_pos h]
  simp [Ideal.ofBits, Ideal.ieee, -EReal.coe_mul]
  norm_num

/-- The sign of a lane in the second half of a group of 64. -/
theorem sgn_hi (d : ℕ) (h : ¬ d % 64 < 32) : sgn d = 1 := by
  unfold sgn
  rw [if_neg h]
  exact Ideal.ofBits_one_f32

/-- Equal row and column numbers read the same entry. -/
theorem rd_congr (P : Proj) (r r' c c' : ℕ) (h1 : r < 9216) (h2 : r' < 9216) (h3 : c < 25600) (h4 : c' < 25600) (hr : r = r') (hc : c = c') :
    P (ix2 ⟨r, h1⟩ ⟨c, h3⟩) = P (ix2 ⟨r', h2⟩ ⟨c', h4⟩) := by
  subst hr hc
  rfl

/-- The queries, by sample, token, head and lane. -/
theorem v11_apply (P : Proj) (b : Fin 4) (t : Fin 2048) (h : Fin 8) (d : Fin 128) :
    val_main_v11 (F := Ideal) P (ix4 b t h d) = tok P 24 b.1 h.1 t.1 d := by
  refine Eq.trans ?_ (rd_eq P _ _ (by omega) (by omega))
  unfold val_main_v11 val_main_v3 val_main_v2 val_main_v1 val_main_v0
  pointwise
  exact rd_congr P _ _ _ _ _ _ _ _ (by omega) (by omega)

/-- The keys, by sample, token, head and lane. -/
theorem v12_apply (P : Proj) (b : Fin 4) (t : Fin 2048) (h : Fin 8) (d : Fin 128) :
    val_main_v12 (F := Ideal) P (ix4 b t h d) = tok P 32 b.1 h.1 t.1 d := by
  refine Eq.trans ?_ (rd_eq P _ _ (by omega) (by omega))
  unfold val_main_v12 val_main_v4 val_main_v2 val_main_v1 val_main_v0
  pointwise
  exact rd_congr P _ _ _ _ _ _ _ _ (by omega) (by omega)

/-- The values, by sample, token, head and lane. -/
theorem v13_apply (P : Proj) (b : Fin 4) (t : Fin 2048) (h : Fin 8) (d : Fin 128) :
    val_main_v13 (F := Ideal) P (ix4 b t h d) = tok P 40 b.1 h.1 t.1 d := by
  refine Eq.trans ?_ (rd_eq P _ _ (by omega) (by omega))
  unfold val_main_v13 val_main_v5 val_main_v2 val_main_v1 val_main_v0
  pointwise
  exact rd_congr P _ _ _ _ _ _ _ _ (by omega) (by omega)

/-- The context keys, by sample, token, head and lane. -/
theorem v14_apply (P : Proj) (b : Fin 4) (t : Fin 256) (h : Fin 8) (d : Fin 128) :
    val_main_v14 (F := Ideal) P (ix4 b t h d) = ctx P 32 b.1 h.1 t.1 d := by
  refine Eq.trans ?_ (rd_eq P _ _ (by omega) (by omega))
  unfold val_main_v14 val_main_v9 val_main_v7 val_main_v6 val_main_v0
  pointwise
  exact rd_congr P _ _ _ _ _ _ _ _ (by omega) (by omega)

/-- The context values, by sample, token, head and lane. -/
theorem v15_apply (P : Proj) (b : Fin 4) (t : Fin 256) (h : Fin 8) (d : Fin 128) :
    val_main_v15 (F := Ideal) P (ix4 b t h d) = ctx P 40 b.1 h.1 t.1 d := by
  refine Eq.trans ?_ (rd_eq P _ _ (by omega) (by omega))
  unfold val_main_v15 val_main_v10 val_main_v7 val_main_v6 val_main_v0
  pointwise
  exact rd_congr P _ _ _ _ _ _ _ _ (by omega) (by omega)

/-- The reference's rotation of one row, in the kernel's form. -/
theorem turn_eq (x : Fin 128 → EReal) (t : ℕ) (d : Fin 128) (z : EReal)
    (h0 : d.1 % 64 < 32 → z = x d * Ideal.cos (ang t d.1) - x (partner d) * Ideal.sin (ang t d.1))
    (h1 : ¬ d.1 % 64 < 32 → z = x d * Ideal.cos (ang t d.1) + x (partner d) * Ideal.sin (ang t d.1)) : z = turn x t d := by
  unfold turn rot cosT sinT
  by_cases h : d.1 % 64 < 32
  · show z = x d * Ideal.cos (ang t d.1) + x (partner d) * (Ideal.sin (ang t d.1) * sgn d.1)
    rw [h0 h, sgn_lo _ h, mul_neg_one, mul_neg, sub_eq_add_neg]
  · show z = x d * Ideal.cos (ang t d.1) + x (partner d) * (Ideal.sin (ang t d.1) * sgn d.1)
    rw [h1 h, sgn_hi _ h, mul_one]

/-- The queries with their lanes split in axis, half and frequency. -/
theorem v69_apply (P : Proj) (b : Fin 4) (t : Fin 2048) (h : Fin 8) (a s : Fin 2) (k : Fin 32) :
    val_main_v69 (F := Ideal) P (ix6 b t h a s k) = val_main_v11 (F := Ideal) P (ix4 b t h ⟨a.1 * 64 + s.1 * 32 + k.1, by omega⟩) := by
  unfold val_main_v69
  generalize val_main_v11 (F := Ideal) P = y
  pointwise

/-- The slice of the first halves of the queries. -/
theorem v70_at (P : Proj) (b : Fin 4) (t : Fin 2048) (h : Fin 8) (a : Fin 2) (k : Fin 32) :
    val_main_v70 (F := Ideal) P (ix6 b t h a 0 k) = val_main_v69 (F := Ideal) P (ix6 b t h a 0 k) := by
  refine (val_main_v70_apply (F := Ideal) P _).trans (congrArg _ ?_)
  funext q
  match q with
  | ⟨0, _⟩ => rfl
  | ⟨1, _⟩ => rfl
  | ⟨2, _⟩ => rfl
  | ⟨3, _⟩ => rfl
  | ⟨4, _⟩ => rfl
  | ⟨5, _⟩ => rfl

/-- The slice of the second halves of the queries. -/
theorem v72_at (P : Proj) (b : Fin 4) (t : Fin 2048) (h : Fin 8) (a : Fin 2) (k : Fin 32) :
    val_main_v72 (F := Ideal) P (ix6 b t h a 0 k) = val_main_v69 (F := Ideal) P (ix6 b t h a 1 k) := by
  refine (val_main_v72_apply (F := Ideal) P _).trans (congrArg _ ?_)
  funext q
  match q with
  | ⟨0, _⟩ => rfl
  | ⟨1, _⟩ => rfl
  | ⟨2, _⟩ => rfl
  | ⟨3, _⟩ => rfl
  | ⟨4, _⟩ => rfl
  | ⟨5, _⟩ => rfl

/-- The first half of a query's lanes. -/
theorem v71_apply (P : Proj) (b : Fin 4) (t : Fin 2048) (h : Fin 8) (a : Fin 2) (k : Fin 32) :
    val_main_v71 (F := Ideal) P (ix5 b t h a k) = val_main_v11 (F := Ideal) P (ix4 b t h ⟨a.1 * 64 + 0 * 32 + k.1, by omega⟩) := by
  refine Eq.trans ?_ ((v70_at P b t h a k).trans (v69_apply P b t h a 0 k))
  unfold val_main_v71
  generalize val_main_v70 (F := Ideal) P = y
  pointwise

/-- The second half of a query's lanes. -/
theorem v73_apply (P : Proj) (b : Fin 4) (t : Fin 2048) (h : Fin 8) (a : Fin 2) (k : Fin 32) :
    val_main_v73 (F := Ideal) P (ix5 b t h a k) = val_main_v11 (F := Ideal) P (ix4 b t h ⟨a.1 * 64 + 1 * 32 + k.1, by omega⟩) := by
  refine Eq.trans ?_ ((v72_at P b t h a k).trans (v69_apply P b t h a 1 k))
  unfold val_main_v73
  generalize val_main_v72 (F := Ideal) P = y
  pointwise

/-- The first half of a rotated query. -/
theorem v80_apply (P : Proj) (b : Fin 4) (t : Fin 2048) (h : Fin 8) (a : Fin 2) (k : Fin 32) :
    val_main_v80 (F := Ideal) P (ix5 b t h a k) =
      val_main_v71 (F := Ideal) P (ix5 b t h a k) * Ideal.cos (val_main_v64 (F := Ideal) (ix3 t a k)) -
        val_main_v73 (F := Ideal) P (ix5 b t h a k) * Ideal.sin (val_main_v64 (F := Ideal) (ix3 t a k)) := by
  unfold val_main_v80 val_main_v79 val_main_v78 val_main_v77 val_main_v76 val_main_v75 val_main_v74 val_main_v68 val_main_v67 val_main_v66 val_main_v65
  generalize val_main_v64 (F := Ideal) = y
  generalize val_main_v71 (F := Ideal) P = u
  generalize val_main_v73 (F := Ideal) P = w
  pointwise

/-- The second half of a rotated query. -/
theorem v87_apply (P : Proj) (b : Fin 4) (t : Fin 2048) (h : Fin 8) (a : Fin 2) (k : Fin 32) :
    val_main_v87 (F := Ideal) P (ix5 b t h a k) =
      val_main_v73 (F := Ideal) P (ix5 b t h a k) * Ideal.cos (val_main_v64 (F := Ideal) (ix3 t a k)) +
        val_main_v71 (F := Ideal) P (ix5 b t h a k) * Ideal.sin (val_main_v64 (F := Ideal) (ix3 t a k)) := by
  unfold val_main_v87 val_main_v86 val_main_v85 val_main_v84 val_main_v83 val_main_v82 val_main_v81 val_main_v68 val_main_v67 val_main_v66 val_main_v65
  generalize val_main_v64 (F := Ideal) = y
  generalize val_main_v71 (F := Ideal) P = u
  generalize val_main_v73 (F := Ideal) P = w
  pointwise

/-- The first of the two stacked halves of a query. -/
theorem v90_zero (P : Proj) (b : Fin 4) (t : Fin 2048) (h : Fin 8) (a : Fin 2) (k : Fin 32) :
    val_main_v90 (F := Ideal) P (ix6 b t h a 0 k) = val_main_v80 (F := Ideal) P (ix5 b t h a k) := by
  unfold val_main_v90 val_main_v89 val_main_v88
  generalize val_main_v80 (F := Ideal) P = u
  generalize val_main_v87 (F := Ideal) P = w
  pointwise

/-- The second of the two stacked halves of a query. -/
theorem v90_one (P : Proj) (b : Fin 4) (t : Fin 2048) (h : Fin 8) (a : Fin 2) (k : Fin 32) :
    val_main_v90 (F := Ideal) P (ix6 b t h a 1 k) = val_main_v87 (F := Ideal) P (ix5 b t h a k) := by
  unfold val_main_v90 val_main_v89 val_main_v88
  generalize val_main_v80 (F := Ideal) P = u
  generalize val_main_v87 (F := Ideal) P = w
  pointwise

/-- The rotated queries with their lanes joined again. -/
theorem v91_reshape (P : Proj) (b : Fin 4) (t : Fin 2048) (h : Fin 8) (d : Fin 128) :
    val_main_v91 (F := Ideal) P (ix4 b t h d) =
      val_main_v90 (F := Ideal) P (ix6 b t h ⟨d.1 / 64, by omega⟩ ⟨d.1 / 32 % 2, by omega⟩ ⟨d.1 % 32, by omega⟩) := by
  unfold val_main_v91
  generalize val_main_v90 (F := Ideal) P = u
  pointwise

/-- The rotated rows of the reference. -/
theorem v91_apply (P : Proj) (b : Fin 4) (t : Fin 2048) (h : Fin 8) (d : Fin 128) :
    val_main_v91 (F := Ideal) P (ix4 b t h d) = turn (fun d => val_main_v11 (F := Ideal) P (ix4 b t h d)) t.1 d := by
  rw [v91_reshape]
  refine turn_eq _ _ _ _ (fun hd => ?_) fun hd => ?_
  · have e : (⟨d.1 / 32 % 2, by omega⟩ : Fin 2) = 0 := Fin.ext (show d.1 / 32 % 2 = 0 by omega)
    have e1 : (⟨d.1 / 64 * 64 + 0 * 32 + d.1 % 32, by omega⟩ : Fin 128) = d := Fin.ext (show d.1 / 64 * 64 + 0 * 32 + d.1 % 32 = d.1 by omega)
    have e2 : (⟨d.1 / 64 * 64 + 1 * 32 + d.1 % 32, by omega⟩ : Fin 128) = partner d :=
      Fin.ext (show d.1 / 64 * 64 + 1 * 32 + d.1 % 32 = if d.1 % 64 < 32 then d.1 + 32 else d.1 - 32 by rw [if_pos hd]; omega)
    rw [e, v90_zero, v80_apply, v71_apply, v73_apply, v64_apply, e1, e2]
    rfl
  · have e : (⟨d.1 / 32 % 2, by omega⟩ : Fin 2) = 1 := Fin.ext (show d.1 / 32 % 2 = 1 by omega)
    have e1 : (⟨d.1 / 64 * 64 + 1 * 32 + d.1 % 32, by omega⟩ : Fin 128) = d := Fin.ext (show d.1 / 64 * 64 + 1 * 32 + d.1 % 32 = d.1 by omega)
    have e2 : (⟨d.1 / 64 * 64 + 0 * 32 + d.1 % 32, by omega⟩ : Fin 128) = partner d :=
      Fin.ext (show d.1 / 64 * 64 + 0 * 32 + d.1 % 32 = if d.1 % 64 < 32 then d.1 + 32 else d.1 - 32 by rw [if_neg hd]; omega)
    rw [e, v90_one, v87_apply, v71_apply, v73_apply, v64_apply, e1, e2]
    rfl

/-- The angles of the keys' rotation. -/
theorem v114_apply (t : Fin 2048) (a : Fin 2) (k : Fin 32) :
    val_main_v114 (F := Ideal) (ix3 t a k) = pos t.1 a.1 * freq k.1 := v64_apply t a k

/-- The keys with their lanes split in axis, half and frequency. -/
theorem v119_apply (P : Proj) (b : Fin 4) (t : Fin 2048) (h : Fin 8) (a s : Fin 2) (k : Fin 32) :
    val_main_v119 (F := Ideal) P (ix6 b t h a s k) = val_main_v12 (F := Ideal) P (ix4 b t h ⟨a.1 * 64 + s.1 * 32 + k.1, by omega⟩) := by
  unfold val_main_v119
  generalize val_main_v12 (F := Ideal) P = y
  pointwise

/-- The slice of the first halves of the keys. -/
theorem v120_at (P : Proj) (b : Fin 4) (t : Fin 2048) (h : Fin 8) (a : Fin 2) (k : Fin 32) :
    val_main_v120 (F := Ideal) P (ix6 b t h a 0 k) = val_main_v119 (F := Ideal) P (ix6 b t h a 0 k) := by
  refine (val_main_v120_apply (F := Ideal) P _).trans (congrArg _ ?_)
  funext q
  match q with
  | ⟨0, _⟩ => rfl
  | ⟨1, _⟩ => rfl
  | ⟨2, _⟩ => rfl
  | ⟨3, _⟩ => rfl
  | ⟨4, _⟩ => rfl
  | ⟨5, _⟩ => rfl

/-- The slice of the second halves of the keys. -/
theorem v122_at (P : Proj) (b : Fin 4) (t : Fin 2048) (h : Fin 8) (a : Fin 2) (k : Fin 32) :
    val_main_v122 (F := Ideal) P (ix6 b t h a 0 k) = val_main_v119 (F := Ideal) P (ix6 b t h a 1 k) := by
  refine (val_main_v122_apply (F := Ideal) P _).trans (congrArg _ ?_)
  funext q
  match q with
  | ⟨0, _⟩ => rfl
  | ⟨1, _⟩ => rfl
  | ⟨2, _⟩ => rfl
  | ⟨3, _⟩ => rfl
  | ⟨4, _⟩ => rfl
  | ⟨5, _⟩ => rfl

/-- The first half of a key's lanes. -/
theorem v121_apply (P : Proj) (b : Fin 4) (t : Fin 2048) (h : Fin 8) (a : Fin 2) (k : Fin 32) :
    val_main_v121 (F := Ideal) P (ix5 b t h a k) = val_main_v12 (F := Ideal) P (ix4 b t h ⟨a.1 * 64 + 0 * 32 + k.1, by omega⟩) := by
  refine Eq.trans ?_ ((v120_at P b t h a k).trans (v119_apply P b t h a 0 k))
  unfold val_main_v121
  generalize val_main_v120 (F := Ideal) P = y
  pointwise

/-- The second half of a key's lanes. -/
theorem v123_apply (P : Proj) (b : Fin 4) (t : Fin 2048) (h : Fin 8) (a : Fin 2) (k : Fin 32) :
    val_main_v123 (F := Ideal) P (ix5 b t h a k) = val_main_v12 (F := Ideal) P (ix4 b t h ⟨a.1 * 64 + 1 * 32 + k.1, by omega⟩) := by
  refine Eq.trans ?_ ((v122_at P b t h a k).trans (v119_apply P b t h a 1 k))
  unfold val_main_v123
  generalize val_main_v122 (F := Ideal) P = y
  pointwise

/-- The first half of a rotated key. -/
theorem v130_apply (P : Proj) (b : Fin 4) (t : Fin 2048) (h : Fin 8) (a : Fin 2) (k : Fin 32) :
    val_main_v130 (F := Ideal) P (ix5 b t h a k) =
      val_main_v121 (F := Ideal) P (ix5 b t h a k) * Ideal.cos (val_main_v114 (F := Ideal) (ix3 t a k)) -
        val_main_v123 (F := Ideal) P (ix5 b t h a k) * Ideal.sin (val_main_v114 (F := Ideal) (ix3 t a k)) := by
  unfold val_main_v130 val_main_v129 val_main_v128 val_main_v127 val_main_v126 val_main_v125 val_main_v124 val_main_v118 val_main_v117 val_main_v116 val_main_v115
  generalize val_main_v114 (F := Ideal) = y
  generalize val_main_v121 (F := Ideal) P = u
  generalize val_main_v123 (F := Ideal) P = w
  pointwise

/-- The second half of a rotated key. -/
theorem v137_apply (P : Proj) (b : Fin 4) (t : Fin 2048) (h : Fin 8) (a : Fin 2) (k : Fin 32) :
    val_main_v137 (F := Ideal) P (ix5 b t h a k) =
      val_main_v123 (F := Ideal) P (ix5 b t h a k) * Ideal.cos (val_main_v114 (F := Ideal) (ix3 t a k)) +
        val_main_v121 (F := Ideal) P (ix5 b t h a k) * Ideal.sin (val_main_v114 (F := Ideal) (ix3 t a k)) := by
  unfold val_main_v137 val_main_v136 val_main_v135 val_main_v134 val_main_v133 val_main_v132 val_main_v131 val_main_v118 val_main_v117 val_main_v116 val_main_v115
  generalize val_main_v114 (F := Ideal) = y
  generalize val_main_v121 (F := Ideal) P = u
  generalize val_main_v123 (F := Ideal) P = w
  pointwise

/-- The first of the two stacked halves of a key. -/
theorem v140_zero (P : Proj) (b : Fin 4) (t : Fin 2048) (h : Fin 8) (a : Fin 2) (k : Fin 32) :
    val_main_v140 (F := Ideal) P (ix6 b t h a 0 k) = val_main_v130 (F := Ideal) P (ix5 b t h a k) := by
  unfold val_main_v140 val_main_v139 val_main_v138
  generalize val_main_v130 (F := Ideal) P = u
  generalize val_main_v137 (F := Ideal) P = w
  pointwise

/-- The second of the two stacked halves of a key. -/
theorem v140_one (P : Proj) (b : Fin 4) (t : Fin 2048) (h : Fin 8) (a : Fin 2) (k : Fin 32) :
    val_main_v140 (F := Ideal) P (ix6 b t h a 1 k) = val_main_v137 (F := Ideal) P (ix5 b t h a k) := by
  unfold val_main_v140 val_main_v139 val_main_v138
  generalize val_main_v130 (F := Ideal) P = u
  generalize val_main_v137 (F := Ideal) P = w
  pointwise

/-- The rotated keys with their lanes joined again. -/
theorem v141_reshape (P : Proj) (b : Fin 4) (t : Fin 2048) (h : Fin 8) (d : Fin 128) :
    val_main_v141 (F := Ideal) P (ix4 b t h d) =
      val_main_v140 (F := Ideal) P (ix6 b t h ⟨d.1 / 64, by omega⟩ ⟨d.1 / 32 % 2, by omega⟩ ⟨d.1 % 32, by omega⟩) := by
  unfold val_main_v141
  generalize val_main_v140 (F := Ideal) P = u
  pointwise

/-- The rotated rows of the reference. -/
theorem v141_apply (P : Proj) (b : Fin 4) (t : Fin 2048) (h : Fin 8) (d : Fin 128) :
    val_main_v141 (F := Ideal) P (ix4 b t h d) = turn (fun d => val_main_v12 (F := Ideal) P (ix4 b t h d)) t.1 d := by
  rw [v141_reshape]
  refine turn_eq _ _ _ _ (fun hd => ?_) fun hd => ?_
  · have e : (⟨d.1 / 32 % 2, by omega⟩ : Fin 2) = 0 := Fin.ext (show d.1 / 32 % 2 = 0 by omega)
    have e1 : (⟨d.1 / 64 * 64 + 0 * 32 + d.1 % 32, by omega⟩ : Fin 128) = d := Fin.ext (show d.1 / 64 * 64 + 0 * 32 + d.1 % 32 = d.1 by omega)
    have e2 : (⟨d.1 / 64 * 64 + 1 * 32 + d.1 % 32, by omega⟩ : Fin 128) = partner d :=
      Fin.ext (show d.1 / 64 * 64 + 1 * 32 + d.1 % 32 = if d.1 % 64 < 32 then d.1 + 32 else d.1 - 32 by rw [if_pos hd]; omega)
    rw [e, v140_zero, v130_apply, v121_apply, v123_apply, v114_apply, e1, e2]
    rfl
  · have e : (⟨d.1 / 32 % 2, by omega⟩ : Fin 2) = 1 := Fin.ext (show d.1 / 32 % 2 = 1 by omega)
    have e1 : (⟨d.1 / 64 * 64 + 1 * 32 + d.1 % 32, by omega⟩ : Fin 128) = d := Fin.ext (show d.1 / 64 * 64 + 1 * 32 + d.1 % 32 = d.1 by omega)
    have e2 : (⟨d.1 / 64 * 64 + 0 * 32 + d.1 % 32, by omega⟩ : Fin 128) = partner d :=
      Fin.ext (show d.1 / 64 * 64 + 0 * 32 + d.1 % 32 = if d.1 % 64 < 32 then d.1 + 32 else d.1 - 32 by rw [if_neg hd]; omega)
    rw [e, v140_one, v137_apply, v121_apply, v123_apply, v114_apply, e1, e2]
    rfl

end Cert.ReferenceIdeal.Attn
-- ==== Proof.AttnQ.lean ====
module

public import Idealize.ShloMosaic.Lib.ValueIdxRank6
public import proofs.«01_k».proof.Proof.AttnR

@[expose] public section

set_option maxRecDepth 16384

noncomputable section

namespace Cert.ReferenceIdeal.Attn

open Idealize.ShloMosaic Idealize.ShloMosaic.TcCoe
open Cert.ReferenceIdeal.Read
open Cert.Proof.Spec
open Cert.KernelIdeal.Attn (scl ofBits_bot)

/-- The rotated queries on the grid. -/
theorem v92_apply (P : Proj) (b : Fin 4) (r : Fin 32) (c : Fin 64) (h : Fin 8) (d : Fin 128) :
    val_main_v92 (F := Ideal) P (ix5 b r c h d) = turn (tok P 24 b.1 h.1 (r.1 * 64 + c.1)) (r.1 * 64 + c.1) d := by
  have e : val_main_v92 (F := Ideal) P (ix5 b r c h d) = val_main_v91 (F := Ideal) P (ix4 b ⟨r.1 * 64 + c.1, by omega⟩ h d) := by
    unfold val_main_v92
    generalize val_main_v91 (F := Ideal) P = y
    pointwise
  rw [e, v91_apply]
  exact congrArg (fun x => turn x _ d) (funext fun d => v11_apply P b _ h d)

/-- The rotated keys on the grid. -/
theorem v142_apply (P : Proj) (b : Fin 4) (r : Fin 32) (c : Fin 64) (h : Fin 8) (d : Fin 128) :
    val_main_v142 (F := Ideal) P (ix5 b r c h d) = turn (tok P 32 b.1 h.1 (r.1 * 64 + c.1)) (r.1 * 64 + c.1) d := by
  have e : val_main_v142 (F := Ideal) P (ix5 b r c h d) = val_main_v141 (F := Ideal) P (ix4 b ⟨r.1 * 64 + c.1, by omega⟩ h d) := by
    unfold val_main_v142
    generalize val_main_v141 (F := Ideal) P = y
    pointwise
  rw [e, v141_apply]
  exact congrArg (fun x => turn x _ d) (funext fun d => v12_apply P b _ h d)

/-- The unrotated queries on the grid. -/
theorem v197_apply (P : Proj) (b : Fin 4) (r : Fin 32) (c : Fin 64) (h : Fin 8) (d : Fin 128) :
    val_main_v197 (F := Ideal) P (ix5 b r c h d) = tok P 24 b.1 h.1 (r.1 * 64 + c.1) d := by
  have e : val_main_v197 (F := Ideal) P (ix5 b r c h d) = val_main_v11 (F := Ideal) P (ix4 b ⟨r.1 * 64 + c.1, by omega⟩ h d) := by
    unfold val_main_v197
    generalize val_main_v11 (F := Ideal) P = y
    pointwise
  rw [e, v11_apply]

/-- The values on the grid. -/
theorem v150_apply (P : Proj) (b : Fin 4) (r : Fin 32) (c : Fin 64) (h : Fin 8) (d : Fin 128) :
    val_main_v150 (F := Ideal) P (ix5 b r c h d) = tok P 40 b.1 h.1 (r.1 * 64 + c.1) d := by
  have e : val_main_v150 (F := Ideal) P (ix5 b r c h d) = val_main_v13 (F := Ideal) P (ix4 b ⟨r.1 * 64 + c.1, by omega⟩ h d) := by
    unfold val_main_v150
    generalize val_main_v13 (F := Ideal) P = y
    pointwise
  rw [e, v13_apply]

/-- The key token in row `a` and column `e` of the row window of query row `r`. -/
def ktok (r a e : ℕ) : ℕ := (rowStart r + a) * 64 + e

/-- The rotated keys, gathered by the rows of each window. -/
theorem v149_apply (P : Proj) (b : Fin 4) (r : Fin 32) (a : Fin 8) (e : Fin 64) (h : Fin 8) (d : Fin 128) :
    val_main_v149 (F := Ideal) P (ix6 b r a e h d) = turn (tok P 32 b.1 h.1 (ktok r.1 a.1 e.1)) (ktok r.1 a.1 e.1) d := by
  unfold val_main_v149
  rw [gather_rows, v142_apply]
  simp only [v148_apply]
  rfl

/-- The values, gathered by the rows of each window. -/
theorem v157_apply (P : Proj) (b : Fin 4) (r : Fin 32) (a : Fin 8) (e : Fin 64) (h : Fin 8) (d : Fin 128) :
    val_main_v157 (F := Ideal) P (ix6 b r a e h d) = tok P 40 b.1 h.1 (ktok r.1 a.1 e.1) d := by
  unfold val_main_v157
  rw [gather_rows, v150_apply]
  simp only [v156_apply]
  rfl

/-- The products of rotated queries and the window's rotated keys. -/
theorem v158_apply (P : Proj) (b : Fin 4) (h : Fin 8) (r : Fin 32) (c : Fin 64) (a : Fin 8) (e : Fin 64) :
    val_main_v158 (F := Ideal) P (ix6 b h r c a e) =
      ∑ d, turn (tok P 24 b.1 h.1 (r.1 * 64 + c.1)) (r.1 * 64 + c.1) d * turn (tok P 32 b.1 h.1 (ktok r.1 a.1 e.1)) (ktok r.1 a.1 e.1) d := by
  refine (val_main_v158_apply P _).trans (Finset.sum_congr rfl fun k _ => ?_)
  have e1 : lidx_main_v158 (ix6 b h r c a e) k = ix5 b r c h k := by
    funext q
    match q with
    | ⟨0, _⟩ => rfl
    | ⟨1, _⟩ => rfl
    | ⟨2, _⟩ => rfl
    | ⟨3, _⟩ => rfl
    | ⟨4, _⟩ => rfl
  have e2 : ridx_main_v158 (ix6 b h r c a e) k = ix6 b r a e h k := by
    funext q
    match q with
    | ⟨0, _⟩ => rfl
    | ⟨1, _⟩ => rfl
    | ⟨2, _⟩ => rfl
    | ⟨3, _⟩ => rfl
    | ⟨4, _⟩ => rfl
    | ⟨5, _⟩ => rfl
  rw [e1, e2, v92_apply, v149_apply]

/-- The products of unrotated queries and context keys. -/
theorem v198_apply (P : Proj) (b : Fin 4) (h : Fin 8) (r : Fin 32) (c : Fin 64) (y : Fin 256) :
    val_main_v198 (F := Ideal) P (ix5 b h r c y) = ∑ d, tok P 24 b.1 h.1 (r.1 * 64 + c.1) d * ctx P 32 b.1 h.1 y.1 d := by
  refine (val_main_v198_apply P _).trans (Finset.sum_congr rfl fun k _ => ?_)
  have e1 : lidx_main_v198 (ix5 b h r c y) k = ix5 b r c h k := by
    funext q
    match q with
    | ⟨0, _⟩ => rfl
    | ⟨1, _⟩ => rfl
    | ⟨2, _⟩ => rfl
    | ⟨3, _⟩ => rfl
    | ⟨4, _⟩ => rfl
  have e2 : ridx_main_v198 (ix5 b h r c y) k = ix4 b y h k := by
    funext q
    match q with
    | ⟨0, _⟩ => rfl
    | ⟨1, _⟩ => rfl
    | ⟨2, _⟩ => rfl
    | ⟨3, _⟩ => rfl
  rw [e1, e2, v197_apply, v14_apply]

/-- A score of the reference in the window of rows. -/
def lscore (P : Proj) (R : Bias) (b : ℕ) (h : Fin 8) (r c a e : ℕ) : EReal :=
  if inCol c e then
    (∑ d, turn (tok P 24 b h.1 (r * 64 + c)) (r * 64 + c) d * turn (tok P 32 b h.1 (ktok r a e)) (ktok r a e) d) * scl +
      rel R h r c (rowStart r + a) e
  else ⊥

/-- A score of the reference against the context. -/
def cscore (P : Proj) (b : ℕ) (h : Fin 8) (r c y : ℕ) : EReal := (∑ d, tok P 24 b h.1 (r * 64 + c) d * ctx P 32 b h.1 y d) * scl

/-- The relative bias, gathered by row and column distance. -/
theorem v194_apply (R : Bias) (b : Fin 4) (h : Fin 8) (r : Fin 32) (c : Fin 64) (a : Fin 8) (e : Fin 64) :
    val_main_v194 (F := Ideal) R (ix6 b h r c a e) = rel R h r.1 c.1 (rowStart r.1 + a.1) e.1 := by
  refine (val_main_v194_apply (F := Ideal) R _).trans ((val_main_v193_apply (F := Ideal) R _).trans (Eq.trans (congrArg _ ?_) (v191_apply R h r c a e)))
  funext q
  match q with
  | ⟨0, _⟩ => rfl
  | ⟨1, _⟩ => rfl
  | ⟨2, _⟩ => rfl
  | ⟨3, _⟩ => rfl
  | ⟨4, _⟩ => rfl

/-- The column mask, repeated over samples, heads and rows. -/
theorem mask_apply (b : Fin 4) (h : Fin 8) (r : Fin 32) (c : Fin 64) (a : Fin 8) (e : Fin 64) :
    val_main_call7_v1 (F := Ideal) (ix6 b h r c a e) = BitVec.ofBool (decide (inCol c.1 e.1)) := by
  refine (val_main_call7_v1_apply (F := Ideal) _).trans ((val_main_v192_apply (F := Ideal) _).trans (Eq.trans (congrArg _ ?_) (v42_apply c e)))
  funext q
  match q with
  | ⟨0, _⟩ => rfl
  | ⟨1, _⟩ => rfl

/-- The masked score of a place of the window. -/
theorem v196_apply (P : Proj) (R : Bias) (b : Fin 4) (h : Fin 8) (r : Fin 32) (c : Fin 64) (a : Fin 8) (e : Fin 64) :
    val_main_v196 (F := Ideal) P R (ix6 b h r c a e) = lscore P R b.1 h r.1 c.1 a.1 e.1 := by
  have hb : val_main_call7_v2 (F := Ideal) (ix6 b h r c a e) = ⊥ := (val_main_call7_v2_apply (F := Ideal) _).trans ofBits_bot
  have hs : val_main_v159 (F := Ideal) (ix6 b h r c a e) = scl := (val_main_v159_apply (F := Ideal) _).trans rfl
  rw [val_main_v196_apply, mask_apply, hb, val_main_v195_apply, val_main_v160_apply, v194_apply, hs, v158_apply]
  unfold lscore
  by_cases hc : inCol c.1 e.1
  · rw [if_pos hc, decide_eq_true hc]
    rfl
  · rw [if_neg hc, decide_eq_false hc]
    rfl

/-- The score of a context token. -/
theorem v200_apply (P : Proj) (b : Fin 4) (h : Fin 8) (r : Fin 32) (c : Fin 64) (y : Fin 256) :
    val_main_v200 (F := Ideal) P (ix5 b h r c y) = cscore P b.1 h r.1 c.1 y.1 := by
  have hs : val_main_v199 (F := Ideal) (ix5 b h r c y) = scl := (val_main_v199_apply (F := Ideal) _).trans rfl
  rw [val_main_v200_apply, hs, v198_apply]
  rfl

/-- The window's scores, laid out in one row. -/
theorem v201_apply (P : Proj) (R : Bias) (b : Fin 4) (h : Fin 8) (r : Fin 32) (c : Fin 64) (a : Fin 8) (e : Fin 64) :
    val_main_v201 (F := Ideal) P R (ix5 b h r c ⟨a.1 * 64 + e.1, by omega⟩) = lscore P R b.1 h r.1 c.1 a.1 e.1 := by
  refine Eq.trans ?_ (v196_apply P R b h r c a e)
  unfold val_main_v201
  generalize val_main_v196 (F := Ideal) P R = y
  refine shapeCast_apply y _ _ _ ?_
  rw [Shape.rowMajor_val_six, Shape.rowMajor_val_five]
  show ((((b.1 * 8 + h.1) * 32 + r.1) * 64 + c.1) * 8 + a.1) * 64 + e.1 = (((b.1 * 8 + h.1) * 32 + r.1) * 64 + c.1) * 512 + (a.1 * 64 + e.1)
  omega

/-- The first 512 columns of a joined row are the window's scores. -/
theorem v202_loc (P : Proj) (R : Bias) (b : Fin 4) (h : Fin 8) (r : Fin 32) (c : Fin 64) (y : Fin 512) :
    val_main_v202 (F := Ideal) P R (ix5 b h r c ⟨y.1, by omega⟩) = val_main_v201 (F := Ideal) P R (ix5 b h r c y) := by
  unfold val_main_v202
  generalize val_main_v201 (F := Ideal) P R = u
  generalize val_main_v200 (F := Ideal) P = w
  pointwise

/-- The last 256 columns of a joined row are the context's scores. -/
theorem v202_ctx (P : Proj) (R : Bias) (b : Fin 4) (h : Fin 8) (r : Fin 32) (c : Fin 64) (y : Fin 256) :
    val_main_v202 (F := Ideal) P R (ix5 b h r c ⟨512 + y.1, by omega⟩) = val_main_v200 (F := Ideal) P (ix5 b h r c y) := by
  unfold val_main_v202
  generalize val_main_v201 (F := Ideal) P R = u
  generalize val_main_v200 (F := Ideal) P = w
  pointwise

end Cert.ReferenceIdeal.Attn
-- ==== Proof.AttnP.lean ====
module

public import Idealize.ShloMosaic.Lib.ValueIdxRank6
public import Idealize.ShloMosaic.Lib.TwoAxisContraction
public import proofs.«01_k».proof.Proof.AttnQ

@[expose] public section

set_option maxRecDepth 16384

noncomputable section

namespace Cert.ReferenceIdeal.Attn

open Idealize.ShloMosaic Idealize.ShloMosaic.TcCoe
open Cert.ReferenceIdeal.Read Cert.ReferenceIdeal.Gen
open Cert.Proof.Spec
open Cert.KernelIdeal.Attn (scl ofBits_bot)

/-- The reference's maximum over the row's scores is their largest. -/
theorem v203_apply (P : Proj) (R : Bias) (b : Fin 4) (h : Fin 8) (r : Fin 32) (c : Fin 64) :
    val_main_v203 (F := Ideal) P R (ix4 b h r c) = Finset.univ.sup fun y : Fin 768 => val_main_v202 (F := Ideal) P R (ix5 b h r c y) := by
  unfold val_main_v203
  have h0 : val_main_cst_32 (F := Ideal) (Shape.Idx.first h_S_) = ⊥ := ofBits_bot
  revert h0
  generalize val_main_v202 (F := Ideal) P R = u
  generalize val_main_cst_32 (F := Ideal) = w
  intro h0
  refine (Host.reduce_eq_fold_single (FloatOps.maximumf (F := Ideal) (φ := .f32)) u w reducesTo_S4x8x32x64x768_S4x8x32x64_d4 (by decide) h_S_ (ix4 b h r c)).trans ?_
  rw [h0]
  refine Eq.trans ?_ (show Finset.univ.fold max ⊥ (fun y : Fin 768 => u (ix5 b h r c y)) = _ from rfl)
  refine congrArg (fun f : Fin 768 → EReal => Finset.univ.fold max ⊥ f) ?_
  funext k
  refine congrArg u (funext fun a => Fin.ext ?_)
  match a with
  | ⟨0, _⟩ => rfl
  | ⟨1, _⟩ => rfl
  | ⟨2, _⟩ => rfl
  | ⟨3, _⟩ => rfl
  | ⟨4, _⟩ => rfl

/-- The maximum with −∞ is the same. -/
theorem v205_apply (P : Proj) (R : Bias) (b : Fin 4) (h : Fin 8) (r : Fin 32) (c : Fin 64) :
    val_main_v205 (F := Ideal) P R (ix4 b h r c) = Finset.univ.sup fun y : Fin 768 => val_main_v202 (F := Ideal) P R (ix5 b h r c y) := by
  have h0 : val_main_v204 (F := Ideal) (ix4 b h r c) = ⊥ := (val_main_v204_apply (F := Ideal) _).trans ofBits_bot
  rw [val_main_v205_apply, h0, v203_apply]
  exact bot_sup_eq _

/-- The product that contracts the window's rows and columns is the double sum. -/
theorem dot_window (u : FVec Ideal S4x32x8x64x8x128 .f32) (w : FVec Ideal S4x8x32x64x8x64 .f32) (b : Fin 4) (h : Fin 8) (r : Fin 32) (c : Fin 64) (d : Fin 128) :
    Host.dotGeneral dot_S4x32x8x64x8x128_S4x8x32x64x8x64_S4x32x8x128x64_23_45_5_3_014_021 none u w (ix5 b r h d c) =
      ∑ a : Fin 8, ∑ e : Fin 64, u (ix6 b r a e h d) * w (ix6 b h r c a e) := by
  simp only [Host.dotGeneral]
  rw [Ideal.dotGeneral_apply, ValueIdx.sum_contr2 dot_S4x32x8x64x8x128_S4x8x32x64x8x64_S4x32x8x128x64_23_45_5_3_014_021 8 64 rfl rfl rfl]
  refine Finset.sum_congr rfl fun a _ => Finset.sum_congr rfl fun e _ => ?_
  have h0 := ValueIdx.contrEquiv2_symm_val0 dot_S4x32x8x64x8x128_S4x8x32x64x8x64_S4x32x8x128x64_23_45_5_3_014_021 8 64 rfl rfl rfl (a, e)
  have h1 := ValueIdx.contrEquiv2_symm_val1 dot_S4x32x8x64x8x128_S4x8x32x64x8x64_S4x32x8x128x64_23_45_5_3_014_021 8 64 rfl rfl rfl (a, e)
  generalize (ValueIdx.contrEquiv2 dot_S4x32x8x64x8x128_S4x8x32x64x8x64_S4x32x8x128x64_23_45_5_3_014_021 8 64 rfl rfl rfl).symm (a, e) = q at h0 h1 ⊢
  have el : dot_S4x32x8x64x8x128_S4x8x32x64x8x64_S4x32x8x128x64_23_45_5_3_014_021.lhsIdx (ix5 b r h d c) q = ix6 b r a e h d := by
    funext x
    refine Fin.ext ?_
    unfold DotDims.lhsIdx
    match x with
    | ⟨0, _⟩ => rw [dif_pos (by decide +revert)]; rfl
    | ⟨1, _⟩ => rw [dif_pos (by decide +revert)]; rfl
    | ⟨2, _⟩ => rw [dif_neg (by decide +revert), dif_neg (by decide +revert)]; exact h0
    | ⟨3, _⟩ => rw [dif_neg (by decide +revert), dif_neg (by decide +revert)]; exact h1
    | ⟨4, _⟩ => rw [dif_pos (by decide +revert)]; rfl
    | ⟨5, _⟩ => rw [dif_neg (by decide +revert), dif_pos (by decide +revert)]; rfl
  have er : dot_S4x32x8x64x8x128_S4x8x32x64x8x64_S4x32x8x128x64_23_45_5_3_014_021.rhsIdx (ix5 b r h d c) q = ix6 b h r c a e := by
    funext x
    refine Fin.ext ?_
    unfold DotDims.rhsIdx
    match x with
    | ⟨0, _⟩ => rw [dif_pos (by decide +revert)]; rfl
    | ⟨1, _⟩ => rw [dif_pos (by decide +revert)]; rfl
    | ⟨2, _⟩ => rw [dif_pos (by decide +revert)]; rfl
    | ⟨3, _⟩ => rw [dif_neg (by decide +revert), dif_pos (by decide +revert)]; rfl
    | ⟨4, _⟩ => rw [dif_neg (by decide +revert), dif_neg (by decide +revert)]; exact h0
    | ⟨5, _⟩ => rw [dif_neg (by decide +revert), dif_neg (by decide +revert)]; exact h1
  rw [el, er]

/-- The largest score of a row of the reference. -/
def top (P : Proj) (R : Bias) (b : Fin 4) (h : Fin 8) (r : Fin 32) (c : Fin 64) : EReal :=
  Finset.univ.sup fun y : Fin 768 => val_main_v202 (F := Ideal) P R (ix5 b h r c y)

/-- The row maximum, repeated along the row. -/
theorem v207_apply (P : Proj) (R : Bias) (b : Fin 4) (h : Fin 8) (r : Fin 32) (c : Fin 64) (y : Fin 768) :
    val_main_v207 (F := Ideal) P R (ix5 b h r c y) = top P R b h r c := by
  refine (val_main_v207_apply (F := Ideal) P R _).trans ((val_main_v206_apply (F := Ideal) P R _).trans (Eq.trans (congrArg _ ?_) (v205_apply P R b h r c)))
  funext q
  match q with
  | ⟨0, _⟩ => rfl
  | ⟨1, _⟩ => rfl
  | ⟨2, _⟩ => rfl
  | ⟨3, _⟩ => rfl

/-- A weight of the reference before the division. -/
theorem v209_apply (P : Proj) (R : Bias) (b : Fin 4) (h : Fin 8) (r : Fin 32) (c : Fin 64) (y : Fin 768) :
    val_main_v209 (F := Ideal) P R (ix5 b h r c y) = Ideal.exp (val_main_v202 (F := Ideal) P R (ix5 b h r c y) - top P R b h r c) := by
  rw [val_main_v209_apply, val_main_v208_apply, v207_apply]
  rfl

/-- The sum of a row's unnormalised weights. -/
theorem v210_apply (P : Proj) (R : Bias) (b : Fin 4) (h : Fin 8) (r : Fin 32) (c : Fin 64) :
    val_main_v210 (F := Ideal) P R (ix4 b h r c) = ∑ y : Fin 768, Ideal.exp (val_main_v202 (F := Ideal) P R (ix5 b h r c y) - top P R b h r c) := by
  have h0 : val_main_cst_34 (F := Ideal) (Shape.Idx.first h_S_) = (0 : EReal) := by
    show Ideal.ofBits FTy.f32 0#32 = 0
    simp [Ideal.ofBits, Ideal.ieee]
  rw [val_main_v210_apply, h0, zero_add]
  refine Finset.sum_congr rfl fun y _ => Eq.trans (congrArg _ ?_) (v209_apply P R b h r c y)
  funext q
  match q with
  | ⟨0, _⟩ => rfl
  | ⟨1, _⟩ => rfl
  | ⟨2, _⟩ => rfl
  | ⟨3, _⟩ => rfl
  | ⟨4, _⟩ => rfl

/-- The sum of a row's unnormalised weights, repeated along the row. -/
theorem v212_apply (P : Proj) (R : Bias) (b : Fin 4) (h : Fin 8) (r : Fin 32) (c : Fin 64) (y : Fin 768) :
    val_main_v212 (F := Ideal) P R (ix5 b h r c y) = ∑ y : Fin 768, Ideal.exp (val_main_v202 (F := Ideal) P R (ix5 b h r c y) - top P R b h r c) := by
  refine (val_main_v212_apply (F := Ideal) P R _).trans ((val_main_v211_apply (F := Ideal) P R _).trans (Eq.trans (congrArg _ ?_) (v210_apply P R b h r c)))
  funext q
  match q with
  | ⟨0, _⟩ => rfl
  | ⟨1, _⟩ => rfl
  | ⟨2, _⟩ => rfl
  | ⟨3, _⟩ => rfl

/-- A weight of the reference. -/
def weight (P : Proj) (R : Bias) (b : Fin 4) (h : Fin 8) (r : Fin 32) (c : Fin 64) (y : Fin 768) : EReal :=
  Ideal.div (Ideal.exp (val_main_v202 (F := Ideal) P R (ix5 b h r c y) - top P R b h r c))
    (∑ y : Fin 768, Ideal.exp (val_main_v202 (F := Ideal) P R (ix5 b h r c y) - top P R b h r c))

/-- The reference's softmax weight. -/
theorem v213_apply (P : Proj) (R : Bias) (b : Fin 4) (h : Fin 8) (r : Fin 32) (c : Fin 64) (y : Fin 768) :
    val_main_v213 (F := Ideal) P R (ix5 b h r c y) = weight P R b h r c y := by
  rw [val_main_v213_apply, v209_apply, v212_apply]
  rfl

/-- The weights of the window, by row and column of the window. -/
theorem v215_apply (P : Proj) (R : Bias) (b : Fin 4) (h : Fin 8) (r : Fin 32) (c : Fin 64) (a : Fin 8) (e : Fin 64) :
    val_main_v215 (F := Ideal) P R (ix6 b h r c a e) = weight P R b h r c ⟨a.1 * 64 + e.1, by omega⟩ := by
  have e1 : val_main_v214 (F := Ideal) P R (ix5 b h r c ⟨a.1 * 64 + e.1, by omega⟩) = weight P R b h r c ⟨a.1 * 64 + e.1, by omega⟩ := by
    refine (val_main_v214_apply (F := Ideal) P R _).trans (Eq.trans (congrArg _ ?_) (v213_apply P R b h r c ⟨a.1 * 64 + e.1, by omega⟩))
    funext q
    match q with
    | ⟨0, _⟩ => rfl
    | ⟨1, _⟩ => rfl
    | ⟨2, _⟩ => rfl
    | ⟨3, _⟩ => rfl
    | ⟨4, _⟩ => rfl
  refine Eq.trans ?_ e1
  unfold val_main_v215
  generalize val_main_v214 (F := Ideal) P R = y
  refine shapeCast_apply y _ _ _ ?_
  rw [Shape.rowMajor_val_six, Shape.rowMajor_val_five]
  show (((b.1 * 8 + h.1) * 32 + r.1) * 64 + c.1) * 512 + (a.1 * 64 + e.1) = ((((b.1 * 8 + h.1) * 32 + r.1) * 64 + c.1) * 8 + a.1) * 64 + e.1
  omega

/-- The weights of the context. -/
theorem v216_apply (P : Proj) (R : Bias) (b : Fin 4) (h : Fin 8) (r : Fin 32) (c : Fin 64) (y : Fin 256) :
    val_main_v216 (F := Ideal) P R (ix5 b h r c y) = weight P R b h r c ⟨512 + y.1, by omega⟩ := by
  refine (val_main_v216_apply (F := Ideal) P R _).trans (Eq.trans (congrArg _ ?_) (v213_apply P R b h r c ⟨512 + y.1, by omega⟩))
  funext q
  match q with
  | ⟨0, _⟩ => rfl
  | ⟨1, _⟩ => rfl
  | ⟨2, _⟩ => rfl
  | ⟨3, _⟩ => rfl
  | ⟨4, _⟩ => rfl

/-- The weighted sum of the window's values. -/
theorem v217_apply (P : Proj) (R : Bias) (b : Fin 4) (h : Fin 8) (r : Fin 32) (c : Fin 64) (d : Fin 128) :
    val_main_v217 (F := Ideal) P R (ix5 b r h d c) =
      ∑ a : Fin 8, ∑ e : Fin 64, tok P 40 b.1 h.1 (ktok r.1 a.1 e.1) d * weight P R b h r c ⟨a.1 * 64 + e.1, by omega⟩ := by
  unfold val_main_v217
  rw [dot_window]
  refine Finset.sum_congr rfl fun a _ => Finset.sum_congr rfl fun e _ => ?_
  rw [v157_apply, v215_apply]

/-- The weighted sum of the context's values. -/
theorem v219_apply (P : Proj) (R : Bias) (b : Fin 4) (h : Fin 8) (r : Fin 32) (c : Fin 64) (d : Fin 128) :
    val_main_v219 (F := Ideal) P R (ix5 b h d r c) = ∑ y : Fin 256, ctx P 40 b.1 h.1 y.1 d * weight P R b h r c ⟨512 + y.1, by omega⟩ := by
  rw [val_main_v219_apply]
  refine Finset.sum_congr rfl fun y _ => ?_
  have e1 : lidx_main_v219 (ix5 b h d r c) y = ix4 b y h d := by
    funext q
    match q with
    | ⟨0, _⟩ => rfl
    | ⟨1, _⟩ => rfl
    | ⟨2, _⟩ => rfl
    | ⟨3, _⟩ => rfl
  have e2 : ridx_main_v219 (ix5 b h d r c) y = ix5 b h r c y := by
    funext q
    match q with
    | ⟨0, _⟩ => rfl
    | ⟨1, _⟩ => rfl
    | ⟨2, _⟩ => rfl
    | ⟨3, _⟩ => rfl
    | ⟨4, _⟩ => rfl
  rw [e1, e2, v15_apply, v216_apply]

/-- A lane of the reference's result before the last reshapes. -/
theorem v221_apply (P : Proj) (R : Bias) (b : Fin 4) (h : Fin 8) (r : Fin 32) (c : Fin 64) (d : Fin 128) :
    val_main_v221 (F := Ideal) P R (ix5 b r c h d) =
      (∑ a : Fin 8, ∑ e : Fin 64, tok P 40 b.1 h.1 (ktok r.1 a.1 e.1) d * weight P R b h r c ⟨a.1 * 64 + e.1, by omega⟩) +
        ∑ y : Fin 256, ctx P 40 b.1 h.1 y.1 d * weight P R b h r c ⟨512 + y.1, by omega⟩ := by
  have e1 : val_main_v218 (F := Ideal) P R (ix5 b r c h d) = val_main_v217 (F := Ideal) P R (ix5 b r h d c) := by
    refine (val_main_v218_apply (F := Ideal) P R _).trans (congrArg _ ?_)
    funext q
    match q with
    | ⟨0, _⟩ => rfl
    | ⟨1, _⟩ => rfl
    | ⟨2, _⟩ => rfl
    | ⟨3, _⟩ => rfl
    | ⟨4, _⟩ => rfl
  have e2 : val_main_v220 (F := Ideal) P R (ix5 b r c h d) = val_main_v219 (F := Ideal) P R (ix5 b h d r c) := by
    refine (val_main_v220_apply (F := Ideal) P R _).trans (congrArg _ ?_)
    funext q
    match q with
    | ⟨0, _⟩ => rfl
    | ⟨1, _⟩ => rfl
    | ⟨2, _⟩ => rfl
    | ⟨3, _⟩ => rfl
    | ⟨4, _⟩ => rfl
  rw [val_main_v221_apply, e1, e2, v217_apply, v219_apply]
  rfl

/-- The result at the row of a token and the column of a head's lane. -/
theorem v224_apply (P : Proj) (R : Bias) (b : Fin 4) (h : Fin 8) (r : Fin 32) (c : Fin 64) (d : Fin 128) :
    val_main_v224 (F := Ideal) P R (ix2 ⟨b.1 * 2048 + (r.1 * 64 + c.1), by omega⟩ ⟨h.1 * 128 + d.1, by omega⟩ : S8192x1024.Idx) =
      val_main_v221 (F := Ideal) P R (ix5 b r c h d) := by
  rw [val_main_v224_apply]
  have e1 : val_main_v223 (F := Ideal) P R (ix2 ⟨b.1 * 2048 + (r.1 * 64 + c.1), by omega⟩ ⟨h.1 * 128 + d.1, by omega⟩ : S8192x1024.Idx) =
      val_main_v222 (F := Ideal) P R (ix3 b ⟨r.1 * 64 + c.1, by omega⟩ ⟨h.1 * 128 + d.1, by omega⟩ : S4x2048x1024.Idx) := by
    unfold val_main_v223
    generalize val_main_v222 (F := Ideal) P R = y
    refine shapeCast_apply y _ _ _ ?_
    rw [Shape.rowMajor_val_three, Shape.rowMajor_val_two]
    show (b.1 * 2048 + (r.1 * 64 + c.1)) * 1024 + (h.1 * 128 + d.1) = (b.1 * 2048 + (r.1 * 64 + c.1)) * 1024 + (h.1 * 128 + d.1)
    rfl
  have e2 : val_main_v222 (F := Ideal) P R (ix3 b ⟨r.1 * 64 + c.1, by omega⟩ ⟨h.1 * 128 + d.1, by omega⟩ : S4x2048x1024.Idx) =
      val_main_v221 (F := Ideal) P R (ix5 b r c h d) := by
    unfold val_main_v222
    generalize val_main_v221 (F := Ideal) P R = y
    refine shapeCast_apply y _ _ _ ?_
    rw [Shape.rowMajor_val_five, Shape.rowMajor_val_three]
    show (((b.1 * 32 + r.1) * 64 + c.1) * 8 + h.1) * 128 + d.1 = (b.1 * 2048 + (r.1 * 64 + c.1)) * 1024 + (h.1 * 128 + d.1)
    omega
  rw [e1, e2]
  rfl

end Cert.ReferenceIdeal.Attn
-- ==== Proof.AttnL.lean ====
module

public import proofs.«01_k».proof.Proof.AttnE
public import proofs.«01_k».proof.Proof.AttnP

@[expose] public section

set_option maxRecDepth 16384

noncomputable section

open Idealize.ShloMosaic

namespace Cert.Proof.Spec

open Cert.ReferenceIdeal.Attn Cert.ReferenceIdeal.Read
open Cert.KernelIdeal.Attn (row scl)

/-- The 768 scores of a row of the reference are the window's and then the context's. -/
def cols : (Fin 8 × Fin 64) ⊕ Fin 256 ≃ Fin 768 :=
  (finProdFinEquiv.sumCongr (Equiv.refl (Fin 256))).trans finSumFinEquiv

/-- A place of the window is a column below 512. -/
theorem cols_inl (x : Fin 8 × Fin 64) : cols (Sum.inl x) = ⟨x.1.1 * 64 + x.2.1, by omega⟩ := by
  refine Fin.ext ?_
  show x.2.1 + 64 * x.1.1 = x.1.1 * 64 + x.2.1
  omega

/-- A context token is a column from 512 on. -/
theorem cols_inr (y : Fin 256) : cols (Sum.inr y) = ⟨512 + y.1, by omega⟩ := rfl

/-- A sum over the 768 columns is the sum over the window and the sum over the context. -/
theorem sum_cols (f : Fin 768 → EReal) :
    ∑ y, f y = (∑ x : Fin 8 × Fin 64, f ⟨x.1.1 * 64 + x.2.1, by omega⟩) + ∑ y : Fin 256, f ⟨512 + y.1, by omega⟩ := by
  rw [← cols.sum_comp f, Fintype.sum_sum_type]
  simp only [cols_inl, cols_inr]

/-- The largest of 768 columns is the larger of the window's and the context's largest. -/
theorem sup_cols (f : Fin 768 → EReal) :
    Finset.univ.sup f = max (Finset.univ.sup fun x : Fin 8 × Fin 64 => f ⟨x.1.1 * 64 + x.2.1, by omega⟩)
      (Finset.univ.sup fun y : Fin 256 => f ⟨512 + y.1, by omega⟩) := by
  refine le_antisymm (Finset.sup_le fun y _ => ?_) (max_le (Finset.sup_le fun x _ => ?_) (Finset.sup_le fun x _ => ?_))
  · obtain ⟨z, rfl⟩ := cols.surjective y
    rcases z with x | x
    · rw [cols_inl]
      exact le_max_of_le_left (Finset.le_sup (f := fun x : Fin 8 × Fin 64 => f ⟨x.1.1 * 64 + x.2.1, by omega⟩) (Finset.mem_univ x))
    · rw [cols_inr]
      exact le_max_of_le_right (Finset.le_sup (f := fun y : Fin 256 => f ⟨512 + y.1, by omega⟩) (Finset.mem_univ x))
  · exact Finset.le_sup (Finset.mem_univ _)
  · exact Finset.le_sup (Finset.mem_univ _)

/-- A score of the reference at a place of the window. -/
theorem v202_win (P : Proj) (R : Bias) (b : Fin 4) (h : Fin 8) (r : Fin 32) (c : Fin 64) (a : Fin 8) (e : Fin 64) :
    val_main_v202 (F := Ideal) P R (ix5 b h r c ⟨a.1 * 64 + e.1, by omega⟩) = lscore P R b.1 h r.1 c.1 a.1 e.1 :=
  (v202_loc P R b h r c ⟨a.1 * 64 + e.1, by omega⟩).trans (v201_apply P R b h r c a e)

/-- A score of the reference at a context token. -/
theorem v202_cx (P : Proj) (R : Bias) (b : Fin 4) (h : Fin 8) (r : Fin 32) (c : Fin 64) (y : Fin 256) :
    val_main_v202 (F := Ideal) P R (ix5 b h r c ⟨512 + y.1, by omega⟩) = cscore P b.1 h r.1 c.1 y.1 :=
  (v202_ctx P R b h r c y).trans (v200_apply P b h r c y)

/-- The reference's row maximum is the larger of the window's and the context's. -/
theorem top_eq (P : Proj) (R : Bias) (b : Fin 4) (h : Fin 8) (r : Fin 32) (c : Fin 64) :
    top P R b h r c = max (Finset.univ.sup fun x : Fin 8 × Fin 64 => lscore P R b.1 h r.1 c.1 x.1.1 x.2.1)
      (Finset.univ.sup fun y : Fin 256 => cscore P b.1 h r.1 c.1 y.1) := by
  unfold top
  rw [sup_cols]
  simp only [v202_win, v202_cx]

/-- Where the window's key token stands among the 768 the kernel takes. -/
def place (r : Fin 32) (x : Fin 8 × Fin 64) : Fin 768 :=
  ⟨ktok r.1 x.1.1 x.2.1 - first (r.1 * 64), by
    have := x.1.2; have := x.2.2; have := r.2
    unfold ktok first rowStart
    omega⟩

/-- The key token at a place of the window lies at that place among the kernel's key tokens. -/
theorem first_add_place (r : Fin 32) (c : Fin 64) (x : Fin 8 × Fin 64) : first (r.1 * 64 + c.1) + (place r x).1 = ktok r.1 x.1.1 x.2.1 := by
  have := x.1.2; have := x.2.2; have := r.2; have := c.2
  show first (r.1 * 64 + c.1) + (ktok r.1 x.1.1 x.2.1 - first (r.1 * 64)) = _
  unfold ktok first rowStart
  omega

/-- Two places of the window are two of the kernel's key tokens. -/
theorem place_injective (r : Fin 32) : Function.Injective (place r) := by
  rintro ⟨a, e⟩ ⟨a', e'⟩ hx
  have h1 := first_add_place r 0 (a, e)
  rw [hx, first_add_place r 0 (a', e')] at h1
  have h2 : (rowStart r.1 + a'.1) * 64 + e'.1 = (rowStart r.1 + a.1) * 64 + e.1 := h1
  have ha : a = a' := Fin.ext (by omega)
  have he : e = e' := Fin.ext (by omega)
  rw [ha, he]

/-- A key row of the kernel's that the window's rows reach is one of the window's. -/
theorem mem_place (r : Fin 32) (c : Fin 64) (y : Fin 768) (hy : inRow r.1 ((first (r.1 * 64 + c.1) + y.1) / 64)) : y ∈ Set.range (place r) := by
  have := r.2; have := c.2; have := y.2
  unfold inRow at hy
  refine ⟨(⟨(first (r.1 * 64 + c.1) + y.1) / 64 - rowStart r.1, by omega⟩, ⟨(first (r.1 * 64 + c.1) + y.1) % 64, by omega⟩), Fin.ext ?_⟩
  have h1 := first_add_place r c (⟨(first (r.1 * 64 + c.1) + y.1) / 64 - rowStart r.1, by omega⟩, ⟨(first (r.1 * 64 + c.1) + y.1) % 64, by omega⟩)
  have h2 : first (r.1 * 64 + c.1) + (place r (⟨(first (r.1 * 64 + c.1) + y.1) / 64 - rowStart r.1, by omega⟩, ⟨(first (r.1 * 64 + c.1) + y.1) % 64, by omega⟩)).1 =
      (rowStart r.1 + ((first (r.1 * 64 + c.1) + y.1) / 64 - rowStart r.1)) * 64 + (first (r.1 * 64 + c.1) + y.1) % 64 := h1
  omega

/-- The bias at a key token of the window's rows. -/
theorem bias_ktok (R : Bias) (h : Fin 8) (r : Fin 32) (c : Fin 64) (a : Fin 8) (e : Fin 64) :
    bias R h (r.1 * 64 + c.1) (ktok r.1 a.1 e.1) = if inCol c.1 e.1 then rel R h r.1 c.1 (rowStart r.1 + a.1) e.1 else ⊥ := by
  have e1 : (r.1 * 64 + c.1) / 64 = r.1 := by omega
  have e2 : (r.1 * 64 + c.1) % 64 = c.1 := by omega
  have e3 : ktok r.1 a.1 e.1 / 64 = rowStart r.1 + a.1 := by unfold ktok; omega
  have e4 : ktok r.1 a.1 e.1 % 64 = e.1 := by unfold ktok; omega
  have hr : inRow r.1 (rowStart r.1 + a.1) := ⟨by omega, by omega⟩
  unfold bias
  rw [e1, e2, e3, e4]
  simp only [hr, true_and]

/-- A key token of the window is a token. -/
theorem ktok_lt (r : Fin 32) (a : Fin 8) (e : Fin 64) : ktok r.1 a.1 e.1 < 2048 := by
  have := r.2; have := a.2; have := e.2
  unfold ktok rowStart
  omega

/-- With real queries, keys and relative biases, the kernel's lane is the reference's. -/
theorem kout_eq (P : Proj) (R : Bias) (hP : FiniteQK P) (hR : FiniteR R) (b : Fin 4) (h : Fin 8) (r : Fin 32) (c : Fin 64) (d : Fin 128) :
    kout P R b.1 h (r.1 * 64 + c.1) d =
      (∑ a : Fin 8, ∑ e : Fin 64, tok P 40 b.1 h.1 (ktok r.1 a.1 e.1) d * weight P R b h r c ⟨a.1 * 64 + e.1, by omega⟩) +
        ∑ y : Fin 256, ctx P 40 b.1 h.1 y.1 d * weight P R b h r c ⟨512 + y.1, by omega⟩ := by
  have ht : r.1 * 64 + c.1 < 2048 := by omega
  have hq := fun d => tok_real P hP 24 b.1 h.1 (r.1 * 64 + c.1) (Or.inl rfl) b.2 h.2 ht d
  have hs2 : ∀ y : Fin 256, ∃ z : ℝ, (∑ d, (tok P 24 b.1 h.1 (r.1 * 64 + c.1) d * scl) * ctx P 32 b.1 h.1 y.1 d) = z ∧ cscore P b.1 h r.1 c.1 y.1 = z :=
    fun y => score_scale' _ _ hq fun d => ctx_real P hP b.1 h.1 y.1 b.2 h.2 y.2 d
  have hs1 : ∀ (a : Fin 8) (e : Fin 64), ∃ z : ℝ,
      (∑ d, turn (fun d => tok P 24 b.1 h.1 (r.1 * 64 + c.1) d * scl) (r.1 * 64 + c.1) d * turn (tok P 32 b.1 h.1 (ktok r.1 a.1 e.1)) (ktok r.1 a.1 e.1) d) = z ∧
        (∑ d, turn (tok P 24 b.1 h.1 (r.1 * 64 + c.1)) (r.1 * 64 + c.1) d * turn (tok P 32 b.1 h.1 (ktok r.1 a.1 e.1)) (ktok r.1 a.1 e.1) d) * scl = z :=
    fun a e => score_scale _ _ hq (fun d => tok_real P hP 32 b.1 h.1 _ (Or.inr rfl) b.2 h.2 (ktok_lt r a e) d) _ _
  have hc : (fun y : Fin 256 => ∑ d, (tok P 24 b.1 h.1 (r.1 * 64 + c.1) d * scl) * ctx P 32 b.1 h.1 y.1 d) = fun y : Fin 256 => cscore P b.1 h r.1 c.1 y.1 := by
    funext y
    obtain ⟨z, h1, h2⟩ := hs2 y
    rw [h1, h2]
  unfold kout
  rw [hc]
  unfold row
  refine (Soft.rows_agree (place r) (place_injective r) _ (fun x : Fin 8 × Fin 64 => lscore P R b.1 h r.1 c.1 x.1.1 x.2.1) _ _ _
    ?_ ?_ ?_ ?_ (0 : Fin 256) _ (top P R b h r c) rfl (top_eq P R b h r c)).trans ?_
  · rintro ⟨a, e⟩
    show (∑ d, turn (fun d => tok P 24 b.1 h.1 (r.1 * 64 + c.1) d * scl) (r.1 * 64 + c.1) d *
      turn (tok P 32 b.1 h.1 (first (r.1 * 64 + c.1) + (place r (a, e)).1)) (first (r.1 * 64 + c.1) + (place r (a, e)).1) d) +
      bias R h (r.1 * 64 + c.1) (first (r.1 * 64 + c.1) + (place r (a, e)).1) = lscore P R b.1 h r.1 c.1 a.1 e.1
    rw [first_add_place, bias_ktok]
    obtain ⟨z, h1, h2⟩ := hs1 a e
    unfold lscore
    rw [h1, h2]
    by_cases hi : inCol c.1 e.1
    · rw [if_pos hi, if_pos hi]
    · rw [if_neg hi, if_neg hi, EReal.add_bot]
  · intro y hy
    have hn : ¬ inRow r.1 ((first (r.1 * 64 + c.1) + y.1) / 64) := fun hr => hy (mem_place r c y hr)
    have e1 : (r.1 * 64 + c.1) / 64 = r.1 := by omega
    have hb : bias R h (r.1 * 64 + c.1) (first (r.1 * 64 + c.1) + y.1) = ⊥ := by
      unfold bias
      rw [e1, if_neg fun hh => hn hh.1]
    rw [hb, EReal.add_bot]
  · rintro ⟨a, e⟩
    obtain ⟨z, -, h2⟩ := hs1 a e
    show lscore P R b.1 h r.1 c.1 a.1 e.1 ≠ ⊤
    unfold lscore
    rw [h2]
    split
    · obtain ⟨w, hw⟩ : ∃ w : ℝ, rel R h r.1 c.1 (rowStart r.1 + a.1) e.1 = w := hR _
      rw [hw, ← EReal.coe_add]
      exact EReal.coe_ne_top _
    · exact bot_ne_top
  · intro y
    obtain ⟨z, -, h2⟩ := hs2 y
    exact ⟨z, h2⟩
  · unfold weight
    rw [sum_cols, Fintype.sum_prod_type]
    simp only [v202_win, v202_cx, first_add_place]
    refine congrArg₂ (· + ·) (Finset.sum_congr rfl fun a _ => Finset.sum_congr rfl fun e _ => mul_comm _ _) (Finset.sum_congr rfl fun y _ => mul_comm _ _)

end Cert.Proof.Spec
-- ==== Proof.Attn.lean ====
module

public import proofs.«01_k».proof.Defs
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite_scores
public import proofs.«01_k».proof.Proof.AttnF
public import proofs.«01_k».proof.Proof.AttnL
public import Idealize.ShloMosaic.Lib.Claim

@[expose] public section

set_option maxRecDepth 16384

noncomputable section

namespace Cert.Proof.Attn

open Idealize.ShloMosaic Idealize.ShloMosaic.TcCoe
open Idealize.SL Idealize.SL.Sem
open Cert.Proof.Spec

/-- An entry whose absolute value compares below infinity is a real. -/
theorem real_of_lt (x : EReal) (h : FloatOps.cmpf (F := Ideal) (φ := .f32) .olt (FloatOps.hostAbsf (F := Ideal) (φ := .f32) x) (Ideal.ofBits FTy.f32 0x7F800000#32) = 1#1) :
    ∃ r : ℝ, x = r := by
  have h0 : Ideal.ofBits FTy.f32 0x7F800000#32 = ⊤ := by simp [Ideal.ofBits, Ideal.ieee]
  have h1 : BitVec.ofBool (decide (max x (-x) < Ideal.ofBits FTy.f32 0x7F800000#32)) = 1#1 := h
  rw [h0] at h1
  induction x with
  | coe r => exact ⟨r, rfl⟩
  | bot => exact absurd h1 (by simp)
  | top => exact absurd h1 (by simp)

section

attribute [local instance] Cert.Pre_finite_scores.Gen.facts

/-- The precondition makes the query and key columns real. -/
theorem finite_qk (P : Proj) (R : Bias) (h : (Cert.Pre_finite_scores.fn (F := Ideal) P R).1 = fun _ => 1#1) : FiniteQK P := by
  intro r c hr h1 h2
  have e := congrFun h (ix2 ⟨r, hr⟩ ⟨c - 3072, by omega⟩ : Cert.Pre_finite_scores.S9216x2048.Idx)
  dsimp only [Cert.Pre_finite_scores.fn] at e
  obtain ⟨x, hx⟩ := real_of_lt _ e
  refine ⟨x, Eq.trans ?_ hx⟩
  rw [← rd_eq P r c hr (by omega)]
  refine Eq.trans (congrArg P ?_) (extractStridedSlice_apply ![0, 3072] P Cert.Pre_finite_scores.Facts.slices_S9216x25600_S9216x2048_0_3072 _ (ix2 ⟨r, hr⟩ ⟨c, by omega⟩) fun a => ?_).symm
  · rfl
  · match a with
    | ⟨0, _⟩ => show r = 0 + r; omega
    | ⟨1, _⟩ => show c = 3072 + (c - 3072); omega

/-- The precondition makes the relative biases real. -/
theorem finite_rel (P : Proj) (R : Bias) (h : (Cert.Pre_finite_scores.fn (F := Ideal) P R).2 = fun _ => 1#1) : FiniteR R := by
  intro i
  have e := congrFun h i
  dsimp only [Cert.Pre_finite_scores.fn] at e
  exact real_of_lt _ e

end

/-- The reference's result is the kernel's. -/
theorem out_eq (P : Proj) (R : Bias) (hP : FiniteQK P) (hR : FiniteR R) :
    Cert.ReferenceIdeal.Read.val_main_v224 (F := Ideal) P R = Cert.KernelIdeal.Attn.OUT P R := by
  funext i
  have hn : (i 0).val < 8192 := (i 0).isLt
  have hm : (i 1).val < 1024 := (i 1).isLt
  have key := (Cert.ReferenceIdeal.Attn.v224_apply P R ⟨(i 0).val / 2048, by omega⟩ ⟨(i 1).val / 128, by omega⟩
    ⟨(i 0).val % 2048 / 64, by omega⟩ ⟨(i 0).val % 64, by omega⟩ ⟨(i 1).val % 128, by omega⟩).trans
    ((Cert.ReferenceIdeal.Attn.v221_apply P R _ _ _ _ _).trans (kout_eq P R hP hR _ _ _ _ _).symm)
  have ei : i = (ix2 ⟨(i 0).val / 2048 * 2048 + ((i 0).val % 2048 / 64 * 64 + (i 0).val % 64), by omega⟩ ⟨(i 1).val / 128 * 128 + (i 1).val % 128, by omega⟩ : Cert.ReferenceIdeal.S8192x1024.Idx) := by
    funext a
    refine Fin.ext ?_
    match a with
    | ⟨0, _⟩ => show (i 0).val = (i 0).val / 2048 * 2048 + ((i 0).val % 2048 / 64 * 64 + (i 0).val % 64); omega
    | ⟨1, _⟩ => show (i 1).val = (i 1).val / 128 * 128 + (i 1).val % 128; omega
  refine (congrArg _ ei).trans (key.trans ?_)
  unfold Cert.KernelIdeal.Attn.OUT
  have et : (i 0).val % 2048 / 64 * 64 + (i 0).val % 64 = (i 0).val % 2048 := by omega
  show kout P R ((i 0).val / 2048) _ ((i 0).val % 2048 / 64 * 64 + (i 0).val % 64) _ = _
  rw [et]

/-- The two runs of the attention end with equal results where queries, keys and relative biases are real. -/
theorem algebraic : Cert.algebraic_KernelIdeal_ReferenceIdeal_pre_finite_scores
    (hKernelIdeal := Cert.KernelIdeal.Gen.facts) (hReferenceIdeal := Cert.ReferenceIdeal.Gen.facts)
    (hPre_finite_scores := Cert.Pre_finite_scores.Gen.facts) := by
  letI := Cert.KernelIdeal.Gen.facts
  letI := Cert.ReferenceIdeal.Gen.facts
  letI := Cert.Pre_finite_scores.Gen.facts
  pair_intro
  · run_from Cert.KernelIdeal.Value.run_blocks m g
  · run_from Cert.ReferenceIdeal.Value.run m' g'
    rw [Cert.KernelIdeal.Attn.final]
    refine Eq.trans ?_ (out_eq _ _ (finite_qk _ _ (hpre c).1) (finite_rel _ _ (hpre c).2))
    refine (Cert.ReferenceIdeal.Read.val_main_v224_eq _).trans ?_
    exact congrArg₂ (Cert.ReferenceIdeal.Read.val_main_v224 (F := Ideal)) (hagree c).1 (hagree c).2

end Cert.Proof.Attn
-- ==== Proof.Ada.lean ====
module

public import proofs.«01_k».proof.Defs
public import proofs.«01_k».proof.Proof.Gen.AdaKernelIdeal.Value
public import proofs.«01_k».proof.Proof.Gen.AdaReferenceIdeal.Run
public import proofs.«01_k».proof.Proof.Gen.AdaReferenceIdeal.Read
public import Idealize.ShloMosaic.Lib.Pipeline.ValueKit
public import Idealize.ShloMosaic.Lib.Pipeline.ReadBack
public import Idealize.ShloMosaic.Lib.StableHlo.ReadAt
public import Idealize.ShloMosaic.Lib.Pointwise
public import Idealize.ShloMosaic.Lib.Claim

/-! The projection of the conditioning rows: `silu(cc) · W₀ + b₀`, computed in 72 column blocks of 512. -/

@[expose] public section

set_option maxRecDepth 16384

noncomputable section

namespace Cert.AdaKernelIdeal.Prod

open Idealize.ShloMosaic Idealize.ShloMosaic.TcCoe
open Idealize.SL Idealize.SL.Sem
open Cert.AdaKernelIdeal.Gen

variable (m : (ℓ : Loc nD τ sig) → Buf (Elt Ideal) ℓ)

/-- The block indices of the four windows at grid point `t`: column block `t` of layer 0's weights, bias and result. -/
theorem idx : ∀ t : Fin cfg0.N, win0_0.index t = ![0, 0] ∧ win0_1.index t = ![0, 0, t.val]
    ∧ win0_2.index t = ![0, 0, t.val] ∧ win0_3.index t = ![0, t.val] :=
  (by decide +kernel : ∀ t : Fin grid0.N, _)

/-- The bias the region reads is the argument with a unit axis inserted. -/
theorem bias (c : Dev nD) (l : Fin 2) (z : Fin 1) (j : Fin 36864) :
    V m c main_v0 (ix3 l z j) = m ((c : Thread nD τ).loc main_arg2) (ix2 l j) := by
  unfold V
  after_reads_at

/-- The result at an index: the row of `silu cc` times the column of layer 0's weights, plus layer 0's bias. -/
def ADA (x : Vec Ideal S8x4096 .f32) (w : Vec Ideal S2x4096x36864 .f32) (b : Vec Ideal S2x36864 .f32) : Vec Ideal S8x36864 .f32 := fun i =>
  (∑ k : Fin 4096, x (ix2 (i 0) k) * FloatOps.logistic (F := Ideal) (φ := .f32) (x (ix2 (i 0) k)) * w (ix3 0 k (i 1))) + b (ix2 0 (i 1))

/-- What the body stores at grid point `t` is block `t` of the result. -/
theorem point (c : Dev nD) (t : Fin cfg0.N) (y) :
    k0_pay1 (iblk m c 0 t) (iblk m c 1 t) (iblk m c 2 t) y
      = ADA (m ((c : Thread nD τ).loc main_arg0)) (m ((c : Thread nD τ).loc main_arg1)) (m ((c : Thread nD τ).loc main_arg2)) (((cfg0.win 3).blk t).view.emb y) := by
  pointwise [k0_pay1, ADA]
  refine congrArg₂ _ (Finset.sum_congr rfl fun k _ => ?_) ?_
  · have e : iblk m c 0 t (ix2 (y 0) k) = m ((c : Thread nD τ).loc main_arg0) (ix2 (((cfg0.win 3).blk t).view.emb y 0) k) := by
      blk_point [iblk, V, idx t]
    have f : iblk m c 1 t (ix3 0 k (y 1)) = m ((c : Thread nD τ).loc main_arg1) (ix3 0 k (((cfg0.win 3).blk t).view.emb y 1)) := by
      blk_point [iblk, V, idx t]
    rw [e, f]
  · refine Eq.trans ?_ (bias m c 0 0 _)
    blk_point [iblk, V, idx t]

/-- The result array after the run. -/
theorem final (c : Dev nD) : (dats m 0 c).arrAt 3 cfg0.N
    = ADA (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  unfold out0_3
  frame_out
  exact point m c t _

end Cert.AdaKernelIdeal.Prod

namespace Cert.Proof.Ada

open Idealize.ShloMosaic Idealize.ShloMosaic.TcCoe
open Idealize.SL Idealize.SL.Sem

/-- The two runs of the conditioning rows' projection end with equal results. -/
theorem algebraic : Cert.algebraic_AdaKernelIdeal_AdaReferenceIdeal
    (hAdaKernelIdeal := Cert.AdaKernelIdeal.Gen.facts) (hAdaReferenceIdeal := Cert.AdaReferenceIdeal.Gen.facts) := by
  letI := Cert.AdaKernelIdeal.Gen.facts
  letI := Cert.AdaReferenceIdeal.Gen.facts
  pair_intro
  · run_from Cert.AdaKernelIdeal.Value.run_blocks m g
  · run_from Cert.AdaReferenceIdeal.Value.run m' g'
    rw [Cert.AdaKernelIdeal.Prod.final]
    funext i
    pointwise [Cert.AdaKernelIdeal.Prod.ADA]
    rfl

end Cert.Proof.Ada
-- ==== Proof.Norm.lean ====
module

public import proofs.«01_k».proof.Defs
public import proofs.«01_k».proof.Proof.Gen.NormKernelIdeal.Value
public import proofs.«01_k».proof.Proof.Gen.NormReferenceIdeal.Run
public import proofs.«01_k».proof.Proof.Gen.NormReferenceIdeal.Read
public import Idealize.ShloMosaic.Lib.Pipeline.ValueKit
public import Idealize.ShloMosaic.Lib.Pipeline.ReadBack
public import Idealize.ShloMosaic.Lib.StableHlo.ReadAt
public import Idealize.ShloMosaic.Lib.Pointwise
public import Idealize.ShloMosaic.Lib.Claim

/-! The normalisation before the layer: each row divided by its root mean square, times the gain, scaled and
    shifted by the modulation row of the sample the row belongs to. Computed in 36 blocks of 256 rows. -/

@[expose] public section

set_option maxRecDepth 16384

noncomputable section

namespace Cert.NormKernelIdeal.Prod

open Idealize.ShloMosaic Idealize.ShloMosaic.TcCoe
open Idealize.SL Idealize.SL.Sem
open Cert.NormKernelIdeal.Gen

variable (m : (ℓ : Loc nD τ sig) → Buf (Elt Ideal) ℓ)

/-- The modulation row of a row of activations: the sample's for the 4 × 2048 image rows, row 4 for the context rows. -/
def modRow (r : Nat) : Fin 8 := ⟨min (r / 2048) 4, by omega⟩

/-- The block indices of the five windows at grid point `t`. -/
theorem idx : ∀ t : Fin cfg0.N, win0_0.index t = ![t.val, 0] ∧ win0_1.index t = ![0, 0, 0]
    ∧ win0_2.index t = ![min (t.val * 256 / 2048) 4, 0, 0] ∧ win0_3.index t = ![min (t.val * 256 / 2048) 4, 0, 1]
    ∧ win0_4.index t = ![t.val, 0] :=
  (by decide +kernel : ∀ t : Fin grid0.N, _)

/-- The modulation array the region reads is the argument with a unit axis inserted. -/
theorem mods (c : Dev nD) (l : Fin 8) (z : Fin 1) (j : Fin 36864) :
    V m c main_v1 (ix3 l z j) = m ((c : Thread nD τ).loc main_arg2) (ix2 l j) := by
  unfold V
  after_reads_at

/-- The gains the region reads are the argument's with the first two axes joined. -/
theorem gains (c : Dev nD) (z : Fin 1) (j : Fin 4096) :
    V m c main_v0 (ix3 0 z j) = m ((c : Thread nD τ).loc main_arg1) (ix3 0 0 j) := by
  unfold V
  after_reads_at

/-- One over the root mean square of row `r` of `x`. -/
def rms (x : Vec Ideal S9216x4096 .f32) (r : Fin 9216) : Ideal .f32 :=
  Ideal.rsqrt (Ideal.div (∑ k : Fin 4096, x (ix2 r k) * x (ix2 r k)) (Ideal.ofBits .f32 0x45800000#32) + Ideal.ofBits .f32 0x358637BD#32)

/-- The column of a modulation row that shifts column `j`. -/
def shiftCol (j : Fin 4096) : Fin 36864 := ⟨j.1, by omega⟩

/-- The column of a modulation row that scales column `j`. -/
def scaleCol (j : Fin 4096) : Fin 36864 := ⟨4096 + j.1, by omega⟩

/-- The result at row `r` and column `j`. -/
def norm (x : Vec Ideal S9216x4096 .f32) (g : Vec Ideal S2x6x4096 .f32) (a : Vec Ideal S8x36864 .f32) (r : Fin 9216) (j : Fin 4096) : Ideal .f32 :=
  x (ix2 r j) * rms x r * g (ix3 0 0 j) * (1 + a (ix2 (modRow r.1) (scaleCol j))) + a (ix2 (modRow r.1) (shiftCol j))

/-- The result array. -/
def NORM (x : Vec Ideal S9216x4096 .f32) (g : Vec Ideal S2x6x4096 .f32) (a : Vec Ideal S8x36864 .f32) : Vec Ideal S9216x4096 .bf16 := fun i =>
  norm x g a (i 0) (i 1)

/-- What the body stores at grid point `t` is block `t` of the result. -/
theorem point (c : Dev nD) (t : Fin cfg0.N) (y) :
    k0_pay1 (iblk m c 0 t) (iblk m c 1 t) (iblk m c 3 t) (iblk m c 2 t) y
      = NORM (m ((c : Thread nD τ).loc main_arg0)) (m ((c : Thread nD τ).loc main_arg1)) (m ((c : Thread nD τ).loc main_arg2)) (((cfg0.win 4).blk t).view.emb y) := by
  pointwise [k0_pay1, NORM, norm, rms]
  have e : ∀ k, iblk m c 0 t (ix2 (y 0) k) = m ((c : Thread nD τ).loc main_arg0) (ix2 (((cfg0.win 4).blk t).view.emb y 0) k) := by
    intro k
    blk_point [iblk, V, idx t]
  have e0 : iblk m c 0 t y = m ((c : Thread nD τ).loc main_arg0) (((cfg0.win 4).blk t).view.emb y) := by
    blk_point [iblk, V, idx t]
  have e1 : iblk m c 1 t (ix3 0 0 (y 1)) = m ((c : Thread nD τ).loc main_arg1) (ix3 0 0 (((cfg0.win 4).blk t).view.emb y 1)) := by
    refine Eq.trans ?_ (gains m c 0 _)
    blk_point [iblk, V, idx t]
  have er : (((cfg0.win 4).blk t).view.emb y 0).val = t.val * 256 + (y 0).val := by
    blk_simp [idx t]
  have er1 : (((cfg0.win 4).blk t).view.emb y 1).val = (y 1).val := by
    blk_simp [idx t]
  have em : min (t.val * 256 / 2048) 4 + 0 = (modRow (t.val * 256 + (y 0).val)).val := by
    have h0 : (y 0).val < 256 := (y 0).isLt
    show _ = min ((t.val * 256 + (y 0).val) / 2048) 4
    omega
  have e2 : iblk m c 2 t (ix3 0 0 (y 1)) = m ((c : Thread nD τ).loc main_arg2) (ix2 (modRow (((cfg0.win 4).blk t).view.emb y 0).val) (shiftCol (((cfg0.win 4).blk t).view.emb y 1))) := by
    refine Eq.trans ?_ (mods m c _ 0 _)
    blk_point [iblk, V, idx t]
    · exact er1.symm
  have e3 : iblk m c 3 t (ix3 0 0 (y 1)) = m ((c : Thread nD τ).loc main_arg2) (ix2 (modRow (((cfg0.win 4).blk t).view.emb y 0).val) (scaleCol (((cfg0.win 4).blk t).view.emb y 1))) := by
    refine Eq.trans ?_ (mods m c _ 0 _)
    blk_point [iblk, V, idx t]
    · exact (congrArg (4096 + ·) er1).symm
  simp only [e]
  rw [e0, e1, e2, e3]

/-- The result array after the run. -/
theorem final (c : Dev nD) : (dats m 0 c).arrAt 4 cfg0.N
    = NORM (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  unfold out0_4
  frame_out
  exact point m c t _

end Cert.NormKernelIdeal.Prod

namespace Cert.Proof.Norm

open Idealize.ShloMosaic Idealize.ShloMosaic.TcCoe
open Idealize.SL Idealize.SL.Sem

open Cert.NormReferenceIdeal Cert.NormReferenceIdeal.Read
open Cert.NormKernelIdeal.Prod (norm NORM rms modRow shiftCol scaleCol)

/-- The reference's normalised image rows, by sample and row. -/
theorem v34 (x : Vec Ideal S9216x4096 .f32) (g : Vec Ideal S2x6x4096 .f32) (a : Vec Ideal S8x36864 .f32) (b : Fin 4) (r : Fin 2048) (j : Fin 4096) :
    val_main_v34 (F := Ideal) x g a (ix3 b r j) = norm x g a ⟨b.1 * 2048 + r.1, by omega⟩ j := by
  simp only [val_main_v34_apply, val_main_v33_apply, val_main_v32_apply, val_main_v31_apply, val_main_v30_apply, val_main_v29_apply, val_main_v28_apply, val_main_v27_apply, val_main_v26_apply, val_main_v25_apply, val_main_v24_apply, val_main_v23_apply, val_main_v22_apply, val_main_v21_apply, val_main_v20_apply, val_main_v19_apply, val_main_v18_apply, val_main_v17_apply, val_main_v16_apply, val_main_v15_apply, val_main_v14_apply, val_main_v13_apply, val_main_v12_apply, val_main_v11_apply, val_main_v10_apply, val_main_v9_apply, val_main_v8_apply, val_main_v5_apply, val_main_v4_apply, val_main_v1_apply, val_main_v0_apply, val_main_cst_apply, val_main_cst_0_apply, val_main_cst_1_apply, val_main_cst_2_apply]
  have e1 : ∀ k : Fin 4096, x (idx_main_v0 (idx_main_v1 (ix3 b r k))) = x (ix2 ⟨b.1 * 2048 + r.1, by omega⟩ k) := fun k =>
    congrArg x (funext fun z => Fin.ext (by
      match z with
      | ⟨0, _⟩ => dsimp [idx_main_v0, idx_main_v1] <;> omega
      | ⟨1, _⟩ => dsimp [idx_main_v0, idx_main_v1] <;> omega))
  have e2 : g (idx_main_v8 (idx_main_v9 (idx_main_v10 (idx_main_v11 (idx_main_v22 (idx_main_v23 (ix3 b r j))))))) = g (ix3 0 0 j) :=
    congrArg g (funext fun z => Fin.ext (by
      match z with
      | ⟨0, _⟩ => dsimp [idx_main_v8, idx_main_v9, idx_main_v10, idx_main_v11, idx_main_v22, idx_main_v23] <;> omega
      | ⟨1, _⟩ => dsimp [idx_main_v8, idx_main_v9, idx_main_v10, idx_main_v11, idx_main_v22, idx_main_v23] <;> omega
      | ⟨2, _⟩ => dsimp [idx_main_v8, idx_main_v9, idx_main_v10, idx_main_v11, idx_main_v22, idx_main_v23] <;> omega))
  have em : (modRow (b.1 * 2048 + r.1)).val = b.1 := by
    show min ((b.1 * 2048 + r.1) / 2048) 4 = b.1
    omega
  have e3 : a (idx_main_v4 (idx_main_v5 (idx_main_v25 (idx_main_v26 (idx_main_v33 (ix3 b r j)))))) = a (ix2 (modRow (b.1 * 2048 + r.1)) (shiftCol j)) :=
    congrArg a (funext fun z => Fin.ext (by
      match z with
      | ⟨0, _⟩ => refine Eq.trans ?_ em.symm; dsimp [idx_main_v4, idx_main_v5, idx_main_v25, idx_main_v26, idx_main_v33] <;> omega
      | ⟨1, _⟩ => dsimp [shiftCol, idx_main_v4, idx_main_v5, idx_main_v25, idx_main_v26, idx_main_v33] <;> omega))
  have e4 : a (idx_main_v4 (idx_main_v5 (idx_main_v27 (idx_main_v28 (idx_main_v31 (ix3 b r j)))))) = a (ix2 (modRow (b.1 * 2048 + r.1)) (scaleCol j)) :=
    congrArg a (funext fun z => Fin.ext (by
      match z with
      | ⟨0, _⟩ => refine Eq.trans ?_ em.symm; dsimp [idx_main_v4, idx_main_v5, idx_main_v27, idx_main_v28, idx_main_v31] <;> omega
      | ⟨1, _⟩ => dsimp [scaleCol, idx_main_v4, idx_main_v5, idx_main_v27, idx_main_v28, idx_main_v31] <;> omega))
  have e5 : ∀ k : Fin 4096, (idx_main_v13 (idx_main_v14 (idx_main_v20 (ix3 b r j))) k) = (ix3 b r k : S4x2048x4096.Idx) := fun k =>
    funext fun z => Fin.ext (by
      match z with
      | ⟨0, _⟩ => rfl
      | ⟨1, _⟩ => rfl
      | ⟨2, _⟩ => rfl)
  simp only [e5, e1]
  rw [e2, e3, e4]
  pointwise [Cert.NormKernelIdeal.Prod.norm, Cert.NormKernelIdeal.Prod.rms]

/-- The reference's normalised context rows, by sample and row. -/
theorem v59 (x : Vec Ideal S9216x4096 .f32) (g : Vec Ideal S2x6x4096 .f32) (a : Vec Ideal S8x36864 .f32) (b : Fin 4) (r : Fin 256) (j : Fin 4096) :
    val_main_v59 (F := Ideal) x g a (ix3 b r j) = norm x g a ⟨8192 + (b.1 * 256 + r.1), by omega⟩ j := by
  simp only [val_main_v59_apply, val_main_v58_apply, val_main_v57_apply, val_main_v56_apply, val_main_v55_apply, val_main_v54_apply, val_main_v53_apply, val_main_v52_apply, val_main_v51_apply, val_main_v50_apply, val_main_v49_apply, val_main_v48_apply, val_main_v47_apply, val_main_v46_apply, val_main_v45_apply, val_main_v44_apply, val_main_v43_apply, val_main_v42_apply, val_main_v41_apply, val_main_v40_apply, val_main_v39_apply, val_main_v38_apply, val_main_v37_apply, val_main_v36_apply, val_main_v35_apply, val_main_v9_apply, val_main_v8_apply, val_main_v7_apply, val_main_v6_apply, val_main_v3_apply, val_main_v2_apply, val_main_cst_3_apply, val_main_cst_4_apply, val_main_cst_5_apply, val_main_cst_6_apply]
  have e1 : ∀ k : Fin 4096, x (idx_main_v2 (idx_main_v3 (ix3 b r k))) = x (ix2 ⟨8192 + (b.1 * 256 + r.1), by omega⟩ k) := fun k =>
    congrArg x (funext fun z => Fin.ext (by
      match z with
      | ⟨0, _⟩ => dsimp [idx_main_v2, idx_main_v3] <;> omega
      | ⟨1, _⟩ => dsimp [idx_main_v2, idx_main_v3] <;> omega))
  have e2 : g (idx_main_v8 (idx_main_v9 (idx_main_v35 (idx_main_v36 (idx_main_v47 (idx_main_v48 (ix3 b r j))))))) = g (ix3 0 0 j) :=
    congrArg g (funext fun z => Fin.ext (by
      match z with
      | ⟨0, _⟩ => dsimp [idx_main_v8, idx_main_v9, idx_main_v35, idx_main_v36, idx_main_v47, idx_main_v48] <;> omega
      | ⟨1, _⟩ => dsimp [idx_main_v8, idx_main_v9, idx_main_v35, idx_main_v36, idx_main_v47, idx_main_v48] <;> omega
      | ⟨2, _⟩ => dsimp [idx_main_v8, idx_main_v9, idx_main_v35, idx_main_v36, idx_main_v47, idx_main_v48] <;> omega))
  have em : (modRow (8192 + (b.1 * 256 + r.1))).val = 4 := by
    show min ((8192 + (b.1 * 256 + r.1)) / 2048) 4 = 4
    omega
  have e3 : a (idx_main_v6 (idx_main_v7 (idx_main_v50 (idx_main_v51 (idx_main_v58 (ix3 b r j)))))) = a (ix2 (modRow (8192 + (b.1 * 256 + r.1))) (shiftCol j)) :=
    congrArg a (funext fun z => Fin.ext (by
      match z with
      | ⟨0, _⟩ => refine Eq.trans ?_ em.symm; dsimp [idx_main_v6, idx_main_v7, idx_main_v50, idx_main_v51, idx_main_v58] <;> omega
      | ⟨1, _⟩ => dsimp [shiftCol, idx_main_v6, idx_main_v7, idx_main_v50, idx_main_v51, idx_main_v58] <;> omega))
  have e4 : a (idx_main_v6 (idx_main_v7 (idx_main_v52 (idx_main_v53 (idx_main_v56 (ix3 b r j)))))) = a (ix2 (modRow (8192 + (b.1 * 256 + r.1))) (scaleCol j)) :=
    congrArg a (funext fun z => Fin.ext (by
      match z with
      | ⟨0, _⟩ => refine Eq.trans ?_ em.symm; dsimp [idx_main_v6, idx_main_v7, idx_main_v52, idx_main_v53, idx_main_v56] <;> omega
      | ⟨1, _⟩ => dsimp [scaleCol, idx_main_v6, idx_main_v7, idx_main_v52, idx_main_v53, idx_main_v56] <;> omega))
  have e5 : ∀ k : Fin 4096, (idx_main_v38 (idx_main_v39 (idx_main_v45 (ix3 b r j))) k) = (ix3 b r k : S4x256x4096.Idx) := fun k =>
    funext fun z => Fin.ext (by
      match z with
      | ⟨0, _⟩ => rfl
      | ⟨1, _⟩ => rfl
      | ⟨2, _⟩ => rfl)
  simp only [e5, e1]
  rw [e2, e3, e4]
  pointwise [Cert.NormKernelIdeal.Prod.norm, Cert.NormKernelIdeal.Prod.rms]

/-- The reference's result is the kernel's. -/
theorem out_eq (x : Vec Ideal S9216x4096 .f32) (g : Vec Ideal S2x6x4096 .f32) (a : Vec Ideal S8x36864 .f32) :
    val_main_v63 (F := Ideal) x g a = NORM x g a := by
  funext i
  rw [val_main_v63_apply]
  unfold val_main_v62
  pointwise
  have h0 : (i 0).val < 9216 := (i 0).isLt
  have h1 : (i 1).val < 4096 := (i 1).isLt
  have hrow : ∀ (n : Fin 9216), n.val = (i 0).val → norm x g a n (i 1) = NORM x g a i := fun n hn =>
    congrArg (fun n => norm x g a n (i 1)) (Fin.ext hn)
  by_cases h : (i 0).val < 8192
  · rw [dif_pos h]
    refine (val_main_v60_apply x g a _).trans ((congrArg _ ?_).trans
      ((v34 x g a ⟨(i 0).val / 2048, by omega⟩ ⟨(i 0).val % 2048, by omega⟩ (i 1)).trans (hrow _ ?_)))
    · funext z
      refine Fin.ext ?_
      match z with
      | ⟨0, _⟩ => dsimp [idx_main_v60] <;> omega
      | ⟨1, _⟩ => dsimp [idx_main_v60] <;> omega
      | ⟨2, _⟩ => dsimp [idx_main_v60] <;> omega
    · show (i 0).val / 2048 * 2048 + (i 0).val % 2048 = (i 0).val
      omega
  · rw [dif_neg h]
    refine (val_main_v61_apply x g a _).trans ((congrArg _ ?_).trans
      ((v59 x g a ⟨((i 0).val - 8192) / 256, by omega⟩ ⟨((i 0).val - 8192) % 256, by omega⟩ (i 1)).trans (hrow _ ?_)))
    · funext z
      refine Fin.ext ?_
      match z with
      | ⟨0, _⟩ => dsimp [idx_main_v61] <;> omega
      | ⟨1, _⟩ => dsimp [idx_main_v61] <;> omega
      | ⟨2, _⟩ => dsimp [idx_main_v61] <;> omega
    · show 8192 + (((i 0).val - 8192) / 256 * 256 + ((i 0).val - 8192) % 256) = (i 0).val
      omega

/-- The two runs of the normalisation end with equal results. -/
theorem algebraic : Cert.algebraic_NormKernelIdeal_NormReferenceIdeal
    (hNormKernelIdeal := Cert.NormKernelIdeal.Gen.facts) (hNormReferenceIdeal := Cert.NormReferenceIdeal.Gen.facts) := by
  letI := Cert.NormKernelIdeal.Gen.facts
  letI := Cert.NormReferenceIdeal.Gen.facts
  pair_intro
  · run_from Cert.NormKernelIdeal.Value.run_blocks m g
  · run_from Cert.NormReferenceIdeal.Value.run m' g'
    rw [Cert.NormKernelIdeal.Prod.final]
    refine Eq.trans ?_ (out_eq _ _ _)
    refine (val_main_v63_eq _ _).trans ?_
    obtain ⟨h0, h1, h2⟩ := hagree c
    rw [← h0, ← h1, ← h2]

end Cert.Proof.Norm
-- ==== Proof.Resid.lean ====
module

public import proofs.«01_k».proof.Defs
public import proofs.«01_k».proof.Proof.Gen.ResidKernelIdeal.Value
public import proofs.«01_k».proof.Proof.Gen.ResidReferenceIdeal.Run
public import proofs.«01_k».proof.Proof.Gen.ResidReferenceIdeal.Read
public import Idealize.ShloMosaic.Lib.Pipeline.ValueKit
public import Idealize.ShloMosaic.Lib.Pipeline.ReadBack
public import Idealize.ShloMosaic.Lib.StableHlo.ReadAt
public import Idealize.ShloMosaic.Lib.Pointwise
public import Idealize.ShloMosaic.Lib.Claim

/-! The residual addition after the attention: the projected output is normalised, scaled by half the gate and added to
    the activations; the sum is stored, and its normalised, scaled and shifted rows too. Computed in 36 blocks of 256
    rows. -/

@[expose] public section

set_option maxRecDepth 16384

noncomputable section

namespace Cert.ResidKernelIdeal.Prod

open Idealize.ShloMosaic Idealize.ShloMosaic.TcCoe
open Idealize.SL Idealize.SL.Sem
open Cert.ResidKernelIdeal.Gen

variable (m : (ℓ : Loc nD τ sig) → Buf (Elt Ideal) ℓ)

/-- The modulation row of a row of activations: the sample's for the 4 × 2048 image rows, row 4 for the context rows. -/
def modRow (r : Nat) : Fin 8 := ⟨min (r / 2048) 4, by omega⟩

/-- The block indices of the nine windows at grid point `t`. -/
theorem idx : ∀ t : Fin cfg0.N, win0_0.index t = ![t.val, 0] ∧ win0_1.index t = ![t.val, 0] ∧ win0_2.index t = ![1, 0, 0]
    ∧ win0_3.index t = ![min (t.val * 256 / 2048) 4, 0, 2] ∧ win0_4.index t = ![2, 0, 0]
    ∧ win0_5.index t = ![min (t.val * 256 / 2048) 4, 0, 3] ∧ win0_6.index t = ![min (t.val * 256 / 2048) 4, 0, 4]
    ∧ win0_7.index t = ![t.val, 0] ∧ win0_8.index t = ![t.val, 0] :=
  (by decide +kernel : ∀ t : Fin grid0.N, _)

/-- The modulation array the region reads is the argument with a unit axis inserted. -/
theorem mods (c : Dev nD) (l : Fin 8) (z : Fin 1) (j : Fin 36864) :
    V m c main_v1 (ix3 l z j) = m ((c : Thread nD τ).loc main_arg3) (ix2 l j) := by
  unfold V
  after_reads_at

/-- The second gain the region reads is the argument's. -/
theorem gain1 (c : Dev nD) (z : Fin 1) (j : Fin 4096) :
    V m c main_v0 (ix3 1 z j) = m ((c : Thread nD τ).loc main_arg2) (ix3 0 1 j) := by
  unfold V
  after_reads_at

/-- The third gain the region reads is the argument's. -/
theorem gain2 (c : Dev nD) (z : Fin 1) (j : Fin 4096) :
    V m c main_v0 (ix3 2 z j) = m ((c : Thread nD τ).loc main_arg2) (ix3 0 2 j) := by
  unfold V
  after_reads_at

/-- One over the root mean square of a row. -/
def inv (x : Fin 4096 → Ideal .f32) : Ideal .f32 :=
  Ideal.rsqrt (Ideal.div (∑ k : Fin 4096, x k * x k) (Ideal.ofBits .f32 0x45800000#32) + Ideal.ofBits .f32 0x358637BD#32)

/-- The column of a modulation row that gates column `j`. -/
def gateCol (j : Fin 4096) : Fin 36864 := ⟨8192 + j.1, by omega⟩

/-- The column of a modulation row that shifts column `j`. -/
def shiftCol (j : Fin 4096) : Fin 36864 := ⟨12288 + j.1, by omega⟩

/-- The column of a modulation row that scales column `j`. -/
def scaleCol (j : Fin 4096) : Fin 36864 := ⟨16384 + j.1, by omega⟩

/-- The sum at row `r` and column `j`. -/
def resid (x y : Vec Ideal S9216x4096 .f32) (g : Vec Ideal S2x6x4096 .f32) (a : Vec Ideal S8x36864 .f32) (r : Fin 9216) (j : Fin 4096) : Ideal .f32 :=
  x (ix2 r j) + Ideal.ofBits .f32 0x3F000000#32 * a (ix2 (modRow r.1) (gateCol j)) * (y (ix2 r j) * inv (fun k => y (ix2 r k)) * g (ix3 0 1 j))

/-- The normalised sum at row `r` and column `j`. -/
def norm (x y : Vec Ideal S9216x4096 .f32) (g : Vec Ideal S2x6x4096 .f32) (a : Vec Ideal S8x36864 .f32) (r : Fin 9216) (j : Fin 4096) : Ideal .f32 :=
  resid x y g a r j * inv (fun k => resid x y g a r k) * g (ix3 0 2 j) * (1 + a (ix2 (modRow r.1) (scaleCol j))) + a (ix2 (modRow r.1) (shiftCol j))

/-- The first result array: the sums. -/
def RESID (x y : Vec Ideal S9216x4096 .f32) (g : Vec Ideal S2x6x4096 .f32) (a : Vec Ideal S8x36864 .f32) : Vec Ideal S9216x4096 .f32 := fun i =>
  resid x y g a (i 0) (i 1)

/-- The second result array: the normalised sums. -/
def NORM (x y : Vec Ideal S9216x4096 .f32) (g : Vec Ideal S2x6x4096 .f32) (a : Vec Ideal S8x36864 .f32) : Vec Ideal S9216x4096 .bf16 := fun i =>
  norm x y g a (i 0) (i 1)

/-- Row `y` of block `t`. -/
def row (t : Fin cfg0.N) (y : Fin 256) : Fin 9216 := ⟨t.val * 256 + y.1, by have : t.val < 36 := t.isLt; omega⟩

/-- A row of block `t` takes the modulation row of the block. -/
theorem modRow_row (t : Fin cfg0.N) (y : Fin 256) : min (t.val * 256 / 2048) 4 + 0 = (modRow (row t y).val).val := by
  show _ = min ((t.val * 256 + y.1) / 2048) 4
  omega

/-- Block `t` of the activations. -/
theorem blk0 (c : Dev nD) (t : Fin cfg0.N) (y : Fin 256) (j : Fin 4096) :
    iblk m c 0 t (ix2 y j) = m ((c : Thread nD τ).loc main_arg0) (ix2 (row t y) j) := by
  unfold row
  blk_point [iblk, V, idx t]

/-- Block `t` of the projected output. -/
theorem blk1 (c : Dev nD) (t : Fin cfg0.N) (y : Fin 256) (j : Fin 4096) :
    iblk m c 1 t (ix2 y j) = m ((c : Thread nD τ).loc main_arg1) (ix2 (row t y) j) := by
  unfold row
  blk_point [iblk, V, idx t]

/-- The gain of the projected output. -/
theorem blk2 (c : Dev nD) (t : Fin cfg0.N) (j : Fin 4096) :
    iblk m c 2 t (ix3 0 0 j) = m ((c : Thread nD τ).loc main_arg2) (ix3 0 1 j) := by
  refine Eq.trans ?_ (gain1 m c 0 _)
  blk_point [iblk, V, idx t]

/-- The gain of the sum. -/
theorem blk4 (c : Dev nD) (t : Fin cfg0.N) (j : Fin 4096) :
    iblk m c 4 t (ix3 0 0 j) = m ((c : Thread nD τ).loc main_arg2) (ix3 0 2 j) := by
  refine Eq.trans ?_ (gain2 m c 0 _)
  blk_point [iblk, V, idx t]

/-- The gates of block `t`. -/
theorem blk3 (c : Dev nD) (t : Fin cfg0.N) (y : Fin 256) (j : Fin 4096) :
    iblk m c 3 t (ix3 0 0 j) = m ((c : Thread nD τ).loc main_arg3) (ix2 (modRow (row t y).val) (gateCol j)) := by
  refine Eq.trans ?_ (mods m c _ 0 _)
  have em := modRow_row t y
  unfold gateCol
  blk_point [iblk, V, idx t]

/-- The shifts of block `t`. -/
theorem blk5 (c : Dev nD) (t : Fin cfg0.N) (y : Fin 256) (j : Fin 4096) :
    iblk m c 5 t (ix3 0 0 j) = m ((c : Thread nD τ).loc main_arg3) (ix2 (modRow (row t y).val) (shiftCol j)) := by
  refine Eq.trans ?_ (mods m c _ 0 _)
  have em := modRow_row t y
  unfold shiftCol
  blk_point [iblk, V, idx t]

/-- The scales of block `t`. -/
theorem blk6 (c : Dev nD) (t : Fin cfg0.N) (y : Fin 256) (j : Fin 4096) :
    iblk m c 6 t (ix3 0 0 j) = m ((c : Thread nD τ).loc main_arg3) (ix2 (modRow (row t y).val) (scaleCol j)) := by
  refine Eq.trans ?_ (mods m c _ 0 _)
  have em := modRow_row t y
  unfold scaleCol
  blk_point [iblk, V, idx t]

/-- The sum as the body computes it at grid point `t`. -/
theorem pay2 (c : Dev nD) (t : Fin cfg0.N) (y : Fin 256) (j : Fin 4096) :
    k0_pay2 (iblk m c 0 t) (iblk m c 3 t) (iblk m c 1 t) (iblk m c 2 t) (ix2 y j)
      = resid (m ((c : Thread nD τ).loc main_arg0)) (m ((c : Thread nD τ).loc main_arg1)) (m ((c : Thread nD τ).loc main_arg2)) (m ((c : Thread nD τ).loc main_arg3)) (row t y) j := by
  pointwise [k0_pay2, resid, inv]
  simp only [blk0, blk1, blk2, blk3 m c t y]

/-- The normalised sum as the body computes it at grid point `t`. -/
theorem pay1 (c : Dev nD) (t : Fin cfg0.N) (y : Fin 256) (j : Fin 4096) :
    k0_pay1 (k0_pay3 (iblk m c 4 t)) (k0_pay4 (iblk m c 0 t) (iblk m c 3 t) (iblk m c 1 t) (iblk m c 2 t)) (iblk m c 6 t) (iblk m c 5 t) (ix2 y j)
      = norm (m ((c : Thread nD τ).loc main_arg0)) (m ((c : Thread nD τ).loc main_arg1)) (m ((c : Thread nD τ).loc main_arg2)) (m ((c : Thread nD τ).loc main_arg3)) (row t y) j := by
  have e := pay2 m c t y
  unfold k0_pay4
  generalize k0_pay2 (iblk m c 0 t) (iblk m c 3 t) (iblk m c 1 t) (iblk m c 2 t) = p at e ⊢
  pointwise [k0_pay1, k0_pay3, norm, inv]
  simp only [e, blk4, blk5 m c t y, blk6 m c t y]

/-- The first result array after the run. -/
theorem final7 (c : Dev nD) : (dats m 0 c).arrAt 7 cfg0.N
    = RESID (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  have h0 : (((cfg0.win 7).blk t).view.emb y 0).val = t.val * 256 + (y 0).val := by
    blk_simp [idx t]
  have h1 : (((cfg0.win 7).blk t).view.emb y 1).val = (y 1).val := by
    blk_simp [idx t]
  have ey : y = ix2 (y 0) (y 1) := by funext a; match a with | ⟨0, _⟩ => rfl | ⟨1, _⟩ => rfl
  blk_simp
  rw [after0_7]
  unfold out0_7
  frame_out
  refine (congrArg _ ey).trans ((pay2 m c t (y 0) (y 1)).trans ?_)
  exact (congrArg₂ (resid (m ((c : Thread nD τ).loc main_arg0)) (m ((c : Thread nD τ).loc main_arg1)) (m ((c : Thread nD τ).loc main_arg2)) (m ((c : Thread nD τ).loc main_arg3)))
    (Fin.ext h0) (Fin.ext h1)).symm

/-- The second result array after the run. -/
theorem final8 (c : Dev nD) : (dats m 0 c).arrAt 8 cfg0.N
    = NORM (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t hf y => ?_
  have h0 : (((cfg0.win 8).blk t).view.emb y 0).val = t.val * 256 + (y 0).val := by
    blk_simp [idx t]
  have h1 : (((cfg0.win 8).blk t).view.emb y 1).val = (y 1).val := by
    blk_simp [idx t]
  have ey : y = ix2 (y 0) (y 1) := by funext a; match a with | ⟨0, _⟩ => rfl | ⟨1, _⟩ => rfl
  blk_simp
  rw [after0_8]
  unfold out0_8
  frame_out
  refine (congrArg _ ey).trans ((pay1 m c t (y 0) (y 1)).trans ?_)
  exact (congrArg₂ (norm (m ((c : Thread nD τ).loc main_arg0)) (m ((c : Thread nD τ).loc main_arg1)) (m ((c : Thread nD τ).loc main_arg2)) (m ((c : Thread nD τ).loc main_arg3)))
    (Fin.ext h0) (Fin.ext h1)).symm

end Cert.ResidKernelIdeal.Prod

namespace Cert.Proof.Resid

open Idealize.ShloMosaic Idealize.ShloMosaic.TcCoe
open Idealize.SL Idealize.SL.Sem
open Cert.ResidReferenceIdeal Cert.ResidReferenceIdeal.Read
open Cert.ResidKernelIdeal.Prod (resid norm RESID NORM inv modRow gateCol shiftCol scaleCol)

/-- The reference's sums of the image rows, by sample and row. -/
theorem v35 (x y : Vec Ideal S9216x4096 .f32) (g : Vec Ideal S2x6x4096 .f32) (a : Vec Ideal S8x36864 .f32) (b : Fin 4) (r : Fin 2048) (j : Fin 4096) :
    val_main_v35 (F := Ideal) x y g a (ix3 b r j) = resid x y g a ⟨b.1 * 2048 + r.1, by omega⟩ j := by
  simp only [val_main_v35_apply, val_main_v34_apply, val_main_v33_apply, val_main_v32_apply, val_main_v31_apply, val_main_v30_apply, val_main_v29_apply, val_main_v28_apply, val_main_v27_apply, val_main_v26_apply, val_main_v25_apply, val_main_v24_apply, val_main_v23_apply, val_main_v22_apply, val_main_v21_apply, val_main_v20_apply, val_main_v19_apply, val_main_v18_apply, val_main_v17_apply, val_main_v16_apply, val_main_v15_apply, val_main_v14_apply, val_main_v13_apply, val_main_v12_apply, val_main_v9_apply, val_main_v8_apply, val_main_v5_apply, val_main_v4_apply, val_main_v1_apply, val_main_v0_apply, val_main_cst_apply, val_main_cst_0_apply, val_main_cst_1_apply, val_main_cst_2_apply]
  have e5 : ∀ k : Fin 4096, idx_main_v21 (idx_main_v22 (idx_main_v28 (ix3 b r j))) k = (ix3 b r k : S4x2048x4096.Idx) := fun k =>
    funext fun z => Fin.ext (by
      match z with
      | ⟨0, _⟩ => rfl
      | ⟨1, _⟩ => rfl
      | ⟨2, _⟩ => rfl)
  have ex : ∀ k : Fin 4096, x (idx_main_v0 (idx_main_v1 (ix3 b r k))) = x (ix2 ⟨b.1 * 2048 + r.1, by omega⟩ k) := fun k =>
    congrArg x (funext fun z => Fin.ext (by
      match z with
      | ⟨0, _⟩ => dsimp [idx_main_v0, idx_main_v1] <;> omega
      | ⟨1, _⟩ => dsimp [idx_main_v0, idx_main_v1] <;> omega))
  have ey : ∀ k : Fin 4096, y (idx_main_v4 (idx_main_v5 (ix3 b r k))) = y (ix2 ⟨b.1 * 2048 + r.1, by omega⟩ k) := fun k =>
    congrArg y (funext fun z => Fin.ext (by
      match z with
      | ⟨0, _⟩ => dsimp [idx_main_v4, idx_main_v5] <;> omega
      | ⟨1, _⟩ => dsimp [idx_main_v4, idx_main_v5] <;> omega))
  have eg : g (idx_main_v12 (idx_main_v13 (idx_main_v18 (idx_main_v19 (idx_main_v30 (idx_main_v31 (ix3 b r j))))))) = g (ix3 0 1 j) :=
    congrArg g (funext fun z => Fin.ext (by
      match z with
      | ⟨0, _⟩ => dsimp [idx_main_v12, idx_main_v13, idx_main_v18, idx_main_v19, idx_main_v30, idx_main_v31] <;> omega
      | ⟨1, _⟩ => dsimp [idx_main_v12, idx_main_v13, idx_main_v18, idx_main_v19, idx_main_v30, idx_main_v31] <;> omega
      | ⟨2, _⟩ => dsimp [idx_main_v12, idx_main_v13, idx_main_v18, idx_main_v19, idx_main_v30, idx_main_v31] <;> omega))
  have em : (modRow (b.1 * 2048 + r.1)).val = b.1 := by
    show min ((b.1 * 2048 + r.1) / 2048) 4 = b.1
    omega
  have ea : a (idx_main_v8 (idx_main_v9 (idx_main_v14 (idx_main_v15 (idx_main_v33 (ix3 b r j)))))) = a (ix2 (modRow (b.1 * 2048 + r.1)) (gateCol j)) :=
    congrArg a (funext fun z => Fin.ext (by
      match z with
      | ⟨0, _⟩ => refine Eq.trans ?_ em.symm; dsimp [idx_main_v8, idx_main_v9, idx_main_v14, idx_main_v15, idx_main_v33] <;> omega
      | ⟨1, _⟩ => dsimp [gateCol, idx_main_v8, idx_main_v9, idx_main_v14, idx_main_v15, idx_main_v33] <;> omega))
  simp only [e5, ex, ey]
  rw [eg, ea]
  pointwise [Cert.ResidKernelIdeal.Prod.resid, Cert.ResidKernelIdeal.Prod.inv]

/-- The reference's sums of the context rows, by sample and row. -/
theorem v57 (x y : Vec Ideal S9216x4096 .f32) (g : Vec Ideal S2x6x4096 .f32) (a : Vec Ideal S8x36864 .f32) (b : Fin 4) (r : Fin 256) (j : Fin 4096) :
    val_main_v57 (F := Ideal) x y g a (ix3 b r j) = resid x y g a ⟨8192 + (b.1 * 256 + r.1), by omega⟩ j := by
  simp only [val_main_v57_apply, val_main_v56_apply, val_main_v55_apply, val_main_v54_apply, val_main_v53_apply, val_main_v52_apply, val_main_v51_apply, val_main_v50_apply, val_main_v49_apply, val_main_v48_apply, val_main_v47_apply, val_main_v46_apply, val_main_v45_apply, val_main_v44_apply, val_main_v43_apply, val_main_v42_apply, val_main_v41_apply, val_main_v40_apply, val_main_v39_apply, val_main_v38_apply, val_main_v37_apply, val_main_v36_apply, val_main_v13_apply, val_main_v12_apply, val_main_v11_apply, val_main_v10_apply, val_main_v7_apply, val_main_v6_apply, val_main_v3_apply, val_main_v2_apply, val_main_cst_3_apply, val_main_cst_4_apply, val_main_cst_5_apply, val_main_cst_6_apply]
  have e5 : ∀ k : Fin 4096, idx_main_v43 (idx_main_v44 (idx_main_v50 (ix3 b r j))) k = (ix3 b r k : S4x256x4096.Idx) := fun k =>
    funext fun z => Fin.ext (by
      match z with
      | ⟨0, _⟩ => rfl
      | ⟨1, _⟩ => rfl
      | ⟨2, _⟩ => rfl)
  have ex : ∀ k : Fin 4096, x (idx_main_v2 (idx_main_v3 (ix3 b r k))) = x (ix2 ⟨8192 + (b.1 * 256 + r.1), by omega⟩ k) := fun k =>
    congrArg x (funext fun z => Fin.ext (by
      match z with
      | ⟨0, _⟩ => dsimp [idx_main_v2, idx_main_v3] <;> omega
      | ⟨1, _⟩ => dsimp [idx_main_v2, idx_main_v3] <;> omega))
  have ey : ∀ k : Fin 4096, y (idx_main_v6 (idx_main_v7 (ix3 b r k))) = y (ix2 ⟨8192 + (b.1 * 256 + r.1), by omega⟩ k) := fun k =>
    congrArg y (funext fun z => Fin.ext (by
      match z with
      | ⟨0, _⟩ => dsimp [idx_main_v6, idx_main_v7] <;> omega
      | ⟨1, _⟩ => dsimp [idx_main_v6, idx_main_v7] <;> omega))
  have eg : g (idx_main_v12 (idx_main_v13 (idx_main_v40 (idx_main_v41 (idx_main_v52 (idx_main_v53 (ix3 b r j))))))) = g (ix3 0 1 j) :=
    congrArg g (funext fun z => Fin.ext (by
      match z with
      | ⟨0, _⟩ => dsimp [idx_main_v12, idx_main_v13, idx_main_v40, idx_main_v41, idx_main_v52, idx_main_v53] <;> omega
      | ⟨1, _⟩ => dsimp [idx_main_v12, idx_main_v13, idx_main_v40, idx_main_v41, idx_main_v52, idx_main_v53] <;> omega
      | ⟨2, _⟩ => dsimp [idx_main_v12, idx_main_v13, idx_main_v40, idx_main_v41, idx_main_v52, idx_main_v53] <;> omega))
  have em : (modRow (8192 + (b.1 * 256 + r.1))).val = 4 := by
    show min ((8192 + (b.1 * 256 + r.1)) / 2048) 4 = 4
    omega
  have ea : a (idx_main_v10 (idx_main_v11 (idx_main_v36 (idx_main_v37 (idx_main_v55 (ix3 b r j)))))) = a (ix2 (modRow (8192 + (b.1 * 256 + r.1))) (gateCol j)) :=
    congrArg a (funext fun z => Fin.ext (by
      match z with
      | ⟨0, _⟩ => refine Eq.trans ?_ em.symm; dsimp [idx_main_v10, idx_main_v11, idx_main_v36, idx_main_v37, idx_main_v55] <;> omega
      | ⟨1, _⟩ => dsimp [gateCol, idx_main_v10, idx_main_v11, idx_main_v36, idx_main_v37, idx_main_v55] <;> omega))
  simp only [e5, ex, ey]
  rw [eg, ea]
  pointwise [Cert.ResidKernelIdeal.Prod.resid, Cert.ResidKernelIdeal.Prod.inv]

/-- The reference's normalised sums of the image rows, by sample and row. -/
theorem v82 (x y : Vec Ideal S9216x4096 .f32) (g : Vec Ideal S2x6x4096 .f32) (a : Vec Ideal S8x36864 .f32) (b : Fin 4) (r : Fin 2048) (j : Fin 4096) :
    val_main_v82 (F := Ideal) x y g a (ix3 b r j) = norm x y g a ⟨b.1 * 2048 + r.1, by omega⟩ j := by
  simp only [val_main_v82_apply, val_main_v81_apply, val_main_v80_apply, val_main_v79_apply, val_main_v78_apply, val_main_v77_apply, val_main_v76_apply, val_main_v75_apply, val_main_v74_apply, val_main_v73_apply, val_main_v72_apply, val_main_v71_apply, val_main_v70_apply, val_main_v69_apply, val_main_v68_apply, val_main_v67_apply, val_main_v66_apply, val_main_v65_apply, val_main_v64_apply, val_main_v63_apply, val_main_v62_apply, val_main_v61_apply, val_main_v60_apply, val_main_v59_apply, val_main_v58_apply, val_main_v13_apply, val_main_v12_apply, val_main_v9_apply, val_main_v8_apply, val_main_cst_7_apply, val_main_cst_8_apply, val_main_cst_9_apply, val_main_cst_10_apply]
  have e5 : ∀ k : Fin 4096, idx_main_v61 (idx_main_v62 (idx_main_v68 (ix3 b r j))) k = (ix3 b r k : S4x2048x4096.Idx) := fun k =>
    funext fun z => Fin.ext (by
      match z with
      | ⟨0, _⟩ => rfl
      | ⟨1, _⟩ => rfl
      | ⟨2, _⟩ => rfl)
  have eg : g (idx_main_v12 (idx_main_v13 (idx_main_v58 (idx_main_v59 (idx_main_v70 (idx_main_v71 (ix3 b r j))))))) = g (ix3 0 2 j) :=
    congrArg g (funext fun z => Fin.ext (by
      match z with
      | ⟨0, _⟩ => dsimp [idx_main_v12, idx_main_v13, idx_main_v58, idx_main_v59, idx_main_v70, idx_main_v71] <;> omega
      | ⟨1, _⟩ => dsimp [idx_main_v12, idx_main_v13, idx_main_v58, idx_main_v59, idx_main_v70, idx_main_v71] <;> omega
      | ⟨2, _⟩ => dsimp [idx_main_v12, idx_main_v13, idx_main_v58, idx_main_v59, idx_main_v70, idx_main_v71] <;> omega))
  have em : (modRow (b.1 * 2048 + r.1)).val = b.1 := by
    show min ((b.1 * 2048 + r.1) / 2048) 4 = b.1
    omega
  have es : a (idx_main_v8 (idx_main_v9 (idx_main_v73 (idx_main_v74 (idx_main_v81 (ix3 b r j)))))) = a (ix2 (modRow (b.1 * 2048 + r.1)) (shiftCol j)) :=
    congrArg a (funext fun z => Fin.ext (by
      match z with
      | ⟨0, _⟩ => refine Eq.trans ?_ em.symm; dsimp [idx_main_v8, idx_main_v9, idx_main_v73, idx_main_v74, idx_main_v81] <;> omega
      | ⟨1, _⟩ => dsimp [shiftCol, idx_main_v8, idx_main_v9, idx_main_v73, idx_main_v74, idx_main_v81] <;> omega))
  have ec : a (idx_main_v8 (idx_main_v9 (idx_main_v75 (idx_main_v76 (idx_main_v79 (ix3 b r j)))))) = a (ix2 (modRow (b.1 * 2048 + r.1)) (scaleCol j)) :=
    congrArg a (funext fun z => Fin.ext (by
      match z with
      | ⟨0, _⟩ => refine Eq.trans ?_ em.symm; dsimp [idx_main_v8, idx_main_v9, idx_main_v75, idx_main_v76, idx_main_v79] <;> omega
      | ⟨1, _⟩ => dsimp [scaleCol, idx_main_v8, idx_main_v9, idx_main_v75, idx_main_v76, idx_main_v79] <;> omega))
  simp only [e5, v35]
  rw [eg, es, ec]
  pointwise [Cert.ResidKernelIdeal.Prod.norm, Cert.ResidKernelIdeal.Prod.inv]

/-- The reference's normalised sums of the context rows, by sample and row. -/
theorem v107 (x y : Vec Ideal S9216x4096 .f32) (g : Vec Ideal S2x6x4096 .f32) (a : Vec Ideal S8x36864 .f32) (b : Fin 4) (r : Fin 256) (j : Fin 4096) :
    val_main_v107 (F := Ideal) x y g a (ix3 b r j) = norm x y g a ⟨8192 + (b.1 * 256 + r.1), by omega⟩ j := by
  simp only [val_main_v107_apply, val_main_v106_apply, val_main_v105_apply, val_main_v104_apply, val_main_v103_apply, val_main_v102_apply, val_main_v101_apply, val_main_v100_apply, val_main_v99_apply, val_main_v98_apply, val_main_v97_apply, val_main_v96_apply, val_main_v95_apply, val_main_v94_apply, val_main_v93_apply, val_main_v92_apply, val_main_v91_apply, val_main_v90_apply, val_main_v89_apply, val_main_v88_apply, val_main_v87_apply, val_main_v86_apply, val_main_v85_apply, val_main_v84_apply, val_main_v83_apply, val_main_v13_apply, val_main_v12_apply, val_main_v11_apply, val_main_v10_apply, val_main_cst_11_apply, val_main_cst_12_apply, val_main_cst_13_apply, val_main_cst_14_apply]
  have e5 : ∀ k : Fin 4096, idx_main_v86 (idx_main_v87 (idx_main_v93 (ix3 b r j))) k = (ix3 b r k : S4x256x4096.Idx) := fun k =>
    funext fun z => Fin.ext (by
      match z with
      | ⟨0, _⟩ => rfl
      | ⟨1, _⟩ => rfl
      | ⟨2, _⟩ => rfl)
  have eg : g (idx_main_v12 (idx_main_v13 (idx_main_v83 (idx_main_v84 (idx_main_v95 (idx_main_v96 (ix3 b r j))))))) = g (ix3 0 2 j) :=
    congrArg g (funext fun z => Fin.ext (by
      match z with
      | ⟨0, _⟩ => dsimp [idx_main_v12, idx_main_v13, idx_main_v83, idx_main_v84, idx_main_v95, idx_main_v96] <;> omega
      | ⟨1, _⟩ => dsimp [idx_main_v12, idx_main_v13, idx_main_v83, idx_main_v84, idx_main_v95, idx_main_v96] <;> omega
      | ⟨2, _⟩ => dsimp [idx_main_v12, idx_main_v13, idx_main_v83, idx_main_v84, idx_main_v95, idx_main_v96] <;> omega))
  have em : (modRow (8192 + (b.1 * 256 + r.1))).val = 4 := by
    show min ((8192 + (b.1 * 256 + r.1)) / 2048) 4 = 4
    omega
  have es : a (idx_main_v10 (idx_main_v11 (idx_main_v98 (idx_main_v99 (idx_main_v106 (ix3 b r j)))))) = a (ix2 (modRow (8192 + (b.1 * 256 + r.1))) (shiftCol j)) :=
    congrArg a (funext fun z => Fin.ext (by
      match z with
      | ⟨0, _⟩ => refine Eq.trans ?_ em.symm; dsimp [idx_main_v10, idx_main_v11, idx_main_v98, idx_main_v99, idx_main_v106] <;> omega
      | ⟨1, _⟩ => dsimp [shiftCol, idx_main_v10, idx_main_v11, idx_main_v98, idx_main_v99, idx_main_v106] <;> omega))
  have ec : a (idx_main_v10 (idx_main_v11 (idx_main_v100 (idx_main_v101 (idx_main_v104 (ix3 b r j)))))) = a (ix2 (modRow (8192 + (b.1 * 256 + r.1))) (scaleCol j)) :=
    congrArg a (funext fun z => Fin.ext (by
      match z with
      | ⟨0, _⟩ => refine Eq.trans ?_ em.symm; dsimp [idx_main_v10, idx_main_v11, idx_main_v100, idx_main_v101, idx_main_v104] <;> omega
      | ⟨1, _⟩ => dsimp [scaleCol, idx_main_v10, idx_main_v11, idx_main_v100, idx_main_v101, idx_main_v104] <;> omega))
  simp only [e5, v57]
  rw [eg, es, ec]
  pointwise [Cert.ResidKernelIdeal.Prod.norm, Cert.ResidKernelIdeal.Prod.inv]

/-- The reference's first result is the kernel's. -/
theorem out113 (x y : Vec Ideal S9216x4096 .f32) (g : Vec Ideal S2x6x4096 .f32) (a : Vec Ideal S8x36864 .f32) :
    val_main_v113 (F := Ideal) x y g a = RESID x y g a := by
  funext i
  unfold val_main_v113
  pointwise
  have h0 : (i 0).val < 9216 := (i 0).isLt
  have h1 : (i 1).val < 4096 := (i 1).isLt
  have hrow : ∀ (n : Fin 9216), n.val = (i 0).val → resid x y g a n (i 1) = RESID x y g a i := fun n hn =>
    congrArg (fun n => resid x y g a n (i 1)) (Fin.ext hn)
  by_cases h : (i 0).val < 8192
  · rw [dif_pos h]
    refine (val_main_v111_apply x y g a _).trans ((congrArg _ ?_).trans
      ((v35 x y g a ⟨(i 0).val / 2048, by omega⟩ ⟨(i 0).val % 2048, by omega⟩ (i 1)).trans (hrow _ ?_)))
    · funext z
      refine Fin.ext ?_
      match z with
      | ⟨0, _⟩ => dsimp [idx_main_v111] <;> omega
      | ⟨1, _⟩ => dsimp [idx_main_v111] <;> omega
      | ⟨2, _⟩ => dsimp [idx_main_v111] <;> omega
    · show (i 0).val / 2048 * 2048 + (i 0).val % 2048 = (i 0).val
      omega
  · rw [dif_neg h]
    refine (val_main_v112_apply x y g a _).trans ((congrArg _ ?_).trans
      ((v57 x y g a ⟨((i 0).val - 8192) / 256, by omega⟩ ⟨((i 0).val - 8192) % 256, by omega⟩ (i 1)).trans (hrow _ ?_)))
    · funext z
      refine Fin.ext ?_
      match z with
      | ⟨0, _⟩ => dsimp [idx_main_v112] <;> omega
      | ⟨1, _⟩ => dsimp [idx_main_v112] <;> omega
      | ⟨2, _⟩ => dsimp [idx_main_v112] <;> omega
    · show 8192 + (((i 0).val - 8192) / 256 * 256 + ((i 0).val - 8192) % 256) = (i 0).val
      omega

/-- The reference's second result is the kernel's. -/
theorem out114 (x y : Vec Ideal S9216x4096 .f32) (g : Vec Ideal S2x6x4096 .f32) (a : Vec Ideal S8x36864 .f32) :
    val_main_v114 (F := Ideal) x y g a = NORM x y g a := by
  funext i
  rw [val_main_v114_apply]
  unfold val_main_v110
  pointwise
  have h0 : (i 0).val < 9216 := (i 0).isLt
  have h1 : (i 1).val < 4096 := (i 1).isLt
  have hrow : ∀ (n : Fin 9216), n.val = (i 0).val → norm x y g a n (i 1) = NORM x y g a i := fun n hn =>
    congrArg (fun n => norm x y g a n (i 1)) (Fin.ext hn)
  by_cases h : (i 0).val < 8192
  · rw [dif_pos h]
    refine (val_main_v108_apply x y g a _).trans ((congrArg _ ?_).trans
      ((v82 x y g a ⟨(i 0).val / 2048, by omega⟩ ⟨(i 0).val % 2048, by omega⟩ (i 1)).trans (hrow _ ?_)))
    · funext z
      refine Fin.ext ?_
      match z with
      | ⟨0, _⟩ => dsimp [idx_main_v108] <;> omega
      | ⟨1, _⟩ => dsimp [idx_main_v108] <;> omega
      | ⟨2, _⟩ => dsimp [idx_main_v108] <;> omega
    · show (i 0).val / 2048 * 2048 + (i 0).val % 2048 = (i 0).val
      omega
  · rw [dif_neg h]
    refine (val_main_v109_apply x y g a _).trans ((congrArg _ ?_).trans
      ((v107 x y g a ⟨((i 0).val - 8192) / 256, by omega⟩ ⟨((i 0).val - 8192) % 256, by omega⟩ (i 1)).trans (hrow _ ?_)))
    · funext z
      refine Fin.ext ?_
      match z with
      | ⟨0, _⟩ => dsimp [idx_main_v109] <;> omega
      | ⟨1, _⟩ => dsimp [idx_main_v109] <;> omega
      | ⟨2, _⟩ => dsimp [idx_main_v109] <;> omega
    · show 8192 + (((i 0).val - 8192) / 256 * 256 + ((i 0).val - 8192) % 256) = (i 0).val
      omega

/-- The two runs of the residual addition end with equal results, both of them. -/
theorem algebraic : Cert.algebraic_ResidKernelIdeal_ResidReferenceIdeal
    (hResidKernelIdeal := Cert.ResidKernelIdeal.Gen.facts) (hResidReferenceIdeal := Cert.ResidReferenceIdeal.Gen.facts) := by
  letI := Cert.ResidKernelIdeal.Gen.facts
  letI := Cert.ResidReferenceIdeal.Gen.facts
  pair_intro
  · run_from Cert.ResidKernelIdeal.Value.run_blocks m g
  · run_from Cert.ResidReferenceIdeal.Value.run m' g'
    · rw [Cert.ResidKernelIdeal.Prod.final7]
      refine Eq.trans ?_ (out113 _ _ _ _)
      refine (val_main_v113_eq _ _).trans ?_
      obtain ⟨h0, h1, h2, h3⟩ := hagree c
      rw [← h0, ← h1, ← h2, ← h3]
    · rw [Cert.ResidKernelIdeal.Prod.final8]
      refine Eq.trans ?_ (out114 _ _ _ _)
      refine (val_main_v114_eq _ _).trans ?_
      obtain ⟨h0, h1, h2, h3⟩ := hagree c
      rw [← h0, ← h1, ← h2, ← h3]

end Cert.Proof.Resid
-- ==== Proof.Ctx.lean ====
module

public import proofs.«01_k».proof.Defs
public import proofs.«01_k».proof.Proof.Gen.CtxKernelIdeal.Value
public import proofs.«01_k».proof.Proof.Gen.CtxReferenceIdeal.Run
public import proofs.«01_k».proof.Proof.Gen.CtxReferenceIdeal.Read
public import proofs.«01_k».proof.Proof.Gen.Pre_finite_ctx
public import proofs.«01_k».proof.Proof.Attn
public import Idealize.ShloMosaic.Lib.Pipeline.ValueKit
public import Idealize.ShloMosaic.Lib.Pipeline.ReadBack
public import Idealize.ShloMosaic.Lib.Pointwise
public import Idealize.ShloMosaic.Lib.Claim

/-! The attention of the context tokens among themselves: for each of four samples and eight heads a softmax over the
    sample's 256 context tokens, without a rotation and without a bias. -/

@[expose] public section

set_option maxRecDepth 16384

noncomputable section

namespace Cert.CtxKernelIdeal.Prod

open Idealize.ShloMosaic Idealize.ShloMosaic.TcCoe
open Idealize.SL Idealize.SL.Sem
open Cert.CtxKernelIdeal.Gen
open Cert.KernelIdeal.Attn (scl ofBits_bot)

variable (m : (ℓ : Loc nD τ sig) → Buf (Elt Ideal) ℓ)

/-- The block indices of the four windows at grid point `t`: sample `t / 8`, head `t % 8`. -/
theorem idx : ∀ t : Fin cfg0.N, win0_0.index t = ![32 + t.val / 8, 24 + t.val % 8] ∧ win0_1.index t = ![32 + t.val / 8, 32 + t.val % 8]
    ∧ win0_2.index t = ![32 + t.val / 8, 40 + t.val % 8] ∧ win0_3.index t = ![t.val / 8, t.val % 8] :=
  (by decide +kernel : ∀ t : Fin grid0.N, _)

/-- The row of context token `y` of sample `b`. -/
def tok (b : Fin 4) (y : Fin 256) : Fin 9216 := ⟨(32 + b.1) * 256 + y.1, by omega⟩

/-- Column `d` of head `h` of the columns that start at head `g`. -/
def col (g : Nat) (hg : g ≤ 40) (h : Fin 8) (d : Fin 128) : Fin 25600 := ⟨(g + h.1) * 128 + d.1, by omega⟩

/-- The query entry `d` of a context token. -/
def Q (P : Vec Ideal S9216x25600 .bf16) (b : Fin 4) (h : Fin 8) (y : Fin 256) (d : Fin 128) : EReal := P (ix2 (tok b y) (col 24 (by omega) h d))

/-- The key entry `d` of a context token. -/
def K (P : Vec Ideal S9216x25600 .bf16) (b : Fin 4) (h : Fin 8) (y : Fin 256) (d : Fin 128) : EReal := P (ix2 (tok b y) (col 32 (by omega) h d))

/-- The value entry `d` of a context token. -/
def W (P : Vec Ideal S9216x25600 .bf16) (b : Fin 4) (h : Fin 8) (y : Fin 256) (d : Fin 128) : EReal := P (ix2 (tok b y) (col 40 (by omega) h d))

/-- The score of query `y` and key `u`, the query row scaled before the product. -/
def score (P : Vec Ideal S9216x25600 .bf16) (b : Fin 4) (h : Fin 8) (y u : Fin 256) : EReal :=
  ∑ d : Fin 128, Q P b h y d * scl * K P b h u d

/-- The unnormalised weight of key `u` in the row of query `y`. -/
def weight (P : Vec Ideal S9216x25600 .bf16) (b : Fin 4) (h : Fin 8) (y u : Fin 256) : EReal :=
  Ideal.exp (score P b h y u - Finset.univ.sup (score P b h y))

/-- The attention of query `y`: the weighted sum of the values, divided by the sum of the weights. -/
def att (P : Vec Ideal S9216x25600 .bf16) (b : Fin 4) (h : Fin 8) (y : Fin 256) (d : Fin 128) : EReal :=
  Ideal.div (∑ u : Fin 256, weight P b h y u * W P b h u d) (∑ u : Fin 256, weight P b h y u)

/-- The result array. -/
def ATT (P : Vec Ideal S9216x25600 .bf16) : Vec Ideal S1024x1024 .bf16 := fun i =>
  att P ⟨(i 0).val / 256, by have := (i 0).isLt; simp at this; omega⟩ ⟨(i 1).val / 128, by have := (i 1).isLt; simp at this; omega⟩
    ⟨(i 0).val % 256, by omega⟩ ⟨(i 1).val % 128, by omega⟩

/-- The sample of a grid point. -/
def smp (t : Fin cfg0.N) : Fin 4 := ⟨t.val / 8, by have : t.val < 32 := t.isLt; omega⟩

/-- The head of a grid point. -/
def hd (t : Fin cfg0.N) : Fin 8 := ⟨t.val % 8, by omega⟩

/-- The query block at grid point `t`. -/
theorem blk0 (c : Dev nD) (t : Fin cfg0.N) (y : Fin 256) (d : Fin 128) :
    iblk m c 0 t (ix2 y d) = Q (m ((c : Thread nD τ).loc main_arg0)) (smp t) (hd t) y d := by
  unfold Q tok col smp hd
  blk_point [iblk, V, idx t]

/-- The key block at grid point `t`. -/
theorem blk1 (c : Dev nD) (t : Fin cfg0.N) (y : Fin 256) (d : Fin 128) :
    iblk m c 1 t (ix2 y d) = K (m ((c : Thread nD τ).loc main_arg0)) (smp t) (hd t) y d := by
  unfold K tok col smp hd
  blk_point [iblk, V, idx t]

/-- The value block at grid point `t`. -/
theorem blk2 (c : Dev nD) (t : Fin cfg0.N) (y : Fin 256) (d : Fin 128) :
    iblk m c 2 t (ix2 y d) = W (m ((c : Thread nD τ).loc main_arg0)) (smp t) (hd t) y d := by
  unfold W tok col smp hd
  blk_point [iblk, V, idx t]

/-- What the body stores at grid point `t`. -/
theorem pay (c : Dev nD) (t : Fin cfg0.N) (y : Fin 256) (d : Fin 128) :
    k0_pay1 (iblk m c 0 t) (iblk m c 1 t) (iblk m c 2 t) (ix2 y d) = att (m ((c : Thread nD τ).loc main_arg0)) (smp t) (hd t) y d := by
  have e0 := blk0 m c t
  have e1 := blk1 m c t
  have e2 := blk2 m c t
  generalize iblk m c 0 t = x0 at e0 ⊢
  generalize iblk m c 1 t = x1 at e1 ⊢
  generalize iblk m c 2 t = x2 at e2 ⊢
  pointwise [k0_pay1]
  simp only [e0, e1, e2, ofBits_bot]
  rfl

/-- The result array after the run. -/
theorem final (c : Dev nD) : (dats m 0 c).arrAt 3 cfg0.N = ATT (m ((c : Thread nD τ).loc main_arg0)) := by
  refine (dats m 0 c).arrAt_eq_of_covers 3 _ (by decide +kernel) fun t hf y => ?_
  have h0 : (((cfg0.win 3).blk t).view.emb y 0).val = t.val / 8 * 256 + (y 0).val := by
    blk_simp [idx t]
  have h1 : (((cfg0.win 3).blk t).view.emb y 1).val = t.val % 8 * 128 + (y 1).val := by
    blk_simp [idx t]
  have l0 : (y 0).val < 256 := (y 0).isLt
  have l1 : (y 1).val < 128 := (y 1).isLt
  have ey : y = ix2 (y 0) (y 1) := by funext a; match a with | ⟨0, _⟩ => rfl | ⟨1, _⟩ => rfl
  blk_simp
  rw [after0_3]
  unfold out0_3
  frame_out
  refine (congrArg _ ey).trans ((pay m c t (y 0) (y 1)).trans ?_)
  have a0 : smp t = ⟨(((cfg0.win 3).blk t).view.emb y 0).val / 256, by rw [h0]; have : t.val < 32 := t.isLt; omega⟩ := Fin.ext (by
    show t.val / 8 = _; dsimp only; rw [h0]; omega)
  have a1 : hd t = ⟨(((cfg0.win 3).blk t).view.emb y 1).val / 128, by rw [h1]; omega⟩ := Fin.ext (by
    show t.val % 8 = _; dsimp only; rw [h1]; omega)
  have a2 : y 0 = (⟨(((cfg0.win 3).blk t).view.emb y 0).val % 256, by omega⟩ : Fin 256) := Fin.ext (by
    dsimp only; rw [h0]; omega)
  have a3 : y 1 = (⟨(((cfg0.win 3).blk t).view.emb y 1).val % 128, by omega⟩ : Fin 128) := Fin.ext (by
    dsimp only; rw [h1]; omega)
  rw [a0, a1]
  exact congrArg₂ (att (m ((c : Thread nD τ).loc main_arg0)) _ _) a2 a3

end Cert.CtxKernelIdeal.Prod

namespace Cert.Proof.Ctx

open Idealize.ShloMosaic Idealize.ShloMosaic.TcCoe
open Idealize.SL Idealize.SL.Sem
open Cert.CtxReferenceIdeal Cert.CtxReferenceIdeal.Read
open Cert.CtxKernelIdeal.Prod (tok col Q K W score weight att ATT)
open Cert.KernelIdeal.Attn (scl ofBits_bot)

/-- The reference's queries. -/
theorem v6 (P : Vec Ideal S9216x25600 .bf16) (b : Fin 4) (h : Fin 8) (y : Fin 256) (d : Fin 128) :
    val_main_v6 (F := Ideal) P (ix4 b y h d) = Q P b h y d := by
  rw [val_main_v6_apply, val_main_v3_apply, val_main_v2_apply, val_main_v1_apply, val_main_v0_apply]
  exact congrArg P (funext fun z => Fin.ext (by
      match z with
      | ⟨0, _⟩ => dsimp [idx_main_v0, idx_main_v2, idx_main_v3, idx_main_v6, tok, col] <;> omega
      | ⟨1, _⟩ => dsimp [idx_main_v0, idx_main_v2, idx_main_v3, idx_main_v6, tok, col] <;> omega))

/-- The reference's keys. -/
theorem v7 (P : Vec Ideal S9216x25600 .bf16) (b : Fin 4) (h : Fin 8) (y : Fin 256) (d : Fin 128) :
    val_main_v7 (F := Ideal) P (ix4 b y h d) = K P b h y d := by
  rw [val_main_v7_apply, val_main_v4_apply, val_main_v2_apply, val_main_v1_apply, val_main_v0_apply]
  exact congrArg P (funext fun z => Fin.ext (by
      match z with
      | ⟨0, _⟩ => dsimp [idx_main_v0, idx_main_v2, idx_main_v4, idx_main_v7, tok, col] <;> omega
      | ⟨1, _⟩ => dsimp [idx_main_v0, idx_main_v2, idx_main_v4, idx_main_v7, tok, col] <;> omega))

/-- The reference's values. -/
theorem v8 (P : Vec Ideal S9216x25600 .bf16) (b : Fin 4) (h : Fin 8) (y : Fin 256) (d : Fin 128) :
    val_main_v8 (F := Ideal) P (ix4 b y h d) = W P b h y d := by
  rw [val_main_v8_apply, val_main_v5_apply, val_main_v2_apply, val_main_v1_apply, val_main_v0_apply]
  exact congrArg P (funext fun z => Fin.ext (by
      match z with
      | ⟨0, _⟩ => dsimp [idx_main_v0, idx_main_v2, idx_main_v5, idx_main_v8, tok, col] <;> omega
      | ⟨1, _⟩ => dsimp [idx_main_v0, idx_main_v2, idx_main_v5, idx_main_v8, tok, col] <;> omega))

/-- The reference's scores, scaled after the product. -/
theorem v11 (P : Vec Ideal S9216x25600 .bf16) (b : Fin 4) (h : Fin 8) (y u : Fin 256) :
    val_main_v11 (F := Ideal) P (ix4 b h y u) = (∑ d : Fin 128, Q P b h y d * K P b h u d) * scl := by
  rw [val_main_v11_apply, val_main_v9_apply, val_main_v10_apply, val_main_cst_apply]
  refine congrArg (· * scl) (Finset.sum_congr rfl fun d _ => ?_)
  refine congrArg₂ (· * ·) ((congrArg _ ?_).trans (v6 P b h y d)) ((congrArg _ ?_).trans (v7 P b h u d))
  · funext z
    match z with
    | ⟨0, _⟩ => rfl
    | ⟨1, _⟩ => rfl
    | ⟨2, _⟩ => rfl
    | ⟨3, _⟩ => rfl
  · funext z
    match z with
    | ⟨0, _⟩ => rfl
    | ⟨1, _⟩ => rfl
    | ⟨2, _⟩ => rfl
    | ⟨3, _⟩ => rfl

/-- The reference's largest score of a row. -/
theorem v14 (P : Vec Ideal S9216x25600 .bf16) (b : Fin 4) (h : Fin 8) (y : Fin 256) :
    val_main_v14 (F := Ideal) P (ix3 b h y) = Finset.univ.sup fun u : Fin 256 => val_main_v11 (F := Ideal) P (ix4 b h y u) := by
  have h1 : val_main_v13 (F := Ideal) (ix3 b h y) = ⊥ := (val_main_v13_apply (F := Ideal) _).trans ofBits_bot
  have h2 : val_main_v12 (F := Ideal) P (ix3 b h y) = Finset.univ.sup fun u : Fin 256 => val_main_v11 (F := Ideal) P (ix4 b h y u) := by
    unfold val_main_v12
    have h0 : val_main_cst_0 (F := Ideal) (Shape.Idx.first Gen.h_S_) = ⊥ := ofBits_bot
    revert h0
    generalize val_main_v11 (F := Ideal) P = u
    generalize val_main_cst_0 (F := Ideal) = w
    intro h0
    refine (Host.reduce_eq_fold_single (FloatOps.maximumf (F := Ideal) (φ := .f32)) u w Gen.reducesTo_S4x8x256x256_S4x8x256_d3 (by decide) Gen.h_S_ (ix3 b h y)).trans ?_
    rw [h0]
    refine Eq.trans ?_ (show Finset.univ.fold max ⊥ (fun k : Fin 256 => u (ix4 b h y k)) = _ from rfl)
    refine congrArg (fun f : Fin 256 → EReal => Finset.univ.fold max ⊥ f) ?_
    funext k
    refine congrArg u (funext fun a => Fin.ext ?_)
    match a with
    | ⟨0, _⟩ => rfl
    | ⟨1, _⟩ => rfl
    | ⟨2, _⟩ => rfl
    | ⟨3, _⟩ => rfl
  rw [val_main_v14_apply, h1, h2]
  exact bot_sup_eq _

/-- The reference's unnormalised weights. -/
theorem v18 (P : Vec Ideal S9216x25600 .bf16) (b : Fin 4) (h : Fin 8) (y u : Fin 256) :
    val_main_v18 (F := Ideal) P (ix4 b h y u)
      = Ideal.exp (val_main_v11 (F := Ideal) P (ix4 b h y u) - Finset.univ.sup fun u : Fin 256 => val_main_v11 (F := Ideal) P (ix4 b h y u)) := by
  rw [val_main_v18_apply, val_main_v17_apply, val_main_v16_apply, val_main_v15_apply]
  refine congrArg Ideal.exp (congrArg (val_main_v11 (F := Ideal) P (ix4 b h y u) - ·) ((congrArg _ ?_).trans (v14 P b h y)))
  funext z
  match z with
  | ⟨0, _⟩ => rfl
  | ⟨1, _⟩ => rfl
  | ⟨2, _⟩ => rfl

/-- The reference's sum of the weights of a row. -/
theorem v21 (P : Vec Ideal S9216x25600 .bf16) (b : Fin 4) (h : Fin 8) (y u : Fin 256) :
    val_main_v21 (F := Ideal) P (ix4 b h y u) = ∑ u : Fin 256, val_main_v18 (F := Ideal) P (ix4 b h y u) := by
  unfold val_main_v21 val_main_v20 val_main_v19 val_main_cst_2
  generalize val_main_v18 (F := Ideal) P = s
  pointwise

/-- The reference's attention of query `y`. -/
theorem v23 (P : Vec Ideal S9216x25600 .bf16) (b : Fin 4) (h : Fin 8) (y : Fin 256) (d : Fin 128) :
    val_main_v23 (F := Ideal) P (ix4 b h d y) = ∑ u : Fin 256, Ideal.div (val_main_v18 (F := Ideal) P (ix4 b h y u))
      (∑ u : Fin 256, val_main_v18 (F := Ideal) P (ix4 b h y u)) * W P b h u d := by
  rw [val_main_v23_apply]
  refine Finset.sum_congr rfl fun u _ => (mul_comm _ _).trans ?_
  refine congrArg₂ (· * ·) ((congrArg _ ?_).trans ((val_main_v22_apply P (ix4 b h y u)).trans (congrArg _ (v21 P b h y u)))) ((congrArg _ ?_).trans (v8 P b h u d))
  · funext z
    match z with
    | ⟨0, _⟩ => rfl
    | ⟨1, _⟩ => rfl
    | ⟨2, _⟩ => rfl
    | ⟨3, _⟩ => rfl
  · funext z
    match z with
    | ⟨0, _⟩ => rfl
    | ⟨1, _⟩ => rfl
    | ⟨2, _⟩ => rfl
    | ⟨3, _⟩ => rfl

/-- Dividing the weighted sum of a row of real scores is dividing each weight. -/
theorem row_agree {C : Type*} [Fintype C] (s v : C → EReal) (h : ∀ y, ∃ r : ℝ, s y = r) (c0 : C) :
    Ideal.div (∑ y, Ideal.exp (s y - Finset.univ.sup s) * v y) (∑ y, Ideal.exp (s y - Finset.univ.sup s))
      = ∑ y, Ideal.div (Ideal.exp (s y - Finset.univ.sup s)) (∑ y, Ideal.exp (s y - Finset.univ.sup s)) * v y := by
  have e := Soft.rows_agree (K := Empty) (W := Empty) id Function.injective_id (fun _ => ⊥) (fun _ => ⊥) s (fun _ => 0) v
    (fun x => x.elim) (fun y => y.elim) (fun x => x.elim) h c0 (Finset.univ.sup s) (Finset.univ.sup s) (by simp) (by simp)
  simpa using e

/-- Query and key columns of the context rows are real. -/
def FiniteCtx (P : Vec Ideal S9216x25600 .bf16) : Prop :=
  ∀ (r : Fin 9216) (c : Fin 25600), 8192 ≤ r.1 → 3072 ≤ c.1 → c.1 < 5120 → ∃ x : ℝ, P (ix2 r c) = (x : EReal)

/-- The attention of query `y`, kernel and reference. -/
theorem att_eq (P : Vec Ideal S9216x25600 .bf16) (hP : FiniteCtx P) (b : Fin 4) (h : Fin 8) (y : Fin 256) (d : Fin 128) :
    val_main_v23 (F := Ideal) P (ix4 b h d y) = att P b h y d := by
  have hq : ∀ (y : Fin 256) d, ∃ r : ℝ, Q P b h y d = r := fun y d => hP _ _
    (by show 8192 ≤ (32 + b.1) * 256 + y.1; omega) (by show 3072 ≤ (24 + h.1) * 128 + d.1; omega) (by show (24 + h.1) * 128 + d.1 < 5120; omega)
  have hk : ∀ (y : Fin 256) d, ∃ r : ℝ, K P b h y d = r := fun y d => hP _ _
    (by show 8192 ≤ (32 + b.1) * 256 + y.1; omega) (by show 3072 ≤ (32 + h.1) * 128 + d.1; omega) (by show (32 + h.1) * 128 + d.1 < 5120; omega)
  have hs : ∀ u, ∃ z : ℝ, score P b h y u = z ∧ (∑ d : Fin 128, Q P b h y d * K P b h u d) * scl = z := fun u =>
    Spec.score_scale' (Q P b h y) (K P b h u) (hq y) (hk u)
  have e11 : ∀ u, val_main_v11 (F := Ideal) P (ix4 b h y u) = score P b h y u := fun u => by
    obtain ⟨z, h1, h2⟩ := hs u
    rw [v11, h1, h2]
  have e18 : ∀ u, val_main_v18 (F := Ideal) P (ix4 b h y u) = weight P b h y u := fun u => by
    rw [v18]
    simp only [e11]
    rfl
  rw [v23]
  simp only [e18]
  exact (row_agree (score P b h y) (fun u => W P b h u d) (fun u => (hs u).imp fun _ h => h.1) 0).symm

/-- The reference's result is the kernel's. -/
theorem out_eq (P : Vec Ideal S9216x25600 .bf16) (hP : FiniteCtx P) : val_main_v27 (F := Ideal) P = ATT P := by
  funext i
  have h0 : (i 0).val < 1024 := (i 0).isLt
  have h1 : (i 1).val < 1024 := (i 1).isLt
  rw [val_main_v27_apply, val_main_v26_apply, val_main_v25_apply, val_main_v24_apply]
  refine Eq.trans (congrArg (val_main_v23 (F := Ideal) P) ?_) (att_eq P hP ⟨(i 0).val / 256, by omega⟩ ⟨(i 1).val / 128, by omega⟩
    ⟨(i 0).val % 256, by omega⟩ ⟨(i 1).val % 128, by omega⟩)
  funext z
  refine Fin.ext ?_
  match z with
  | ⟨0, _⟩ => dsimp [idx_main_v24, idx_main_v25, idx_main_v26] <;> omega
  | ⟨1, _⟩ => dsimp [idx_main_v24, idx_main_v25, idx_main_v26] <;> omega
  | ⟨2, _⟩ => dsimp [idx_main_v24, idx_main_v25, idx_main_v26] <;> omega
  | ⟨3, _⟩ => dsimp [idx_main_v24, idx_main_v25, idx_main_v26] <;> omega

section

attribute [local instance] Cert.Pre_finite_ctx.Gen.facts

/-- The precondition makes the query and key columns of the context rows real. -/
theorem finite_ctx (P : Vec Ideal S9216x25600 .bf16) (h : Cert.Pre_finite_ctx.fn (F := Ideal) P = fun _ => 1#1) : FiniteCtx P := by
  intro r c hr h1 h2
  have e := congrFun h (ix2 ⟨r.1 - 8192, by omega⟩ ⟨c.1 - 3072, by omega⟩ : Cert.Pre_finite_ctx.S1024x2048.Idx)
  dsimp only [Cert.Pre_finite_ctx.fn] at e
  obtain ⟨x, hx⟩ := Attn.real_of_lt _ e
  refine ⟨x, Eq.trans ?_ hx⟩
  refine (extractStridedSlice_apply ![8192, 3072] P Cert.Pre_finite_ctx.Facts.slices_S9216x25600_S1024x2048_8192_3072 _ (ix2 r c) fun a => ?_).symm
  match a with
  | ⟨0, _⟩ => show r.1 = 8192 + (r.1 - 8192); omega
  | ⟨1, _⟩ => show c.1 = 3072 + (c.1 - 3072); omega

end

/-- The two runs of the context's attention end with equal results where its queries and keys are real. -/
theorem algebraic : Cert.algebraic_CtxKernelIdeal_CtxReferenceIdeal_pre_finite_ctx
    (hCtxKernelIdeal := Cert.CtxKernelIdeal.Gen.facts) (hCtxReferenceIdeal := Cert.CtxReferenceIdeal.Gen.facts)
    (hPre_finite_ctx := Cert.Pre_finite_ctx.Gen.facts) := by
  letI := Cert.CtxKernelIdeal.Gen.facts
  letI := Cert.CtxReferenceIdeal.Gen.facts
  letI := Cert.Pre_finite_ctx.Gen.facts
  pair_intro
  · run_from Cert.CtxKernelIdeal.Value.run_blocks m g
  · run_from Cert.CtxReferenceIdeal.Value.run m' g'
    rw [Cert.CtxKernelIdeal.Prod.final]
    refine Eq.trans ?_ (out_eq _ (finite_ctx _ (hpre c)))
    refine (val_main_v27_eq _ _).trans ?_
    rw [← hagree c]

end Cert.Proof.Ctx
-- ==== Proof.PoolM.lean ====
module

public import proofs.«01_k».proof.Proof.Soft
public import Idealize.ShloMosaic.Lib.WordCmp

/-! The arithmetic of the pooling mixer: a banded row of weights applied to a column is a difference of running
    sums over the window's length, less the column's own entry. -/

@[expose] public section

noncomputable section

namespace Cert.Proof.Pool

open Idealize.ShloMosaic

/-- The running sum of a column before row `k`. -/
def C (a : Fin 2048 → EReal) (k : ℕ) : EReal := ∑ u : Fin 2048, if u.1 < k then a u else 0

/-- The half width of a group's window. -/
def half : Fin 4 → ℕ := ![1, 2, 4, 8]

/-- The first row of the window of half width `h` around row `t`. -/
def lo (h t : ℕ) : ℕ := t - h

/-- The row after the window of half width `h` around row `t`. -/
def hi (h t : ℕ) : ℕ := min (t + h) 2048

/-- The number of rows in the window. -/
def len (h t : ℕ) : EReal := (((hi h t - lo h t : ℕ) : ℝ) : EReal)

/-- The weight of row `u` in the pooled row `t`: the window's mean, less the row itself. -/
def band (h : ℕ) (t u : Fin 2048) : EReal :=
  (if lo h t.1 ≤ u.1 ∧ u.1 < hi h t.1 then Ideal.div 1 (len h t.1) else 0) - if u = t then 1 else 0

/-- A banded row applied to a column of reals. -/
theorem band_sum (a : Fin 2048 → EReal) (ha : ∀ u, ∃ r : ℝ, a u = r) (h : ℕ) (hh : 0 < h) (t : Fin 2048) :
    ∑ u, band h t u * a u = Ideal.div (C a (hi h t.1) - C a (lo h t.1)) (len h t.1) - a t := by
  choose r hr using ha
  obtain rfl : a = fun u => (r u : EReal) := funext hr
  have hlt : lo h t.1 < hi h t.1 := by have := t.2; unfold lo hi; omega
  unfold band len C
  generalize lo h t.1 = l at *
  generalize hi h t.1 = k at *
  have hn : ((k - l : ℕ) : ℝ) ≠ 0 := by
    have : 0 < k - l := by omega
    positivity
  generalize ((k - l : ℕ) : ℝ) = n at *
  have hc : ∀ j : ℕ, (∑ u : Fin 2048, if u.1 < j then ((r u : ℝ) : EReal) else 0) = ((∑ u : Fin 2048, if u.1 < j then r u else 0 : ℝ) : EReal) := fun j => by
    rw [Soft.coe_sum]
    refine Finset.sum_congr rfl fun u _ => ?_
    split <;> rfl
  rw [hc, hc, Ideal.div_coe hn, Ideal.div_coe hn, one_mul]
  have e : ∀ u : Fin 2048, ((if l ≤ u.1 ∧ u.1 < k then (((1 / n : ℝ)) : EReal) else 0) - if u = t then (1 : EReal) else 0) * (r u : EReal)
      = (((if u.1 < k then r u else 0) - (if u.1 < l then r u else 0)) * (1 / n) - (if u = t then r u else 0) : ℝ) := fun u => by
    have e1 : (if l ≤ u.1 ∧ u.1 < k then (((1 / n : ℝ)) : EReal) else 0) = ((if l ≤ u.1 ∧ u.1 < k then 1 / n else 0 : ℝ) : EReal) := by split <;> rfl
    have e2 : (if u = t then (1 : EReal) else 0) = ((if u = t then 1 else 0 : ℝ) : EReal) := by split <;> rfl
    rw [e1, e2, ← EReal.coe_sub, ← EReal.coe_mul]
    refine congrArg _ ?_
    have e3 : (if u = t then r u else 0) = (if u = t then 1 else 0) * r u := by split <;> simp
    rw [e3]
    generalize (if u = t then (1 : ℝ) else 0) = z
    by_cases p : u.1 < l
    · rw [if_neg (by omega : ¬ (l ≤ u.1 ∧ u.1 < k)), if_pos (by omega : u.1 < k), if_pos p]
      ring
    · by_cases q : u.1 < k
      · rw [if_pos (by omega : l ≤ u.1 ∧ u.1 < k), if_pos q, if_neg p]
        ring
      · rw [if_neg (by omega : ¬ (l ≤ u.1 ∧ u.1 < k)), if_neg q, if_neg p]
        ring
  rw [Finset.sum_congr rfl fun u _ => e u, ← Soft.coe_sum, ← EReal.coe_sub, ← EReal.coe_mul, ← EReal.coe_sub]
  refine congrArg _ ?_
  rw [Finset.sum_sub_distrib, ← Finset.sum_mul, Finset.sum_sub_distrib, Finset.sum_ite_eq' Finset.univ t r, if_pos (Finset.mem_univ t)]

/-- The words a program computes for the window of half width `h` around row `t`. -/
abbrev Win (h : ℕ) (H : BitVec 32) (t : Fin 2048) : Prop :=
  IntOp.minsi 2048#32 (IntOp.maxsi 0#32 (IntOp.subi (BitVec.ofNat 32 t.1) H)) = BitVec.ofNat 32 (lo h t.1)
  ∧ IntOp.minsi 2048#32 (IntOp.maxsi 0#32 (IntOp.addi (BitVec.ofNat 32 t.1) H)) = BitVec.ofNat 32 (hi h t.1)
  ∧ IntOp.subi (BitVec.ofNat 32 (hi h t.1)) (BitVec.ofNat 32 (lo h t.1)) = BitVec.ofNat 32 (hi h t.1 - lo h t.1)

theorem win1 : ∀ t : Fin 2048, Win 1 1#32 t := by decide +kernel

theorem win2 : ∀ t : Fin 2048, Win 2 2#32 t := by decide +kernel

theorem win4 : ∀ t : Fin 2048, Win 4 4#32 t := by decide +kernel

theorem win8 : ∀ t : Fin 2048, Win 8 8#32 t := by decide +kernel

/-- The float of a small natural's word. -/
theorem word_float (n : ℕ) (hn : n ≤ 2048) : (FloatOps.sitofp FTy.f32 (BitVec.ofNat 32 n) : Ideal .f32) = ((n : ℝ) : EReal) := by
  show (((BitVec.ofNat 32 n).toInt : ℝ) : EReal) = _
  rw [WordCmp.toInt_ofNat_of_lt (by omega), Int.cast_natCast]

/-- The entry of a banded matrix as the host computes it from the rows' words. -/
theorem band_word (h : ℕ) (H : BitVec 32) (t u : Fin 2048) (w : Win h H t) :
    Scalar.select
        (IntOp.andi
          (IntOp.cmpi CmpIPredicate.sge (BitVec.ofNat 32 u.1) (IntOp.minsi 2048#32 (IntOp.maxsi 0#32 (IntOp.subi (BitVec.ofNat 32 t.1) H))))
          (IntOp.cmpi CmpIPredicate.slt (BitVec.ofNat 32 u.1) (IntOp.minsi 2048#32 (IntOp.maxsi 0#32 (IntOp.addi (BitVec.ofNat 32 t.1) H)))))
        (Ideal.div 1
          (FloatOps.sitofp (F := Ideal) FTy.f32
            (IntOp.subi (IntOp.minsi 2048#32 (IntOp.maxsi 0#32 (IntOp.addi (BitVec.ofNat 32 t.1) H)))
              (IntOp.minsi 2048#32 (IntOp.maxsi 0#32 (IntOp.subi (BitVec.ofNat 32 t.1) H))))))
        (Ideal.ofBits FTy.f32 0#32) -
      FloatOps.uitofp (F := Ideal) FTy.f32 (IntOp.cmpi CmpIPredicate.eq (BitVec.ofNat 32 u.1) (BitVec.ofNat 32 t.1)) = band h t u := by
  have hu := u.2
  have ht := t.2
  have hk : hi h t.1 ≤ 2048 := Nat.min_le_right _ _
  have hl : lo h t.1 ≤ 2048 := by unfold lo; omega
  rw [w.1, w.2.1, w.2.2, word_float _ (by omega), WordCmp.cmpi_sge_ofNat (by omega) (by omega), WordCmp.cmpi_slt_ofNat (by omega) (by omega),
    WordCmp.cmpi_eq_ofNat (by omega) (by omega), Ideal.ofBits_zero_f32]
  unfold band len
  have e1 : FloatOps.uitofp (F := Ideal) FTy.f32 (BitVec.ofBool (decide (u.1 = t.1))) = (if u = t then 1 else 0 : EReal) := by
    show (((BitVec.ofBool (decide (u.1 = t.1))).toNat : ℝ) : EReal) = _
    by_cases e : u = t
    · simp [e]
    · have : ¬ u.1 = t.1 := fun h => e (Fin.ext h)
      simp [e, this]
  rw [e1]
  refine congrArg (· - _) ?_
  by_cases p : lo h t.1 ≤ u.1 <;> by_cases q : u.1 < hi h t.1 <;> simp [p, q, Scalar.select, IntOp.andi]

end Cert.Proof.Pool
-- ==== Proof.PoolK.lean ====
module

public import proofs.«01_k».proof.Defs
public import proofs.«01_k».proof.Proof.PoolM
public import proofs.«01_k».proof.Proof.Gen.PoolKernelIdeal.Value
public import proofs.«01_k».proof.Proof.Gen.PoolKernel.Frame
public import Idealize.ShloMosaic.Lib.Pipeline.ValueKit
public import Idealize.ShloMosaic.Lib.Pipeline.ReadBack
public import Idealize.ShloMosaic.Lib.StableHlo.ReadAt
public import Idealize.ShloMosaic.Lib.Pointwise
public import Idealize.ShloMosaic.Lib.Claim

/-! The pooling mixer's call: four groups of columns, each pooled over a window of its own half width by a banded
    product and then mixed by the group's weights. -/

@[expose] public section

set_option maxRecDepth 16384

noncomputable section

namespace Cert.PoolKernelIdeal.Prod

open Idealize.ShloMosaic Idealize.ShloMosaic.TcCoe
open Idealize.SL Idealize.SL.Sem
open Cert.PoolKernelIdeal.Gen
open Cert.Proof.Pool (band half)

variable (m : (ℓ : Loc nD τ sig) → Buf (Elt Ideal) ℓ)

/-- The block indices of the five windows at grid point `t`: group `t / 4`, sample `t % 4`. -/
theorem idx : ∀ t : Fin cfg0.N, win0_0.index t = ![t.val / 4, 0, 0] ∧ win0_1.index t = ![t.val % 4, t.val / 4]
    ∧ win0_2.index t = ![0, t.val / 4, 0, 0] ∧ win0_3.index t = ![0, 0, t.val / 4] ∧ win0_4.index t = ![t.val % 4, t.val / 4] :=
  (by decide +kernel : ∀ t : Fin grid0.N, _)

/-- The group of a grid point. -/
def grp (t : Fin cfg0.N) : Fin 4 := ⟨t.val / 4, by have : t.val < 16 := t.isLt; omega⟩

/-- The sample of a grid point. -/
def smp (t : Fin cfg0.N) : Fin 4 := ⟨t.val % 4, by omega⟩

/-- The row of token `y` of sample `b`. -/
def tok (b : Fin 4) (y : Fin 2048) : Fin 9216 := ⟨b.1 * 2048 + y.1, by omega⟩

/-- Column `d` of group `g`. -/
def col (g : Fin 4) (d : Fin 256) : Fin 25600 := ⟨g.1 * 256 + d.1, by omega⟩

/-- The column block at grid point `t`. -/
theorem blk1 (c : Dev nD) (t : Fin cfg0.N) (y : Fin 2048) (d : Fin 256) :
    X0_1 m c t (ix2 y d) = (m ((c : Thread nD τ).loc main_arg0) : Vec Ideal S9216x25600 .bf16) (ix2 (tok (smp t) y) (col (grp t) d)) := by
  unfold tok col smp grp
  unfold X0_1 Pipeline.Window.fill
  rw [dif_pos (moved0_1 t _)]
  blk_point [iblk, V, idx t]

/-- The weights' block at grid point `t`. -/
theorem blk2 (c : Dev nD) (t : Fin cfg0.N) (p q : Fin 256) :
    iblk m c 2 t (ix4 0 0 p q) = (m ((c : Thread nD τ).loc main_arg1) : Vec Ideal S2x4x256x256 .f32) (ix4 0 (grp t) p q) := by
  unfold grp
  blk_point [iblk, V, idx t]

/-- The scales as the host lays them out. -/
theorem V_scale (c : Dev nD) (d : Fin 1024) :
    V m c main_v102 (ix3 0 0 d) = (m ((c : Thread nD τ).loc main_arg2) : Vec Ideal S2x1024 .f32) (ix2 0 d) := by
  unfold V
  after_reads_at

/-- The banded matrix of group 0 before the four are put side by side. -/
theorem U_band0 (c : Dev nD) (z : Fin 1) (t u : Fin 2048) :
    StableHlo.upto ([hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24].flatten)
      (fun b => m (c, b)) 184 (Proc.tc.devRef main_v96) (ix3 z t u) = band 1 t u := by
  after_reads_at
  exact Cert.Proof.Pool.band_word 1 1#32 t u (Cert.Proof.Pool.win1 t)

/-- The banded matrix of group 0. -/
theorem V_band0 (c : Dev nD) (t u : Fin 2048) : V m c main_v101 (ix3 0 t u) = band 1 t u := by
  unfold V
  after_reads_at
  exact U_band0 m c 0 t u

/-- The banded matrix of group 1 before the four are put side by side. -/
theorem U_band1 (c : Dev nD) (z : Fin 1) (t u : Fin 2048) :
    StableHlo.upto ([hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24].flatten)
      (fun b => m (c, b)) 184 (Proc.tc.devRef main_v97) (ix3 z t u) = band 2 t u := by
  after_reads_at
  exact Cert.Proof.Pool.band_word 2 2#32 t u (Cert.Proof.Pool.win2 t)

/-- The banded matrix of group 1. -/
theorem V_band1 (c : Dev nD) (t u : Fin 2048) : V m c main_v101 (ix3 1 t u) = band 2 t u := by
  unfold V
  after_reads_at
  exact U_band1 m c 0 t u

/-- The banded matrix of group 2 before the four are put side by side. -/
theorem U_band2 (c : Dev nD) (z : Fin 1) (t u : Fin 2048) :
    StableHlo.upto ([hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24].flatten)
      (fun b => m (c, b)) 184 (Proc.tc.devRef main_v98) (ix3 z t u) = band 4 t u := by
  after_reads_at
  exact Cert.Proof.Pool.band_word 4 4#32 t u (Cert.Proof.Pool.win4 t)

/-- The banded matrix of group 2. -/
theorem V_band2 (c : Dev nD) (t u : Fin 2048) : V m c main_v101 (ix3 2 t u) = band 4 t u := by
  unfold V
  after_reads_at
  exact U_band2 m c 0 t u

/-- The banded matrix of group 3 before the four are put side by side. -/
theorem U_band3 (c : Dev nD) (z : Fin 1) (t u : Fin 2048) :
    StableHlo.upto ([hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24].flatten)
      (fun b => m (c, b)) 184 (Proc.tc.devRef main_v99) (ix3 z t u) = band 8 t u := by
  after_reads_at
  exact Cert.Proof.Pool.band_word 8 8#32 t u (Cert.Proof.Pool.win8 t)

/-- The banded matrix of group 3. -/
theorem V_band3 (c : Dev nD) (t u : Fin 2048) : V m c main_v101 (ix3 3 t u) = band 8 t u := by
  unfold V
  after_reads_at
  exact U_band3 m c 0 t u

/-- The banded matrix of a group. -/
theorem V_band (c : Dev nD) (g : Fin 4) (t u : Fin 2048) : V m c main_v101 (ix3 g t u) = band (half g) t u := by
  match g with
  | 0 => exact V_band0 m c t u
  | 1 => exact V_band1 m c t u
  | 2 => exact V_band2 m c t u
  | 3 => exact V_band3 m c t u

/-- The band block at grid point `t`. -/
theorem blk0 (c : Dev nD) (t : Fin cfg0.N) (y u : Fin 2048) : iblk m c 0 t (ix3 0 y u) = band (half (grp t)) y u := by
  refine Eq.trans ?_ (V_band m c (grp t) y u)
  unfold grp
  blk_point [iblk, idx t]

/-- The scales' block at grid point `t`. -/
theorem blk3 (c : Dev nD) (t : Fin cfg0.N) (d : Fin 256) :
    iblk m c 3 t (ix3 0 0 d) = (m ((c : Thread nD τ).loc main_arg2) : Vec Ideal S2x1024 .f32) (ix2 0 ⟨(grp t).1 * 256 + d.1, by omega⟩) := by
  refine Eq.trans ?_ (V_scale m c _)
  unfold grp
  blk_point [iblk, idx t]

/-- The pooled entry of token `y`, column `d` of group `g`. -/
def pool (P : Vec Ideal S9216x25600 .bf16) (b g : Fin 4) (y : Fin 2048) (d : Fin 256) : EReal :=
  ∑ u : Fin 2048, band (half g) y u * P (ix2 (tok b u) (col g d))

/-- The mixed entry of token `y`, column `d` of group `g`. -/
def mixed (P : Vec Ideal S9216x25600 .bf16) (W : Vec Ideal S2x4x256x256 .f32) (s : Vec Ideal S2x1024 .f32) (b g : Fin 4) (y : Fin 2048) (d : Fin 256) : EReal :=
  (∑ e : Fin 256, pool P b g y e * W (ix4 0 g e d)) * s (ix2 0 ⟨g.1 * 256 + d.1, by omega⟩)

/-- The result array. -/
def POOL (P : Vec Ideal S9216x25600 .bf16) (W : Vec Ideal S2x4x256x256 .f32) (s : Vec Ideal S2x1024 .f32) : Vec Ideal S8192x1024 .bf16 := fun i =>
  mixed P W s ⟨(i 0).val / 2048, by have := (i 0).isLt; simp at this; omega⟩ ⟨(i 1).val / 256, by have := (i 1).isLt; simp at this; omega⟩
    ⟨(i 0).val % 2048, by omega⟩ ⟨(i 1).val % 256, by omega⟩

/-- What the body stores at grid point `t`. -/
theorem pay (c : Dev nD) (t : Fin cfg0.N) (y : Fin 2048) (d : Fin 256) :
    k0_pay1 (iblk m c 0 t) (X0_1 m c t) (iblk m c 2 t) (iblk m c 3 t) (ix2 y d)
      = mixed (m ((c : Thread nD τ).loc main_arg0)) (m ((c : Thread nD τ).loc main_arg1)) (m ((c : Thread nD τ).loc main_arg2)) (smp t) (grp t) y d := by
  have e0 := blk0 m c t
  have e1 := blk1 m c t
  have e2 := blk2 m c t
  have e3 := blk3 m c t
  generalize iblk m c 0 t = x0 at e0 ⊢
  generalize X0_1 m c t = x1 at e1 ⊢
  generalize iblk m c 2 t = x2 at e2 ⊢
  generalize iblk m c 3 t = x3 at e3 ⊢
  pointwise [k0_pay1]
  simp only [e0, e1, e2, e3]
  rfl

/-- The result array after the run. -/
theorem final (c : Dev nD) : (dats m 0 c).arrAt 4 cfg0.N
    = POOL (m ((c : Thread nD τ).loc main_arg0)) (m ((c : Thread nD τ).loc main_arg1)) (m ((c : Thread nD τ).loc main_arg2)) := by
  refine (dats m 0 c).arrAt_eq_of_covers 4 _ (by decide +kernel) fun t hf y => ?_
  have h0 : (((cfg0.win 4).blk t).view.emb y 0).val = t.val % 4 * 2048 + (y 0).val := by
    blk_simp [idx t]
  have h1 : (((cfg0.win 4).blk t).view.emb y 1).val = t.val / 4 * 256 + (y 1).val := by
    blk_simp [idx t]
  have l0 : (y 0).val < 2048 := (y 0).isLt
  have l1 : (y 1).val < 256 := (y 1).isLt
  have ey : y = ix2 (y 0) (y 1) := by funext a; match a with | ⟨0, _⟩ => rfl | ⟨1, _⟩ => rfl
  blk_simp
  rw [after0_4]
  unfold outsAt0 out0_A_4
  frame_out
  refine (congrArg _ ey).trans ((pay m c t (y 0) (y 1)).trans ?_)
  have a0 : smp t = ⟨(((cfg0.win 4).blk t).view.emb y 0).val / 2048, by rw [h0]; omega⟩ := Fin.ext (by
    show t.val % 4 = _; dsimp only; rw [h0]; omega)
  have a1 : grp t = ⟨(((cfg0.win 4).blk t).view.emb y 1).val / 256, by rw [h1]; have : t.val < 16 := t.isLt; omega⟩ := Fin.ext (by
    show t.val / 4 = _; dsimp only; rw [h1]; omega)
  have a2 : y 0 = (⟨(((cfg0.win 4).blk t).view.emb y 0).val % 2048, by omega⟩ : Fin 2048) := Fin.ext (by
    dsimp only; rw [h0]; omega)
  have a3 : y 1 = (⟨(((cfg0.win 4).blk t).view.emb y 1).val % 256, by omega⟩ : Fin 256) := Fin.ext (by
    dsimp only; rw [h1]; omega)
  rw [a0, a1]
  exact congrArg₂ (mixed (m ((c : Thread nD τ).loc main_arg0)) (m ((c : Thread nD τ).loc main_arg1)) (m ((c : Thread nD τ).loc main_arg2)) _ _) a2 a3

end Cert.PoolKernelIdeal.Prod
-- ==== Proof.PoolR.lean ====
module

public import proofs.«01_k».proof.Defs
public import proofs.«01_k».proof.Proof.Gen.PoolReferenceIdeal.Run
public import proofs.«01_k».proof.Proof.Gen.PoolReferenceIdeal.Read
public import proofs.«01_k».proof.Proof.Gen.Pre_finite_pool
public import proofs.«01_k».proof.Proof.Attn
public import proofs.«01_k».proof.Proof.AttnG
public import proofs.«01_k».proof.Proof.PoolM
public import Idealize.ShloMosaic.Lib.Pipeline.ValueKit
public import Idealize.ShloMosaic.Lib.Pipeline.ReadBack
public import Idealize.ShloMosaic.Lib.StableHlo.ReadAt
public import Idealize.ShloMosaic.Lib.Pointwise
public import Idealize.ShloMosaic.Lib.Claim

/-! The pooling mixer as the reference writes it: running sums of every column, taken at the two ends of a row's
    window, their difference over the window's length less the row itself, and the groups mixed by their weights. -/

@[expose] public section

set_option maxRecDepth 16384

noncomputable section

namespace Cert.Proof.Pool

open Idealize.ShloMosaic Idealize.ShloMosaic.TcCoe
open Idealize.SL Idealize.SL.Sem
open Cert.PoolReferenceIdeal Cert.PoolReferenceIdeal.Read Cert.PoolReferenceIdeal.Gen

/-- A fold that adds is the start plus the sum. -/
theorem foldl_add {N : ℕ} (g : Fin N → EReal) (v : EReal) : (List.finRange N).foldl (fun r n => r + g n) v = v + ∑ n, g n := by
  rw [Fin.sum_univ_def]
  generalize List.finRange N = l
  induction l generalizing v with
  | nil => simp
  | cons a l ih => rw [List.foldl_cons, ih, List.map_cons, List.sum_cons, add_assoc]

/-- The window that ends at row `j`, its rows before the first one empty. -/
theorem window_sum (X : ℕ → EReal) (j : ℕ) (hj : j < 2048) :
    (∑ n : Fin 2048, if 2047 ≤ j + n.1 then X (j + n.1 - 2047) else 0) = ∑ u : Fin 2048, if u.1 < j + 1 then X u.1 else 0 := by
  rw [Fin.sum_univ_eq_sum_range (fun n => if 2047 ≤ j + n then X (j + n - 2047) else 0) 2048,
    Fin.sum_univ_eq_sum_range (fun u => if u < j + 1 then X u else 0) 2048]
  have e1 : 2048 = (2047 - j) + (j + 1) := by omega
  have e2 : 2048 = (j + 1) + (2047 - j) := by omega
  have l : (∑ n ∈ Finset.range 2048, if 2047 ≤ j + n then X (j + n - 2047) else 0) = ∑ n ∈ Finset.range (j + 1), X n := by
    conv_lhs => rw [e1, Finset.sum_range_add]
    rw [Finset.sum_eq_zero fun n hn => if_neg (by rw [Finset.mem_range] at hn; omega), zero_add]
    refine Finset.sum_congr rfl fun n _ => ?_
    rw [if_pos (by omega)]
    exact congrArg X (by omega)
  have r : (∑ u ∈ Finset.range 2048, if u < j + 1 then X u else 0) = ∑ n ∈ Finset.range (j + 1), X n := by
    conv_lhs => rw [e2, Finset.sum_range_add]
    rw [Finset.sum_eq_zero (s := Finset.range (2047 - j)) fun n hn => if_neg (by omega), add_zero]
    refine Finset.sum_congr rfl fun n hn => ?_
    rw [Finset.mem_range] at hn
    rw [if_pos hn]
  rw [l, r]

/-- The window's shape. -/
abbrev Wd : Shape := ⟨3, ![1, 2048, 1]⟩

theorem numel_Wd : Wd.numel = 2048 := by decide

/-- Position `n` of the window is its row `n`. -/
theorem symm_Wd (n : Fin Wd.numel) : (Wd.rowMajor.symm n 0).val = 0 ∧ (Wd.rowMajor.symm n 1).val = n.val ∧ (Wd.rowMajor.symm n 2).val = 0 := by
  have h := congrArg Fin.val (Wd.rowMajor.apply_symm_apply n)
  rw [Shape.rowMajor_val_three] at h
  have h0 : (Wd.rowMajor.symm n 0).val < 1 := (Wd.rowMajor.symm n 0).isLt
  have h2 : (Wd.rowMajor.symm n 2).val < 1 := (Wd.rowMajor.symm n 2).isLt
  generalize (Wd.rowMajor.symm n 0).val = a at *
  generalize (Wd.rowMajor.symm n 1).val = b at *
  generalize (Wd.rowMajor.symm n 2).val = c at *
  change (a * 2048 + b) * 1 + c = n.val at h
  omega

/-- The running sum along the rows, as it prints: row `j` holds the sum of the rows up to it. -/
theorem cumsum (x : S4x2048x1024.Idx → EReal) (v : S_.Idx → EReal) (hv : v (Shape.Idx.first h_S_) = 0)
    (hw : S4x2048x1024.ReduceWindows ![1, 2048, 1] ![1, 1, 1] ![0, 2047, 0] ![0, 0, 0] S4x2048x1024) (b : Fin 4) (j : Fin 2048) (c : Fin 1024) :
    Host.reduceWindowAdd (F := Ideal) (φ := .f32) ![1, 2048, 1] ![1, 1, 1] ![0, 2047, 0] ![0, 0, 0] x v hw h_S_ (ix3 b j c)
      = C (fun u => x (ix3 b u c)) (j.1 + 1) := by
  unfold Host.reduceWindowAdd
  rw [hv, Ideal.hostReduceWindowAdd_def]
  unfold Ideal.hostReduceWindowAdd Host.reduceWindow
  refine (foldl_add (N := Wd.numel) _ _).trans ?_
  rw [zero_add]
  unfold C
  let X : ℕ → EReal := fun u => if h : u < 2048 then x (ix3 b ⟨u, h⟩ c) else 0
  have hX : ∀ u : Fin 2048, X u.1 = x (ix3 b u c) := fun u => dif_pos u.2
  refine Eq.trans ?_ ((window_sum X j.1 j.2).trans (Finset.sum_congr rfl fun u _ => by rw [hX]))
  refine Fintype.sum_equiv (finCongr numel_Wd) _ _ fun n => ?_
  obtain ⟨w0, w1, w2⟩ := symm_Wd n
  have hn : n.val < 2048 := lt_of_lt_of_eq n.isLt numel_Wd
  have hb := b.2
  have hj := j.2
  have hc := c.2
  show _ = if 2047 ≤ j.1 + n.1 then X (j.1 + n.1 - 2047) else 0
  dsimp only
  split
  · next hin =>
    have h1 := hin 1
    change 2047 ≤ j.1 * 1 + (Wd.rowMajor.symm n 1).val ∧ j.1 * 1 + (Wd.rowMajor.symm n 1).val - 2047 < 2048 at h1
    rw [w1] at h1
    rw [if_pos (by omega)]
    refine (congrArg x (funext fun a => Fin.ext ?_)).trans (hX ⟨j.1 + n.1 - 2047, by omega⟩).symm
    match a with
    | ⟨0, _⟩ => show b.1 * 1 + (Wd.rowMajor.symm n 0).val - 0 = b.1; omega
    | ⟨1, _⟩ => show j.1 * 1 + (Wd.rowMajor.symm n 1).val - 2047 = j.1 + n.1 - 2047; omega
    | ⟨2, _⟩ => show c.1 * 1 + (Wd.rowMajor.symm n 2).val - 0 = c.1; omega
  · next hin =>
    rw [if_neg fun hle => hin fun a => by
      match a with
      | ⟨0, _⟩ => show 0 ≤ b.1 * 1 + (Wd.rowMajor.symm n 0).val ∧ b.1 * 1 + (Wd.rowMajor.symm n 0).val - 0 < 4; omega
      | ⟨1, _⟩ => show 2047 ≤ j.1 * 1 + (Wd.rowMajor.symm n 1).val ∧ j.1 * 1 + (Wd.rowMajor.symm n 1).val - 2047 < 2048; omega
      | ⟨2, _⟩ => show 0 ≤ c.1 * 1 + (Wd.rowMajor.symm n 2).val ∧ c.1 * 1 + (Wd.rowMajor.symm n 2).val - 0 < 1024; omega]

/-- The take of a row of running sums. -/
theorem take_rows {α : Type} (x : S4x2049x256.Idx → α) (idx : IVec S2048x1 32) (b : Fin 4) (t : Fin 2048) (d : Fin 256) (k : ℕ) (hk : k ≤ 2048)
    (h : idx (ix2 t 0) = BitVec.ofNat 32 k) :
    Host.gather gather_S4x2049x256_S2048x1_S4x2048x256_02_1_n_n_1_1_41256 x idx (ix3 b t d) = x (ix3 b ⟨k, by omega⟩ d) := by
  unfold Host.gather
  congr 1
  funext q
  match q with
  | ⟨0, _⟩ =>
    exact Fin.ext ((Cert.Proof.Take.on_offset _ _ _ 0 (by decide) (by decide) (by decide) 0 rfl).trans rfl)
  | ⟨1, _⟩ =>
    refine Fin.ext ((Cert.Proof.Take.on_start _ _ _ 1 (by decide) (by decide) (by decide) (ix2 t 0) (by
      funext b
      match b with
      | ⟨0, _⟩ => rfl
      | ⟨1, _⟩ => rfl)).trans ?_)
    rw [h, WordCmp.toInt_ofNat_of_lt (by omega)]
    show min ((k : ℤ).toNat) 2048 = k
    omega
  | ⟨2, _⟩ =>
    exact Fin.ext ((Cert.Proof.Take.on_offset _ _ _ 2 (by decide) (by decide) (by decide) 2 rfl).trans rfl)

/-- Column `c` of sample `b`. -/
def A (P : Vec Ideal S9216x25600 .bf16) (b : Fin 4) (c : Fin 1024) (u : Fin 2048) : EReal := P (ix2 ⟨b.1 * 2048 + u.1, by omega⟩ ⟨c.1, by omega⟩)

theorem v2 (P : Vec Ideal S9216x25600 .bf16) (b : Fin 4) (u : Fin 2048) (c : Fin 1024) : val_main_v2 (F := Ideal) P (ix3 b u c) = A P b c u := by
  rw [val_main_v2_apply, val_main_v1_apply, val_main_v0_apply]
  refine congrArg P (funext fun z => Fin.ext ?_)
  match z with
  | ⟨0, _⟩ => dsimp [idx_main_v0, idx_main_v2] <;> omega
  | ⟨1, _⟩ => dsimp [idx_main_v0, idx_main_v2] <;> omega

theorem v8 (P : Vec Ideal S9216x25600 .bf16) (b : Fin 4) (j : Fin 2048) (c : Fin 1024) : val_main_v8 (F := Ideal) P (ix3 b j c) = C (A P b c) (j.1 + 1) := by
  unfold val_main_v8
  refine (cumsum _ _ ?_ _ b j c).trans (congrArg (fun a => C a (j.1 + 1)) (funext fun u => v2 P b u c))
  rw [val_main_call0_call0_v0_apply, val_main_call0_call0_cst_apply]
  exact Ideal.ofBits_zero_f32

theorem v9 (P : Vec Ideal S9216x25600 .bf16) (b : Fin 4) (k : Fin 2049) (c : Fin 1024) : val_main_v9 (F := Ideal) P (ix3 b k c) = C (A P b c) k.1 := by
  unfold val_main_v9
  obtain ⟨k, hk⟩ := k
  cases k with
  | zero =>
    refine (concatenate_pair_apply_left (t := S4x2049x1024) (s₁ := S4x1x1024) (s₂ := S4x2048x1024) 1 (val_main_v7 (F := Ideal)) (val_main_v8 (F := Ideal) P)
      concatenates_S4x1x1024_S4x2048x1024_S4x2049x1024_d1 (ix3 b ⟨0, hk⟩ c) rfl (ix3 b 0 c) fun z => ?_).trans ?_
    · match z with
      | ⟨0, _⟩ => rfl
      | ⟨1, _⟩ => rfl
      | ⟨2, _⟩ => rfl
    · rw [val_main_v7_apply, val_main_cst_apply]
      refine Ideal.ofBits_zero_f32.trans ?_
      unfold C
      exact (Finset.sum_eq_zero fun u _ => if_neg (Nat.not_lt_zero _)).symm
  | succ k =>
    have hk' : k < 2048 := by omega
    refine (concatenate_pair_apply_right (t := S4x2049x1024) (s₁ := S4x1x1024) (s₂ := S4x2048x1024) 1 (val_main_v7 (F := Ideal)) (val_main_v8 (F := Ideal) P)
      concatenates_S4x1x1024_S4x2048x1024_S4x2049x1024_d1 (ix3 b ⟨k + 1, hk⟩ c) rfl rfl (ix3 b ⟨k, hk'⟩ c) (fun z hz => ?_) rfl).trans (v8 P b ⟨k, hk'⟩ c)
    match z with
    | ⟨0, _⟩ => rfl
    | ⟨1, _⟩ => exact absurd rfl hz
    | ⟨2, _⟩ => rfl

/-- The pooled entry: the difference of running sums over the window's length, less the entry. -/
def pooled (h : ℕ) (a : Fin 2048 → EReal) (t : Fin 2048) : EReal := Ideal.div (C a (hi h t.1) - C a (lo h t.1)) (len h t.1) - a t

theorem tab0_hi : ∀ t : Fin 2048, val_main_v23 (F := Ideal) (ix2 t 0) = BitVec.ofNat 32 (hi 1 t.1) := by decide +kernel

theorem tab0_lo : ∀ t : Fin 2048, val_main_v30 (F := Ideal) (ix2 t 0) = BitVec.ofNat 32 (lo 1 t.1) := by decide +kernel

theorem tab0_len : ∀ t : Fin 2048, val_main_v33 (F := Ideal) (ix1 t) = BitVec.ofNat 32 (hi 1 t.1 - lo 1 t.1) := by decide +kernel

theorem sum0 (P : Vec Ideal S9216x25600 .bf16) (b : Fin 4) (k : Fin 2049) (d : Fin 256) :
    val_main_v17 (F := Ideal) P (ix3 b k d) = C (A P b ⟨0 + d.1, by omega⟩) k.1 := by
  rw [val_main_v17_apply]
  refine (congrArg (val_main_v9 (F := Ideal) P) (funext fun z => Fin.ext ?_)).trans (v9 P b k ⟨0 + d.1, by omega⟩)
  match z with
  | ⟨0, _⟩ => rfl
  | ⟨1, _⟩ => rfl
  | ⟨2, _⟩ => dsimp [idx_main_v17] <;> omega

/-- Group 0 of the pooled columns. -/
theorem pooled0 (P : Vec Ideal S9216x25600 .bf16) (b : Fin 4) (t : Fin 2048) (d : Fin 256) :
    val_main_v40 (F := Ideal) P (ix3 b t d) = pooled 1 (A P b ⟨0 + d.1, by omega⟩) t := by
  have ht := t.2
  have hk : hi 1 t.1 ≤ 2048 := Nat.min_le_right _ _
  have hl : lo 1 t.1 ≤ 2048 := by unfold lo; omega
  have e1 : val_main_v24 (F := Ideal) P (ix3 b t d) = C (A P b ⟨0 + d.1, by omega⟩) (hi 1 t.1) := by
    unfold val_main_v24
    exact (take_rows _ _ b t d _ hk (tab0_hi t)).trans (sum0 P b _ d)
  have e2 : val_main_v31 (F := Ideal) P (ix3 b t d) = C (A P b ⟨0 + d.1, by omega⟩) (lo 1 t.1) := by
    unfold val_main_v31
    exact (take_rows _ _ b t d _ hl (tab0_lo t)).trans (sum0 P b _ d)
  have e3 : val_main_v37 (F := Ideal) (ix3 b t d) = len 1 t.1 := by
    rw [val_main_v37_apply, val_main_v36_apply, val_main_v35_apply, val_main_v34_apply]
    refine (congrArg (fun w => (FloatOps.sitofp FTy.f32 w : Ideal .f32)) ((congrArg (val_main_v33 (F := Ideal)) ?_).trans (tab0_len t))).trans (word_float _ (by omega))
    funext z
    match z with
    | ⟨0, _⟩ => rfl
  have e4 : val_main_v39 (F := Ideal) P (ix3 b t d) = A P b ⟨0 + d.1, by omega⟩ t := by
    rw [val_main_v39_apply]
    refine (congrArg (val_main_v2 (F := Ideal) P) (funext fun z => Fin.ext ?_)).trans (v2 P b t ⟨0 + d.1, by omega⟩)
    match z with
    | ⟨0, _⟩ => rfl
    | ⟨1, _⟩ => rfl
    | ⟨2, _⟩ => dsimp [idx_main_v39] <;> omega
  rw [val_main_v40_apply, val_main_v38_apply, val_main_v32_apply, e1, e2, e3, e4]
  rfl

theorem tab1_hi : ∀ t : Fin 2048, val_main_v53 (F := Ideal) (ix2 t 0) = BitVec.ofNat 32 (hi 2 t.1) := by decide +kernel

theorem tab1_lo : ∀ t : Fin 2048, val_main_v60 (F := Ideal) (ix2 t 0) = BitVec.ofNat 32 (lo 2 t.1) := by decide +kernel

theorem tab1_len : ∀ t : Fin 2048, val_main_v63 (F := Ideal) (ix1 t) = BitVec.ofNat 32 (hi 2 t.1 - lo 2 t.1) := by decide +kernel

theorem sum1 (P : Vec Ideal S9216x25600 .bf16) (b : Fin 4) (k : Fin 2049) (d : Fin 256) :
    val_main_v47 (F := Ideal) P (ix3 b k d) = C (A P b ⟨256 + d.1, by omega⟩) k.1 := by
  rw [val_main_v47_apply]
  refine (congrArg (val_main_v9 (F := Ideal) P) (funext fun z => Fin.ext ?_)).trans (v9 P b k ⟨256 + d.1, by omega⟩)
  match z with
  | ⟨0, _⟩ => rfl
  | ⟨1, _⟩ => rfl
  | ⟨2, _⟩ => dsimp [idx_main_v47] <;> omega

/-- Group 1 of the pooled columns. -/
theorem pooled1 (P : Vec Ideal S9216x25600 .bf16) (b : Fin 4) (t : Fin 2048) (d : Fin 256) :
    val_main_v70 (F := Ideal) P (ix3 b t d) = pooled 2 (A P b ⟨256 + d.1, by omega⟩) t := by
  have ht := t.2
  have hk : hi 2 t.1 ≤ 2048 := Nat.min_le_right _ _
  have hl : lo 2 t.1 ≤ 2048 := by unfold lo; omega
  have e1 : val_main_v54 (F := Ideal) P (ix3 b t d) = C (A P b ⟨256 + d.1, by omega⟩) (hi 2 t.1) := by
    unfold val_main_v54
    exact (take_rows _ _ b t d _ hk (tab1_hi t)).trans (sum1 P b _ d)
  have e2 : val_main_v61 (F := Ideal) P (ix3 b t d) = C (A P b ⟨256 + d.1, by omega⟩) (lo 2 t.1) := by
    unfold val_main_v61
    exact (take_rows _ _ b t d _ hl (tab1_lo t)).trans (sum1 P b _ d)
  have e3 : val_main_v67 (F := Ideal) (ix3 b t d) = len 2 t.1 := by
    rw [val_main_v67_apply, val_main_v66_apply, val_main_v65_apply, val_main_v64_apply]
    refine (congrArg (fun w => (FloatOps.sitofp FTy.f32 w : Ideal .f32)) ((congrArg (val_main_v63 (F := Ideal)) ?_).trans (tab1_len t))).trans (word_float _ (by omega))
    funext z
    match z with
    | ⟨0, _⟩ => rfl
  have e4 : val_main_v69 (F := Ideal) P (ix3 b t d) = A P b ⟨256 + d.1, by omega⟩ t := by
    rw [val_main_v69_apply]
    refine (congrArg (val_main_v2 (F := Ideal) P) (funext fun z => Fin.ext ?_)).trans (v2 P b t ⟨256 + d.1, by omega⟩)
    match z with
    | ⟨0, _⟩ => rfl
    | ⟨1, _⟩ => rfl
    | ⟨2, _⟩ => dsimp [idx_main_v69] <;> omega
  rw [val_main_v70_apply, val_main_v68_apply, val_main_v62_apply, e1, e2, e3, e4]
  rfl

theorem tab2_hi : ∀ t : Fin 2048, val_main_v83 (F := Ideal) (ix2 t 0) = BitVec.ofNat 32 (hi 4 t.1) := by decide +kernel

theorem tab2_lo : ∀ t : Fin 2048, val_main_v90 (F := Ideal) (ix2 t 0) = BitVec.ofNat 32 (lo 4 t.1) := by decide +kernel

theorem tab2_len : ∀ t : Fin 2048, val_main_v93 (F := Ideal) (ix1 t) = BitVec.ofNat 32 (hi 4 t.1 - lo 4 t.1) := by decide +kernel

theorem sum2 (P : Vec Ideal S9216x25600 .bf16) (b : Fin 4) (k : Fin 2049) (d : Fin 256) :
    val_main_v77 (F := Ideal) P (ix3 b k d) = C (A P b ⟨512 + d.1, by omega⟩) k.1 := by
  rw [val_main_v77_apply]
  refine (congrArg (val_main_v9 (F := Ideal) P) (funext fun z => Fin.ext ?_)).trans (v9 P b k ⟨512 + d.1, by omega⟩)
  match z with
  | ⟨0, _⟩ => rfl
  | ⟨1, _⟩ => rfl
  | ⟨2, _⟩ => dsimp [idx_main_v77] <;> omega

/-- Group 2 of the pooled columns. -/
theorem pooled2 (P : Vec Ideal S9216x25600 .bf16) (b : Fin 4) (t : Fin 2048) (d : Fin 256) :
    val_main_v100 (F := Ideal) P (ix3 b t d) = pooled 4 (A P b ⟨512 + d.1, by omega⟩) t := by
  have ht := t.2
  have hk : hi 4 t.1 ≤ 2048 := Nat.min_le_right _ _
  have hl : lo 4 t.1 ≤ 2048 := by unfold lo; omega
  have e1 : val_main_v84 (F := Ideal) P (ix3 b t d) = C (A P b ⟨512 + d.1, by omega⟩) (hi 4 t.1) := by
    unfold val_main_v84
    exact (take_rows _ _ b t d _ hk (tab2_hi t)).trans (sum2 P b _ d)
  have e2 : val_main_v91 (F := Ideal) P (ix3 b t d) = C (A P b ⟨512 + d.1, by omega⟩) (lo 4 t.1) := by
    unfold val_main_v91
    exact (take_rows _ _ b t d _ hl (tab2_lo t)).trans (sum2 P b _ d)
  have e3 : val_main_v97 (F := Ideal) (ix3 b t d) = len 4 t.1 := by
    rw [val_main_v97_apply, val_main_v96_apply, val_main_v95_apply, val_main_v94_apply]
    refine (congrArg (fun w => (FloatOps.sitofp FTy.f32 w : Ideal .f32)) ((congrArg (val_main_v93 (F := Ideal)) ?_).trans (tab2_len t))).trans (word_float _ (by omega))
    funext z
    match z with
    | ⟨0, _⟩ => rfl
  have e4 : val_main_v99 (F := Ideal) P (ix3 b t d) = A P b ⟨512 + d.1, by omega⟩ t := by
    rw [val_main_v99_apply]
    refine (congrArg (val_main_v2 (F := Ideal) P) (funext fun z => Fin.ext ?_)).trans (v2 P b t ⟨512 + d.1, by omega⟩)
    match z with
    | ⟨0, _⟩ => rfl
    | ⟨1, _⟩ => rfl
    | ⟨2, _⟩ => dsimp [idx_main_v99] <;> omega
  rw [val_main_v100_apply, val_main_v98_apply, val_main_v92_apply, e1, e2, e3, e4]
  rfl

theorem tab3_hi : ∀ t : Fin 2048, val_main_v113 (F := Ideal) (ix2 t 0) = BitVec.ofNat 32 (hi 8 t.1) := by decide +kernel

theorem tab3_lo : ∀ t : Fin 2048, val_main_v120 (F := Ideal) (ix2 t 0) = BitVec.ofNat 32 (lo 8 t.1) := by decide +kernel

theorem tab3_len : ∀ t : Fin 2048, val_main_v123 (F := Ideal) (ix1 t) = BitVec.ofNat 32 (hi 8 t.1 - lo 8 t.1) := by decide +kernel

theorem sum3 (P : Vec Ideal S9216x25600 .bf16) (b : Fin 4) (k : Fin 2049) (d : Fin 256) :
    val_main_v107 (F := Ideal) P (ix3 b k d) = C (A P b ⟨768 + d.1, by omega⟩) k.1 := by
  rw [val_main_v107_apply]
  refine (congrArg (val_main_v9 (F := Ideal) P) (funext fun z => Fin.ext ?_)).trans (v9 P b k ⟨768 + d.1, by omega⟩)
  match z with
  | ⟨0, _⟩ => rfl
  | ⟨1, _⟩ => rfl
  | ⟨2, _⟩ => dsimp [idx_main_v107] <;> omega

/-- Group 3 of the pooled columns. -/
theorem pooled3 (P : Vec Ideal S9216x25600 .bf16) (b : Fin 4) (t : Fin 2048) (d : Fin 256) :
    val_main_v130 (F := Ideal) P (ix3 b t d) = pooled 8 (A P b ⟨768 + d.1, by omega⟩) t := by
  have ht := t.2
  have hk : hi 8 t.1 ≤ 2048 := Nat.min_le_right _ _
  have hl : lo 8 t.1 ≤ 2048 := by unfold lo; omega
  have e1 : val_main_v114 (F := Ideal) P (ix3 b t d) = C (A P b ⟨768 + d.1, by omega⟩) (hi 8 t.1) := by
    unfold val_main_v114
    exact (take_rows _ _ b t d _ hk (tab3_hi t)).trans (sum3 P b _ d)
  have e2 : val_main_v121 (F := Ideal) P (ix3 b t d) = C (A P b ⟨768 + d.1, by omega⟩) (lo 8 t.1) := by
    unfold val_main_v121
    exact (take_rows _ _ b t d _ hl (tab3_lo t)).trans (sum3 P b _ d)
  have e3 : val_main_v127 (F := Ideal) (ix3 b t d) = len 8 t.1 := by
    rw [val_main_v127_apply, val_main_v126_apply, val_main_v125_apply, val_main_v124_apply]
    refine (congrArg (fun w => (FloatOps.sitofp FTy.f32 w : Ideal .f32)) ((congrArg (val_main_v123 (F := Ideal)) ?_).trans (tab3_len t))).trans (word_float _ (by omega))
    funext z
    match z with
    | ⟨0, _⟩ => rfl
  have e4 : val_main_v129 (F := Ideal) P (ix3 b t d) = A P b ⟨768 + d.1, by omega⟩ t := by
    rw [val_main_v129_apply]
    refine (congrArg (val_main_v2 (F := Ideal) P) (funext fun z => Fin.ext ?_)).trans (v2 P b t ⟨768 + d.1, by omega⟩)
    match z with
    | ⟨0, _⟩ => rfl
    | ⟨1, _⟩ => rfl
    | ⟨2, _⟩ => dsimp [idx_main_v129] <;> omega
  rw [val_main_v130_apply, val_main_v128_apply, val_main_v122_apply, e1, e2, e3, e4]
  rfl

/-- The four groups side by side. -/
theorem v135 (P : Vec Ideal S9216x25600 .bf16) (b : Fin 4) (t : Fin 2048) (g : Fin 4) (d : Fin 256) :
    val_main_v135 (F := Ideal) P (ix4 b t g d) = pooled (half g) (A P b ⟨g.1 * 256 + d.1, by omega⟩) t := by
  unfold val_main_v135
  have e0 := (val_main_v131_apply (F := Ideal) P (ix4 b t 0 d)).trans ((congrArg (val_main_v40 (F := Ideal) P) (funext fun z => Fin.ext (by
    match z with
    | ⟨0, _⟩ => rfl
    | ⟨1, _⟩ => rfl
    | ⟨2, _⟩ => rfl))).trans (pooled0 P b t d))
  have e1 := (val_main_v132_apply (F := Ideal) P (ix4 b t 0 d)).trans ((congrArg (val_main_v70 (F := Ideal) P) (funext fun z => Fin.ext (by
    match z with
    | ⟨0, _⟩ => rfl
    | ⟨1, _⟩ => rfl
    | ⟨2, _⟩ => rfl))).trans (pooled1 P b t d))
  have e2 := (val_main_v133_apply (F := Ideal) P (ix4 b t 0 d)).trans ((congrArg (val_main_v100 (F := Ideal) P) (funext fun z => Fin.ext (by
    match z with
    | ⟨0, _⟩ => rfl
    | ⟨1, _⟩ => rfl
    | ⟨2, _⟩ => rfl))).trans (pooled2 P b t d))
  have e3 := (val_main_v134_apply (F := Ideal) P (ix4 b t 0 d)).trans ((congrArg (val_main_v130 (F := Ideal) P) (funext fun z => Fin.ext (by
    match z with
    | ⟨0, _⟩ => rfl
    | ⟨1, _⟩ => rfl
    | ⟨2, _⟩ => rfl))).trans (pooled3 P b t d))
  revert e0 e1 e2 e3
  generalize val_main_v131 (F := Ideal) P = y0
  generalize val_main_v132 (F := Ideal) P = y1
  generalize val_main_v133 (F := Ideal) P = y2
  generalize val_main_v134 (F := Ideal) P = y3
  intro e0 e1 e2 e3
  match g with
  | 0 => pointwise [e0]; rfl
  | 1 => pointwise [e1]; rfl
  | 2 => pointwise [e2]; rfl
  | 3 => pointwise [e3]; rfl

end Cert.Proof.Pool
-- ==== Proof.Pool.lean ====
module

public import proofs.«01_k».proof.Proof.PoolK
public import proofs.«01_k».proof.Proof.PoolR

/-! The pooling mixer: the call's result is the reference's where the pooled columns are real. -/

@[expose] public section

set_option maxRecDepth 16384

noncomputable section

namespace Cert.Proof.Pool

open Idealize.ShloMosaic Idealize.ShloMosaic.TcCoe
open Idealize.SL Idealize.SL.Sem
open Cert.PoolReferenceIdeal Cert.PoolReferenceIdeal.Read
open Cert.PoolKernelIdeal.Prod (POOL pool mixed)

/-- The pooled columns of the latent rows are real. -/
def FinitePool (P : Vec Ideal S9216x25600 .bf16) : Prop :=
  ∀ (r : Fin 9216) (c : Fin 25600), r.1 < 8192 → c.1 < 1024 → ∃ x : ℝ, P (ix2 r c) = (x : EReal)

/-- A pooled entry, kernel and reference. -/
theorem pool_eq (P : Vec Ideal S9216x25600 .bf16) (hP : FinitePool P) (b g : Fin 4) (t : Fin 2048) (e : Fin 256) :
    val_main_v135 (F := Ideal) P (ix4 b t g e) = pool P b g t e := by
  refine (v135 P b t g e).trans ?_
  have hg : ∀ g : Fin 4, 0 < half g := by decide
  exact (band_sum (A P b ⟨g.1 * 256 + e.1, by omega⟩) (fun u => hP _ _
    (by show b.1 * 2048 + u.1 < 8192; omega) (by show g.1 * 256 + e.1 < 1024; omega)) (half g) (hg g) t).symm

/-- The reference's result is the kernel's. -/
theorem out_eq (P : Vec Ideal S9216x25600 .bf16) (W : Vec Ideal S2x4x256x256 .f32) (s : Vec Ideal S2x1024 .f32) (hP : FinitePool P) :
    val_main_v143 (F := Ideal) P W s = POOL P W s := by
  funext i
  have h0 : (i 0).val < 8192 := (i 0).isLt
  have h1 : (i 1).val < 1024 := (i 1).isLt
  rw [val_main_v143_apply, val_main_v142_apply, val_main_v141_apply, val_main_v138_apply, val_main_v137_apply, val_main_v136_apply,
    val_main_v140_apply, val_main_v139_apply, val_main_v6_apply, val_main_v5_apply]
  unfold POOL mixed
  refine congrArg₂ (fun x y : EReal => x * y) (Finset.sum_congr rfl fun k _ => ?_) (congrArg s (funext fun z => Fin.ext ?_))
  · refine (mul_comm _ _).trans (congrArg₂ (fun x y : EReal => x * y) ?_ ?_)
    · refine (congrArg (val_main_v135 (F := Ideal) P) (funext fun z => Fin.ext ?_)).trans
        (pool_eq P hP ⟨(i 0).val / 2048, by omega⟩ ⟨(i 1).val / 256, by omega⟩ ⟨(i 0).val % 2048, by omega⟩ k)
      match z with
      | ⟨0, _⟩ => dsimp [ridx_main_v136, idx_main_v137, idx_main_v138, idx_main_v142] <;> omega
      | ⟨1, _⟩ => dsimp [ridx_main_v136, idx_main_v137, idx_main_v138, idx_main_v142] <;> omega
      | ⟨2, _⟩ => dsimp [ridx_main_v136, idx_main_v137, idx_main_v138, idx_main_v142] <;> omega
      | ⟨3, _⟩ => dsimp [ridx_main_v136, idx_main_v137, idx_main_v138, idx_main_v142] <;> omega
    · rw [val_main_v4_apply, val_main_v3_apply]
      refine congrArg W (funext fun z => Fin.ext ?_)
      have hk := k.2
      match z with
      | ⟨0, _⟩ => dsimp [idx_main_v3, idx_main_v4, lidx_main_v136, idx_main_v137, idx_main_v138, idx_main_v142] <;> omega
      | ⟨1, _⟩ => dsimp [idx_main_v3, idx_main_v4, lidx_main_v136, idx_main_v137, idx_main_v138, idx_main_v142] <;> omega
      | ⟨2, _⟩ => dsimp [idx_main_v3, idx_main_v4, lidx_main_v136, idx_main_v137, idx_main_v138, idx_main_v142] <;> omega
      | ⟨3, _⟩ => dsimp [idx_main_v3, idx_main_v4, lidx_main_v136, idx_main_v137, idx_main_v138, idx_main_v142] <;> omega
  · match z with
    | ⟨0, _⟩ => dsimp [idx_main_v5, idx_main_v6, idx_main_v139, idx_main_v140, idx_main_v142] <;> omega
    | ⟨1, _⟩ => dsimp [idx_main_v5, idx_main_v6, idx_main_v139, idx_main_v140, idx_main_v142] <;> omega

section

attribute [local instance] Cert.Pre_finite_pool.Gen.facts

/-- The precondition makes the pooled columns of the latent rows real. -/
theorem finite_pool (P : Vec Ideal S9216x25600 .bf16) (W : Vec Ideal S2x4x256x256 .f32) (s : Vec Ideal S2x1024 .f32)
    (h : Cert.Pre_finite_pool.fn (F := Ideal) P W s = fun _ => 1#1) : FinitePool P := by
  intro r c hr hc
  have e := congrFun h (ix2 ⟨r.1, hr⟩ ⟨c.1, hc⟩ : Cert.Pre_finite_pool.S8192x1024.Idx)
  dsimp only [Cert.Pre_finite_pool.fn] at e
  obtain ⟨x, hx⟩ := Attn.real_of_lt _ e
  refine ⟨x, Eq.trans ?_ hx⟩
  refine (extractStridedSlice_apply ![0, 0] P Cert.Pre_finite_pool.Facts.slices_S9216x25600_S8192x1024_0_0 _ (ix2 r c) fun a => ?_).symm
  match a with
  | ⟨0, _⟩ => show r.1 = 0 + r.1; omega
  | ⟨1, _⟩ => show c.1 = 0 + c.1; omega

end

/-- The two runs of the pooling mixer end with equal results where its pooled columns are real. -/
theorem algebraic : Cert.algebraic_PoolKernelIdeal_PoolReferenceIdeal_pre_finite_pool
    (hPoolKernelIdeal := Cert.PoolKernelIdeal.Gen.facts) (hPoolReferenceIdeal := Cert.PoolReferenceIdeal.Gen.facts)
    (hPre_finite_pool := Cert.Pre_finite_pool.Gen.facts) := by
  letI := Cert.PoolKernelIdeal.Gen.facts
  letI := Cert.PoolReferenceIdeal.Gen.facts
  letI := Cert.Pre_finite_pool.Gen.facts
  pair_intro
  · run_from Cert.PoolKernelIdeal.Value.run_blocks m g
  · run_from Cert.PoolReferenceIdeal.Value.run m' g'
    rw [Cert.PoolKernelIdeal.Prod.final]
    refine Eq.trans ?_ (out_eq _ _ _ (finite_pool _ _ _ (hpre c)))
    obtain ⟨a0, a1, a2⟩ := hagree c
    rw [← a0, ← a1, ← a2]
    exact val_main_v143_eq (Idealize.ShloMosaic.StableHlo.launchContents m' c)

end Cert.Proof.Pool
-- ==== Proof.Mid.lean ====
module

public import proofs.«01_k».proof.Defs
public import proofs.«01_k».proof.Proof.Gen.MidKernelIdeal.Value
public import proofs.«01_k».proof.Proof.Gen.MidReferenceIdeal.Run
public import proofs.«01_k».proof.Proof.Gen.MidReferenceIdeal.Read
public import Idealize.ShloMosaic.Lib.Pipeline.ValueKit
public import Idealize.ShloMosaic.Lib.Pipeline.ReadBack
public import Idealize.ShloMosaic.Lib.StableHlo.ReadAt
public import Idealize.ShloMosaic.Lib.Pointwise
public import Idealize.ShloMosaic.Lib.Claim

/-! The residual addition before the second feed-forward: the projected output is normalised, scaled by the gate and
    added to the activations; the sum is stored, and its normalised, scaled and shifted rows too. Computed in 36 blocks
    of 256 rows. -/

@[expose] public section

set_option maxRecDepth 16384

noncomputable section

namespace Cert.MidKernelIdeal.Prod

open Idealize.ShloMosaic Idealize.ShloMosaic.TcCoe
open Idealize.SL Idealize.SL.Sem
open Cert.MidKernelIdeal.Gen

variable (m : (ℓ : Loc nD τ sig) → Buf (Elt Ideal) ℓ)

/-- The modulation row of a row of activations: the sample's for the 4 × 2048 image rows, row 4 for the context rows. -/
def modRow (r : Nat) : Fin 8 := ⟨min (r / 2048) 4, by omega⟩

/-- The block indices of the nine windows at grid point `t`. -/
theorem idx : ∀ t : Fin cfg0.N, win0_0.index t = ![t.val, 0] ∧ win0_1.index t = ![t.val, 0] ∧ win0_2.index t = ![3, 0, 0]
    ∧ win0_3.index t = ![min (t.val * 256 / 2048) 4, 0, 5] ∧ win0_4.index t = ![4, 0, 0]
    ∧ win0_5.index t = ![min (t.val * 256 / 2048) 4, 0, 6] ∧ win0_6.index t = ![min (t.val * 256 / 2048) 4, 0, 7]
    ∧ win0_7.index t = ![t.val, 0] ∧ win0_8.index t = ![t.val, 0] :=
  (by decide +kernel : ∀ t : Fin grid0.N, _)

/-- The modulation array the region reads is the argument with a unit axis inserted. -/
theorem mods (c : Dev nD) (l : Fin 8) (z : Fin 1) (j : Fin 36864) :
    V m c main_v1 (ix3 l z j) = m ((c : Thread nD τ).loc main_arg3) (ix2 l j) := by
  unfold V
  after_reads_at

/-- The fourth gain the region reads is the argument's. -/
theorem gain3 (c : Dev nD) (z : Fin 1) (j : Fin 4096) :
    V m c main_v0 (ix3 3 z j) = m ((c : Thread nD τ).loc main_arg2) (ix3 0 3 j) := by
  unfold V
  after_reads_at

/-- The fifth gain the region reads is the argument's. -/
theorem gain4 (c : Dev nD) (z : Fin 1) (j : Fin 4096) :
    V m c main_v0 (ix3 4 z j) = m ((c : Thread nD τ).loc main_arg2) (ix3 0 4 j) := by
  unfold V
  after_reads_at

/-- One over the root mean square of a row. -/
def inv (x : Fin 4096 → Ideal .f32) : Ideal .f32 :=
  Ideal.rsqrt (Ideal.div (∑ k : Fin 4096, x k * x k) (Ideal.ofBits .f32 0x45800000#32) + Ideal.ofBits .f32 0x358637BD#32)

/-- The column of a modulation row that gates column `j`. -/
def gateCol (j : Fin 4096) : Fin 36864 := ⟨20480 + j.1, by omega⟩

/-- The column of a modulation row that shifts column `j`. -/
def shiftCol (j : Fin 4096) : Fin 36864 := ⟨24576 + j.1, by omega⟩

/-- The column of a modulation row that scales column `j`. -/
def scaleCol (j : Fin 4096) : Fin 36864 := ⟨28672 + j.1, by omega⟩

/-- The sum at row `r` and column `j`. -/
def resid (x y : Vec Ideal S9216x4096 .f32) (g : Vec Ideal S2x6x4096 .f32) (a : Vec Ideal S8x36864 .f32) (r : Fin 9216) (j : Fin 4096) : Ideal .f32 :=
  x (ix2 r j) + a (ix2 (modRow r.1) (gateCol j)) * (y (ix2 r j) * inv (fun k => y (ix2 r k)) * g (ix3 0 3 j))

/-- The normalised sum at row `r` and column `j`. -/
def norm (x y : Vec Ideal S9216x4096 .f32) (g : Vec Ideal S2x6x4096 .f32) (a : Vec Ideal S8x36864 .f32) (r : Fin 9216) (j : Fin 4096) : Ideal .f32 :=
  resid x y g a r j * inv (fun k => resid x y g a r k) * g (ix3 0 4 j) * (1 + a (ix2 (modRow r.1) (scaleCol j))) + a (ix2 (modRow r.1) (shiftCol j))

/-- The first result array: the sums. -/
def RESID (x y : Vec Ideal S9216x4096 .f32) (g : Vec Ideal S2x6x4096 .f32) (a : Vec Ideal S8x36864 .f32) : Vec Ideal S9216x4096 .f32 := fun i =>
  resid x y g a (i 0) (i 1)

/-- The second result array: the normalised sums. -/
def NORM (x y : Vec Ideal S9216x4096 .f32) (g : Vec Ideal S2x6x4096 .f32) (a : Vec Ideal S8x36864 .f32) : Vec Ideal S9216x4096 .bf16 := fun i =>
  norm x y g a (i 0) (i 1)

/-- Row `y` of block `t`. -/
def row (t : Fin cfg0.N) (y : Fin 256) : Fin 9216 := ⟨t.val * 256 + y.1, by have : t.val < 36 := t.isLt; omega⟩

/-- A row of block `t` takes the modulation row of the block. -/
theorem modRow_row (t : Fin cfg0.N) (y : Fin 256) : min (t.val * 256 / 2048) 4 + 0 = (modRow (row t y).val).val := by
  show _ = min ((t.val * 256 + y.1) / 2048) 4
  omega

/-- Block `t` of the activations. -/
theorem blk0 (c : Dev nD) (t : Fin cfg0.N) (y : Fin 256) (j : Fin 4096) :
    iblk m c 0 t (ix2 y j) = m ((c : Thread nD τ).loc main_arg0) (ix2 (row t y) j) := by
  unfold row
  blk_point [iblk, V, idx t]

/-- Block `t` of the projected output. -/
theorem blk1 (c : Dev nD) (t : Fin cfg0.N) (y : Fin 256) (j : Fin 4096) :
    iblk m c 1 t (ix2 y j) = m ((c : Thread nD τ).loc main_arg1) (ix2 (row t y) j) := by
  unfold row
  blk_point [iblk, V, idx t]

/-- The gain of the projected output. -/
theorem blk2 (c : Dev nD) (t : Fin cfg0.N) (j : Fin 4096) :
    iblk m c 2 t (ix3 0 0 j) = m ((c : Thread nD τ).loc main_arg2) (ix3 0 3 j) := by
  refine Eq.trans ?_ (gain3 m c 0 _)
  blk_point [iblk, V, idx t]

/-- The gain of the sum. -/
theorem blk4 (c : Dev nD) (t : Fin cfg0.N) (j : Fin 4096) :
    iblk m c 4 t (ix3 0 0 j) = m ((c : Thread nD τ).loc main_arg2) (ix3 0 4 j) := by
  refine Eq.trans ?_ (gain4 m c 0 _)
  blk_point [iblk, V, idx t]

/-- The gates of block `t`. -/
theorem blk3 (c : Dev nD) (t : Fin cfg0.N) (y : Fin 256) (j : Fin 4096) :
    iblk m c 3 t (ix3 0 0 j) = m ((c : Thread nD τ).loc main_arg3) (ix2 (modRow (row t y).val) (gateCol j)) := by
  refine Eq.trans ?_ (mods m c _ 0 _)
  have em := modRow_row t y
  unfold gateCol
  blk_point [iblk, V, idx t]

/-- The shifts of block `t`. -/
theorem blk5 (c : Dev nD) (t : Fin cfg0.N) (y : Fin 256) (j : Fin 4096) :
    iblk m c 5 t (ix3 0 0 j) = m ((c : Thread nD τ).loc main_arg3) (ix2 (modRow (row t y).val) (shiftCol j)) := by
  refine Eq.trans ?_ (mods m c _ 0 _)
  have em := modRow_row t y
  unfold shiftCol
  blk_point [iblk, V, idx t]

/-- The scales of block `t`. -/
theorem blk6 (c : Dev nD) (t : Fin cfg0.N) (y : Fin 256) (j : Fin 4096) :
    iblk m c 6 t (ix3 0 0 j) = m ((c : Thread nD τ).loc main_arg3) (ix2 (modRow (row t y).val) (scaleCol j)) := by
  refine Eq.trans ?_ (mods m c _ 0 _)
  have em := modRow_row t y
  unfold scaleCol
  blk_point [iblk, V, idx t]

/-- The sum as the body computes it at grid point `t`. -/
theorem pay2 (c : Dev nD) (t : Fin cfg0.N) (y : Fin 256) (j : Fin 4096) :
    k0_pay2 (iblk m c 0 t) (iblk m c 3 t) (iblk m c 1 t) (iblk m c 2 t) (ix2 y j)
      = resid (m ((c : Thread nD τ).loc main_arg0)) (m ((c : Thread nD τ).loc main_arg1)) (m ((c : Thread nD τ).loc main_arg2)) (m ((c : Thread nD τ).loc main_arg3)) (row t y) j := by
  pointwise [k0_pay2, resid, inv]
  simp only [blk0, blk1, blk2, blk3 m c t y, one_mul]

/-- The normalised sum as the body computes it at grid point `t`. -/
theorem pay1 (c : Dev nD) (t : Fin cfg0.N) (y : Fin 256) (j : Fin 4096) :
    k0_pay1 (k0_pay3 (iblk m c 4 t)) (k0_pay4 (iblk m c 0 t) (iblk m c 3 t) (iblk m c 1 t) (iblk m c 2 t)) (iblk m c 6 t) (iblk m c 5 t) (ix2 y j)
      = norm (m ((c : Thread nD τ).loc main_arg0)) (m ((c : Thread nD τ).loc main_arg1)) (m ((c : Thread nD τ).loc main_arg2)) (m ((c : Thread nD τ).loc main_arg3)) (row t y) j := by
  have e := pay2 m c t y
  unfold k0_pay4
  generalize k0_pay2 (iblk m c 0 t) (iblk m c 3 t) (iblk m c 1 t) (iblk m c 2 t) = p at e ⊢
  pointwise [k0_pay1, k0_pay3, norm, inv]
  simp only [e, blk4, blk5 m c t y, blk6 m c t y]

/-- The first result array after the run. -/
theorem final7 (c : Dev nD) : (dats m 0 c).arrAt 7 cfg0.N
    = RESID (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  have h0 : (((cfg0.win 7).blk t).view.emb y 0).val = t.val * 256 + (y 0).val := by
    blk_simp [idx t]
  have h1 : (((cfg0.win 7).blk t).view.emb y 1).val = (y 1).val := by
    blk_simp [idx t]
  have ey : y = ix2 (y 0) (y 1) := by funext a; match a with | ⟨0, _⟩ => rfl | ⟨1, _⟩ => rfl
  blk_simp
  rw [after0_7]
  unfold out0_7
  frame_out
  refine (congrArg _ ey).trans ((pay2 m c t (y 0) (y 1)).trans ?_)
  exact (congrArg₂ (resid (m ((c : Thread nD τ).loc main_arg0)) (m ((c : Thread nD τ).loc main_arg1)) (m ((c : Thread nD τ).loc main_arg2)) (m ((c : Thread nD τ).loc main_arg3)))
    (Fin.ext h0) (Fin.ext h1)).symm

/-- The second result array after the run. -/
theorem final8 (c : Dev nD) : (dats m 0 c).arrAt 8 cfg0.N
    = NORM (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t hf y => ?_
  have h0 : (((cfg0.win 8).blk t).view.emb y 0).val = t.val * 256 + (y 0).val := by
    blk_simp [idx t]
  have h1 : (((cfg0.win 8).blk t).view.emb y 1).val = (y 1).val := by
    blk_simp [idx t]
  have ey : y = ix2 (y 0) (y 1) := by funext a; match a with | ⟨0, _⟩ => rfl | ⟨1, _⟩ => rfl
  blk_simp
  rw [after0_8]
  unfold out0_8
  frame_out
  refine (congrArg _ ey).trans ((pay1 m c t (y 0) (y 1)).trans ?_)
  exact (congrArg₂ (norm (m ((c : Thread nD τ).loc main_arg0)) (m ((c : Thread nD τ).loc main_arg1)) (m ((c : Thread nD τ).loc main_arg2)) (m ((c : Thread nD τ).loc main_arg3)))
    (Fin.ext h0) (Fin.ext h1)).symm

end Cert.MidKernelIdeal.Prod

namespace Cert.Proof.Mid

open Idealize.ShloMosaic Idealize.ShloMosaic.TcCoe
open Idealize.SL Idealize.SL.Sem
open Cert.MidReferenceIdeal Cert.MidReferenceIdeal.Read
open Cert.MidKernelIdeal.Prod (resid norm RESID NORM inv modRow gateCol shiftCol scaleCol)

/-- The reference's sums of the image rows, by sample and row. -/
theorem v33 (x y : Vec Ideal S9216x4096 .f32) (g : Vec Ideal S2x6x4096 .f32) (a : Vec Ideal S8x36864 .f32) (b : Fin 4) (r : Fin 2048) (j : Fin 4096) :
    val_main_v33 (F := Ideal) x y g a (ix3 b r j) = resid x y g a ⟨b.1 * 2048 + r.1, by omega⟩ j := by
  simp only [val_main_v33_apply, val_main_v32_apply, val_main_v31_apply, val_main_v30_apply, val_main_v29_apply, val_main_v28_apply, val_main_v27_apply, val_main_v26_apply, val_main_v25_apply, val_main_v24_apply, val_main_v23_apply, val_main_v22_apply, val_main_v21_apply, val_main_v20_apply, val_main_v19_apply, val_main_v18_apply, val_main_v17_apply, val_main_v16_apply, val_main_v15_apply, val_main_v14_apply, val_main_v13_apply, val_main_v12_apply, val_main_v9_apply, val_main_v8_apply, val_main_v5_apply, val_main_v4_apply, val_main_v1_apply, val_main_v0_apply, val_main_cst_apply, val_main_cst_0_apply, val_main_cst_1_apply]
  have e5 : ∀ k : Fin 4096, idx_main_v19 (idx_main_v20 (idx_main_v26 (ix3 b r j))) k = (ix3 b r k : S4x2048x4096.Idx) := fun k =>
    funext fun z => Fin.ext (by
      match z with
      | ⟨0, _⟩ => rfl
      | ⟨1, _⟩ => rfl
      | ⟨2, _⟩ => rfl)
  have ex : ∀ k : Fin 4096, x (idx_main_v0 (idx_main_v1 (ix3 b r k))) = x (ix2 ⟨b.1 * 2048 + r.1, by omega⟩ k) := fun k =>
    congrArg x (funext fun z => Fin.ext (by
      match z with
      | ⟨0, _⟩ => dsimp [idx_main_v0, idx_main_v1] <;> omega
      | ⟨1, _⟩ => dsimp [idx_main_v0, idx_main_v1] <;> omega))
  have ey : ∀ k : Fin 4096, y (idx_main_v4 (idx_main_v5 (ix3 b r k))) = y (ix2 ⟨b.1 * 2048 + r.1, by omega⟩ k) := fun k =>
    congrArg y (funext fun z => Fin.ext (by
      match z with
      | ⟨0, _⟩ => dsimp [idx_main_v4, idx_main_v5] <;> omega
      | ⟨1, _⟩ => dsimp [idx_main_v4, idx_main_v5] <;> omega))
  have eg : g (idx_main_v12 (idx_main_v13 (idx_main_v16 (idx_main_v17 (idx_main_v28 (idx_main_v29 (ix3 b r j))))))) = g (ix3 0 3 j) :=
    congrArg g (funext fun z => Fin.ext (by
      match z with
      | ⟨0, _⟩ => dsimp [idx_main_v12, idx_main_v13, idx_main_v16, idx_main_v17, idx_main_v28, idx_main_v29] <;> omega
      | ⟨1, _⟩ => dsimp [idx_main_v12, idx_main_v13, idx_main_v16, idx_main_v17, idx_main_v28, idx_main_v29] <;> omega
      | ⟨2, _⟩ => dsimp [idx_main_v12, idx_main_v13, idx_main_v16, idx_main_v17, idx_main_v28, idx_main_v29] <;> omega))
  have em : (modRow (b.1 * 2048 + r.1)).val = b.1 := by
    show min ((b.1 * 2048 + r.1) / 2048) 4 = b.1
    omega
  have ea : a (idx_main_v8 (idx_main_v9 (idx_main_v14 (idx_main_v15 (idx_main_v31 (ix3 b r j)))))) = a (ix2 (modRow (b.1 * 2048 + r.1)) (gateCol j)) :=
    congrArg a (funext fun z => Fin.ext (by
      match z with
      | ⟨0, _⟩ => refine Eq.trans ?_ em.symm; dsimp [idx_main_v8, idx_main_v9, idx_main_v14, idx_main_v15, idx_main_v31] <;> omega
      | ⟨1, _⟩ => dsimp [gateCol, idx_main_v8, idx_main_v9, idx_main_v14, idx_main_v15, idx_main_v31] <;> omega))
  simp only [e5, ex, ey]
  rw [eg, ea]
  pointwise [Cert.MidKernelIdeal.Prod.resid, Cert.MidKernelIdeal.Prod.inv]

/-- The reference's sums of the context rows, by sample and row. -/
theorem v53 (x y : Vec Ideal S9216x4096 .f32) (g : Vec Ideal S2x6x4096 .f32) (a : Vec Ideal S8x36864 .f32) (b : Fin 4) (r : Fin 256) (j : Fin 4096) :
    val_main_v53 (F := Ideal) x y g a (ix3 b r j) = resid x y g a ⟨8192 + (b.1 * 256 + r.1), by omega⟩ j := by
  simp only [val_main_v53_apply, val_main_v52_apply, val_main_v51_apply, val_main_v50_apply, val_main_v49_apply, val_main_v48_apply, val_main_v47_apply, val_main_v46_apply, val_main_v45_apply, val_main_v44_apply, val_main_v43_apply, val_main_v42_apply, val_main_v41_apply, val_main_v40_apply, val_main_v39_apply, val_main_v38_apply, val_main_v37_apply, val_main_v36_apply, val_main_v35_apply, val_main_v34_apply, val_main_v13_apply, val_main_v12_apply, val_main_v11_apply, val_main_v10_apply, val_main_v7_apply, val_main_v6_apply, val_main_v3_apply, val_main_v2_apply, val_main_cst_2_apply, val_main_cst_3_apply, val_main_cst_4_apply]
  have e5 : ∀ k : Fin 4096, idx_main_v39 (idx_main_v40 (idx_main_v46 (ix3 b r j))) k = (ix3 b r k : S4x256x4096.Idx) := fun k =>
    funext fun z => Fin.ext (by
      match z with
      | ⟨0, _⟩ => rfl
      | ⟨1, _⟩ => rfl
      | ⟨2, _⟩ => rfl)
  have ex : ∀ k : Fin 4096, x (idx_main_v2 (idx_main_v3 (ix3 b r k))) = x (ix2 ⟨8192 + (b.1 * 256 + r.1), by omega⟩ k) := fun k =>
    congrArg x (funext fun z => Fin.ext (by
      match z with
      | ⟨0, _⟩ => dsimp [idx_main_v2, idx_main_v3] <;> omega
      | ⟨1, _⟩ => dsimp [idx_main_v2, idx_main_v3] <;> omega))
  have ey : ∀ k : Fin 4096, y (idx_main_v6 (idx_main_v7 (ix3 b r k))) = y (ix2 ⟨8192 + (b.1 * 256 + r.1), by omega⟩ k) := fun k =>
    congrArg y (funext fun z => Fin.ext (by
      match z with
      | ⟨0, _⟩ => dsimp [idx_main_v6, idx_main_v7] <;> omega
      | ⟨1, _⟩ => dsimp [idx_main_v6, idx_main_v7] <;> omega))
  have eg : g (idx_main_v12 (idx_main_v13 (idx_main_v36 (idx_main_v37 (idx_main_v48 (idx_main_v49 (ix3 b r j))))))) = g (ix3 0 3 j) :=
    congrArg g (funext fun z => Fin.ext (by
      match z with
      | ⟨0, _⟩ => dsimp [idx_main_v12, idx_main_v13, idx_main_v36, idx_main_v37, idx_main_v48, idx_main_v49] <;> omega
      | ⟨1, _⟩ => dsimp [idx_main_v12, idx_main_v13, idx_main_v36, idx_main_v37, idx_main_v48, idx_main_v49] <;> omega
      | ⟨2, _⟩ => dsimp [idx_main_v12, idx_main_v13, idx_main_v36, idx_main_v37, idx_main_v48, idx_main_v49] <;> omega))
  have em : (modRow (8192 + (b.1 * 256 + r.1))).val = 4 := by
    show min ((8192 + (b.1 * 256 + r.1)) / 2048) 4 = 4
    omega
  have ea : a (idx_main_v10 (idx_main_v11 (idx_main_v34 (idx_main_v35 (idx_main_v51 (ix3 b r j)))))) = a (ix2 (modRow (8192 + (b.1 * 256 + r.1))) (gateCol j)) :=
    congrArg a (funext fun z => Fin.ext (by
      match z with
      | ⟨0, _⟩ => refine Eq.trans ?_ em.symm; dsimp [idx_main_v10, idx_main_v11, idx_main_v34, idx_main_v35, idx_main_v51] <;> omega
      | ⟨1, _⟩ => dsimp [gateCol, idx_main_v10, idx_main_v11, idx_main_v34, idx_main_v35, idx_main_v51] <;> omega))
  simp only [e5, ex, ey]
  rw [eg, ea]
  pointwise [Cert.MidKernelIdeal.Prod.resid, Cert.MidKernelIdeal.Prod.inv]

/-- The reference's normalised sums of the image rows, by sample and row. -/
theorem v78 (x y : Vec Ideal S9216x4096 .f32) (g : Vec Ideal S2x6x4096 .f32) (a : Vec Ideal S8x36864 .f32) (b : Fin 4) (r : Fin 2048) (j : Fin 4096) :
    val_main_v78 (F := Ideal) x y g a (ix3 b r j) = norm x y g a ⟨b.1 * 2048 + r.1, by omega⟩ j := by
  simp only [val_main_v78_apply, val_main_v77_apply, val_main_v76_apply, val_main_v75_apply, val_main_v74_apply, val_main_v73_apply, val_main_v72_apply, val_main_v71_apply, val_main_v70_apply, val_main_v69_apply, val_main_v68_apply, val_main_v67_apply, val_main_v66_apply, val_main_v65_apply, val_main_v64_apply, val_main_v63_apply, val_main_v62_apply, val_main_v61_apply, val_main_v60_apply, val_main_v59_apply, val_main_v58_apply, val_main_v57_apply, val_main_v56_apply, val_main_v55_apply, val_main_v54_apply, val_main_v13_apply, val_main_v12_apply, val_main_v9_apply, val_main_v8_apply, val_main_cst_5_apply, val_main_cst_6_apply, val_main_cst_7_apply, val_main_cst_8_apply]
  have e5 : ∀ k : Fin 4096, idx_main_v57 (idx_main_v58 (idx_main_v64 (ix3 b r j))) k = (ix3 b r k : S4x2048x4096.Idx) := fun k =>
    funext fun z => Fin.ext (by
      match z with
      | ⟨0, _⟩ => rfl
      | ⟨1, _⟩ => rfl
      | ⟨2, _⟩ => rfl)
  have eg : g (idx_main_v12 (idx_main_v13 (idx_main_v54 (idx_main_v55 (idx_main_v66 (idx_main_v67 (ix3 b r j))))))) = g (ix3 0 4 j) :=
    congrArg g (funext fun z => Fin.ext (by
      match z with
      | ⟨0, _⟩ => dsimp [idx_main_v12, idx_main_v13, idx_main_v54, idx_main_v55, idx_main_v66, idx_main_v67] <;> omega
      | ⟨1, _⟩ => dsimp [idx_main_v12, idx_main_v13, idx_main_v54, idx_main_v55, idx_main_v66, idx_main_v67] <;> omega
      | ⟨2, _⟩ => dsimp [idx_main_v12, idx_main_v13, idx_main_v54, idx_main_v55, idx_main_v66, idx_main_v67] <;> omega))
  have em : (modRow (b.1 * 2048 + r.1)).val = b.1 := by
    show min ((b.1 * 2048 + r.1) / 2048) 4 = b.1
    omega
  have es : a (idx_main_v8 (idx_main_v9 (idx_main_v69 (idx_main_v70 (idx_main_v77 (ix3 b r j)))))) = a (ix2 (modRow (b.1 * 2048 + r.1)) (shiftCol j)) :=
    congrArg a (funext fun z => Fin.ext (by
      match z with
      | ⟨0, _⟩ => refine Eq.trans ?_ em.symm; dsimp [idx_main_v8, idx_main_v9, idx_main_v69, idx_main_v70, idx_main_v77] <;> omega
      | ⟨1, _⟩ => dsimp [shiftCol, idx_main_v8, idx_main_v9, idx_main_v69, idx_main_v70, idx_main_v77] <;> omega))
  have ec : a (idx_main_v8 (idx_main_v9 (idx_main_v71 (idx_main_v72 (idx_main_v75 (ix3 b r j)))))) = a (ix2 (modRow (b.1 * 2048 + r.1)) (scaleCol j)) :=
    congrArg a (funext fun z => Fin.ext (by
      match z with
      | ⟨0, _⟩ => refine Eq.trans ?_ em.symm; dsimp [idx_main_v8, idx_main_v9, idx_main_v71, idx_main_v72, idx_main_v75] <;> omega
      | ⟨1, _⟩ => dsimp [scaleCol, idx_main_v8, idx_main_v9, idx_main_v71, idx_main_v72, idx_main_v75] <;> omega))
  simp only [e5, v33]
  rw [eg, es, ec]
  pointwise [Cert.MidKernelIdeal.Prod.norm, Cert.MidKernelIdeal.Prod.inv]

/-- The reference's normalised sums of the context rows, by sample and row. -/
theorem v103 (x y : Vec Ideal S9216x4096 .f32) (g : Vec Ideal S2x6x4096 .f32) (a : Vec Ideal S8x36864 .f32) (b : Fin 4) (r : Fin 256) (j : Fin 4096) :
    val_main_v103 (F := Ideal) x y g a (ix3 b r j) = norm x y g a ⟨8192 + (b.1 * 256 + r.1), by omega⟩ j := by
  simp only [val_main_v103_apply, val_main_v102_apply, val_main_v101_apply, val_main_v100_apply, val_main_v99_apply, val_main_v98_apply, val_main_v97_apply, val_main_v96_apply, val_main_v95_apply, val_main_v94_apply, val_main_v93_apply, val_main_v92_apply, val_main_v91_apply, val_main_v90_apply, val_main_v89_apply, val_main_v88_apply, val_main_v87_apply, val_main_v86_apply, val_main_v85_apply, val_main_v84_apply, val_main_v83_apply, val_main_v82_apply, val_main_v81_apply, val_main_v80_apply, val_main_v79_apply, val_main_v13_apply, val_main_v12_apply, val_main_v11_apply, val_main_v10_apply, val_main_cst_9_apply, val_main_cst_10_apply, val_main_cst_11_apply, val_main_cst_12_apply]
  have e5 : ∀ k : Fin 4096, idx_main_v82 (idx_main_v83 (idx_main_v89 (ix3 b r j))) k = (ix3 b r k : S4x256x4096.Idx) := fun k =>
    funext fun z => Fin.ext (by
      match z with
      | ⟨0, _⟩ => rfl
      | ⟨1, _⟩ => rfl
      | ⟨2, _⟩ => rfl)
  have eg : g (idx_main_v12 (idx_main_v13 (idx_main_v79 (idx_main_v80 (idx_main_v91 (idx_main_v92 (ix3 b r j))))))) = g (ix3 0 4 j) :=
    congrArg g (funext fun z => Fin.ext (by
      match z with
      | ⟨0, _⟩ => dsimp [idx_main_v12, idx_main_v13, idx_main_v79, idx_main_v80, idx_main_v91, idx_main_v92] <;> omega
      | ⟨1, _⟩ => dsimp [idx_main_v12, idx_main_v13, idx_main_v79, idx_main_v80, idx_main_v91, idx_main_v92] <;> omega
      | ⟨2, _⟩ => dsimp [idx_main_v12, idx_main_v13, idx_main_v79, idx_main_v80, idx_main_v91, idx_main_v92] <;> omega))
  have em : (modRow (8192 + (b.1 * 256 + r.1))).val = 4 := by
    show min ((8192 + (b.1 * 256 + r.1)) / 2048) 4 = 4
    omega
  have es : a (idx_main_v10 (idx_main_v11 (idx_main_v94 (idx_main_v95 (idx_main_v102 (ix3 b r j)))))) = a (ix2 (modRow (8192 + (b.1 * 256 + r.1))) (shiftCol j)) :=
    congrArg a (funext fun z => Fin.ext (by
      match z with
      | ⟨0, _⟩ => refine Eq.trans ?_ em.symm; dsimp [idx_main_v10, idx_main_v11, idx_main_v94, idx_main_v95, idx_main_v102] <;> omega
      | ⟨1, _⟩ => dsimp [shiftCol, idx_main_v10, idx_main_v11, idx_main_v94, idx_main_v95, idx_main_v102] <;> omega))
  have ec : a (idx_main_v10 (idx_main_v11 (idx_main_v96 (idx_main_v97 (idx_main_v100 (ix3 b r j)))))) = a (ix2 (modRow (8192 + (b.1 * 256 + r.1))) (scaleCol j)) :=
    congrArg a (funext fun z => Fin.ext (by
      match z with
      | ⟨0, _⟩ => refine Eq.trans ?_ em.symm; dsimp [idx_main_v10, idx_main_v11, idx_main_v96, idx_main_v97, idx_main_v100] <;> omega
      | ⟨1, _⟩ => dsimp [scaleCol, idx_main_v10, idx_main_v11, idx_main_v96, idx_main_v97, idx_main_v100] <;> omega))
  simp only [e5, v53]
  rw [eg, es, ec]
  pointwise [Cert.MidKernelIdeal.Prod.norm, Cert.MidKernelIdeal.Prod.inv]

/-- The reference's first result is the kernel's. -/
theorem out109 (x y : Vec Ideal S9216x4096 .f32) (g : Vec Ideal S2x6x4096 .f32) (a : Vec Ideal S8x36864 .f32) :
    val_main_v109 (F := Ideal) x y g a = RESID x y g a := by
  funext i
  unfold val_main_v109
  pointwise
  have h0 : (i 0).val < 9216 := (i 0).isLt
  have h1 : (i 1).val < 4096 := (i 1).isLt
  have hrow : ∀ (n : Fin 9216), n.val = (i 0).val → resid x y g a n (i 1) = RESID x y g a i := fun n hn =>
    congrArg (fun n => resid x y g a n (i 1)) (Fin.ext hn)
  by_cases h : (i 0).val < 8192
  · rw [dif_pos h]
    refine (val_main_v107_apply x y g a _).trans ((congrArg _ ?_).trans
      ((v33 x y g a ⟨(i 0).val / 2048, by omega⟩ ⟨(i 0).val % 2048, by omega⟩ (i 1)).trans (hrow _ ?_)))
    · funext z
      refine Fin.ext ?_
      match z with
      | ⟨0, _⟩ => dsimp [idx_main_v107] <;> omega
      | ⟨1, _⟩ => dsimp [idx_main_v107] <;> omega
      | ⟨2, _⟩ => dsimp [idx_main_v107] <;> omega
    · show (i 0).val / 2048 * 2048 + (i 0).val % 2048 = (i 0).val
      omega
  · rw [dif_neg h]
    refine (val_main_v108_apply x y g a _).trans ((congrArg _ ?_).trans
      ((v53 x y g a ⟨((i 0).val - 8192) / 256, by omega⟩ ⟨((i 0).val - 8192) % 256, by omega⟩ (i 1)).trans (hrow _ ?_)))
    · funext z
      refine Fin.ext ?_
      match z with
      | ⟨0, _⟩ => dsimp [idx_main_v108] <;> omega
      | ⟨1, _⟩ => dsimp [idx_main_v108] <;> omega
      | ⟨2, _⟩ => dsimp [idx_main_v108] <;> omega
    · show 8192 + (((i 0).val - 8192) / 256 * 256 + ((i 0).val - 8192) % 256) = (i 0).val
      omega

/-- The reference's second result is the kernel's. -/
theorem out110 (x y : Vec Ideal S9216x4096 .f32) (g : Vec Ideal S2x6x4096 .f32) (a : Vec Ideal S8x36864 .f32) :
    val_main_v110 (F := Ideal) x y g a = NORM x y g a := by
  funext i
  rw [val_main_v110_apply]
  unfold val_main_v106
  pointwise
  have h0 : (i 0).val < 9216 := (i 0).isLt
  have h1 : (i 1).val < 4096 := (i 1).isLt
  have hrow : ∀ (n : Fin 9216), n.val = (i 0).val → norm x y g a n (i 1) = NORM x y g a i := fun n hn =>
    congrArg (fun n => norm x y g a n (i 1)) (Fin.ext hn)
  by_cases h : (i 0).val < 8192
  · rw [dif_pos h]
    refine (val_main_v104_apply x y g a _).trans ((congrArg _ ?_).trans
      ((v78 x y g a ⟨(i 0).val / 2048, by omega⟩ ⟨(i 0).val % 2048, by omega⟩ (i 1)).trans (hrow _ ?_)))
    · funext z
      refine Fin.ext ?_
      match z with
      | ⟨0, _⟩ => dsimp [idx_main_v104] <;> omega
      | ⟨1, _⟩ => dsimp [idx_main_v104] <;> omega
      | ⟨2, _⟩ => dsimp [idx_main_v104] <;> omega
    · show (i 0).val / 2048 * 2048 + (i 0).val % 2048 = (i 0).val
      omega
  · rw [dif_neg h]
    refine (val_main_v105_apply x y g a _).trans ((congrArg _ ?_).trans
      ((v103 x y g a ⟨((i 0).val - 8192) / 256, by omega⟩ ⟨((i 0).val - 8192) % 256, by omega⟩ (i 1)).trans (hrow _ ?_)))
    · funext z
      refine Fin.ext ?_
      match z with
      | ⟨0, _⟩ => dsimp [idx_main_v105] <;> omega
      | ⟨1, _⟩ => dsimp [idx_main_v105] <;> omega
      | ⟨2, _⟩ => dsimp [idx_main_v105] <;> omega
    · show 8192 + (((i 0).val - 8192) / 256 * 256 + ((i 0).val - 8192) % 256) = (i 0).val
      omega

/-- The two runs of the second residual addition end with equal results, both of them. -/
theorem algebraic : Cert.algebraic_MidKernelIdeal_MidReferenceIdeal
    (hMidKernelIdeal := Cert.MidKernelIdeal.Gen.facts) (hMidReferenceIdeal := Cert.MidReferenceIdeal.Gen.facts) := by
  letI := Cert.MidKernelIdeal.Gen.facts
  letI := Cert.MidReferenceIdeal.Gen.facts
  pair_intro
  · run_from Cert.MidKernelIdeal.Value.run_blocks m g
  · run_from Cert.MidReferenceIdeal.Value.run m' g'
    · rw [Cert.MidKernelIdeal.Prod.final7]
      refine Eq.trans ?_ (out109 _ _ _ _)
      refine (val_main_v109_eq _ _ _ _).trans ?_
      obtain ⟨h0, h1, h2, h3⟩ := hagree c
      rw [← h0, ← h1, ← h2, ← h3]
    · rw [Cert.MidKernelIdeal.Prod.final8]
      refine Eq.trans ?_ (out110 _ _ _ _)
      refine (val_main_v110_eq _ _).trans ?_
      obtain ⟨h0, h1, h2, h3⟩ := hagree c
      rw [← h0, ← h1, ← h2, ← h3]

end Cert.Proof.Mid
-- ==== Proof.Last.lean ====
module

public import proofs.«01_k».proof.Defs
public import proofs.«01_k».proof.Proof.Gen.LastKernelIdeal.Value
public import proofs.«01_k».proof.Proof.Gen.LastReferenceIdeal.Run
public import proofs.«01_k».proof.Proof.Gen.LastReferenceIdeal.Read
public import Idealize.ShloMosaic.Lib.Pipeline.ValueKit
public import Idealize.ShloMosaic.Lib.Pipeline.ReadBack
public import Idealize.ShloMosaic.Lib.StableHlo.ReadAt
public import Idealize.ShloMosaic.Lib.Pointwise
public import Idealize.ShloMosaic.Lib.Claim

/-! The last residual addition: the second feed-forward's output on the image rows is normalised, scaled by half the gate
    and added to the activations. Computed in 32 blocks of 256 rows. -/

@[expose] public section

set_option maxRecDepth 16384

noncomputable section

namespace Cert.LastKernelIdeal.Prod

open Idealize.ShloMosaic Idealize.ShloMosaic.TcCoe
open Idealize.SL Idealize.SL.Sem
open Cert.LastKernelIdeal.Gen

variable (m : (ℓ : Loc nD τ sig) → Buf (Elt Ideal) ℓ)

/-- The modulation row of a row of activations: the sample's. -/
def modRow (r : Nat) : Fin 8 := ⟨min (r / 2048) 4, by omega⟩

/-- The block indices of the five windows at grid point `t`. -/
theorem idx : ∀ t : Fin cfg0.N, win0_0.index t = ![t.val, 0] ∧ win0_1.index t = ![t.val, 0] ∧ win0_2.index t = ![11, 0, 0]
    ∧ win0_3.index t = ![min (t.val * 256 / 2048) 4, 0, 8] ∧ win0_4.index t = ![t.val, 0] :=
  (by decide +kernel : ∀ t : Fin grid0.N, _)

/-- The modulation array the region reads is the argument with a unit axis inserted. -/
theorem mods (c : Dev nD) (l : Fin 8) (z : Fin 1) (j : Fin 36864) :
    V m c main_v1 (ix3 l z j) = m ((c : Thread nD τ).loc main_arg3) (ix2 l j) := by
  unfold V
  after_reads_at

/-- The last gain the region reads is the argument's. -/
theorem gain (c : Dev nD) (z : Fin 1) (j : Fin 4096) :
    V m c main_v0 (ix3 11 z j) = m ((c : Thread nD τ).loc main_arg2) (ix3 1 5 j) := by
  unfold V
  after_reads_at

/-- One over the root mean square of a row. -/
def inv (x : Fin 4096 → Ideal .f32) : Ideal .f32 :=
  Ideal.rsqrt (Ideal.div (∑ k : Fin 4096, x k * x k) (Ideal.ofBits .f32 0x45800000#32) + Ideal.ofBits .f32 0x358637BD#32)

/-- The column of a modulation row that gates column `j`. -/
def gateCol (j : Fin 4096) : Fin 36864 := ⟨32768 + j.1, by omega⟩

/-- The sum at row `r` and column `j`. -/
def resid (x y : Vec Ideal S8192x4096 .f32) (g : Vec Ideal S2x6x4096 .f32) (a : Vec Ideal S8x36864 .f32) (r : Fin 8192) (j : Fin 4096) : Ideal .f32 :=
  x (ix2 r j) + Ideal.ofBits .f32 0x3F000000#32 * a (ix2 (modRow r.1) (gateCol j)) * (y (ix2 r j) * inv (fun k => y (ix2 r k)) * g (ix3 1 5 j))

/-- The result array: the sums. -/
def RESID (x y : Vec Ideal S8192x4096 .f32) (g : Vec Ideal S2x6x4096 .f32) (a : Vec Ideal S8x36864 .f32) : Vec Ideal S8192x4096 .f32 := fun i =>
  resid x y g a (i 0) (i 1)

/-- Row `y` of block `t`. -/
def row (t : Fin cfg0.N) (y : Fin 256) : Fin 8192 := ⟨t.val * 256 + y.1, by have : t.val < 32 := t.isLt; omega⟩

/-- A row of block `t` takes the modulation row of the block. -/
theorem modRow_row (t : Fin cfg0.N) (y : Fin 256) : min (t.val * 256 / 2048) 4 + 0 = (modRow (row t y).val).val := by
  show _ = min ((t.val * 256 + y.1) / 2048) 4
  omega

/-- Block `t` of the activations. -/
theorem blk0 (c : Dev nD) (t : Fin cfg0.N) (y : Fin 256) (j : Fin 4096) :
    iblk m c 0 t (ix2 y j) = m ((c : Thread nD τ).loc main_arg0) (ix2 (row t y) j) := by
  unfold row
  blk_point [iblk, V, idx t]

/-- Block `t` of the projected output. -/
theorem blk1 (c : Dev nD) (t : Fin cfg0.N) (y : Fin 256) (j : Fin 4096) :
    iblk m c 1 t (ix2 y j) = m ((c : Thread nD τ).loc main_arg1) (ix2 (row t y) j) := by
  unfold row
  blk_point [iblk, V, idx t]

/-- The gain of the projected output. -/
theorem blk2 (c : Dev nD) (t : Fin cfg0.N) (j : Fin 4096) :
    iblk m c 2 t (ix3 0 0 j) = m ((c : Thread nD τ).loc main_arg2) (ix3 1 5 j) := by
  refine Eq.trans ?_ (gain m c 0 _)
  blk_point [iblk, V, idx t]

/-- The gates of block `t`. -/
theorem blk3 (c : Dev nD) (t : Fin cfg0.N) (y : Fin 256) (j : Fin 4096) :
    iblk m c 3 t (ix3 0 0 j) = m ((c : Thread nD τ).loc main_arg3) (ix2 (modRow (row t y).val) (gateCol j)) := by
  refine Eq.trans ?_ (mods m c _ 0 _)
  have em := modRow_row t y
  unfold gateCol
  blk_point [iblk, V, idx t]

/-- The sum as the body computes it at grid point `t`. -/
theorem pay (c : Dev nD) (t : Fin cfg0.N) (y : Fin 256) (j : Fin 4096) :
    k0_pay1 (iblk m c 0 t) (iblk m c 3 t) (iblk m c 1 t) (iblk m c 2 t) (ix2 y j)
      = resid (m ((c : Thread nD τ).loc main_arg0)) (m ((c : Thread nD τ).loc main_arg1)) (m ((c : Thread nD τ).loc main_arg2)) (m ((c : Thread nD τ).loc main_arg3)) (row t y) j := by
  pointwise [k0_pay1, resid, inv]
  simp only [blk0, blk1, blk2, blk3 m c t y]

/-- The result array after the run. -/
theorem final (c : Dev nD) : (dats m 0 c).arrAt 4 cfg0.N
    = RESID (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  have h0 : (((cfg0.win 4).blk t).view.emb y 0).val = t.val * 256 + (y 0).val := by
    blk_simp [idx t]
  have h1 : (((cfg0.win 4).blk t).view.emb y 1).val = (y 1).val := by
    blk_simp [idx t]
  have ey : y = ix2 (y 0) (y 1) := by funext a; match a with | ⟨0, _⟩ => rfl | ⟨1, _⟩ => rfl
  blk_simp
  rw [after0_4]
  unfold out0_4
  frame_out
  refine (congrArg _ ey).trans ((pay m c t (y 0) (y 1)).trans ?_)
  exact (congrArg₂ (resid (m ((c : Thread nD τ).loc main_arg0)) (m ((c : Thread nD τ).loc main_arg1)) (m ((c : Thread nD τ).loc main_arg2)) (m ((c : Thread nD τ).loc main_arg3)))
    (Fin.ext h0) (Fin.ext h1)).symm

end Cert.LastKernelIdeal.Prod

namespace Cert.Proof.Last

open Idealize.ShloMosaic Idealize.ShloMosaic.TcCoe
open Idealize.SL Idealize.SL.Sem
open Cert.LastReferenceIdeal Cert.LastReferenceIdeal.Read
open Cert.LastKernelIdeal.Prod (resid RESID inv modRow gateCol)

/-- The reference's sums, by sample and row. -/
theorem v27 (x y : Vec Ideal S8192x4096 .f32) (g : Vec Ideal S2x6x4096 .f32) (a : Vec Ideal S8x36864 .f32) (b : Fin 4) (r : Fin 2048) (j : Fin 4096) :
    val_main_v27 (F := Ideal) x y g a (ix3 b r j) = resid x y g a ⟨b.1 * 2048 + r.1, by omega⟩ j := by
  simp only [val_main_v27_apply, val_main_v26_apply, val_main_v25_apply, val_main_v24_apply, val_main_v23_apply, val_main_v22_apply, val_main_v21_apply, val_main_v20_apply, val_main_v19_apply, val_main_v18_apply, val_main_v17_apply, val_main_v16_apply, val_main_v15_apply, val_main_v14_apply, val_main_v13_apply, val_main_v12_apply, val_main_v11_apply, val_main_v10_apply, val_main_v9_apply, val_main_v8_apply, val_main_v7_apply, val_main_v6_apply, val_main_v5_apply, val_main_v4_apply, val_main_v3_apply, val_main_v2_apply, val_main_v1_apply, val_main_v0_apply, val_main_cst_apply, val_main_cst_0_apply, val_main_cst_1_apply, val_main_cst_2_apply]
  have e5 : ∀ k : Fin 4096, idx_main_v13 (idx_main_v14 (idx_main_v20 (ix3 b r j))) k = (ix3 b r k : S4x2048x4096.Idx) := fun k =>
    funext fun z => Fin.ext (by
      match z with
      | ⟨0, _⟩ => rfl
      | ⟨1, _⟩ => rfl
      | ⟨2, _⟩ => rfl)
  have ex : ∀ k : Fin 4096, x (idx_main_v0 (ix3 b r k)) = x (ix2 ⟨b.1 * 2048 + r.1, by omega⟩ k) := fun k =>
    congrArg x (funext fun z => Fin.ext (by
      match z with
      | ⟨0, _⟩ => dsimp [idx_main_v0] <;> omega
      | ⟨1, _⟩ => dsimp [idx_main_v0] <;> omega))
  have ey : ∀ k : Fin 4096, y (idx_main_v1 (ix3 b r k)) = y (ix2 ⟨b.1 * 2048 + r.1, by omega⟩ k) := fun k =>
    congrArg y (funext fun z => Fin.ext (by
      match z with
      | ⟨0, _⟩ => dsimp [idx_main_v1] <;> omega
      | ⟨1, _⟩ => dsimp [idx_main_v1] <;> omega))
  have eg : g (idx_main_v4 (idx_main_v5 (idx_main_v10 (idx_main_v11 (idx_main_v22 (idx_main_v23 (ix3 b r j))))))) = g (ix3 1 5 j) :=
    congrArg g (funext fun z => Fin.ext (by
      match z with
      | ⟨0, _⟩ => dsimp [idx_main_v4, idx_main_v5, idx_main_v10, idx_main_v11, idx_main_v22, idx_main_v23] <;> omega
      | ⟨1, _⟩ => dsimp [idx_main_v4, idx_main_v5, idx_main_v10, idx_main_v11, idx_main_v22, idx_main_v23] <;> omega
      | ⟨2, _⟩ => dsimp [idx_main_v4, idx_main_v5, idx_main_v10, idx_main_v11, idx_main_v22, idx_main_v23] <;> omega))
  have em : (modRow (b.1 * 2048 + r.1)).val = b.1 := by
    show min ((b.1 * 2048 + r.1) / 2048) 4 = b.1
    omega
  have ea : a (idx_main_v2 (idx_main_v3 (idx_main_v6 (idx_main_v7 (idx_main_v25 (ix3 b r j)))))) = a (ix2 (modRow (b.1 * 2048 + r.1)) (gateCol j)) :=
    congrArg a (funext fun z => Fin.ext (by
      match z with
      | ⟨0, _⟩ => refine Eq.trans ?_ em.symm; dsimp [idx_main_v2, idx_main_v3, idx_main_v6, idx_main_v7, idx_main_v25] <;> omega
      | ⟨1, _⟩ => dsimp [gateCol, idx_main_v2, idx_main_v3, idx_main_v6, idx_main_v7, idx_main_v25] <;> omega))
  simp only [e5, ex, ey]
  rw [eg, ea]
  pointwise [Cert.LastKernelIdeal.Prod.resid, Cert.LastKernelIdeal.Prod.inv]

/-- The reference's result is the kernel's. -/
theorem out28 (x y : Vec Ideal S8192x4096 .f32) (g : Vec Ideal S2x6x4096 .f32) (a : Vec Ideal S8x36864 .f32) :
    val_main_v28 (F := Ideal) x y g a = RESID x y g a := by
  funext i
  have h0 : (i 0).val < 8192 := (i 0).isLt
  have h1 : (i 1).val < 4096 := (i 1).isLt
  refine (val_main_v28_apply x y g a _).trans ((congrArg _ ?_).trans
    ((v27 x y g a ⟨(i 0).val / 2048, by omega⟩ ⟨(i 0).val % 2048, by omega⟩ (i 1)).trans ?_))
  · funext z
    refine Fin.ext ?_
    match z with
    | ⟨0, _⟩ => dsimp [idx_main_v28] <;> omega
    | ⟨1, _⟩ => dsimp [idx_main_v28] <;> omega
    | ⟨2, _⟩ => dsimp [idx_main_v28] <;> omega
  · refine congrArg (fun n => resid x y g a n (i 1)) (Fin.ext ?_)
    show (i 0).val / 2048 * 2048 + (i 0).val % 2048 = (i 0).val
    omega

/-- The two runs of the last residual addition end with equal results. -/
theorem algebraic : Cert.algebraic_LastKernelIdeal_LastReferenceIdeal
    (hLastKernelIdeal := Cert.LastKernelIdeal.Gen.facts) (hLastReferenceIdeal := Cert.LastReferenceIdeal.Gen.facts) := by
  letI := Cert.LastKernelIdeal.Gen.facts
  letI := Cert.LastReferenceIdeal.Gen.facts
  pair_intro
  · run_from Cert.LastKernelIdeal.Value.run_blocks m g
  · run_from Cert.LastReferenceIdeal.Value.run m' g'
    rw [Cert.LastKernelIdeal.Prod.final]
    refine Eq.trans ?_ (out28 _ _ _ _)
    refine (val_main_v28_eq _ _ _ _).trans ?_
    obtain ⟨h0, h1, h2, h3⟩ := hagree c
    rw [← h0, ← h1, ← h2, ← h3]

end Cert.Proof.Last
-- ==== Proof.lean ====
module

public import proofs.«01_k».proof.Defs
public import proofs.«01_k».proof.Proof.Frames
public import proofs.«01_k».proof.Proof.Proj
public import proofs.«01_k».proof.Proof.Up
public import proofs.«01_k».proof.Proof.Down
public import proofs.«01_k».proof.Proof.Out
public import proofs.«01_k».proof.Proof.Branch
public import proofs.«01_k».proof.Proof.Attn
public import proofs.«01_k».proof.Proof.Ada
public import proofs.«01_k».proof.Proof.Norm
public import proofs.«01_k».proof.Proof.Resid
public import proofs.«01_k».proof.Proof.Ctx
public import proofs.«01_k».proof.Proof.Pool
public import proofs.«01_k».proof.Proof.Mid
public import proofs.«01_k».proof.Proof.Last
public import Idealize.ShloMosaic.Adequacy
public import Idealize.ShloMosaic.Init

@[expose] public section

noncomputable section

namespace Cert.Proof

/-- Every claim of the certificate: the frames of the thirty-nine programs, that each idealized kernel is its kernel's own
    text, and that each idealized kernel ends with its reference's result. -/
theorem claim : Cert.Claim :=
  ⟨Cert.Kernel.Gen.facts, Cert.KernelIdeal.Gen.facts, Cert.ReferenceIdeal.Gen.facts, Cert.ProjKernel.Gen.facts, Cert.ProjKernelIdeal.Gen.facts, Cert.ProjReferenceIdeal.Gen.facts, Cert.UpKernel.Gen.facts, Cert.UpKernelIdeal.Gen.facts, Cert.UpReferenceIdeal.Gen.facts, Cert.DownKernel.Gen.facts, Cert.DownKernelIdeal.Gen.facts, Cert.DownReferenceIdeal.Gen.facts, Cert.OutKernel.Gen.facts, Cert.OutKernelIdeal.Gen.facts, Cert.OutReferenceIdeal.Gen.facts, Cert.BranchKernel.Gen.facts, Cert.BranchKernelIdeal.Gen.facts, Cert.BranchReferenceIdeal.Gen.facts, Cert.AdaKernel.Gen.facts, Cert.AdaKernelIdeal.Gen.facts, Cert.AdaReferenceIdeal.Gen.facts, Cert.NormKernel.Gen.facts, Cert.NormKernelIdeal.Gen.facts, Cert.NormReferenceIdeal.Gen.facts, Cert.ResidKernel.Gen.facts, Cert.ResidKernelIdeal.Gen.facts, Cert.ResidReferenceIdeal.Gen.facts, Cert.CtxKernel.Gen.facts, Cert.CtxKernelIdeal.Gen.facts, Cert.CtxReferenceIdeal.Gen.facts, Cert.PoolKernel.Gen.facts, Cert.PoolKernelIdeal.Gen.facts, Cert.PoolReferenceIdeal.Gen.facts, Cert.MidKernel.Gen.facts, Cert.MidKernelIdeal.Gen.facts, Cert.MidReferenceIdeal.Gen.facts, Cert.LastKernel.Gen.facts, Cert.LastKernelIdeal.Gen.facts, Cert.LastReferenceIdeal.Gen.facts, Cert.Pre_finite_scores.Gen.facts, Cert.Pre_finite_ctx.Gen.facts, Cert.Pre_finite_pool.Gen.facts,
   Frames.attn_p, Frames.attn_pi, fun m g _ => Frames.attn_pi m g trivial, Frames.attn_ri, fun m g _ => Frames.attn_ri m g trivial, Frames.proj_p, Frames.proj_pi, Frames.proj_ri, Frames.up_p, Frames.up_pi, Frames.up_ri, Frames.down_p, Frames.down_pi, Frames.down_ri, Frames.out_p, Frames.out_pi, Frames.out_ri, Frames.branch_p, Frames.branch_pi, Frames.branch_ri, Frames.ada_p, Frames.ada_pi, Frames.ada_ri, Frames.norm_p, Frames.norm_pi, Frames.norm_ri, Frames.resid_p, Frames.resid_pi, Frames.resid_ri, Frames.ctx_p, Frames.ctx_pi, fun m g _ => Frames.ctx_pi m g trivial, Frames.ctx_ri, fun m g _ => Frames.ctx_ri m g trivial, Frames.pool_p, Frames.pool_pi, fun m g _ => Frames.pool_pi m g trivial, Frames.pool_ri, fun m g _ => Frames.pool_ri m g trivial, Frames.mid_p, Frames.mid_pi, Frames.mid_ri, Frames.last_p, Frames.last_pi, Frames.last_ri,
   trivial, Attn.algebraic, trivial, Proj.algebraic, trivial, Up.algebraic, trivial, Down.algebraic, trivial, Out.algebraic, trivial, Branch.algebraic, trivial, Ada.algebraic, trivial, Norm.algebraic, trivial, Resid.algebraic, trivial, Ctx.algebraic, trivial, Pool.algebraic, trivial, Mid.algebraic, trivial, Last.algebraic⟩

end Cert.Proof

end
